-- ==== Defs.lean ====
def Pre_OutK (m : (ℓ : Loc Cert.OutK.nD Cert.OutK.τ Cert.OutK.sig) → Buf (Elt Bits) ℓ) : Prop :=
  True

def Pre_OutKIdeal (m : (ℓ : Loc Cert.OutKIdeal.nD Cert.OutKIdeal.τ Cert.OutKIdeal.sig) → Buf (Elt Ideal) ℓ) : Prop :=
  True

def Pre_OutRIdeal (m : (ℓ : Loc Cert.OutRIdeal.nD Cert.OutRIdeal.τ Cert.OutRIdeal.sig) → Buf (Elt Ideal) ℓ) : Prop :=
  True

def Pre_AdaFK (m : (ℓ : Loc Cert.AdaFK.nD Cert.AdaFK.τ Cert.AdaFK.sig) → Buf (Elt Bits) ℓ) : Prop :=
  True

def Pre_AdaFKIdeal (m : (ℓ : Loc Cert.AdaFKIdeal.nD Cert.AdaFKIdeal.τ Cert.AdaFKIdeal.sig) → Buf (Elt Ideal) ℓ) : Prop :=
  True

def Pre_AdaFRIdeal (m : (ℓ : Loc Cert.AdaFRIdeal.nD Cert.AdaFRIdeal.τ Cert.AdaFRIdeal.sig) → Buf (Elt Ideal) ℓ) : Prop :=
  True

def Pre_AdaDK (m : (ℓ : Loc Cert.AdaDK.nD Cert.AdaDK.τ Cert.AdaDK.sig) → Buf (Elt Bits) ℓ) : Prop :=
  True

def Pre_AdaDKIdeal (m : (ℓ : Loc Cert.AdaDKIdeal.nD Cert.AdaDKIdeal.τ Cert.AdaDKIdeal.sig) → Buf (Elt Ideal) ℓ) : Prop :=
  True

def Pre_AdaDRIdeal (m : (ℓ : Loc Cert.AdaDRIdeal.nD Cert.AdaDRIdeal.τ Cert.AdaDRIdeal.sig) → Buf (Elt Ideal) ℓ) : Prop :=
  True

def Pre_MidK (m : (ℓ : Loc Cert.MidK.nD Cert.MidK.τ Cert.MidK.sig) → Buf (Elt Bits) ℓ) : Prop :=
  True

def Pre_MidKIdeal (m : (ℓ : Loc Cert.MidKIdeal.nD Cert.MidKIdeal.τ Cert.MidKIdeal.sig) → Buf (Elt Ideal) ℓ) : Prop :=
  True

def Pre_MidRIdeal (m : (ℓ : Loc Cert.MidRIdeal.nD Cert.MidRIdeal.τ Cert.MidRIdeal.sig) → Buf (Elt Ideal) ℓ) : Prop :=
  True

def quiescent_OutK [hOutK : Cert.OutK.Facts] : Prop :=
  ∀ (m : (ℓ : Loc Cert.OutK.nD Cert.OutK.τ Cert.OutK.sig) → Buf (Elt Bits) ℓ) (g : Dev Cert.OutK.nD → PrngReg), Pre_OutK m →
    θ_run (Cert.OutK.defs (F := Bits)) (onTc (τ := Cert.OutK.τ) (Cert.OutK.main (F := Bits))) ⟨m, fun _ => 0, g⟩ (fun r => (∀ c : Dev Cert.OutK.nD,
      r.2.mem ((c.tc : Thread Cert.OutK.nD Cert.OutK.τ).loc Cert.OutK.main_arg0) = m ((c.tc : Thread Cert.OutK.nD Cert.OutK.τ).loc Cert.OutK.main_arg0)
      ∧ r.2.mem ((c.tc : Thread Cert.OutK.nD Cert.OutK.τ).loc Cert.OutK.main_arg1) = m ((c.tc : Thread Cert.OutK.nD Cert.OutK.τ).loc Cert.OutK.main_arg1)
      ∧ r.2.mem ((c.tc : Thread Cert.OutK.nD Cert.OutK.τ).loc Cert.OutK.main_arg2) = m ((c.tc : Thread Cert.OutK.nD Cert.OutK.τ).loc Cert.OutK.main_arg2)
      ∧ r.2.mem ((c.tc : Thread Cert.OutK.nD Cert.OutK.τ).loc Cert.OutK.main_arg3) = m ((c.tc : Thread Cert.OutK.nD Cert.OutK.τ).loc Cert.OutK.main_arg3)
      ∧ r.2.mem ((c.tc : Thread Cert.OutK.nD Cert.OutK.τ).loc Cert.OutK.main_arg4) = m ((c.tc : Thread Cert.OutK.nD Cert.OutK.τ).loc Cert.OutK.main_arg4)
      ∧ r.2.mem ((c.tc : Thread Cert.OutK.nD Cert.OutK.τ).loc Cert.OutK.main_arg5) = m ((c.tc : Thread Cert.OutK.nD Cert.OutK.τ).loc Cert.OutK.main_arg5)
      ∧ r.2.mem ((c.tc : Thread Cert.OutK.nD Cert.OutK.τ).loc Cert.OutK.main_arg6) = m ((c.tc : Thread Cert.OutK.nD Cert.OutK.τ).loc Cert.OutK.main_arg6)
      ∧ r.2.mem ((c.tc : Thread Cert.OutK.nD Cert.OutK.τ).loc Cert.OutK.main_arg7) = m ((c.tc : Thread Cert.OutK.nD Cert.OutK.τ).loc Cert.OutK.main_arg7)
      ∧ r.2.mem ((c.tc : Thread Cert.OutK.nD Cert.OutK.τ).loc Cert.OutK.main_arg8) = m ((c.tc : Thread Cert.OutK.nD Cert.OutK.τ).loc Cert.OutK.main_arg8)
      ∧ r.2.mem ((c.tc : Thread Cert.OutK.nD Cert.OutK.τ).loc Cert.OutK.main_arg9) = m ((c.tc : Thread Cert.OutK.nD Cert.OutK.τ).loc Cert.OutK.main_arg9)
      ∧ r.2.mem ((c.tc : Thread Cert.OutK.nD Cert.OutK.τ).loc Cert.OutK.main_arg10) = m ((c.tc : Thread Cert.OutK.nD Cert.OutK.τ).loc Cert.OutK.main_arg10)
      ∧ r.2.mem ((c.tc : Thread Cert.OutK.nD Cert.OutK.τ).loc Cert.OutK.main_arg11) = m ((c.tc : Thread Cert.OutK.nD Cert.OutK.τ).loc Cert.OutK.main_arg11)
      ∧ r.2.mem ((c.tc : Thread Cert.OutK.nD Cert.OutK.τ).loc Cert.OutK.main_arg12) = m ((c.tc : Thread Cert.OutK.nD Cert.OutK.τ).loc Cert.OutK.main_arg12)
      ∧ r.2.mem ((c.tc : Thread Cert.OutK.nD Cert.OutK.τ).loc Cert.OutK.main_arg13) = m ((c.tc : Thread Cert.OutK.nD Cert.OutK.τ).loc Cert.OutK.main_arg13)
      ∧ r.2.mem ((c.tc : Thread Cert.OutK.nD Cert.OutK.τ).loc Cert.OutK.main_arg14) = m ((c.tc : Thread Cert.OutK.nD Cert.OutK.τ).loc Cert.OutK.main_arg14)
      ∧ r.2.mem ((c.tc : Thread Cert.OutK.nD Cert.OutK.τ).loc Cert.OutK.main_arg15) = m ((c.tc : Thread Cert.OutK.nD Cert.OutK.τ).loc Cert.OutK.main_arg15)
      ∧ r.2.mem ((c.tc : Thread Cert.OutK.nD Cert.OutK.τ).loc Cert.OutK.main_arg16) = m ((c.tc : Thread Cert.OutK.nD Cert.OutK.τ).loc Cert.OutK.main_arg16)
      ∧ r.2.mem ((c.tc : Thread Cert.OutK.nD Cert.OutK.τ).loc Cert.OutK.main_arg17) = m ((c.tc : Thread Cert.OutK.nD Cert.OutK.τ).loc Cert.OutK.main_arg17))
      ∧ r.2.sem = fun _ => 0)

def quiescent_OutKIdeal [hOutKIdeal : Cert.OutKIdeal.Facts] : Prop :=
  ∀ (m : (ℓ : Loc Cert.OutKIdeal.nD Cert.OutKIdeal.τ Cert.OutKIdeal.sig) → Buf (Elt Ideal) ℓ) (g : Dev Cert.OutKIdeal.nD → PrngReg), Pre_OutKIdeal m →
    θ_run (Cert.OutKIdeal.defs (F := Ideal)) (onTc (τ := Cert.OutKIdeal.τ) (Cert.OutKIdeal.main (F := Ideal))) ⟨m, fun _ => 0, g⟩ (fun r => (∀ c : Dev Cert.OutKIdeal.nD,
      r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
      ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
      ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
      ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3)
      ∧ r.2.mem ((c.tc : Thread Cert.OutKIdeal.nD Cert.OutKIdeal.τ).loc Cert.OutKIdeal.main_arg4) = m ((c.tc : Thread Cert.OutKIdeal.nD Cert.OutKIdeal.τ).loc Cert.OutKIdeal.main_arg4)
      ∧ r.2.mem ((c.tc : Thread Cert.OutKIdeal.nD Cert.OutKIdeal.τ).loc Cert.OutKIdeal.main_arg5) = m ((c.tc : Thread Cert.OutKIdeal.nD Cert.OutKIdeal.τ).loc Cert.OutKIdeal.main_arg5)
      ∧ r.2.mem ((c.tc : Thread Cert.OutKIdeal.nD Cert.OutKIdeal.τ).loc Cert.OutKIdeal.main_arg6) = m ((c.tc : Thread Cert.OutKIdeal.nD Cert.OutKIdeal.τ).loc Cert.OutKIdeal.main_arg6)
      ∧ r.2.mem ((c.tc : Thread Cert.OutKIdeal.nD Cert.OutKIdeal.τ).loc Cert.OutKIdeal.main_arg7) = m ((c.tc : Thread Cert.OutKIdeal.nD Cert.OutKIdeal.τ).loc Cert.OutKIdeal.main_arg7)
      ∧ r.2.mem ((c.tc : Thread Cert.OutKIdeal.nD Cert.OutKIdeal.τ).loc Cert.OutKIdeal.main_arg8) = m ((c.tc : Thread Cert.OutKIdeal.nD Cert.OutKIdeal.τ).loc Cert.OutKIdeal.main_arg8)
      ∧ r.2.mem ((c.tc : Thread Cert.OutKIdeal.nD Cert.OutKIdeal.τ).loc Cert.OutKIdeal.main_arg9) = m ((c.tc : Thread Cert.OutKIdeal.nD Cert.OutKIdeal.τ).loc Cert.OutKIdeal.main_arg9)
      ∧ r.2.mem ((c.tc : Thread Cert.OutKIdeal.nD Cert.OutKIdeal.τ).loc Cert.OutKIdeal.main_arg10) = m ((c.tc : Thread Cert.OutKIdeal.nD Cert.OutKIdeal.τ).loc Cert.OutKIdeal.main_arg10)
      ∧ r.2.mem ((c.tc : Thread Cert.OutKIdeal.nD Cert.OutKIdeal.τ).loc Cert.OutKIdeal.main_arg11) = m ((c.tc : Thread Cert.OutKIdeal.nD Cert.OutKIdeal.τ).loc Cert.OutKIdeal.main_arg11)
      ∧ r.2.mem ((c.tc : Thread Cert.OutKIdeal.nD Cert.OutKIdeal.τ).loc Cert.OutKIdeal.main_arg12) = m ((c.tc : Thread Cert.OutKIdeal.nD Cert.OutKIdeal.τ).loc Cert.OutKIdeal.main_arg12)
      ∧ r.2.mem ((c.tc : Thread Cert.OutKIdeal.nD Cert.OutKIdeal.τ).loc Cert.OutKIdeal.main_arg13) = m ((c.tc : Thread Cert.OutKIdeal.nD Cert.OutKIdeal.τ).loc Cert.OutKIdeal.main_arg13)
      ∧ r.2.mem ((c.tc : Thread Cert.OutKIdeal.nD Cert.OutKIdeal.τ).loc Cert.OutKIdeal.main_arg14) = m ((c.tc : Thread Cert.OutKIdeal.nD Cert.OutKIdeal.τ).loc Cert.OutKIdeal.main_arg14)
      ∧ r.2.mem ((c.tc : Thread Cert.OutKIdeal.nD Cert.OutKIdeal.τ).loc Cert.OutKIdeal.main_arg15) = m ((c.tc : Thread Cert.OutKIdeal.nD Cert.OutKIdeal.τ).loc Cert.OutKIdeal.main_arg15)
      ∧ r.2.mem ((c.tc : Thread Cert.OutKIdeal.nD Cert.OutKIdeal.τ).loc Cert.OutKIdeal.main_arg16) = m ((c.tc : Thread Cert.OutKIdeal.nD Cert.OutKIdeal.τ).loc Cert.OutKIdeal.main_arg16)
      ∧ r.2.mem ((c.tc : Thread Cert.OutKIdeal.nD Cert.OutKIdeal.τ).loc Cert.OutKIdeal.main_arg17) = m ((c.tc : Thread Cert.OutKIdeal.nD Cert.OutKIdeal.τ).loc Cert.OutKIdeal.main_arg17))
      ∧ r.2.sem = fun _ => 0)

def quiescent_OutRIdeal [hOutRIdeal : Cert.OutRIdeal.Facts] : Prop :=
  ∀ (m : (ℓ : Loc Cert.OutRIdeal.nD Cert.OutRIdeal.τ Cert.OutRIdeal.sig) → Buf (Elt Ideal) ℓ) (g : Dev Cert.OutRIdeal.nD → PrngReg), Pre_OutRIdeal m →
    θ_run (Cert.OutRIdeal.defs (F := Ideal)) (onTc (τ := Cert.OutRIdeal.τ) (Cert.OutRIdeal.main (F := Ideal))) ⟨m, fun _ => 0, g⟩ (fun r => (∀ c : Dev Cert.OutRIdeal.nD,
      r.2.mem ((c.tc : Thread Cert.OutRIdeal.nD Cert.OutRIdeal.τ).loc Cert.OutRIdeal.main_arg0) = m ((c.tc : Thread Cert.OutRIdeal.nD Cert.OutRIdeal.τ).loc Cert.OutRIdeal.main_arg0)
      ∧ r.2.mem ((c.tc : Thread Cert.OutRIdeal.nD Cert.OutRIdeal.τ).loc Cert.OutRIdeal.main_arg1) = m ((c.tc : Thread Cert.OutRIdeal.nD Cert.OutRIdeal.τ).loc Cert.OutRIdeal.main_arg1)
      ∧ r.2.mem ((c.tc : Thread Cert.OutRIdeal.nD Cert.OutRIdeal.τ).loc Cert.OutRIdeal.main_arg2) = m ((c.tc : Thread Cert.OutRIdeal.nD Cert.OutRIdeal.τ).loc Cert.OutRIdeal.main_arg2)
      ∧ r.2.mem ((c.tc : Thread Cert.OutRIdeal.nD Cert.OutRIdeal.τ).loc Cert.OutRIdeal.main_arg3) = m ((c.tc : Thread Cert.OutRIdeal.nD Cert.OutRIdeal.τ).loc Cert.OutRIdeal.main_arg3)
      ∧ r.2.mem ((c.tc : Thread Cert.OutRIdeal.nD Cert.OutRIdeal.τ).loc Cert.OutRIdeal.main_arg4) = m ((c.tc : Thread Cert.OutRIdeal.nD Cert.OutRIdeal.τ).loc Cert.OutRIdeal.main_arg4)
      ∧ r.2.mem ((c.tc : Thread Cert.OutRIdeal.nD Cert.OutRIdeal.τ).loc Cert.OutRIdeal.main_arg5) = m ((c.tc : Thread Cert.OutRIdeal.nD Cert.OutRIdeal.τ).loc Cert.OutRIdeal.main_arg5)
      ∧ r.2.mem ((c.tc : Thread Cert.OutRIdeal.nD Cert.OutRIdeal.τ).loc Cert.OutRIdeal.main_arg6) = m ((c.tc : Thread Cert.OutRIdeal.nD Cert.OutRIdeal.τ).loc Cert.OutRIdeal.main_arg6)
      ∧ r.2.mem ((c.tc : Thread Cert.OutRIdeal.nD Cert.OutRIdeal.τ).loc Cert.OutRIdeal.main_arg7) = m ((c.tc : Thread Cert.OutRIdeal.nD Cert.OutRIdeal.τ).loc Cert.OutRIdeal.main_arg7)
      ∧ r.2.mem ((c.tc : Thread Cert.OutRIdeal.nD Cert.OutRIdeal.τ).loc Cert.OutRIdeal.main_arg8) = m ((c.tc : Thread Cert.OutRIdeal.nD Cert.OutRIdeal.τ).loc Cert.OutRIdeal.main_arg8)
      ∧ r.2.mem ((c.tc : Thread Cert.OutRIdeal.nD Cert.OutRIdeal.τ).loc Cert.OutRIdeal.main_arg9) = m ((c.tc : Thread Cert.OutRIdeal.nD Cert.OutRIdeal.τ).loc Cert.OutRIdeal.main_arg9)
      ∧ r.2.mem ((c.tc : Thread Cert.OutRIdeal.nD Cert.OutRIdeal.τ).loc Cert.OutRIdeal.main_arg10) = m ((c.tc : Thread Cert.OutRIdeal.nD Cert.OutRIdeal.τ).loc Cert.OutRIdeal.main_arg10)
      ∧ r.2.mem ((c.tc : Thread Cert.OutRIdeal.nD Cert.OutRIdeal.τ).loc Cert.OutRIdeal.main_arg11) = m ((c.tc : Thread Cert.OutRIdeal.nD Cert.OutRIdeal.τ).loc Cert.OutRIdeal.main_arg11)
      ∧ r.2.mem ((c.tc : Thread Cert.OutRIdeal.nD Cert.OutRIdeal.τ).loc Cert.OutRIdeal.main_arg12) = m ((c.tc : Thread Cert.OutRIdeal.nD Cert.OutRIdeal.τ).loc Cert.OutRIdeal.main_arg12)
      ∧ r.2.mem ((c.tc : Thread Cert.OutRIdeal.nD Cert.OutRIdeal.τ).loc Cert.OutRIdeal.main_arg13) = m ((c.tc : Thread Cert.OutRIdeal.nD Cert.OutRIdeal.τ).loc Cert.OutRIdeal.main_arg13)
      ∧ r.2.mem ((c.tc : Thread Cert.OutRIdeal.nD Cert.OutRIdeal.τ).loc Cert.OutRIdeal.main_arg14) = m ((c.tc : Thread Cert.OutRIdeal.nD Cert.OutRIdeal.τ).loc Cert.OutRIdeal.main_arg14)
      ∧ r.2.mem ((c.tc : Thread Cert.OutRIdeal.nD Cert.OutRIdeal.τ).loc Cert.OutRIdeal.main_arg15) = m ((c.tc : Thread Cert.OutRIdeal.nD Cert.OutRIdeal.τ).loc Cert.OutRIdeal.main_arg15)
      ∧ r.2.mem ((c.tc : Thread Cert.OutRIdeal.nD Cert.OutRIdeal.τ).loc Cert.OutRIdeal.main_arg16) = m ((c.tc : Thread Cert.OutRIdeal.nD Cert.OutRIdeal.τ).loc Cert.OutRIdeal.main_arg16)
      ∧ r.2.mem ((c.tc : Thread Cert.OutRIdeal.nD Cert.OutRIdeal.τ).loc Cert.OutRIdeal.main_arg17) = m ((c.tc : Thread Cert.OutRIdeal.nD Cert.OutRIdeal.τ).loc Cert.OutRIdeal.main_arg17))
      ∧ r.2.sem = fun _ => 0)

def quiescent_AdaFK [hAdaFK : Cert.AdaFK.Facts] : Prop :=
  ∀ (m : (ℓ : Loc Cert.AdaFK.nD Cert.AdaFK.τ Cert.AdaFK.sig) → Buf (Elt Bits) ℓ) (g : Dev Cert.AdaFK.nD → PrngReg), Pre_AdaFK m →
    θ_run (Cert.AdaFK.defs (F := Bits)) (onTc (τ := Cert.AdaFK.τ) (Cert.AdaFK.main (F := Bits))) ⟨m, fun _ => 0, g⟩ (fun r => (∀ c : Dev Cert.AdaFK.nD,
      r.2.mem ((c.tc : Thread Cert.AdaFK.nD Cert.AdaFK.τ).loc Cert.AdaFK.main_arg0) = m ((c.tc : Thread Cert.AdaFK.nD Cert.AdaFK.τ).loc Cert.AdaFK.main_arg0)
      ∧ r.2.mem ((c.tc : Thread Cert.AdaFK.nD Cert.AdaFK.τ).loc Cert.AdaFK.main_arg1) = m ((c.tc : Thread Cert.AdaFK.nD Cert.AdaFK.τ).loc Cert.AdaFK.main_arg1)
      ∧ r.2.mem ((c.tc : Thread Cert.AdaFK.nD Cert.AdaFK.τ).loc Cert.AdaFK.main_arg2) = m ((c.tc : Thread Cert.AdaFK.nD Cert.AdaFK.τ).loc Cert.AdaFK.main_arg2)
      ∧ r.2.mem ((c.tc : Thread Cert.AdaFK.nD Cert.AdaFK.τ).loc Cert.AdaFK.main_arg3) = m ((c.tc : Thread Cert.AdaFK.nD Cert.AdaFK.τ).loc Cert.AdaFK.main_arg3)
      ∧ r.2.mem ((c.tc : Thread Cert.AdaFK.nD Cert.AdaFK.τ).loc Cert.AdaFK.main_arg4) = m ((c.tc : Thread Cert.AdaFK.nD Cert.AdaFK.τ).loc Cert.AdaFK.main_arg4)
      ∧ r.2.mem ((c.tc : Thread Cert.AdaFK.nD Cert.AdaFK.τ).loc Cert.AdaFK.main_arg5) = m ((c.tc : Thread Cert.AdaFK.nD Cert.AdaFK.τ).loc Cert.AdaFK.main_arg5)
      ∧ r.2.mem ((c.tc : Thread Cert.AdaFK.nD Cert.AdaFK.τ).loc Cert.AdaFK.main_arg6) = m ((c.tc : Thread Cert.AdaFK.nD Cert.AdaFK.τ).loc Cert.AdaFK.main_arg6))
      ∧ r.2.sem = fun _ => 0)

def quiescent_AdaFKIdeal [hAdaFKIdeal : Cert.AdaFKIdeal.Facts] : Prop :=
  ∀ (m : (ℓ : Loc Cert.AdaFKIdeal.nD Cert.AdaFKIdeal.τ Cert.AdaFKIdeal.sig) → Buf (Elt Ideal) ℓ) (g : Dev Cert.AdaFKIdeal.nD → PrngReg), Pre_AdaFKIdeal m →
    θ_run (Cert.AdaFKIdeal.defs (F := Ideal)) (onTc (τ := Cert.AdaFKIdeal.τ) (Cert.AdaFKIdeal.main (F := Ideal))) ⟨m, fun _ => 0, g⟩ (fun r => (∀ c : Dev Cert.AdaFKIdeal.nD,
      r.2.mem ((c.tc : Thread Cert.AdaFKIdeal.nD Cert.AdaFKIdeal.τ).loc Cert.AdaFKIdeal.main_arg0) = m ((c.tc : Thread Cert.AdaFKIdeal.nD Cert.AdaFKIdeal.τ).loc Cert.AdaFKIdeal.main_arg0)
      ∧ r.2.mem ((c.tc : Thread Cert.AdaFKIdeal.nD Cert.AdaFKIdeal.τ).loc Cert.AdaFKIdeal.main_arg1) = m ((c.tc : Thread Cert.AdaFKIdeal.nD Cert.AdaFKIdeal.τ).loc Cert.AdaFKIdeal.main_arg1)
      ∧ r.2.mem ((c.tc : Thread Cert.AdaFKIdeal.nD Cert.AdaFKIdeal.τ).loc Cert.AdaFKIdeal.main_arg2) = m ((c.tc : Thread Cert.AdaFKIdeal.nD Cert.AdaFKIdeal.τ).loc Cert.AdaFKIdeal.main_arg2)
      ∧ r.2.mem ((c.tc : Thread Cert.AdaFKIdeal.nD Cert.AdaFKIdeal.τ).loc Cert.AdaFKIdeal.main_arg3) = m ((c.tc : Thread Cert.AdaFKIdeal.nD Cert.AdaFKIdeal.τ).loc Cert.AdaFKIdeal.main_arg3)
      ∧ r.2.mem ((c.tc : Thread Cert.AdaFKIdeal.nD Cert.AdaFKIdeal.τ).loc Cert.AdaFKIdeal.main_arg4) = m ((c.tc : Thread Cert.AdaFKIdeal.nD Cert.AdaFKIdeal.τ).loc Cert.AdaFKIdeal.main_arg4)
      ∧ r.2.mem ((c.tc : Thread Cert.AdaFKIdeal.nD Cert.AdaFKIdeal.τ).loc Cert.AdaFKIdeal.main_arg5) = m ((c.tc : Thread Cert.AdaFKIdeal.nD Cert.AdaFKIdeal.τ).loc Cert.AdaFKIdeal.main_arg5)
      ∧ r.2.mem ((c.tc : Thread Cert.AdaFKIdeal.nD Cert.AdaFKIdeal.τ).loc Cert.AdaFKIdeal.main_arg6) = m ((c.tc : Thread Cert.AdaFKIdeal.nD Cert.AdaFKIdeal.τ).loc Cert.AdaFKIdeal.main_arg6))
      ∧ r.2.sem = fun _ => 0)

def quiescent_AdaFRIdeal [hAdaFRIdeal : Cert.AdaFRIdeal.Facts] : Prop :=
  ∀ (m : (ℓ : Loc Cert.AdaFRIdeal.nD Cert.AdaFRIdeal.τ Cert.AdaFRIdeal.sig) → Buf (Elt Ideal) ℓ) (g : Dev Cert.AdaFRIdeal.nD → PrngReg), Pre_AdaFRIdeal m →
    θ_run (Cert.AdaFRIdeal.defs (F := Ideal)) (onTc (τ := Cert.AdaFRIdeal.τ) (Cert.AdaFRIdeal.main (F := Ideal))) ⟨m, fun _ => 0, g⟩ (fun r => (∀ c : Dev Cert.AdaFRIdeal.nD,
      r.2.mem ((c.tc : Thread Cert.AdaFRIdeal.nD Cert.AdaFRIdeal.τ).loc Cert.AdaFRIdeal.main_arg0) = m ((c.tc : Thread Cert.AdaFRIdeal.nD Cert.AdaFRIdeal.τ).loc Cert.AdaFRIdeal.main_arg0)
      ∧ r.2.mem ((c.tc : Thread Cert.AdaFRIdeal.nD Cert.AdaFRIdeal.τ).loc Cert.AdaFRIdeal.main_arg1) = m ((c.tc : Thread Cert.AdaFRIdeal.nD Cert.AdaFRIdeal.τ).loc Cert.AdaFRIdeal.main_arg1)
      ∧ r.2.mem ((c.tc : Thread Cert.AdaFRIdeal.nD Cert.AdaFRIdeal.τ).loc Cert.AdaFRIdeal.main_arg2) = m ((c.tc : Thread Cert.AdaFRIdeal.nD Cert.AdaFRIdeal.τ).loc Cert.AdaFRIdeal.main_arg2)
      ∧ r.2.mem ((c.tc : Thread Cert.AdaFRIdeal.nD Cert.AdaFRIdeal.τ).loc Cert.AdaFRIdeal.main_arg3) = m ((c.tc : Thread Cert.AdaFRIdeal.nD Cert.AdaFRIdeal.τ).loc Cert.AdaFRIdeal.main_arg3)
      ∧ r.2.mem ((c.tc : Thread Cert.AdaFRIdeal.nD Cert.AdaFRIdeal.τ).loc Cert.AdaFRIdeal.main_arg4) = m ((c.tc : Thread Cert.AdaFRIdeal.nD Cert.AdaFRIdeal.τ).loc Cert.AdaFRIdeal.main_arg4)
      ∧ r.2.mem ((c.tc : Thread Cert.AdaFRIdeal.nD Cert.AdaFRIdeal.τ).loc Cert.AdaFRIdeal.main_arg5) = m ((c.tc : Thread Cert.AdaFRIdeal.nD Cert.AdaFRIdeal.τ).loc Cert.AdaFRIdeal.main_arg5)
      ∧ r.2.mem ((c.tc : Thread Cert.AdaFRIdeal.nD Cert.AdaFRIdeal.τ).loc Cert.AdaFRIdeal.main_arg6) = m ((c.tc : Thread Cert.AdaFRIdeal.nD Cert.AdaFRIdeal.τ).loc Cert.AdaFRIdeal.main_arg6))
      ∧ r.2.sem = fun _ => 0)

def quiescent_AdaDK [hAdaDK : Cert.AdaDK.Facts] : Prop :=
  ∀ (m : (ℓ : Loc Cert.AdaDK.nD Cert.AdaDK.τ Cert.AdaDK.sig) → Buf (Elt Bits) ℓ) (g : Dev Cert.AdaDK.nD → PrngReg), Pre_AdaDK m →
    θ_run (Cert.AdaDK.defs (F := Bits)) (onTc (τ := Cert.AdaDK.τ) (Cert.AdaDK.main (F := Bits))) ⟨m, fun _ => 0, g⟩ (fun r => (∀ c : Dev Cert.AdaDK.nD,
      r.2.mem ((c.tc : Thread Cert.AdaDK.nD Cert.AdaDK.τ).loc Cert.AdaDK.main_arg0) = m ((c.tc : Thread Cert.AdaDK.nD Cert.AdaDK.τ).loc Cert.AdaDK.main_arg0)
      ∧ r.2.mem ((c.tc : Thread Cert.AdaDK.nD Cert.AdaDK.τ).loc Cert.AdaDK.main_arg1) = m ((c.tc : Thread Cert.AdaDK.nD Cert.AdaDK.τ).loc Cert.AdaDK.main_arg1)
      ∧ r.2.mem ((c.tc : Thread Cert.AdaDK.nD Cert.AdaDK.τ).loc Cert.AdaDK.main_arg2) = m ((c.tc : Thread Cert.AdaDK.nD Cert.AdaDK.τ).loc Cert.AdaDK.main_arg2)
      ∧ r.2.mem ((c.tc : Thread Cert.AdaDK.nD Cert.AdaDK.τ).loc Cert.AdaDK.main_arg3) = m ((c.tc : Thread Cert.AdaDK.nD Cert.AdaDK.τ).loc Cert.AdaDK.main_arg3)
      ∧ r.2.mem ((c.tc : Thread Cert.AdaDK.nD Cert.AdaDK.τ).loc Cert.AdaDK.main_arg4) = m ((c.tc : Thread Cert.AdaDK.nD Cert.AdaDK.τ).loc Cert.AdaDK.main_arg4)
      ∧ r.2.mem ((c.tc : Thread Cert.AdaDK.nD Cert.AdaDK.τ).loc Cert.AdaDK.main_arg5) = m ((c.tc : Thread Cert.AdaDK.nD Cert.AdaDK.τ).loc Cert.AdaDK.main_arg5))
      ∧ r.2.sem = fun _ => 0)

def quiescent_AdaDKIdeal [hAdaDKIdeal : Cert.AdaDKIdeal.Facts] : Prop :=
  ∀ (m : (ℓ : Loc Cert.AdaDKIdeal.nD Cert.AdaDKIdeal.τ Cert.AdaDKIdeal.sig) → Buf (Elt Ideal) ℓ) (g : Dev Cert.AdaDKIdeal.nD → PrngReg), Pre_AdaDKIdeal m →
    θ_run (Cert.AdaDKIdeal.defs (F := Ideal)) (onTc (τ := Cert.AdaDKIdeal.τ) (Cert.AdaDKIdeal.main (F := Ideal))) ⟨m, fun _ => 0, g⟩ (fun r => (∀ c : Dev Cert.AdaDKIdeal.nD,
      r.2.mem ((c.tc : Thread Cert.AdaDKIdeal.nD Cert.AdaDKIdeal.τ).loc Cert.AdaDKIdeal.main_arg0) = m ((c.tc : Thread Cert.AdaDKIdeal.nD Cert.AdaDKIdeal.τ).loc Cert.AdaDKIdeal.main_arg0)
      ∧ r.2.mem ((c.tc : Thread Cert.AdaDKIdeal.nD Cert.AdaDKIdeal.τ).loc Cert.AdaDKIdeal.main_arg1) = m ((c.tc : Thread Cert.AdaDKIdeal.nD Cert.AdaDKIdeal.τ).loc Cert.AdaDKIdeal.main_arg1)
      ∧ r.2.mem ((c.tc : Thread Cert.AdaDKIdeal.nD Cert.AdaDKIdeal.τ).loc Cert.AdaDKIdeal.main_arg2) = m ((c.tc : Thread Cert.AdaDKIdeal.nD Cert.AdaDKIdeal.τ).loc Cert.AdaDKIdeal.main_arg2)
      ∧ r.2.mem ((c.tc : Thread Cert.AdaDKIdeal.nD Cert.AdaDKIdeal.τ).loc Cert.AdaDKIdeal.main_arg3) = m ((c.tc : Thread Cert.AdaDKIdeal.nD Cert.AdaDKIdeal.τ).loc Cert.AdaDKIdeal.main_arg3)
      ∧ r.2.mem ((c.tc : Thread Cert.AdaDKIdeal.nD Cert.AdaDKIdeal.τ).loc Cert.AdaDKIdeal.main_arg4) = m ((c.tc : Thread Cert.AdaDKIdeal.nD Cert.AdaDKIdeal.τ).loc Cert.AdaDKIdeal.main_arg4)
      ∧ r.2.mem ((c.tc : Thread Cert.AdaDKIdeal.nD Cert.AdaDKIdeal.τ).loc Cert.AdaDKIdeal.main_arg5) = m ((c.tc : Thread Cert.AdaDKIdeal.nD Cert.AdaDKIdeal.τ).loc Cert.AdaDKIdeal.main_arg5))
      ∧ r.2.sem = fun _ => 0)

def quiescent_AdaDRIdeal [hAdaDRIdeal : Cert.AdaDRIdeal.Facts] : Prop :=
  ∀ (m : (ℓ : Loc Cert.AdaDRIdeal.nD Cert.AdaDRIdeal.τ Cert.AdaDRIdeal.sig) → Buf (Elt Ideal) ℓ) (g : Dev Cert.AdaDRIdeal.nD → PrngReg), Pre_AdaDRIdeal m →
    θ_run (Cert.AdaDRIdeal.defs (F := Ideal)) (onTc (τ := Cert.AdaDRIdeal.τ) (Cert.AdaDRIdeal.main (F := Ideal))) ⟨m, fun _ => 0, g⟩ (fun r => (∀ c : Dev Cert.AdaDRIdeal.nD,
      r.2.mem ((c.tc : Thread Cert.AdaDRIdeal.nD Cert.AdaDRIdeal.τ).loc Cert.AdaDRIdeal.main_arg0) = m ((c.tc : Thread Cert.AdaDRIdeal.nD Cert.AdaDRIdeal.τ).loc Cert.AdaDRIdeal.main_arg0)
      ∧ r.2.mem ((c.tc : Thread Cert.AdaDRIdeal.nD Cert.AdaDRIdeal.τ).loc Cert.AdaDRIdeal.main_arg1) = m ((c.tc : Thread Cert.AdaDRIdeal.nD Cert.AdaDRIdeal.τ).loc Cert.AdaDRIdeal.main_arg1)
      ∧ r.2.mem ((c.tc : Thread Cert.AdaDRIdeal.nD Cert.AdaDRIdeal.τ).loc Cert.AdaDRIdeal.main_arg2) = m ((c.tc : Thread Cert.AdaDRIdeal.nD Cert.AdaDRIdeal.τ).loc Cert.AdaDRIdeal.main_arg2)
      ∧ r.2.mem ((c.tc : Thread Cert.AdaDRIdeal.nD Cert.AdaDRIdeal.τ).loc Cert.AdaDRIdeal.main_arg3) = m ((c.tc : Thread Cert.AdaDRIdeal.nD Cert.AdaDRIdeal.τ).loc Cert.AdaDRIdeal.main_arg3)
      ∧ r.2.mem ((c.tc : Thread Cert.AdaDRIdeal.nD Cert.AdaDRIdeal.τ).loc Cert.AdaDRIdeal.main_arg4) = m ((c.tc : Thread Cert.AdaDRIdeal.nD Cert.AdaDRIdeal.τ).loc Cert.AdaDRIdeal.main_arg4)
      ∧ r.2.mem ((c.tc : Thread Cert.AdaDRIdeal.nD Cert.AdaDRIdeal.τ).loc Cert.AdaDRIdeal.main_arg5) = m ((c.tc : Thread Cert.AdaDRIdeal.nD Cert.AdaDRIdeal.τ).loc Cert.AdaDRIdeal.main_arg5))
      ∧ r.2.sem = fun _ => 0)

def quiescent_MidK [hMidK : Cert.MidK.Facts] : Prop :=
  ∀ (m : (ℓ : Loc Cert.MidK.nD Cert.MidK.τ Cert.MidK.sig) → Buf (Elt Bits) ℓ) (g : Dev Cert.MidK.nD → PrngReg), Pre_MidK m →
    θ_run (Cert.MidK.defs (F := Bits)) (onTc (τ := Cert.MidK.τ) (Cert.MidK.main (F := Bits))) ⟨m, fun _ => 0, g⟩ (fun r => (∀ c : Dev Cert.MidK.nD,
      r.2.mem ((c.tc : Thread Cert.MidK.nD Cert.MidK.τ).loc Cert.MidK.main_arg0) = m ((c.tc : Thread Cert.MidK.nD Cert.MidK.τ).loc Cert.MidK.main_arg0)
      ∧ r.2.mem ((c.tc : Thread Cert.MidK.nD Cert.MidK.τ).loc Cert.MidK.main_arg1) = m ((c.tc : Thread Cert.MidK.nD Cert.MidK.τ).loc Cert.MidK.main_arg1)
      ∧ r.2.mem ((c.tc : Thread Cert.MidK.nD Cert.MidK.τ).loc Cert.MidK.main_arg2) = m ((c.tc : Thread Cert.MidK.nD Cert.MidK.τ).loc Cert.MidK.main_arg2)
      ∧ r.2.mem ((c.tc : Thread Cert.MidK.nD Cert.MidK.τ).loc Cert.MidK.main_arg3) = m ((c.tc : Thread Cert.MidK.nD Cert.MidK.τ).loc Cert.MidK.main_arg3)
      ∧ r.2.mem ((c.tc : Thread Cert.MidK.nD Cert.MidK.τ).loc Cert.MidK.main_arg4) = m ((c.tc : Thread Cert.MidK.nD Cert.MidK.τ).loc Cert.MidK.main_arg4)
      ∧ r.2.mem ((c.tc : Thread Cert.MidK.nD Cert.MidK.τ).loc Cert.MidK.main_arg5) = m ((c.tc : Thread Cert.MidK.nD Cert.MidK.τ).loc Cert.MidK.main_arg5)
      ∧ r.2.mem ((c.tc : Thread Cert.MidK.nD Cert.MidK.τ).loc Cert.MidK.main_arg6) = m ((c.tc : Thread Cert.MidK.nD Cert.MidK.τ).loc Cert.MidK.main_arg6)
      ∧ r.2.mem ((c.tc : Thread Cert.MidK.nD Cert.MidK.τ).loc Cert.MidK.main_arg7) = m ((c.tc : Thread Cert.MidK.nD Cert.MidK.τ).loc Cert.MidK.main_arg7)
      ∧ r.2.mem ((c.tc : Thread Cert.MidK.nD Cert.MidK.τ).loc Cert.MidK.main_arg8) = m ((c.tc : Thread Cert.MidK.nD Cert.MidK.τ).loc Cert.MidK.main_arg8)
      ∧ r.2.mem ((c.tc : Thread Cert.MidK.nD Cert.MidK.τ).loc Cert.MidK.main_arg9) = m ((c.tc : Thread Cert.MidK.nD Cert.MidK.τ).loc Cert.MidK.main_arg9)
      ∧ r.2.mem ((c.tc : Thread Cert.MidK.nD Cert.MidK.τ).loc Cert.MidK.main_arg10) = m ((c.tc : Thread Cert.MidK.nD Cert.MidK.τ).loc Cert.MidK.main_arg10)
      ∧ r.2.mem ((c.tc : Thread Cert.MidK.nD Cert.MidK.τ).loc Cert.MidK.main_arg11) = m ((c.tc : Thread Cert.MidK.nD Cert.MidK.τ).loc Cert.MidK.main_arg11)
      ∧ r.2.mem ((c.tc : Thread Cert.MidK.nD Cert.MidK.τ).loc Cert.MidK.main_arg12) = m ((c.tc : Thread Cert.MidK.nD Cert.MidK.τ).loc Cert.MidK.main_arg12)
      ∧ r.2.mem ((c.tc : Thread Cert.MidK.nD Cert.MidK.τ).loc Cert.MidK.main_arg13) = m ((c.tc : Thread Cert.MidK.nD Cert.MidK.τ).loc Cert.MidK.main_arg13)
      ∧ r.2.mem ((c.tc : Thread Cert.MidK.nD Cert.MidK.τ).loc Cert.MidK.main_arg14) = m ((c.tc : Thread Cert.MidK.nD Cert.MidK.τ).loc Cert.MidK.main_arg14)
      ∧ r.2.mem ((c.tc : Thread Cert.MidK.nD Cert.MidK.τ).loc Cert.MidK.main_arg15) = m ((c.tc : Thread Cert.MidK.nD Cert.MidK.τ).loc Cert.MidK.main_arg15)
      ∧ r.2.mem ((c.tc : Thread Cert.MidK.nD Cert.MidK.τ).loc Cert.MidK.main_arg16) = m ((c.tc : Thread Cert.MidK.nD Cert.MidK.τ).loc Cert.MidK.main_arg16))
      ∧ r.2.sem = fun _ => 0)

def quiescent_MidKIdeal [hMidKIdeal : Cert.MidKIdeal.Facts] : Prop :=
  ∀ (m : (ℓ : Loc Cert.MidKIdeal.nD Cert.MidKIdeal.τ Cert.MidKIdeal.sig) → Buf (Elt Ideal) ℓ) (g : Dev Cert.MidKIdeal.nD → PrngReg), Pre_MidKIdeal m →
    θ_run (Cert.MidKIdeal.defs (F := Ideal)) (onTc (τ := Cert.MidKIdeal.τ) (Cert.MidKIdeal.main (F := Ideal))) ⟨m, fun _ => 0, g⟩ (fun r => (∀ c : Dev Cert.MidKIdeal.nD,
      r.2.mem ((c.tc : Thread Cert.MidKIdeal.nD Cert.MidKIdeal.τ).loc Cert.MidKIdeal.main_arg0) = m ((c.tc : Thread Cert.MidKIdeal.nD Cert.MidKIdeal.τ).loc Cert.MidKIdeal.main_arg0)
      ∧ r.2.mem ((c.tc : Thread Cert.MidKIdeal.nD Cert.MidKIdeal.τ).loc Cert.MidKIdeal.main_arg1) = m ((c.tc : Thread Cert.MidKIdeal.nD Cert.MidKIdeal.τ).loc Cert.MidKIdeal.main_arg1)
      ∧ r.2.mem ((c.tc : Thread Cert.MidKIdeal.nD Cert.MidKIdeal.τ).loc Cert.MidKIdeal.main_arg2) = m ((c.tc : Thread Cert.MidKIdeal.nD Cert.MidKIdeal.τ).loc Cert.MidKIdeal.main_arg2)
      ∧ r.2.mem ((c.tc : Thread Cert.MidKIdeal.nD Cert.MidKIdeal.τ).loc Cert.MidKIdeal.main_arg3) = m ((c.tc : Thread Cert.MidKIdeal.nD Cert.MidKIdeal.τ).loc Cert.MidKIdeal.main_arg3)
      ∧ r.2.mem ((c.tc : Thread Cert.MidKIdeal.nD Cert.MidKIdeal.τ).loc Cert.MidKIdeal.main_arg4) = m ((c.tc : Thread Cert.MidKIdeal.nD Cert.MidKIdeal.τ).loc Cert.MidKIdeal.main_arg4)
      ∧ r.2.mem ((c.tc : Thread Cert.MidKIdeal.nD Cert.MidKIdeal.τ).loc Cert.MidKIdeal.main_arg5) = m ((c.tc : Thread Cert.MidKIdeal.nD Cert.MidKIdeal.τ).loc Cert.MidKIdeal.main_arg5)
      ∧ r.2.mem ((c.tc : Thread Cert.MidKIdeal.nD Cert.MidKIdeal.τ).loc Cert.MidKIdeal.main_arg6) = m ((c.tc : Thread Cert.MidKIdeal.nD Cert.MidKIdeal.τ).loc Cert.MidKIdeal.main_arg6)
      ∧ r.2.mem ((c.tc : Thread Cert.MidKIdeal.nD Cert.MidKIdeal.τ).loc Cert.MidKIdeal.main_arg7) = m ((c.tc : Thread Cert.MidKIdeal.nD Cert.MidKIdeal.τ).loc Cert.MidKIdeal.main_arg7)
      ∧ r.2.mem ((c.tc : Thread Cert.MidKIdeal.nD Cert.MidKIdeal.τ).loc Cert.MidKIdeal.main_arg8) = m ((c.tc : Thread Cert.MidKIdeal.nD Cert.MidKIdeal.τ).loc Cert.MidKIdeal.main_arg8)
      ∧ r.2.mem ((c.tc : Thread Cert.MidKIdeal.nD Cert.MidKIdeal.τ).loc Cert.MidKIdeal.main_arg9) = m ((c.tc : Thread Cert.MidKIdeal.nD Cert.MidKIdeal.τ).loc Cert.MidKIdeal.main_arg9)
      ∧ r.2.mem ((c.tc : Thread Cert.MidKIdeal.nD Cert.MidKIdeal.τ).loc Cert.MidKIdeal.main_arg10) = m ((c.tc : Thread Cert.MidKIdeal.nD Cert.MidKIdeal.τ).loc Cert.MidKIdeal.main_arg10)
      ∧ r.2.mem ((c.tc : Thread Cert.MidKIdeal.nD Cert.MidKIdeal.τ).loc Cert.MidKIdeal.main_arg11) = m ((c.tc : Thread Cert.MidKIdeal.nD Cert.MidKIdeal.τ).loc Cert.MidKIdeal.main_arg11)
      ∧ r.2.mem ((c.tc : Thread Cert.MidKIdeal.nD Cert.MidKIdeal.τ).loc Cert.MidKIdeal.main_arg12) = m ((c.tc : Thread Cert.MidKIdeal.nD Cert.MidKIdeal.τ).loc Cert.MidKIdeal.main_arg12)
      ∧ r.2.mem ((c.tc : Thread Cert.MidKIdeal.nD Cert.MidKIdeal.τ).loc Cert.MidKIdeal.main_arg13) = m ((c.tc : Thread Cert.MidKIdeal.nD Cert.MidKIdeal.τ).loc Cert.MidKIdeal.main_arg13)
      ∧ r.2.mem ((c.tc : Thread Cert.MidKIdeal.nD Cert.MidKIdeal.τ).loc Cert.MidKIdeal.main_arg14) = m ((c.tc : Thread Cert.MidKIdeal.nD Cert.MidKIdeal.τ).loc Cert.MidKIdeal.main_arg14)
      ∧ r.2.mem ((c.tc : Thread Cert.MidKIdeal.nD Cert.MidKIdeal.τ).loc Cert.MidKIdeal.main_arg15) = m ((c.tc : Thread Cert.MidKIdeal.nD Cert.MidKIdeal.τ).loc Cert.MidKIdeal.main_arg15)
      ∧ r.2.mem ((c.tc : Thread Cert.MidKIdeal.nD Cert.MidKIdeal.τ).loc Cert.MidKIdeal.main_arg16) = m ((c.tc : Thread Cert.MidKIdeal.nD Cert.MidKIdeal.τ).loc Cert.MidKIdeal.main_arg16))
      ∧ r.2.sem = fun _ => 0)

def quiescent_MidRIdeal [hMidRIdeal : Cert.MidRIdeal.Facts] : Prop :=
  ∀ (m : (ℓ : Loc Cert.MidRIdeal.nD Cert.MidRIdeal.τ Cert.MidRIdeal.sig) → Buf (Elt Ideal) ℓ) (g : Dev Cert.MidRIdeal.nD → PrngReg), Pre_MidRIdeal m →
    θ_run (Cert.MidRIdeal.defs (F := Ideal)) (onTc (τ := Cert.MidRIdeal.τ) (Cert.MidRIdeal.main (F := Ideal))) ⟨m, fun _ => 0, g⟩ (fun r => (∀ c : Dev Cert.MidRIdeal.nD,
      r.2.mem ((c.tc : Thread Cert.MidRIdeal.nD Cert.MidRIdeal.τ).loc Cert.MidRIdeal.main_arg0) = m ((c.tc : Thread Cert.MidRIdeal.nD Cert.MidRIdeal.τ).loc Cert.MidRIdeal.main_arg0)
      ∧ r.2.mem ((c.tc : Thread Cert.MidRIdeal.nD Cert.MidRIdeal.τ).loc Cert.MidRIdeal.main_arg1) = m ((c.tc : Thread Cert.MidRIdeal.nD Cert.MidRIdeal.τ).loc Cert.MidRIdeal.main_arg1)
      ∧ r.2.mem ((c.tc : Thread Cert.MidRIdeal.nD Cert.MidRIdeal.τ).loc Cert.MidRIdeal.main_arg2) = m ((c.tc : Thread Cert.MidRIdeal.nD Cert.MidRIdeal.τ).loc Cert.MidRIdeal.main_arg2)
      ∧ r.2.mem ((c.tc : Thread Cert.MidRIdeal.nD Cert.MidRIdeal.τ).loc Cert.MidRIdeal.main_arg3) = m ((c.tc : Thread Cert.MidRIdeal.nD Cert.MidRIdeal.τ).loc Cert.MidRIdeal.main_arg3)
      ∧ r.2.mem ((c.tc : Thread Cert.MidRIdeal.nD Cert.MidRIdeal.τ).loc Cert.MidRIdeal.main_arg4) = m ((c.tc : Thread Cert.MidRIdeal.nD Cert.MidRIdeal.τ).loc Cert.MidRIdeal.main_arg4)
      ∧ r.2.mem ((c.tc : Thread Cert.MidRIdeal.nD Cert.MidRIdeal.τ).loc Cert.MidRIdeal.main_arg5) = m ((c.tc : Thread Cert.MidRIdeal.nD Cert.MidRIdeal.τ).loc Cert.MidRIdeal.main_arg5)
      ∧ r.2.mem ((c.tc : Thread Cert.MidRIdeal.nD Cert.MidRIdeal.τ).loc Cert.MidRIdeal.main_arg6) = m ((c.tc : Thread Cert.MidRIdeal.nD Cert.MidRIdeal.τ).loc Cert.MidRIdeal.main_arg6)
      ∧ r.2.mem ((c.tc : Thread Cert.MidRIdeal.nD Cert.MidRIdeal.τ).loc Cert.MidRIdeal.main_arg7) = m ((c.tc : Thread Cert.MidRIdeal.nD Cert.MidRIdeal.τ).loc Cert.MidRIdeal.main_arg7)
      ∧ r.2.mem ((c.tc : Thread Cert.MidRIdeal.nD Cert.MidRIdeal.τ).loc Cert.MidRIdeal.main_arg8) = m ((c.tc : Thread Cert.MidRIdeal.nD Cert.MidRIdeal.τ).loc Cert.MidRIdeal.main_arg8)
      ∧ r.2.mem ((c.tc : Thread Cert.MidRIdeal.nD Cert.MidRIdeal.τ).loc Cert.MidRIdeal.main_arg9) = m ((c.tc : Thread Cert.MidRIdeal.nD Cert.MidRIdeal.τ).loc Cert.MidRIdeal.main_arg9)
      ∧ r.2.mem ((c.tc : Thread Cert.MidRIdeal.nD Cert.MidRIdeal.τ).loc Cert.MidRIdeal.main_arg10) = m ((c.tc : Thread Cert.MidRIdeal.nD Cert.MidRIdeal.τ).loc Cert.MidRIdeal.main_arg10)
      ∧ r.2.mem ((c.tc : Thread Cert.MidRIdeal.nD Cert.MidRIdeal.τ).loc Cert.MidRIdeal.main_arg11) = m ((c.tc : Thread Cert.MidRIdeal.nD Cert.MidRIdeal.τ).loc Cert.MidRIdeal.main_arg11)
      ∧ r.2.mem ((c.tc : Thread Cert.MidRIdeal.nD Cert.MidRIdeal.τ).loc Cert.MidRIdeal.main_arg12) = m ((c.tc : Thread Cert.MidRIdeal.nD Cert.MidRIdeal.τ).loc Cert.MidRIdeal.main_arg12)
      ∧ r.2.mem ((c.tc : Thread Cert.MidRIdeal.nD Cert.MidRIdeal.τ).loc Cert.MidRIdeal.main_arg13) = m ((c.tc : Thread Cert.MidRIdeal.nD Cert.MidRIdeal.τ).loc Cert.MidRIdeal.main_arg13)
      ∧ r.2.mem ((c.tc : Thread Cert.MidRIdeal.nD Cert.MidRIdeal.τ).loc Cert.MidRIdeal.main_arg14) = m ((c.tc : Thread Cert.MidRIdeal.nD Cert.MidRIdeal.τ).loc Cert.MidRIdeal.main_arg14)
      ∧ r.2.mem ((c.tc : Thread Cert.MidRIdeal.nD Cert.MidRIdeal.τ).loc Cert.MidRIdeal.main_arg15) = m ((c.tc : Thread Cert.MidRIdeal.nD Cert.MidRIdeal.τ).loc Cert.MidRIdeal.main_arg15)
      ∧ r.2.mem ((c.tc : Thread Cert.MidRIdeal.nD Cert.MidRIdeal.τ).loc Cert.MidRIdeal.main_arg16) = m ((c.tc : Thread Cert.MidRIdeal.nD Cert.MidRIdeal.τ).loc Cert.MidRIdeal.main_arg16))
      ∧ r.2.sem = fun _ => 0)

def preserves_OutK_OutKIdeal : Prop :=
  True

def algebraic_OutKIdeal_OutRIdeal [hOutKIdeal : Cert.OutKIdeal.Facts] [hOutRIdeal : Cert.OutRIdeal.Facts] : Prop :=
  ∀ (m : (ℓ : Loc Cert.OutKIdeal.nD Cert.OutKIdeal.τ Cert.OutKIdeal.sig) → Buf (Elt Ideal) ℓ) (g : Dev Cert.OutKIdeal.nD → PrngReg)
    (m' : (ℓ : Loc Cert.OutRIdeal.nD Cert.OutRIdeal.τ Cert.OutRIdeal.sig) → Buf (Elt Ideal) ℓ) (g' : Dev Cert.OutRIdeal.nD → PrngReg), Pre_OutKIdeal m →
    (∀ c : Dev Cert.OutKIdeal.nD,
      m' ((c.tc : Thread Cert.OutRIdeal.nD Cert.OutRIdeal.τ).loc Cert.OutRIdeal.main_arg0) = m ((c.tc : Thread Cert.OutKIdeal.nD Cert.OutKIdeal.τ).loc Cert.OutKIdeal.main_arg0)
      ∧ m' ((c.tc : Thread Cert.OutRIdeal.nD Cert.OutRIdeal.τ).loc Cert.OutRIdeal.main_arg1) = m ((c.tc : Thread Cert.OutKIdeal.nD Cert.OutKIdeal.τ).loc Cert.OutKIdeal.main_arg1)
      ∧ m' ((c.tc : Thread Cert.OutRIdeal.nD Cert.OutRIdeal.τ).loc Cert.OutRIdeal.main_arg2) = m ((c.tc : Thread Cert.OutKIdeal.nD Cert.OutKIdeal.τ).loc Cert.OutKIdeal.main_arg2)
      ∧ m' ((c.tc : Thread Cert.OutRIdeal.nD Cert.OutRIdeal.τ).loc Cert.OutRIdeal.main_arg3) = m ((c.tc : Thread Cert.OutKIdeal.nD Cert.OutKIdeal.τ).loc Cert.OutKIdeal.main_arg3)
      ∧ m' ((c.tc : Thread Cert.OutRIdeal.nD Cert.OutRIdeal.τ).loc Cert.OutRIdeal.main_arg4) = m ((c.tc : Thread Cert.OutKIdeal.nD Cert.OutKIdeal.τ).loc Cert.OutKIdeal.main_arg4)
      ∧ m' ((c.tc : Thread Cert.OutRIdeal.nD Cert.OutRIdeal.τ).loc Cert.OutRIdeal.main_arg5) = m ((c.tc : Thread Cert.OutKIdeal.nD Cert.OutKIdeal.τ).loc Cert.OutKIdeal.main_arg5)
      ∧ m' ((c.tc : Thread Cert.OutRIdeal.nD Cert.OutRIdeal.τ).loc Cert.OutRIdeal.main_arg6) = m ((c.tc : Thread Cert.OutKIdeal.nD Cert.OutKIdeal.τ).loc Cert.OutKIdeal.main_arg6)
      ∧ m' ((c.tc : Thread Cert.OutRIdeal.nD Cert.OutRIdeal.τ).loc Cert.OutRIdeal.main_arg7) = m ((c.tc : Thread Cert.OutKIdeal.nD Cert.OutKIdeal.τ).loc Cert.OutKIdeal.main_arg7)
      ∧ m' ((c.tc : Thread Cert.OutRIdeal.nD Cert.OutRIdeal.τ).loc Cert.OutRIdeal.main_arg8) = m ((c.tc : Thread Cert.OutKIdeal.nD Cert.OutKIdeal.τ).loc Cert.OutKIdeal.main_arg8)
      ∧ m' ((c.tc : Thread Cert.OutRIdeal.nD Cert.OutRIdeal.τ).loc Cert.OutRIdeal.main_arg9) = m ((c.tc : Thread Cert.OutKIdeal.nD Cert.OutKIdeal.τ).loc Cert.OutKIdeal.main_arg9)
      ∧ m' ((c.tc : Thread Cert.OutRIdeal.nD Cert.OutRIdeal.τ).loc Cert.OutRIdeal.main_arg10) = m ((c.tc : Thread Cert.OutKIdeal.nD Cert.OutKIdeal.τ).loc Cert.OutKIdeal.main_arg10)
      ∧ m' ((c.tc : Thread Cert.OutRIdeal.nD Cert.OutRIdeal.τ).loc Cert.OutRIdeal.main_arg11) = m ((c.tc : Thread Cert.OutKIdeal.nD Cert.OutKIdeal.τ).loc Cert.OutKIdeal.main_arg11)
      ∧ m' ((c.tc : Thread Cert.OutRIdeal.nD Cert.OutRIdeal.τ).loc Cert.OutRIdeal.main_arg12) = m ((c.tc : Thread Cert.OutKIdeal.nD Cert.OutKIdeal.τ).loc Cert.OutKIdeal.main_arg12)
      ∧ m' ((c.tc : Thread Cert.OutRIdeal.nD Cert.OutRIdeal.τ).loc Cert.OutRIdeal.main_arg13) = m ((c.tc : Thread Cert.OutKIdeal.nD Cert.OutKIdeal.τ).loc Cert.OutKIdeal.main_arg13)
      ∧ m' ((c.tc : Thread Cert.OutRIdeal.nD Cert.OutRIdeal.τ).loc Cert.OutRIdeal.main_arg14) = m ((c.tc : Thread Cert.OutKIdeal.nD Cert.OutKIdeal.τ).loc Cert.OutKIdeal.main_arg14)
      ∧ m' ((c.tc : Thread Cert.OutRIdeal.nD Cert.OutRIdeal.τ).loc Cert.OutRIdeal.main_arg15) = m ((c.tc : Thread Cert.OutKIdeal.nD Cert.OutKIdeal.τ).loc Cert.OutKIdeal.main_arg15)
      ∧ m' ((c.tc : Thread Cert.OutRIdeal.nD Cert.OutRIdeal.τ).loc Cert.OutRIdeal.main_arg16) = m ((c.tc : Thread Cert.OutKIdeal.nD Cert.OutKIdeal.τ).loc Cert.OutKIdeal.main_arg16)
      ∧ m' ((c.tc : Thread Cert.OutRIdeal.nD Cert.OutRIdeal.τ).loc Cert.OutRIdeal.main_arg17) = m ((c.tc : Thread Cert.OutKIdeal.nD Cert.OutKIdeal.τ).loc Cert.OutKIdeal.main_arg17)) →
    ∃ (v0 : (c : Dev Cert.OutKIdeal.nD) → Buf (Elt Ideal) ((c.tc : Thread Cert.OutKIdeal.nD Cert.OutKIdeal.τ).loc Cert.OutKIdeal.main_v23_0)) (v1 : (c : Dev Cert.OutKIdeal.nD) → Buf (Elt Ideal) ((c.tc : Thread Cert.OutKIdeal.nD Cert.OutKIdeal.τ).loc Cert.OutKIdeal.main_v23_1)),
      θ_run (Cert.OutKIdeal.defs (F := Ideal)) (onTc (τ := Cert.OutKIdeal.τ) (Cert.OutKIdeal.main (F := Ideal))) ⟨m, fun _ => 0, g⟩ (fun r => ∀ c : Dev Cert.OutKIdeal.nD,
          r.2.mem ((c.tc : Thread Cert.OutKIdeal.nD Cert.OutKIdeal.τ).loc Cert.OutKIdeal.main_v23_0) = v0 c
          ∧ r.2.mem ((c.tc : Thread Cert.OutKIdeal.nD Cert.OutKIdeal.τ).loc Cert.OutKIdeal.main_v23_1) = v1 c
          ∧ r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
          ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
          ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
          ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3)
          ∧ r.2.mem ((c.tc : Thread Cert.OutKIdeal.nD Cert.OutKIdeal.τ).loc Cert.OutKIdeal.main_arg4) = m ((c.tc : Thread Cert.OutKIdeal.nD Cert.OutKIdeal.τ).loc Cert.OutKIdeal.main_arg4)
          ∧ r.2.mem ((c.tc : Thread Cert.OutKIdeal.nD Cert.OutKIdeal.τ).loc Cert.OutKIdeal.main_arg5) = m ((c.tc : Thread Cert.OutKIdeal.nD Cert.OutKIdeal.τ).loc Cert.OutKIdeal.main_arg5)
          ∧ r.2.mem ((c.tc : Thread Cert.OutKIdeal.nD Cert.OutKIdeal.τ).loc Cert.OutKIdeal.main_arg6) = m ((c.tc : Thread Cert.OutKIdeal.nD Cert.OutKIdeal.τ).loc Cert.OutKIdeal.main_arg6)
          ∧ r.2.mem ((c.tc : Thread Cert.OutKIdeal.nD Cert.OutKIdeal.τ).loc Cert.OutKIdeal.main_arg7) = m ((c.tc : Thread Cert.OutKIdeal.nD Cert.OutKIdeal.τ).loc Cert.OutKIdeal.main_arg7)
          ∧ r.2.mem ((c.tc : Thread Cert.OutKIdeal.nD Cert.OutKIdeal.τ).loc Cert.OutKIdeal.main_arg8) = m ((c.tc : Thread Cert.OutKIdeal.nD Cert.OutKIdeal.τ).loc Cert.OutKIdeal.main_arg8)
          ∧ r.2.mem ((c.tc : Thread Cert.OutKIdeal.nD Cert.OutKIdeal.τ).loc Cert.OutKIdeal.main_arg9) = m ((c.tc : Thread Cert.OutKIdeal.nD Cert.OutKIdeal.τ).loc Cert.OutKIdeal.main_arg9)
          ∧ r.2.mem ((c.tc : Thread Cert.OutKIdeal.nD Cert.OutKIdeal.τ).loc Cert.OutKIdeal.main_arg10) = m ((c.tc : Thread Cert.OutKIdeal.nD Cert.OutKIdeal.τ).loc Cert.OutKIdeal.main_arg10)
          ∧ r.2.mem ((c.tc : Thread Cert.OutKIdeal.nD Cert.OutKIdeal.τ).loc Cert.OutKIdeal.main_arg11) = m ((c.tc : Thread Cert.OutKIdeal.nD Cert.OutKIdeal.τ).loc Cert.OutKIdeal.main_arg11)
          ∧ r.2.mem ((c.tc : Thread Cert.OutKIdeal.nD Cert.OutKIdeal.τ).loc Cert.OutKIdeal.main_arg12) = m ((c.tc : Thread Cert.OutKIdeal.nD Cert.OutKIdeal.τ).loc Cert.OutKIdeal.main_arg12)
          ∧ r.2.mem ((c.tc : Thread Cert.OutKIdeal.nD Cert.OutKIdeal.τ).loc Cert.OutKIdeal.main_arg13) = m ((c.tc : Thread Cert.OutKIdeal.nD Cert.OutKIdeal.τ).loc Cert.OutKIdeal.main_arg13)
          ∧ r.2.mem ((c.tc : Thread Cert.OutKIdeal.nD Cert.OutKIdeal.τ).loc Cert.OutKIdeal.main_arg14) = m ((c.tc : Thread Cert.OutKIdeal.nD Cert.OutKIdeal.τ).loc Cert.OutKIdeal.main_arg14)
          ∧ r.2.mem ((c.tc : Thread Cert.OutKIdeal.nD Cert.OutKIdeal.τ).loc Cert.OutKIdeal.main_arg15) = m ((c.tc : Thread Cert.OutKIdeal.nD Cert.OutKIdeal.τ).loc Cert.OutKIdeal.main_arg15)
          ∧ r.2.mem ((c.tc : Thread Cert.OutKIdeal.nD Cert.OutKIdeal.τ).loc Cert.OutKIdeal.main_arg16) = m ((c.tc : Thread Cert.OutKIdeal.nD Cert.OutKIdeal.τ).loc Cert.OutKIdeal.main_arg16)
          ∧ r.2.mem ((c.tc : Thread Cert.OutKIdeal.nD Cert.OutKIdeal.τ).loc Cert.OutKIdeal.main_arg17) = m ((c.tc : Thread Cert.OutKIdeal.nD Cert.OutKIdeal.τ).loc Cert.OutKIdeal.main_arg17))
      ∧ θ_run (Cert.OutRIdeal.defs (F := Ideal)) (onTc (τ := Cert.OutRIdeal.τ) (Cert.OutRIdeal.main (F := Ideal))) ⟨m', fun _ => 0, g'⟩ (fun r => ∀ c : Dev Cert.OutRIdeal.nD,
          r.2.mem ((c.tc : Thread Cert.OutRIdeal.nD Cert.OutRIdeal.τ).loc Cert.OutRIdeal.main_v0_0) = v0 c
          ∧ r.2.mem ((c.tc : Thread Cert.OutRIdeal.nD Cert.OutRIdeal.τ).loc Cert.OutRIdeal.main_v0_1) = v1 c
          ∧ r.2.mem ((c.tc : Thread Cert.OutRIdeal.nD Cert.OutRIdeal.τ).loc Cert.OutRIdeal.main_arg0) = m' ((c.tc : Thread Cert.OutRIdeal.nD Cert.OutRIdeal.τ).loc Cert.OutRIdeal.main_arg0)
          ∧ r.2.mem ((c.tc : Thread Cert.OutRIdeal.nD Cert.OutRIdeal.τ).loc Cert.OutRIdeal.main_arg1) = m' ((c.tc : Thread Cert.OutRIdeal.nD Cert.OutRIdeal.τ).loc Cert.OutRIdeal.main_arg1)
          ∧ r.2.mem ((c.tc : Thread Cert.OutRIdeal.nD Cert.OutRIdeal.τ).loc Cert.OutRIdeal.main_arg2) = m' ((c.tc : Thread Cert.OutRIdeal.nD Cert.OutRIdeal.τ).loc Cert.OutRIdeal.main_arg2)
          ∧ r.2.mem ((c.tc : Thread Cert.OutRIdeal.nD Cert.OutRIdeal.τ).loc Cert.OutRIdeal.main_arg3) = m' ((c.tc : Thread Cert.OutRIdeal.nD Cert.OutRIdeal.τ).loc Cert.OutRIdeal.main_arg3)
          ∧ r.2.mem ((c.tc : Thread Cert.OutRIdeal.nD Cert.OutRIdeal.τ).loc Cert.OutRIdeal.main_arg4) = m' ((c.tc : Thread Cert.OutRIdeal.nD Cert.OutRIdeal.τ).loc Cert.OutRIdeal.main_arg4)
          ∧ r.2.mem ((c.tc : Thread Cert.OutRIdeal.nD Cert.OutRIdeal.τ).loc Cert.OutRIdeal.main_arg5) = m' ((c.tc : Thread Cert.OutRIdeal.nD Cert.OutRIdeal.τ).loc Cert.OutRIdeal.main_arg5)
          ∧ r.2.mem ((c.tc : Thread Cert.OutRIdeal.nD Cert.OutRIdeal.τ).loc Cert.OutRIdeal.main_arg6) = m' ((c.tc : Thread Cert.OutRIdeal.nD Cert.OutRIdeal.τ).loc Cert.OutRIdeal.main_arg6)
          ∧ r.2.mem ((c.tc : Thread Cert.OutRIdeal.nD Cert.OutRIdeal.τ).loc Cert.OutRIdeal.main_arg7) = m' ((c.tc : Thread Cert.OutRIdeal.nD Cert.OutRIdeal.τ).loc Cert.OutRIdeal.main_arg7)
          ∧ r.2.mem ((c.tc : Thread Cert.OutRIdeal.nD Cert.OutRIdeal.τ).loc Cert.OutRIdeal.main_arg8) = m' ((c.tc : Thread Cert.OutRIdeal.nD Cert.OutRIdeal.τ).loc Cert.OutRIdeal.main_arg8)
          ∧ r.2.mem ((c.tc : Thread Cert.OutRIdeal.nD Cert.OutRIdeal.τ).loc Cert.OutRIdeal.main_arg9) = m' ((c.tc : Thread Cert.OutRIdeal.nD Cert.OutRIdeal.τ).loc Cert.OutRIdeal.main_arg9)
          ∧ r.2.mem ((c.tc : Thread Cert.OutRIdeal.nD Cert.OutRIdeal.τ).loc Cert.OutRIdeal.main_arg10) = m' ((c.tc : Thread Cert.OutRIdeal.nD Cert.OutRIdeal.τ).loc Cert.OutRIdeal.main_arg10)
          ∧ r.2.mem ((c.tc : Thread Cert.OutRIdeal.nD Cert.OutRIdeal.τ).loc Cert.OutRIdeal.main_arg11) = m' ((c.tc : Thread Cert.OutRIdeal.nD Cert.OutRIdeal.τ).loc Cert.OutRIdeal.main_arg11)
          ∧ r.2.mem ((c.tc : Thread Cert.OutRIdeal.nD Cert.OutRIdeal.τ).loc Cert.OutRIdeal.main_arg12) = m' ((c.tc : Thread Cert.OutRIdeal.nD Cert.OutRIdeal.τ).loc Cert.OutRIdeal.main_arg12)
          ∧ r.2.mem ((c.tc : Thread Cert.OutRIdeal.nD Cert.OutRIdeal.τ).loc Cert.OutRIdeal.main_arg13) = m' ((c.tc : Thread Cert.OutRIdeal.nD Cert.OutRIdeal.τ).loc Cert.OutRIdeal.main_arg13)
          ∧ r.2.mem ((c.tc : Thread Cert.OutRIdeal.nD Cert.OutRIdeal.τ).loc Cert.OutRIdeal.main_arg14) = m' ((c.tc : Thread Cert.OutRIdeal.nD Cert.OutRIdeal.τ).loc Cert.OutRIdeal.main_arg14)
          ∧ r.2.mem ((c.tc : Thread Cert.OutRIdeal.nD Cert.OutRIdeal.τ).loc Cert.OutRIdeal.main_arg15) = m' ((c.tc : Thread Cert.OutRIdeal.nD Cert.OutRIdeal.τ).loc Cert.OutRIdeal.main_arg15)
          ∧ r.2.mem ((c.tc : Thread Cert.OutRIdeal.nD Cert.OutRIdeal.τ).loc Cert.OutRIdeal.main_arg16) = m' ((c.tc : Thread Cert.OutRIdeal.nD Cert.OutRIdeal.τ).loc Cert.OutRIdeal.main_arg16)
          ∧ r.2.mem ((c.tc : Thread Cert.OutRIdeal.nD Cert.OutRIdeal.τ).loc Cert.OutRIdeal.main_arg17) = m' ((c.tc : Thread Cert.OutRIdeal.nD Cert.OutRIdeal.τ).loc Cert.OutRIdeal.main_arg17))

def preserves_AdaFK_AdaFKIdeal : Prop :=
  True

def algebraic_AdaFKIdeal_AdaFRIdeal [hAdaFKIdeal : Cert.AdaFKIdeal.Facts] [hAdaFRIdeal : Cert.AdaFRIdeal.Facts] : Prop :=
  ∀ (m : (ℓ : Loc Cert.AdaFKIdeal.nD Cert.AdaFKIdeal.τ Cert.AdaFKIdeal.sig) → Buf (Elt Ideal) ℓ) (g : Dev Cert.AdaFKIdeal.nD → PrngReg)
    (m' : (ℓ : Loc Cert.AdaFRIdeal.nD Cert.AdaFRIdeal.τ Cert.AdaFRIdeal.sig) → Buf (Elt Ideal) ℓ) (g' : Dev Cert.AdaFRIdeal.nD → PrngReg), Pre_AdaFKIdeal m →
    (∀ c : Dev Cert.AdaFKIdeal.nD,
      m' ((c.tc : Thread Cert.AdaFRIdeal.nD Cert.AdaFRIdeal.τ).loc Cert.AdaFRIdeal.main_arg0) = m ((c.tc : Thread Cert.AdaFKIdeal.nD Cert.AdaFKIdeal.τ).loc Cert.AdaFKIdeal.main_arg0)
      ∧ m' ((c.tc : Thread Cert.AdaFRIdeal.nD Cert.AdaFRIdeal.τ).loc Cert.AdaFRIdeal.main_arg1) = m ((c.tc : Thread Cert.AdaFKIdeal.nD Cert.AdaFKIdeal.τ).loc Cert.AdaFKIdeal.main_arg1)
      ∧ m' ((c.tc : Thread Cert.AdaFRIdeal.nD Cert.AdaFRIdeal.τ).loc Cert.AdaFRIdeal.main_arg2) = m ((c.tc : Thread Cert.AdaFKIdeal.nD Cert.AdaFKIdeal.τ).loc Cert.AdaFKIdeal.main_arg2)
      ∧ m' ((c.tc : Thread Cert.AdaFRIdeal.nD Cert.AdaFRIdeal.τ).loc Cert.AdaFRIdeal.main_arg3) = m ((c.tc : Thread Cert.AdaFKIdeal.nD Cert.AdaFKIdeal.τ).loc Cert.AdaFKIdeal.main_arg3)
      ∧ m' ((c.tc : Thread Cert.AdaFRIdeal.nD Cert.AdaFRIdeal.τ).loc Cert.AdaFRIdeal.main_arg4) = m ((c.tc : Thread Cert.AdaFKIdeal.nD Cert.AdaFKIdeal.τ).loc Cert.AdaFKIdeal.main_arg4)
      ∧ m' ((c.tc : Thread Cert.AdaFRIdeal.nD Cert.AdaFRIdeal.τ).loc Cert.AdaFRIdeal.main_arg5) = m ((c.tc : Thread Cert.AdaFKIdeal.nD Cert.AdaFKIdeal.τ).loc Cert.AdaFKIdeal.main_arg5)
      ∧ m' ((c.tc : Thread Cert.AdaFRIdeal.nD Cert.AdaFRIdeal.τ).loc Cert.AdaFRIdeal.main_arg6) = m ((c.tc : Thread Cert.AdaFKIdeal.nD Cert.AdaFKIdeal.τ).loc Cert.AdaFKIdeal.main_arg6)) →
    ∃ (v0 : (c : Dev Cert.AdaFKIdeal.nD) → Buf (Elt Ideal) ((c.tc : Thread Cert.AdaFKIdeal.nD Cert.AdaFKIdeal.τ).loc Cert.AdaFKIdeal.main_v4_0)) (v1 : (c : Dev Cert.AdaFKIdeal.nD) → Buf (Elt Ideal) ((c.tc : Thread Cert.AdaFKIdeal.nD Cert.AdaFKIdeal.τ).loc Cert.AdaFKIdeal.main_v4_1)) (v2 : (c : Dev Cert.AdaFKIdeal.nD) → Buf (Elt Ideal) ((c.tc : Thread Cert.AdaFKIdeal.nD Cert.AdaFKIdeal.τ).loc Cert.AdaFKIdeal.main_v4_2)),
      θ_run (Cert.AdaFKIdeal.defs (F := Ideal)) (onTc (τ := Cert.AdaFKIdeal.τ) (Cert.AdaFKIdeal.main (F := Ideal))) ⟨m, fun _ => 0, g⟩ (fun r => ∀ c : Dev Cert.AdaFKIdeal.nD,
          r.2.mem ((c.tc : Thread Cert.AdaFKIdeal.nD Cert.AdaFKIdeal.τ).loc Cert.AdaFKIdeal.main_v4_0) = v0 c
          ∧ r.2.mem ((c.tc : Thread Cert.AdaFKIdeal.nD Cert.AdaFKIdeal.τ).loc Cert.AdaFKIdeal.main_v4_1) = v1 c
          ∧ r.2.mem ((c.tc : Thread Cert.AdaFKIdeal.nD Cert.AdaFKIdeal.τ).loc Cert.AdaFKIdeal.main_v4_2) = v2 c
          ∧ r.2.mem ((c.tc : Thread Cert.AdaFKIdeal.nD Cert.AdaFKIdeal.τ).loc Cert.AdaFKIdeal.main_arg0) = m ((c.tc : Thread Cert.AdaFKIdeal.nD Cert.AdaFKIdeal.τ).loc Cert.AdaFKIdeal.main_arg0)
          ∧ r.2.mem ((c.tc : Thread Cert.AdaFKIdeal.nD Cert.AdaFKIdeal.τ).loc Cert.AdaFKIdeal.main_arg1) = m ((c.tc : Thread Cert.AdaFKIdeal.nD Cert.AdaFKIdeal.τ).loc Cert.AdaFKIdeal.main_arg1)
          ∧ r.2.mem ((c.tc : Thread Cert.AdaFKIdeal.nD Cert.AdaFKIdeal.τ).loc Cert.AdaFKIdeal.main_arg2) = m ((c.tc : Thread Cert.AdaFKIdeal.nD Cert.AdaFKIdeal.τ).loc Cert.AdaFKIdeal.main_arg2)
          ∧ r.2.mem ((c.tc : Thread Cert.AdaFKIdeal.nD Cert.AdaFKIdeal.τ).loc Cert.AdaFKIdeal.main_arg3) = m ((c.tc : Thread Cert.AdaFKIdeal.nD Cert.AdaFKIdeal.τ).loc Cert.AdaFKIdeal.main_arg3)
          ∧ r.2.mem ((c.tc : Thread Cert.AdaFKIdeal.nD Cert.AdaFKIdeal.τ).loc Cert.AdaFKIdeal.main_arg4) = m ((c.tc : Thread Cert.AdaFKIdeal.nD Cert.AdaFKIdeal.τ).loc Cert.AdaFKIdeal.main_arg4)
          ∧ r.2.mem ((c.tc : Thread Cert.AdaFKIdeal.nD Cert.AdaFKIdeal.τ).loc Cert.AdaFKIdeal.main_arg5) = m ((c.tc : Thread Cert.AdaFKIdeal.nD Cert.AdaFKIdeal.τ).loc Cert.AdaFKIdeal.main_arg5)
          ∧ r.2.mem ((c.tc : Thread Cert.AdaFKIdeal.nD Cert.AdaFKIdeal.τ).loc Cert.AdaFKIdeal.main_arg6) = m ((c.tc : Thread Cert.AdaFKIdeal.nD Cert.AdaFKIdeal.τ).loc Cert.AdaFKIdeal.main_arg6))
      ∧ θ_run (Cert.AdaFRIdeal.defs (F := Ideal)) (onTc (τ := Cert.AdaFRIdeal.τ) (Cert.AdaFRIdeal.main (F := Ideal))) ⟨m', fun _ => 0, g'⟩ (fun r => ∀ c : Dev Cert.AdaFRIdeal.nD,
          r.2.mem ((c.tc : Thread Cert.AdaFRIdeal.nD Cert.AdaFRIdeal.τ).loc Cert.AdaFRIdeal.main_v5) = v0 c
          ∧ r.2.mem ((c.tc : Thread Cert.AdaFRIdeal.nD Cert.AdaFRIdeal.τ).loc Cert.AdaFRIdeal.main_v8) = v1 c
          ∧ r.2.mem ((c.tc : Thread Cert.AdaFRIdeal.nD Cert.AdaFRIdeal.τ).loc Cert.AdaFRIdeal.main_v9) = v2 c
          ∧ r.2.mem ((c.tc : Thread Cert.AdaFRIdeal.nD Cert.AdaFRIdeal.τ).loc Cert.AdaFRIdeal.main_arg0) = m' ((c.tc : Thread Cert.AdaFRIdeal.nD Cert.AdaFRIdeal.τ).loc Cert.AdaFRIdeal.main_arg0)
          ∧ r.2.mem ((c.tc : Thread Cert.AdaFRIdeal.nD Cert.AdaFRIdeal.τ).loc Cert.AdaFRIdeal.main_arg1) = m' ((c.tc : Thread Cert.AdaFRIdeal.nD Cert.AdaFRIdeal.τ).loc Cert.AdaFRIdeal.main_arg1)
          ∧ r.2.mem ((c.tc : Thread Cert.AdaFRIdeal.nD Cert.AdaFRIdeal.τ).loc Cert.AdaFRIdeal.main_arg2) = m' ((c.tc : Thread Cert.AdaFRIdeal.nD Cert.AdaFRIdeal.τ).loc Cert.AdaFRIdeal.main_arg2)
          ∧ r.2.mem ((c.tc : Thread Cert.AdaFRIdeal.nD Cert.AdaFRIdeal.τ).loc Cert.AdaFRIdeal.main_arg3) = m' ((c.tc : Thread Cert.AdaFRIdeal.nD Cert.AdaFRIdeal.τ).loc Cert.AdaFRIdeal.main_arg3)
          ∧ r.2.mem ((c.tc : Thread Cert.AdaFRIdeal.nD Cert.AdaFRIdeal.τ).loc Cert.AdaFRIdeal.main_arg4) = m' ((c.tc : Thread Cert.AdaFRIdeal.nD Cert.AdaFRIdeal.τ).loc Cert.AdaFRIdeal.main_arg4)
          ∧ r.2.mem ((c.tc : Thread Cert.AdaFRIdeal.nD Cert.AdaFRIdeal.τ).loc Cert.AdaFRIdeal.main_arg5) = m' ((c.tc : Thread Cert.AdaFRIdeal.nD Cert.AdaFRIdeal.τ).loc Cert.AdaFRIdeal.main_arg5)
          ∧ r.2.mem ((c.tc : Thread Cert.AdaFRIdeal.nD Cert.AdaFRIdeal.τ).loc Cert.AdaFRIdeal.main_arg6) = m' ((c.tc : Thread Cert.AdaFRIdeal.nD Cert.AdaFRIdeal.τ).loc Cert.AdaFRIdeal.main_arg6))

def preserves_AdaDK_AdaDKIdeal : Prop :=
  True

def algebraic_AdaDKIdeal_AdaDRIdeal [hAdaDKIdeal : Cert.AdaDKIdeal.Facts] [hAdaDRIdeal : Cert.AdaDRIdeal.Facts] : Prop :=
  ∀ (m : (ℓ : Loc Cert.AdaDKIdeal.nD Cert.AdaDKIdeal.τ Cert.AdaDKIdeal.sig) → Buf (Elt Ideal) ℓ) (g : Dev Cert.AdaDKIdeal.nD → PrngReg)
    (m' : (ℓ : Loc Cert.AdaDRIdeal.nD Cert.AdaDRIdeal.τ Cert.AdaDRIdeal.sig) → Buf (Elt Ideal) ℓ) (g' : Dev Cert.AdaDRIdeal.nD → PrngReg), Pre_AdaDKIdeal m →
    (∀ c : Dev Cert.AdaDKIdeal.nD,
      m' ((c.tc : Thread Cert.AdaDRIdeal.nD Cert.AdaDRIdeal.τ).loc Cert.AdaDRIdeal.main_arg0) = m ((c.tc : Thread Cert.AdaDKIdeal.nD Cert.AdaDKIdeal.τ).loc Cert.AdaDKIdeal.main_arg0)
      ∧ m' ((c.tc : Thread Cert.AdaDRIdeal.nD Cert.AdaDRIdeal.τ).loc Cert.AdaDRIdeal.main_arg1) = m ((c.tc : Thread Cert.AdaDKIdeal.nD Cert.AdaDKIdeal.τ).loc Cert.AdaDKIdeal.main_arg1)
      ∧ m' ((c.tc : Thread Cert.AdaDRIdeal.nD Cert.AdaDRIdeal.τ).loc Cert.AdaDRIdeal.main_arg2) = m ((c.tc : Thread Cert.AdaDKIdeal.nD Cert.AdaDKIdeal.τ).loc Cert.AdaDKIdeal.main_arg2)
      ∧ m' ((c.tc : Thread Cert.AdaDRIdeal.nD Cert.AdaDRIdeal.τ).loc Cert.AdaDRIdeal.main_arg3) = m ((c.tc : Thread Cert.AdaDKIdeal.nD Cert.AdaDKIdeal.τ).loc Cert.AdaDKIdeal.main_arg3)
      ∧ m' ((c.tc : Thread Cert.AdaDRIdeal.nD Cert.AdaDRIdeal.τ).loc Cert.AdaDRIdeal.main_arg4) = m ((c.tc : Thread Cert.AdaDKIdeal.nD Cert.AdaDKIdeal.τ).loc Cert.AdaDKIdeal.main_arg4)
      ∧ m' ((c.tc : Thread Cert.AdaDRIdeal.nD Cert.AdaDRIdeal.τ).loc Cert.AdaDRIdeal.main_arg5) = m ((c.tc : Thread Cert.AdaDKIdeal.nD Cert.AdaDKIdeal.τ).loc Cert.AdaDKIdeal.main_arg5)) →
    ∃ (v0 : (c : Dev Cert.AdaDKIdeal.nD) → Buf (Elt Ideal) ((c.tc : Thread Cert.AdaDKIdeal.nD Cert.AdaDKIdeal.τ).loc Cert.AdaDKIdeal.main_v4_0)) (v1 : (c : Dev Cert.AdaDKIdeal.nD) → Buf (Elt Ideal) ((c.tc : Thread Cert.AdaDKIdeal.nD Cert.AdaDKIdeal.τ).loc Cert.AdaDKIdeal.main_v4_1)) (v2 : (c : Dev Cert.AdaDKIdeal.nD) → Buf (Elt Ideal) ((c.tc : Thread Cert.AdaDKIdeal.nD Cert.AdaDKIdeal.τ).loc Cert.AdaDKIdeal.main_v4_2)),
      θ_run (Cert.AdaDKIdeal.defs (F := Ideal)) (onTc (τ := Cert.AdaDKIdeal.τ) (Cert.AdaDKIdeal.main (F := Ideal))) ⟨m, fun _ => 0, g⟩ (fun r => ∀ c : Dev Cert.AdaDKIdeal.nD,
          r.2.mem ((c.tc : Thread Cert.AdaDKIdeal.nD Cert.AdaDKIdeal.τ).loc Cert.AdaDKIdeal.main_v4_0) = v0 c
          ∧ r.2.mem ((c.tc : Thread Cert.AdaDKIdeal.nD Cert.AdaDKIdeal.τ).loc Cert.AdaDKIdeal.main_v4_1) = v1 c
          ∧ r.2.mem ((c.tc : Thread Cert.AdaDKIdeal.nD Cert.AdaDKIdeal.τ).loc Cert.AdaDKIdeal.main_v4_2) = v2 c
          ∧ r.2.mem ((c.tc : Thread Cert.AdaDKIdeal.nD Cert.AdaDKIdeal.τ).loc Cert.AdaDKIdeal.main_arg0) = m ((c.tc : Thread Cert.AdaDKIdeal.nD Cert.AdaDKIdeal.τ).loc Cert.AdaDKIdeal.main_arg0)
          ∧ r.2.mem ((c.tc : Thread Cert.AdaDKIdeal.nD Cert.AdaDKIdeal.τ).loc Cert.AdaDKIdeal.main_arg1) = m ((c.tc : Thread Cert.AdaDKIdeal.nD Cert.AdaDKIdeal.τ).loc Cert.AdaDKIdeal.main_arg1)
          ∧ r.2.mem ((c.tc : Thread Cert.AdaDKIdeal.nD Cert.AdaDKIdeal.τ).loc Cert.AdaDKIdeal.main_arg2) = m ((c.tc : Thread Cert.AdaDKIdeal.nD Cert.AdaDKIdeal.τ).loc Cert.AdaDKIdeal.main_arg2)
          ∧ r.2.mem ((c.tc : Thread Cert.AdaDKIdeal.nD Cert.AdaDKIdeal.τ).loc Cert.AdaDKIdeal.main_arg3) = m ((c.tc : Thread Cert.AdaDKIdeal.nD Cert.AdaDKIdeal.τ).loc Cert.AdaDKIdeal.main_arg3)
          ∧ r.2.mem ((c.tc : Thread Cert.AdaDKIdeal.nD Cert.AdaDKIdeal.τ).loc Cert.AdaDKIdeal.main_arg4) = m ((c.tc : Thread Cert.AdaDKIdeal.nD Cert.AdaDKIdeal.τ).loc Cert.AdaDKIdeal.main_arg4)
          ∧ r.2.mem ((c.tc : Thread Cert.AdaDKIdeal.nD Cert.AdaDKIdeal.τ).loc Cert.AdaDKIdeal.main_arg5) = m ((c.tc : Thread Cert.AdaDKIdeal.nD Cert.AdaDKIdeal.τ).loc Cert.AdaDKIdeal.main_arg5))
      ∧ θ_run (Cert.AdaDRIdeal.defs (F := Ideal)) (onTc (τ := Cert.AdaDRIdeal.τ) (Cert.AdaDRIdeal.main (F := Ideal))) ⟨m', fun _ => 0, g'⟩ (fun r => ∀ c : Dev Cert.AdaDRIdeal.nD,
          r.2.mem ((c.tc : Thread Cert.AdaDRIdeal.nD Cert.AdaDRIdeal.τ).loc Cert.AdaDRIdeal.main_v3) = v0 c
          ∧ r.2.mem ((c.tc : Thread Cert.AdaDRIdeal.nD Cert.AdaDRIdeal.τ).loc Cert.AdaDRIdeal.main_v4) = v1 c
          ∧ r.2.mem ((c.tc : Thread Cert.AdaDRIdeal.nD Cert.AdaDRIdeal.τ).loc Cert.AdaDRIdeal.main_v7) = v2 c
          ∧ r.2.mem ((c.tc : Thread Cert.AdaDRIdeal.nD Cert.AdaDRIdeal.τ).loc Cert.AdaDRIdeal.main_arg0) = m' ((c.tc : Thread Cert.AdaDRIdeal.nD Cert.AdaDRIdeal.τ).loc Cert.AdaDRIdeal.main_arg0)
          ∧ r.2.mem ((c.tc : Thread Cert.AdaDRIdeal.nD Cert.AdaDRIdeal.τ).loc Cert.AdaDRIdeal.main_arg1) = m' ((c.tc : Thread Cert.AdaDRIdeal.nD Cert.AdaDRIdeal.τ).loc Cert.AdaDRIdeal.main_arg1)
          ∧ r.2.mem ((c.tc : Thread Cert.AdaDRIdeal.nD Cert.AdaDRIdeal.τ).loc Cert.AdaDRIdeal.main_arg2) = m' ((c.tc : Thread Cert.AdaDRIdeal.nD Cert.AdaDRIdeal.τ).loc Cert.AdaDRIdeal.main_arg2)
          ∧ r.2.mem ((c.tc : Thread Cert.AdaDRIdeal.nD Cert.AdaDRIdeal.τ).loc Cert.AdaDRIdeal.main_arg3) = m' ((c.tc : Thread Cert.AdaDRIdeal.nD Cert.AdaDRIdeal.τ).loc Cert.AdaDRIdeal.main_arg3)
          ∧ r.2.mem ((c.tc : Thread Cert.AdaDRIdeal.nD Cert.AdaDRIdeal.τ).loc Cert.AdaDRIdeal.main_arg4) = m' ((c.tc : Thread Cert.AdaDRIdeal.nD Cert.AdaDRIdeal.τ).loc Cert.AdaDRIdeal.main_arg4)
          ∧ r.2.mem ((c.tc : Thread Cert.AdaDRIdeal.nD Cert.AdaDRIdeal.τ).loc Cert.AdaDRIdeal.main_arg5) = m' ((c.tc : Thread Cert.AdaDRIdeal.nD Cert.AdaDRIdeal.τ).loc Cert.AdaDRIdeal.main_arg5))

def preserves_MidK_MidKIdeal : Prop :=
  True

def algebraic_MidKIdeal_MidRIdeal [hMidKIdeal : Cert.MidKIdeal.Facts] [hMidRIdeal : Cert.MidRIdeal.Facts] : Prop :=
  ∀ (m : (ℓ : Loc Cert.MidKIdeal.nD Cert.MidKIdeal.τ Cert.MidKIdeal.sig) → Buf (Elt Ideal) ℓ) (g : Dev Cert.MidKIdeal.nD → PrngReg)
    (m' : (ℓ : Loc Cert.MidRIdeal.nD Cert.MidRIdeal.τ Cert.MidRIdeal.sig) → Buf (Elt Ideal) ℓ) (g' : Dev Cert.MidRIdeal.nD → PrngReg), Pre_MidKIdeal m →
    (∀ c : Dev Cert.MidKIdeal.nD,
      m' ((c.tc : Thread Cert.MidRIdeal.nD Cert.MidRIdeal.τ).loc Cert.MidRIdeal.main_arg0) = m ((c.tc : Thread Cert.MidKIdeal.nD Cert.MidKIdeal.τ).loc Cert.MidKIdeal.main_arg0)
      ∧ m' ((c.tc : Thread Cert.MidRIdeal.nD Cert.MidRIdeal.τ).loc Cert.MidRIdeal.main_arg1) = m ((c.tc : Thread Cert.MidKIdeal.nD Cert.MidKIdeal.τ).loc Cert.MidKIdeal.main_arg1)
      ∧ m' ((c.tc : Thread Cert.MidRIdeal.nD Cert.MidRIdeal.τ).loc Cert.MidRIdeal.main_arg2) = m ((c.tc : Thread Cert.MidKIdeal.nD Cert.MidKIdeal.τ).loc Cert.MidKIdeal.main_arg2)
      ∧ m' ((c.tc : Thread Cert.MidRIdeal.nD Cert.MidRIdeal.τ).loc Cert.MidRIdeal.main_arg3) = m ((c.tc : Thread Cert.MidKIdeal.nD Cert.MidKIdeal.τ).loc Cert.MidKIdeal.main_arg3)
      ∧ m' ((c.tc : Thread Cert.MidRIdeal.nD Cert.MidRIdeal.τ).loc Cert.MidRIdeal.main_arg4) = m ((c.tc : Thread Cert.MidKIdeal.nD Cert.MidKIdeal.τ).loc Cert.MidKIdeal.main_arg4)
      ∧ m' ((c.tc : Thread Cert.MidRIdeal.nD Cert.MidRIdeal.τ).loc Cert.MidRIdeal.main_arg5) = m ((c.tc : Thread Cert.MidKIdeal.nD Cert.MidKIdeal.τ).loc Cert.MidKIdeal.main_arg5)
      ∧ m' ((c.tc : Thread Cert.MidRIdeal.nD Cert.MidRIdeal.τ).loc Cert.MidRIdeal.main_arg6) = m ((c.tc : Thread Cert.MidKIdeal.nD Cert.MidKIdeal.τ).loc Cert.MidKIdeal.main_arg6)
      ∧ m' ((c.tc : Thread Cert.MidRIdeal.nD Cert.MidRIdeal.τ).loc Cert.MidRIdeal.main_arg7) = m ((c.tc : Thread Cert.MidKIdeal.nD Cert.MidKIdeal.τ).loc Cert.MidKIdeal.main_arg7)
      ∧ m' ((c.tc : Thread Cert.MidRIdeal.nD Cert.MidRIdeal.τ).loc Cert.MidRIdeal.main_arg8) = m ((c.tc : Thread Cert.MidKIdeal.nD Cert.MidKIdeal.τ).loc Cert.MidKIdeal.main_arg8)
      ∧ m' ((c.tc : Thread Cert.MidRIdeal.nD Cert.MidRIdeal.τ).loc Cert.MidRIdeal.main_arg9) = m ((c.tc : Thread Cert.MidKIdeal.nD Cert.MidKIdeal.τ).loc Cert.MidKIdeal.main_arg9)
      ∧ m' ((c.tc : Thread Cert.MidRIdeal.nD Cert.MidRIdeal.τ).loc Cert.MidRIdeal.main_arg10) = m ((c.tc : Thread Cert.MidKIdeal.nD Cert.MidKIdeal.τ).loc Cert.MidKIdeal.main_arg10)
      ∧ m' ((c.tc : Thread Cert.MidRIdeal.nD Cert.MidRIdeal.τ).loc Cert.MidRIdeal.main_arg11) = m ((c.tc : Thread Cert.MidKIdeal.nD Cert.MidKIdeal.τ).loc Cert.MidKIdeal.main_arg11)
      ∧ m' ((c.tc : Thread Cert.MidRIdeal.nD Cert.MidRIdeal.τ).loc Cert.MidRIdeal.main_arg12) = m ((c.tc : Thread Cert.MidKIdeal.nD Cert.MidKIdeal.τ).loc Cert.MidKIdeal.main_arg12)
      ∧ m' ((c.tc : Thread Cert.MidRIdeal.nD Cert.MidRIdeal.τ).loc Cert.MidRIdeal.main_arg13) = m ((c.tc : Thread Cert.MidKIdeal.nD Cert.MidKIdeal.τ).loc Cert.MidKIdeal.main_arg13)
      ∧ m' ((c.tc : Thread Cert.MidRIdeal.nD Cert.MidRIdeal.τ).loc Cert.MidRIdeal.main_arg14) = m ((c.tc : Thread Cert.MidKIdeal.nD Cert.MidKIdeal.τ).loc Cert.MidKIdeal.main_arg14)
      ∧ m' ((c.tc : Thread Cert.MidRIdeal.nD Cert.MidRIdeal.τ).loc Cert.MidRIdeal.main_arg15) = m ((c.tc : Thread Cert.MidKIdeal.nD Cert.MidKIdeal.τ).loc Cert.MidKIdeal.main_arg15)
      ∧ m' ((c.tc : Thread Cert.MidRIdeal.nD Cert.MidRIdeal.τ).loc Cert.MidRIdeal.main_arg16) = m ((c.tc : Thread Cert.MidKIdeal.nD Cert.MidKIdeal.τ).loc Cert.MidKIdeal.main_arg16)) →
    ∃ (v0 : (c : Dev Cert.MidKIdeal.nD) → Buf (Elt Ideal) ((c.tc : Thread Cert.MidKIdeal.nD Cert.MidKIdeal.τ).loc Cert.MidKIdeal.main_v38_0)) (v1 : (c : Dev Cert.MidKIdeal.nD) → Buf (Elt Ideal) ((c.tc : Thread Cert.MidKIdeal.nD Cert.MidKIdeal.τ).loc Cert.MidKIdeal.main_v38_1)) (v2 : (c : Dev Cert.MidKIdeal.nD) → Buf (Elt Ideal) ((c.tc : Thread Cert.MidKIdeal.nD Cert.MidKIdeal.τ).loc Cert.MidKIdeal.main_v38_2)) (v3 : (c : Dev Cert.MidKIdeal.nD) → Buf (Elt Ideal) ((c.tc : Thread Cert.MidKIdeal.nD Cert.MidKIdeal.τ).loc Cert.MidKIdeal.main_v38_3)) (v4 : (c : Dev Cert.MidKIdeal.nD) → Buf (Elt Ideal) ((c.tc : Thread Cert.MidKIdeal.nD Cert.MidKIdeal.τ).loc Cert.MidKIdeal.main_v38_4)) (v5 : (c : Dev Cert.MidKIdeal.nD) → Buf (Elt Ideal) ((c.tc : Thread Cert.MidKIdeal.nD Cert.MidKIdeal.τ).loc Cert.MidKIdeal.main_v38_5)) (v6 : (c : Dev Cert.MidKIdeal.nD) → Buf (Elt Ideal) ((c.tc : Thread Cert.MidKIdeal.nD Cert.MidKIdeal.τ).loc Cert.MidKIdeal.main_v38_6)) (v7 : (c : Dev Cert.MidKIdeal.nD) → Buf (Elt Ideal) ((c.tc : Thread Cert.MidKIdeal.nD Cert.MidKIdeal.τ).loc Cert.MidKIdeal.main_v38_7)) (v8 : (c : Dev Cert.MidKIdeal.nD) → Buf (Elt Ideal) ((c.tc : Thread Cert.MidKIdeal.nD Cert.MidKIdeal.τ).loc Cert.MidKIdeal.main_v38_8)) (v9 : (c : Dev Cert.MidKIdeal.nD) → Buf (Elt Ideal) ((c.tc : Thread Cert.MidKIdeal.nD Cert.MidKIdeal.τ).loc Cert.MidKIdeal.main_v38_9)) (v10 : (c : Dev Cert.MidKIdeal.nD) → Buf (Elt Ideal) ((c.tc : Thread Cert.MidKIdeal.nD Cert.MidKIdeal.τ).loc Cert.MidKIdeal.main_v38_10)) (v11 : (c : Dev Cert.MidKIdeal.nD) → Buf (Elt Ideal) ((c.tc : Thread Cert.MidKIdeal.nD Cert.MidKIdeal.τ).loc Cert.MidKIdeal.main_v38_11)) (v12 : (c : Dev Cert.MidKIdeal.nD) → Buf (Elt Ideal) ((c.tc : Thread Cert.MidKIdeal.nD Cert.MidKIdeal.τ).loc Cert.MidKIdeal.main_v38_12)) (v13 : (c : Dev Cert.MidKIdeal.nD) → Buf (Elt Ideal) ((c.tc : Thread Cert.MidKIdeal.nD Cert.MidKIdeal.τ).loc Cert.MidKIdeal.main_v38_13)),
      θ_run (Cert.MidKIdeal.defs (F := Ideal)) (onTc (τ := Cert.MidKIdeal.τ) (Cert.MidKIdeal.main (F := Ideal))) ⟨m, fun _ => 0, g⟩ (fun r => ∀ c : Dev Cert.MidKIdeal.nD,
          r.2.mem ((c.tc : Thread Cert.MidKIdeal.nD Cert.MidKIdeal.τ).loc Cert.MidKIdeal.main_v38_0) = v0 c
          ∧ r.2.mem ((c.tc : Thread Cert.MidKIdeal.nD Cert.MidKIdeal.τ).loc Cert.MidKIdeal.main_v38_1) = v1 c
          ∧ r.2.mem ((c.tc : Thread Cert.MidKIdeal.nD Cert.MidKIdeal.τ).loc Cert.MidKIdeal.main_v38_2) = v2 c
          ∧ r.2.mem ((c.tc : Thread Cert.MidKIdeal.nD Cert.MidKIdeal.τ).loc Cert.MidKIdeal.main_v38_3) = v3 c
          ∧ r.2.mem ((c.tc : Thread Cert.MidKIdeal.nD Cert.MidKIdeal.τ).loc Cert.MidKIdeal.main_v38_4) = v4 c
          ∧ r.2.mem ((c.tc : Thread Cert.MidKIdeal.nD Cert.MidKIdeal.τ).loc Cert.MidKIdeal.main_v38_5) = v5 c
          ∧ r.2.mem ((c.tc : Thread Cert.MidKIdeal.nD Cert.MidKIdeal.τ).loc Cert.MidKIdeal.main_v38_6) = v6 c
          ∧ r.2.mem ((c.tc : Thread Cert.MidKIdeal.nD Cert.MidKIdeal.τ).loc Cert.MidKIdeal.main_v38_7) = v7 c
          ∧ r.2.mem ((c.tc : Thread Cert.MidKIdeal.nD Cert.MidKIdeal.τ).loc Cert.MidKIdeal.main_v38_8) = v8 c
          ∧ r.2.mem ((c.tc : Thread Cert.MidKIdeal.nD Cert.MidKIdeal.τ).loc Cert.MidKIdeal.main_v38_9) = v9 c
          ∧ r.2.mem ((c.tc : Thread Cert.MidKIdeal.nD Cert.MidKIdeal.τ).loc Cert.MidKIdeal.main_v38_10) = v10 c
          ∧ r.2.mem ((c.tc : Thread Cert.MidKIdeal.nD Cert.MidKIdeal.τ).loc Cert.MidKIdeal.main_v38_11) = v11 c
          ∧ r.2.mem ((c.tc : Thread Cert.MidKIdeal.nD Cert.MidKIdeal.τ).loc Cert.MidKIdeal.main_v38_12) = v12 c
          ∧ r.2.mem ((c.tc : Thread Cert.MidKIdeal.nD Cert.MidKIdeal.τ).loc Cert.MidKIdeal.main_v38_13) = v13 c
          ∧ r.2.mem ((c.tc : Thread Cert.MidKIdeal.nD Cert.MidKIdeal.τ).loc Cert.MidKIdeal.main_arg0) = m ((c.tc : Thread Cert.MidKIdeal.nD Cert.MidKIdeal.τ).loc Cert.MidKIdeal.main_arg0)
          ∧ r.2.mem ((c.tc : Thread Cert.MidKIdeal.nD Cert.MidKIdeal.τ).loc Cert.MidKIdeal.main_arg1) = m ((c.tc : Thread Cert.MidKIdeal.nD Cert.MidKIdeal.τ).loc Cert.MidKIdeal.main_arg1)
          ∧ r.2.mem ((c.tc : Thread Cert.MidKIdeal.nD Cert.MidKIdeal.τ).loc Cert.MidKIdeal.main_arg2) = m ((c.tc : Thread Cert.MidKIdeal.nD Cert.MidKIdeal.τ).loc Cert.MidKIdeal.main_arg2)
          ∧ r.2.mem ((c.tc : Thread Cert.MidKIdeal.nD Cert.MidKIdeal.τ).loc Cert.MidKIdeal.main_arg3) = m ((c.tc : Thread Cert.MidKIdeal.nD Cert.MidKIdeal.τ).loc Cert.MidKIdeal.main_arg3)
          ∧ r.2.mem ((c.tc : Thread Cert.MidKIdeal.nD Cert.MidKIdeal.τ).loc Cert.MidKIdeal.main_arg4) = m ((c.tc : Thread Cert.MidKIdeal.nD Cert.MidKIdeal.τ).loc Cert.MidKIdeal.main_arg4)
          ∧ r.2.mem ((c.tc : Thread Cert.MidKIdeal.nD Cert.MidKIdeal.τ).loc Cert.MidKIdeal.main_arg5) = m ((c.tc : Thread Cert.MidKIdeal.nD Cert.MidKIdeal.τ).loc Cert.MidKIdeal.main_arg5)
          ∧ r.2.mem ((c.tc : Thread Cert.MidKIdeal.nD Cert.MidKIdeal.τ).loc Cert.MidKIdeal.main_arg6) = m ((c.tc : Thread Cert.MidKIdeal.nD Cert.MidKIdeal.τ).loc Cert.MidKIdeal.main_arg6)
          ∧ r.2.mem ((c.tc : Thread Cert.MidKIdeal.nD Cert.MidKIdeal.τ).loc Cert.MidKIdeal.main_arg7) = m ((c.tc : Thread Cert.MidKIdeal.nD Cert.MidKIdeal.τ).loc Cert.MidKIdeal.main_arg7)
          ∧ r.2.mem ((c.tc : Thread Cert.MidKIdeal.nD Cert.MidKIdeal.τ).loc Cert.MidKIdeal.main_arg8) = m ((c.tc : Thread Cert.MidKIdeal.nD Cert.MidKIdeal.τ).loc Cert.MidKIdeal.main_arg8)
          ∧ r.2.mem ((c.tc : Thread Cert.MidKIdeal.nD Cert.MidKIdeal.τ).loc Cert.MidKIdeal.main_arg9) = m ((c.tc : Thread Cert.MidKIdeal.nD Cert.MidKIdeal.τ).loc Cert.MidKIdeal.main_arg9)
          ∧ r.2.mem ((c.tc : Thread Cert.MidKIdeal.nD Cert.MidKIdeal.τ).loc Cert.MidKIdeal.main_arg10) = m ((c.tc : Thread Cert.MidKIdeal.nD Cert.MidKIdeal.τ).loc Cert.MidKIdeal.main_arg10)
          ∧ r.2.mem ((c.tc : Thread Cert.MidKIdeal.nD Cert.MidKIdeal.τ).loc Cert.MidKIdeal.main_arg11) = m ((c.tc : Thread Cert.MidKIdeal.nD Cert.MidKIdeal.τ).loc Cert.MidKIdeal.main_arg11)
          ∧ r.2.mem ((c.tc : Thread Cert.MidKIdeal.nD Cert.MidKIdeal.τ).loc Cert.MidKIdeal.main_arg12) = m ((c.tc : Thread Cert.MidKIdeal.nD Cert.MidKIdeal.τ).loc Cert.MidKIdeal.main_arg12)
          ∧ r.2.mem ((c.tc : Thread Cert.MidKIdeal.nD Cert.MidKIdeal.τ).loc Cert.MidKIdeal.main_arg13) = m ((c.tc : Thread Cert.MidKIdeal.nD Cert.MidKIdeal.τ).loc Cert.MidKIdeal.main_arg13)
          ∧ r.2.mem ((c.tc : Thread Cert.MidKIdeal.nD Cert.MidKIdeal.τ).loc Cert.MidKIdeal.main_arg14) = m ((c.tc : Thread Cert.MidKIdeal.nD Cert.MidKIdeal.τ).loc Cert.MidKIdeal.main_arg14)
          ∧ r.2.mem ((c.tc : Thread Cert.MidKIdeal.nD Cert.MidKIdeal.τ).loc Cert.MidKIdeal.main_arg15) = m ((c.tc : Thread Cert.MidKIdeal.nD Cert.MidKIdeal.τ).loc Cert.MidKIdeal.main_arg15)
          ∧ r.2.mem ((c.tc : Thread Cert.MidKIdeal.nD Cert.MidKIdeal.τ).loc Cert.MidKIdeal.main_arg16) = m ((c.tc : Thread Cert.MidKIdeal.nD Cert.MidKIdeal.τ).loc Cert.MidKIdeal.main_arg16))
      ∧ θ_run (Cert.MidRIdeal.defs (F := Ideal)) (onTc (τ := Cert.MidRIdeal.τ) (Cert.MidRIdeal.main (F := Ideal))) ⟨m', fun _ => 0, g'⟩ (fun r => ∀ c : Dev Cert.MidRIdeal.nD,
          r.2.mem ((c.tc : Thread Cert.MidRIdeal.nD Cert.MidRIdeal.τ).loc Cert.MidRIdeal.main_v0_0) = v0 c
          ∧ r.2.mem ((c.tc : Thread Cert.MidRIdeal.nD Cert.MidRIdeal.τ).loc Cert.MidRIdeal.main_v0_1) = v1 c
          ∧ r.2.mem ((c.tc : Thread Cert.MidRIdeal.nD Cert.MidRIdeal.τ).loc Cert.MidRIdeal.main_v0_2) = v2 c
          ∧ r.2.mem ((c.tc : Thread Cert.MidRIdeal.nD Cert.MidRIdeal.τ).loc Cert.MidRIdeal.main_v0_3) = v3 c
          ∧ r.2.mem ((c.tc : Thread Cert.MidRIdeal.nD Cert.MidRIdeal.τ).loc Cert.MidRIdeal.main_v0_4) = v4 c
          ∧ r.2.mem ((c.tc : Thread Cert.MidRIdeal.nD Cert.MidRIdeal.τ).loc Cert.MidRIdeal.main_v0_5) = v5 c
          ∧ r.2.mem ((c.tc : Thread Cert.MidRIdeal.nD Cert.MidRIdeal.τ).loc Cert.MidRIdeal.main_v0_6) = v6 c
          ∧ r.2.mem ((c.tc : Thread Cert.MidRIdeal.nD Cert.MidRIdeal.τ).loc Cert.MidRIdeal.main_v0_7) = v7 c
          ∧ r.2.mem ((c.tc : Thread Cert.MidRIdeal.nD Cert.MidRIdeal.τ).loc Cert.MidRIdeal.main_v0_8) = v8 c
          ∧ r.2.mem ((c.tc : Thread Cert.MidRIdeal.nD Cert.MidRIdeal.τ).loc Cert.MidRIdeal.main_v0_9) = v9 c
          ∧ r.2.mem ((c.tc : Thread Cert.MidRIdeal.nD Cert.MidRIdeal.τ).loc Cert.MidRIdeal.main_v0_10) = v10 c
          ∧ r.2.mem ((c.tc : Thread Cert.MidRIdeal.nD Cert.MidRIdeal.τ).loc Cert.MidRIdeal.main_v0_11) = v11 c
          ∧ r.2.mem ((c.tc : Thread Cert.MidRIdeal.nD Cert.MidRIdeal.τ).loc Cert.MidRIdeal.main_v0_12) = v12 c
          ∧ r.2.mem ((c.tc : Thread Cert.MidRIdeal.nD Cert.MidRIdeal.τ).loc Cert.MidRIdeal.main_v0_13) = v13 c
          ∧ r.2.mem ((c.tc : Thread Cert.MidRIdeal.nD Cert.MidRIdeal.τ).loc Cert.MidRIdeal.main_arg0) = m' ((c.tc : Thread Cert.MidRIdeal.nD Cert.MidRIdeal.τ).loc Cert.MidRIdeal.main_arg0)
          ∧ r.2.mem ((c.tc : Thread Cert.MidRIdeal.nD Cert.MidRIdeal.τ).loc Cert.MidRIdeal.main_arg1) = m' ((c.tc : Thread Cert.MidRIdeal.nD Cert.MidRIdeal.τ).loc Cert.MidRIdeal.main_arg1)
          ∧ r.2.mem ((c.tc : Thread Cert.MidRIdeal.nD Cert.MidRIdeal.τ).loc Cert.MidRIdeal.main_arg2) = m' ((c.tc : Thread Cert.MidRIdeal.nD Cert.MidRIdeal.τ).loc Cert.MidRIdeal.main_arg2)
          ∧ r.2.mem ((c.tc : Thread Cert.MidRIdeal.nD Cert.MidRIdeal.τ).loc Cert.MidRIdeal.main_arg3) = m' ((c.tc : Thread Cert.MidRIdeal.nD Cert.MidRIdeal.τ).loc Cert.MidRIdeal.main_arg3)
          ∧ r.2.mem ((c.tc : Thread Cert.MidRIdeal.nD Cert.MidRIdeal.τ).loc Cert.MidRIdeal.main_arg4) = m' ((c.tc : Thread Cert.MidRIdeal.nD Cert.MidRIdeal.τ).loc Cert.MidRIdeal.main_arg4)
          ∧ r.2.mem ((c.tc : Thread Cert.MidRIdeal.nD Cert.MidRIdeal.τ).loc Cert.MidRIdeal.main_arg5) = m' ((c.tc : Thread Cert.MidRIdeal.nD Cert.MidRIdeal.τ).loc Cert.MidRIdeal.main_arg5)
          ∧ r.2.mem ((c.tc : Thread Cert.MidRIdeal.nD Cert.MidRIdeal.τ).loc Cert.MidRIdeal.main_arg6) = m' ((c.tc : Thread Cert.MidRIdeal.nD Cert.MidRIdeal.τ).loc Cert.MidRIdeal.main_arg6)
          ∧ r.2.mem ((c.tc : Thread Cert.MidRIdeal.nD Cert.MidRIdeal.τ).loc Cert.MidRIdeal.main_arg7) = m' ((c.tc : Thread Cert.MidRIdeal.nD Cert.MidRIdeal.τ).loc Cert.MidRIdeal.main_arg7)
          ∧ r.2.mem ((c.tc : Thread Cert.MidRIdeal.nD Cert.MidRIdeal.τ).loc Cert.MidRIdeal.main_arg8) = m' ((c.tc : Thread Cert.MidRIdeal.nD Cert.MidRIdeal.τ).loc Cert.MidRIdeal.main_arg8)
          ∧ r.2.mem ((c.tc : Thread Cert.MidRIdeal.nD Cert.MidRIdeal.τ).loc Cert.MidRIdeal.main_arg9) = m' ((c.tc : Thread Cert.MidRIdeal.nD Cert.MidRIdeal.τ).loc Cert.MidRIdeal.main_arg9)
          ∧ r.2.mem ((c.tc : Thread Cert.MidRIdeal.nD Cert.MidRIdeal.τ).loc Cert.MidRIdeal.main_arg10) = m' ((c.tc : Thread Cert.MidRIdeal.nD Cert.MidRIdeal.τ).loc Cert.MidRIdeal.main_arg10)
          ∧ r.2.mem ((c.tc : Thread Cert.MidRIdeal.nD Cert.MidRIdeal.τ).loc Cert.MidRIdeal.main_arg11) = m' ((c.tc : Thread Cert.MidRIdeal.nD Cert.MidRIdeal.τ).loc Cert.MidRIdeal.main_arg11)
          ∧ r.2.mem ((c.tc : Thread Cert.MidRIdeal.nD Cert.MidRIdeal.τ).loc Cert.MidRIdeal.main_arg12) = m' ((c.tc : Thread Cert.MidRIdeal.nD Cert.MidRIdeal.τ).loc Cert.MidRIdeal.main_arg12)
          ∧ r.2.mem ((c.tc : Thread Cert.MidRIdeal.nD Cert.MidRIdeal.τ).loc Cert.MidRIdeal.main_arg13) = m' ((c.tc : Thread Cert.MidRIdeal.nD Cert.MidRIdeal.τ).loc Cert.MidRIdeal.main_arg13)
          ∧ r.2.mem ((c.tc : Thread Cert.MidRIdeal.nD Cert.MidRIdeal.τ).loc Cert.MidRIdeal.main_arg14) = m' ((c.tc : Thread Cert.MidRIdeal.nD Cert.MidRIdeal.τ).loc Cert.MidRIdeal.main_arg14)
          ∧ r.2.mem ((c.tc : Thread Cert.MidRIdeal.nD Cert.MidRIdeal.τ).loc Cert.MidRIdeal.main_arg15) = m' ((c.tc : Thread Cert.MidRIdeal.nD Cert.MidRIdeal.τ).loc Cert.MidRIdeal.main_arg15)
          ∧ r.2.mem ((c.tc : Thread Cert.MidRIdeal.nD Cert.MidRIdeal.τ).loc Cert.MidRIdeal.main_arg16) = m' ((c.tc : Thread Cert.MidRIdeal.nD Cert.MidRIdeal.τ).loc Cert.MidRIdeal.main_arg16))

def Claim : Prop :=
  ∃ (hOutK : Cert.OutK.Facts) (hOutKIdeal : Cert.OutKIdeal.Facts) (hOutRIdeal : Cert.OutRIdeal.Facts) (hAdaFK : Cert.AdaFK.Facts) (hAdaFKIdeal : Cert.AdaFKIdeal.Facts) (hAdaFRIdeal : Cert.AdaFRIdeal.Facts) (hAdaDK : Cert.AdaDK.Facts) (hAdaDKIdeal : Cert.AdaDKIdeal.Facts) (hAdaDRIdeal : Cert.AdaDRIdeal.Facts) (hMidK : Cert.MidK.Facts) (hMidKIdeal : Cert.MidKIdeal.Facts) (hMidRIdeal : Cert.MidRIdeal.Facts),
    quiescent_OutK (hOutK := hOutK)
    ∧ quiescent_OutKIdeal (hOutKIdeal := hOutKIdeal)
    ∧ quiescent_OutRIdeal (hOutRIdeal := hOutRIdeal)
    ∧ quiescent_AdaFK (hAdaFK := hAdaFK)
    ∧ quiescent_AdaFKIdeal (hAdaFKIdeal := hAdaFKIdeal)
    ∧ quiescent_AdaFRIdeal (hAdaFRIdeal := hAdaFRIdeal)
    ∧ quiescent_AdaDK (hAdaDK := hAdaDK)
    ∧ quiescent_AdaDKIdeal (hAdaDKIdeal := hAdaDKIdeal)
    ∧ quiescent_AdaDRIdeal (hAdaDRIdeal := hAdaDRIdeal)
    ∧ quiescent_MidK (hMidK := hMidK)
    ∧ quiescent_MidKIdeal (hMidKIdeal := hMidKIdeal)
    ∧ quiescent_MidRIdeal (hMidRIdeal := hMidRIdeal)
    ∧ preserves_OutK_OutKIdeal
    ∧ algebraic_OutKIdeal_OutRIdeal (hOutKIdeal := hOutKIdeal) (hOutRIdeal := hOutRIdeal)
    ∧ preserves_AdaFK_AdaFKIdeal
    ∧ algebraic_AdaFKIdeal_AdaFRIdeal (hAdaFKIdeal := hAdaFKIdeal) (hAdaFRIdeal := hAdaFRIdeal)
    ∧ preserves_AdaDK_AdaDKIdeal
    ∧ algebraic_AdaDKIdeal_AdaDRIdeal (hAdaDKIdeal := hAdaDKIdeal) (hAdaDRIdeal := hAdaDRIdeal)
    ∧ preserves_MidK_MidKIdeal
    ∧ algebraic_MidKIdeal_MidRIdeal (hMidKIdeal := hMidKIdeal) (hMidRIdeal := hMidRIdeal)
-- ==== OutK.lean ====
abbrev S4096x3584 : Shape := ⟨2, ![4096, 3584]⟩
abbrev S3584x8192 : Shape := ⟨2, ![3584, 8192]⟩
abbrev S28x64 : Shape := ⟨2, ![28, 64]⟩
abbrev S8192x3584 : Shape := ⟨2, ![8192, 3584]⟩
abbrev S64x28 : Shape := ⟨2, ![64, 28]⟩
abbrev S4096x192 : Shape := ⟨2, ![4096, 192]⟩
abbrev S4x48x8192 : Shape := ⟨3, ![4, 48, 8192]⟩
abbrev S4 : Shape := ⟨1, ![4]⟩
abbrev S32 : Shape := ⟨1, ![32]⟩
abbrev S4096x8192 : Shape := ⟨2, ![4096, 8192]⟩
abbrev S192x8192 : Shape := ⟨2, ![192, 8192]⟩
abbrev S32x1 : Shape := ⟨2, ![32, 1]⟩
abbrev S1x4 : Shape := ⟨2, ![1, 4]⟩
abbrev S32x4 : Shape := ⟨2, ![32, 4]⟩
abbrev S_ : Shape := ⟨0, ![]⟩
abbrev S32x128 : Shape := ⟨2, ![32, 128]⟩
abbrev S4096 : Shape := ⟨1, ![4096]⟩
abbrev S4096x1 : Shape := ⟨2, ![4096, 1]⟩
abbrev S28x64x128 : Shape := ⟨3, ![28, 64, 128]⟩
abbrev S28x8192 : Shape := ⟨2, ![28, 8192]⟩
abbrev S64x28x128 : Shape := ⟨3, ![64, 28, 128]⟩
abbrev S64x3584 : Shape := ⟨2, ![64, 3584]⟩
abbrev S16x4x3584 : Shape := ⟨3, ![16, 4, 3584]⟩
abbrev S1x28x8192 : Shape := ⟨3, ![1, 28, 8192]⟩
abbrev S512x3584 : Shape := ⟨2, ![512, 3584]⟩
abbrev S1x4x3584 : Shape := ⟨3, ![1, 4, 3584]⟩
abbrev S3584x512 : Shape := ⟨2, ![3584, 512]⟩
abbrev S1x28x512 : Shape := ⟨3, ![1, 28, 512]⟩
abbrev S512x192 : Shape := ⟨2, ![512, 192]⟩
abbrev S192x512 : Shape := ⟨2, ![192, 512]⟩
abbrev S512x1 : Shape := ⟨2, ![512, 1]⟩
abbrev S512x512 : Shape := ⟨2, ![512, 512]⟩
abbrev S128x3584 : Shape := ⟨2, ![128, 3584]⟩
abbrev S1x1x3584 : Shape := ⟨3, ![1, 1, 3584]⟩
abbrev S1x3584 : Shape := ⟨2, ![1, 3584]⟩
abbrev S128x512 : Shape := ⟨2, ![128, 512]⟩
abbrev S1x1x512 : Shape := ⟨3, ![1, 1, 512]⟩
abbrev S1x512 : Shape := ⟨2, ![1, 512]⟩

abbrev nBuf : Space → Nat
  | .hbm => 48
  | .vmem => 38
  | .smem => 0
  | _ => 0

abbrev bufTy : (tb : Table) → Fin (tcTables nBuf tb) → BufTy
  | .hbm, ⟨0, _⟩ => ⟨S4096x3584, .bf16⟩
  | .hbm, ⟨1, _⟩ => ⟨S4096x3584, .bf16⟩
  | .hbm, ⟨2, _⟩ => ⟨S4096x3584, .bf16⟩
  | .hbm, ⟨3, _⟩ => ⟨S3584x8192, .fp8e4m3⟩
  | .hbm, ⟨4, _⟩ => ⟨S28x64, .f32⟩
  | .hbm, ⟨5, _⟩ => ⟨S3584x8192, .fp8e4m3⟩
  | .hbm, ⟨6, _⟩ => ⟨S28x64, .f32⟩
  | .hbm, ⟨7, _⟩ => ⟨S8192x3584, .fp8e4m3⟩
  | .hbm, ⟨8, _⟩ => ⟨S64x28, .f32⟩
  | .hbm, ⟨9, _⟩ => ⟨S4096x192, .bf16⟩
  | .hbm, ⟨10, _⟩ => ⟨S4096x192, .bf16⟩
  | .hbm, ⟨11, _⟩ => ⟨S4096x192, .bf16⟩
  | .hbm, ⟨12, _⟩ => ⟨S4x48x8192, .bf16⟩
  | .hbm, ⟨13, _⟩ => ⟨S4x48x8192, .bf16⟩
  | .hbm, ⟨14, _⟩ => ⟨S4x48x8192, .bf16⟩
  | .hbm, ⟨15, _⟩ => ⟨S4, .f32⟩
  | .hbm, ⟨16, _⟩ => ⟨S32, .i32⟩
  | .hbm, ⟨17, _⟩ => ⟨S4096x8192, .bf16⟩
  | .hbm, ⟨18, _⟩ => ⟨S192x8192, .bf16⟩
  | .hbm, ⟨19, _⟩ => ⟨S192x8192, .bf16⟩
  | .hbm, ⟨20, _⟩ => ⟨S192x8192, .bf16⟩
  | .hbm, ⟨21, _⟩ => ⟨S32x1, .i32⟩
  | .hbm, ⟨22, _⟩ => ⟨S4, .i32⟩
  | .hbm, ⟨23, _⟩ => ⟨S1x4, .i32⟩
  | .hbm, ⟨24, _⟩ => ⟨S32x4, .i32⟩
  | .hbm, ⟨25, _⟩ => ⟨S32x4, .i32⟩
  | .hbm, ⟨26, _⟩ => ⟨S32x4, .i1⟩
  | .hbm, ⟨27, _⟩ => ⟨S_, .f32⟩
  | .hbm, ⟨28, _⟩ => ⟨S_, .f32⟩
  | .hbm, ⟨29, _⟩ => ⟨S32x4, .f32⟩
  | .hbm, ⟨30, _⟩ => ⟨S32x4, .f32⟩
  | .hbm, ⟨31, _⟩ => ⟨S32x4, .f32⟩
  | .hbm, ⟨32, _⟩ => ⟨S_, .f32⟩
  | .hbm, ⟨33, _⟩ => ⟨S32, .f32⟩
  | .hbm, ⟨34, _⟩ => ⟨S32x128, .f32⟩
  | .hbm, ⟨35, _⟩ => ⟨S4096, .f32⟩
  | .hbm, ⟨36, _⟩ => ⟨S4096x1, .f32⟩
  | .hbm, ⟨37, _⟩ => ⟨S28x64x128, .f32⟩
  | .hbm, ⟨38, _⟩ => ⟨S28x8192, .f32⟩
  | .hbm, ⟨39, _⟩ => ⟨S28x64x128, .f32⟩
  | .hbm, ⟨40, _⟩ => ⟨S28x8192, .f32⟩
  | .hbm, ⟨41, _⟩ => ⟨S64x28x128, .f32⟩
  | .hbm, ⟨42, _⟩ => ⟨S64x3584, .f32⟩
  | .hbm, ⟨43, _⟩ => ⟨S16x4x3584, .f32⟩
  | .hbm, ⟨44, _⟩ => ⟨S1x28x8192, .f32⟩
  | .hbm, ⟨45, _⟩ => ⟨S1x28x8192, .f32⟩
  | .hbm, ⟨46, _⟩ => ⟨S4096x8192, .bf16⟩
  | .hbm, ⟨47, _⟩ => ⟨S4096x8192, .f32⟩
  | .local _ .vmem, ⟨0, _⟩ => ⟨S512x3584, .bf16⟩
  | .local _ .vmem, ⟨1, _⟩ => ⟨S512x3584, .bf16⟩
  | .local _ .vmem, ⟨2, _⟩ => ⟨S512x3584, .bf16⟩
  | .local _ .vmem, ⟨3, _⟩ => ⟨S512x3584, .bf16⟩
  | .local _ .vmem, ⟨4, _⟩ => ⟨S512x3584, .bf16⟩
  | .local _ .vmem, ⟨5, _⟩ => ⟨S512x3584, .bf16⟩
  | .local _ .vmem, ⟨6, _⟩ => ⟨S512x3584, .fp8e4m3⟩
  | .local _ .vmem, ⟨7, _⟩ => ⟨S512x3584, .fp8e4m3⟩
  | .local _ .vmem, ⟨8, _⟩ => ⟨S1x4x3584, .f32⟩
  | .local _ .vmem, ⟨9, _⟩ => ⟨S1x4x3584, .f32⟩
  | .local _ .vmem, ⟨10, _⟩ => ⟨S3584x512, .fp8e4m3⟩
  | .local _ .vmem, ⟨11, _⟩ => ⟨S3584x512, .fp8e4m3⟩
  | .local _ .vmem, ⟨12, _⟩ => ⟨S1x28x512, .f32⟩
  | .local _ .vmem, ⟨13, _⟩ => ⟨S1x28x512, .f32⟩
  | .local _ .vmem, ⟨14, _⟩ => ⟨S3584x512, .fp8e4m3⟩
  | .local _ .vmem, ⟨15, _⟩ => ⟨S3584x512, .fp8e4m3⟩
  | .local _ .vmem, ⟨16, _⟩ => ⟨S1x28x512, .f32⟩
  | .local _ .vmem, ⟨17, _⟩ => ⟨S1x28x512, .f32⟩
  | .local _ .vmem, ⟨18, _⟩ => ⟨S512x192, .bf16⟩
  | .local _ .vmem, ⟨19, _⟩ => ⟨S512x192, .bf16⟩
  | .local _ .vmem, ⟨20, _⟩ => ⟨S512x192, .bf16⟩
  | .local _ .vmem, ⟨21, _⟩ => ⟨S512x192, .bf16⟩
  | .local _ .vmem, ⟨22, _⟩ => ⟨S512x192, .bf16⟩
  | .local _ .vmem, ⟨23, _⟩ => ⟨S512x192, .bf16⟩
  | .local _ .vmem, ⟨24, _⟩ => ⟨S192x512, .bf16⟩
  | .local _ .vmem, ⟨25, _⟩ => ⟨S192x512, .bf16⟩
  | .local _ .vmem, ⟨26, _⟩ => ⟨S192x512, .bf16⟩
  | .local _ .vmem, ⟨27, _⟩ => ⟨S192x512, .bf16⟩
  | .local _ .vmem, ⟨28, _⟩ => ⟨S192x512, .bf16⟩
  | .local _ .vmem, ⟨29, _⟩ => ⟨S192x512, .bf16⟩
  | .local _ .vmem, ⟨30, _⟩ => ⟨S512x1, .f32⟩
  | .local _ .vmem, ⟨31, _⟩ => ⟨S512x1, .f32⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .f32⟩
  | .local _ .vmem, ⟨37, _⟩ => ⟨S512x512, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23_0 : Ref sig .tc := ⟨.hbm, 46, rfl⟩
abbrev main_v23_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x3584 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3584x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x28x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3584x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x28x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S192x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S192x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S192x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== OutRIdeal.lean ====
abbrev S4096x3584 : Shape := ⟨2, ![4096, 3584]⟩
abbrev S3584x8192 : Shape := ⟨2, ![3584, 8192]⟩
abbrev S28x64 : Shape := ⟨2, ![28, 64]⟩
abbrev S8192x3584 : Shape := ⟨2, ![8192, 3584]⟩
abbrev S64x28 : Shape := ⟨2, ![64, 28]⟩
abbrev S4096x192 : Shape := ⟨2, ![4096, 192]⟩
abbrev S4x48x8192 : Shape := ⟨3, ![4, 48, 8192]⟩
abbrev S4 : Shape := ⟨1, ![4]⟩
abbrev S32 : Shape := ⟨1, ![32]⟩
abbrev S4096x8192 : Shape := ⟨2, ![4096, 8192]⟩
abbrev S192x8192 : Shape := ⟨2, ![192, 8192]⟩
abbrev S28x128x64x128 : Shape := ⟨4, ![28, 128, 64, 128]⟩
abbrev S28x1x64x1 : Shape := ⟨4, ![28, 1, 64, 1]⟩
abbrev S64x128x28x128 : Shape := ⟨4, ![64, 128, 28, 128]⟩
abbrev S64x1x28x1 : Shape := ⟨4, ![64, 1, 28, 1]⟩
abbrev S32x1 : Shape := ⟨2, ![32, 1]⟩
abbrev S32x128 : Shape := ⟨2, ![32, 128]⟩
abbrev S4096 : Shape := ⟨1, ![4096]⟩
abbrev S4096x1 : Shape := ⟨2, ![4096, 1]⟩
abbrev S1x4 : Shape := ⟨2, ![1, 4]⟩
abbrev S4096x4 : Shape := ⟨2, ![4096, 4]⟩

abbrev nBuf : Space → Nat
  | .hbm => 20
  | .vmem => 20
  | .smem => 0
  | _ => 0

abbrev bufTy : (tb : Table) → Fin (tcTables nBuf tb) → BufTy
  | .hbm, ⟨0, _⟩ => ⟨S4096x3584, .bf16⟩
  | .hbm, ⟨1, _⟩ => ⟨S4096x3584, .bf16⟩
  | .hbm, ⟨2, _⟩ => ⟨S4096x3584, .bf16⟩
  | .hbm, ⟨3, _⟩ => ⟨S3584x8192, .fp8e4m3⟩
  | .hbm, ⟨4, _⟩ => ⟨S28x64, .f32⟩
  | .hbm, ⟨5, _⟩ => ⟨S3584x8192, .fp8e4m3⟩
  | .hbm, ⟨6, _⟩ => ⟨S28x64, .f32⟩
  | .hbm, ⟨7, _⟩ => ⟨S8192x3584, .fp8e4m3⟩
  | .hbm, ⟨8, _⟩ => ⟨S64x28, .f32⟩
  | .hbm, ⟨9, _⟩ => ⟨S4096x192, .bf16⟩
  | .hbm, ⟨10, _⟩ => ⟨S4096x192, .bf16⟩
  | .hbm, ⟨11, _⟩ => ⟨S4096x192, .bf16⟩
  | .hbm, ⟨12, _⟩ => ⟨S4x48x8192, .bf16⟩
  | .hbm, ⟨13, _⟩ => ⟨S4x48x8192, .bf16⟩
  | .hbm, ⟨14, _⟩ => ⟨S4x48x8192, .bf16⟩
  | .hbm, ⟨15, _⟩ => ⟨S4, .f32⟩
  | .hbm, ⟨16, _⟩ => ⟨S32, .i32⟩
  | .hbm, ⟨17, _⟩ => ⟨S4096x8192, .bf16⟩
  | .hbm, ⟨18, _⟩ => ⟨S4096x8192, .bf16⟩
  | .hbm, ⟨19, _⟩ => ⟨S4096x8192, .f32⟩
  | .local _ .vmem, ⟨0, _⟩ => ⟨S4096x3584, .bf16⟩
  | .local _ .vmem, ⟨1, _⟩ => ⟨S4096x3584, .bf16⟩
  | .local _ .vmem, ⟨2, _⟩ => ⟨S4096x3584, .bf16⟩
  | .local _ .vmem, ⟨3, _⟩ => ⟨S3584x8192, .fp8e4m3⟩
  | .local _ .vmem, ⟨4, _⟩ => ⟨S28x64, .f32⟩
  | .local _ .vmem, ⟨5, _⟩ => ⟨S3584x8192, .fp8e4m3⟩
  | .local _ .vmem, ⟨6, _⟩ => ⟨S28x64, .f32⟩
  | .local _ .vmem, ⟨7, _⟩ => ⟨S8192x3584, .fp8e4m3⟩
  | .local _ .vmem, ⟨8, _⟩ => ⟨S64x28, .f32⟩
  | .local _ .vmem, ⟨9, _⟩ => ⟨S4096x192, .bf16⟩
  | .local _ .vmem, ⟨10, _⟩ => ⟨S4096x192, .bf16⟩
  | .local _ .vmem, ⟨11, _⟩ => ⟨S4096x192, .bf16⟩
  | .local _ .vmem, ⟨12, _⟩ => ⟨S4x48x8192, .bf16⟩
  | .local _ .vmem, ⟨13, _⟩ => ⟨S4x48x8192, .bf16⟩
  | .local _ .vmem, ⟨14, _⟩ => ⟨S4x48x8192, .bf16⟩
  | .local _ .vmem, ⟨15, _⟩ => ⟨S4, .f32⟩
  | .local _ .vmem, ⟨16, _⟩ => ⟨S32, .i32⟩
  | .local _ .vmem, ⟨17, _⟩ => ⟨S4096x8192, .bf16⟩
  | .local _ .vmem, ⟨18, _⟩ => ⟨S4096x8192, .bf16⟩
  | .local _ .vmem, ⟨19, _⟩ => ⟨S4096x8192, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S4096x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S28x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S28x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x28 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x192 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x48x8192 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x48x8192 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x48x8192 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32 .i32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4096x8192 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4096x8192 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4096x8192 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== AdaFK.lean ====
abbrev S4096x192 : Shape := ⟨2, ![4096, 192]⟩
abbrev S4096x3584 : Shape := ⟨2, ![4096, 3584]⟩
abbrev S4 : Shape := ⟨1, ![4]⟩
abbrev S4x48 : Shape := ⟨2, ![4, 48]⟩
abbrev S192 : Shape := ⟨1, ![192]⟩
abbrev S192x1 : Shape := ⟨2, ![192, 1]⟩
abbrev S_ : Shape := ⟨0, ![]⟩
abbrev S192x3584 : Shape := ⟨2, ![192, 3584]⟩
abbrev S4096x256 : Shape := ⟨2, ![4096, 256]⟩
abbrev S192x256 : Shape := ⟨2, ![192, 256]⟩

abbrev nBuf : Space → Nat
  | .hbm => 15
  | .vmem => 18
  | .smem => 0
  | _ => 0

abbrev bufTy : (tb : Table) → Fin (tcTables nBuf tb) → BufTy
  | .hbm, ⟨0, _⟩ => ⟨S4096x192, .bf16⟩
  | .hbm, ⟨1, _⟩ => ⟨S4096x192, .bf16⟩
  | .hbm, ⟨2, _⟩ => ⟨S4096x192, .bf16⟩
  | .hbm, ⟨3, _⟩ => ⟨S4096x3584, .bf16⟩
  | .hbm, ⟨4, _⟩ => ⟨S4096x3584, .bf16⟩
  | .hbm, ⟨5, _⟩ => ⟨S4096x3584, .bf16⟩
  | .hbm, ⟨6, _⟩ => ⟨S4, .f32⟩
  | .hbm, ⟨7, _⟩ => ⟨S4x48, .f32⟩
  | .hbm, ⟨8, _⟩ => ⟨S192, .f32⟩
  | .hbm, ⟨9, _⟩ => ⟨S192x1, .f32⟩
  | .hbm, ⟨10, _⟩ => ⟨S_, .f32⟩
  | .hbm, ⟨11, _⟩ => ⟨S192x1, .f32⟩
  | .hbm, ⟨12, _⟩ => ⟨S192x3584, .f32⟩
  | .hbm, ⟨13, _⟩ => ⟨S192x3584, .f32⟩
  | .hbm, ⟨14, _⟩ => ⟨S192x3584, .f32⟩
  | .local _ .vmem, ⟨0, _⟩ => ⟨S4096x192, .bf16⟩
  | .local _ .vmem, ⟨1, _⟩ => ⟨S4096x192, .bf16⟩
  | .local _ .vmem, ⟨2, _⟩ => ⟨S4096x192, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S192x1, .f32⟩
  | .local _ .vmem, ⟨10, _⟩ => ⟨S192x1, .f32⟩
  | .local _ .vmem, ⟨11, _⟩ => ⟨S192x1, .f32⟩
  | .local _ .vmem, ⟨12, _⟩ => ⟨S192x256, .f32⟩
  | .local _ .vmem, ⟨13, _⟩ => ⟨S192x256, .f32⟩
  | .local _ .vmem, ⟨14, _⟩ => ⟨S192x256, .f32⟩
  | .local _ .vmem, ⟨15, _⟩ => ⟨S192x256, .f32⟩
  | .local _ .vmem, ⟨16, _⟩ => ⟨S192x256, .f32⟩
  | .local _ .vmem, ⟨17, _⟩ => ⟨S192x256, .f32⟩
  | _, _ => ⟨S4096x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S192x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S192x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S192x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S192x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AdaFRIdeal.lean ====
abbrev S4096x192 : Shape := ⟨2, ![4096, 192]⟩
abbrev S4096x3584 : Shape := ⟨2, ![4096, 3584]⟩
abbrev S4 : Shape := ⟨1, ![4]⟩
abbrev S4x48 : Shape := ⟨2, ![4, 48]⟩
abbrev S192 : Shape := ⟨1, ![192]⟩
abbrev S192x1 : Shape := ⟨2, ![192, 1]⟩
abbrev S192x3584 : Shape := ⟨2, ![192, 3584]⟩

abbrev nBuf : Space → Nat
  | .hbm => 17
  | .vmem => 0
  | .smem => 0
  | _ => 0

abbrev bufTy : (tb : Table) → Fin (tcTables nBuf tb) → BufTy
  | .hbm, ⟨0, _⟩ => ⟨S4096x192, .bf16⟩
  | .hbm, ⟨1, _⟩ => ⟨S4096x192, .bf16⟩
  | .hbm, ⟨2, _⟩ => ⟨S4096x192, .bf16⟩
  | .hbm, ⟨3, _⟩ => ⟨S4096x3584, .bf16⟩
  | .hbm, ⟨4, _⟩ => ⟨S4096x3584, .bf16⟩
  | .hbm, ⟨5, _⟩ => ⟨S4096x3584, .bf16⟩
  | .hbm, ⟨6, _⟩ => ⟨S4, .f32⟩
  | .hbm, ⟨7, _⟩ => ⟨S4x48, .f32⟩
  | .hbm, ⟨8, _⟩ => ⟨S192, .f32⟩
  | .hbm, ⟨9, _⟩ => ⟨S192x1, .f32⟩
  | .hbm, ⟨10, _⟩ => ⟨S192x3584, .f32⟩
  | .hbm, ⟨11, _⟩ => ⟨S192x3584, .f32⟩
  | .hbm, ⟨12, _⟩ => ⟨S192x3584, .f32⟩
  | .hbm, ⟨13, _⟩ => ⟨S192x3584, .f32⟩
  | .hbm, ⟨14, _⟩ => ⟨S192x3584, .f32⟩
  | .hbm, ⟨15, _⟩ => ⟨S192x3584, .f32⟩
  | .hbm, ⟨16, _⟩ => ⟨S192x3584, .f32⟩
  | _, _ => ⟨S4096x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== AdaDK.lean ====
abbrev S4096x192 : Shape := ⟨2, ![4096, 192]⟩
abbrev S4096x8192 : Shape := ⟨2, ![4096, 8192]⟩
abbrev S4 : Shape := ⟨1, ![4]⟩
abbrev S4x48 : Shape := ⟨2, ![4, 48]⟩
abbrev S192 : Shape := ⟨1, ![192]⟩
abbrev S192x1 : Shape := ⟨2, ![192, 1]⟩
abbrev S_ : Shape := ⟨0, ![]⟩
abbrev S192x8192 : Shape := ⟨2, ![192, 8192]⟩
abbrev S4096x256 : Shape := ⟨2, ![4096, 256]⟩
abbrev S192x256 : Shape := ⟨2, ![192, 256]⟩

abbrev nBuf : Space → Nat
  | .hbm => 14
  | .vmem => 18
  | .smem => 0
  | _ => 0

abbrev bufTy : (tb : Table) → Fin (tcTables nBuf tb) → BufTy
  | .hbm, ⟨0, _⟩ => ⟨S4096x192, .bf16⟩
  | .hbm, ⟨1, _⟩ => ⟨S4096x192, .bf16⟩
  | .hbm, ⟨2, _⟩ => ⟨S4096x192, .bf16⟩
  | .hbm, ⟨3, _⟩ => ⟨S4096x8192, .bf16⟩
  | .hbm, ⟨4, _⟩ => ⟨S4096x8192, .bf16⟩
  | .hbm, ⟨5, _⟩ => ⟨S4, .f32⟩
  | .hbm, ⟨6, _⟩ => ⟨S4x48, .f32⟩
  | .hbm, ⟨7, _⟩ => ⟨S192, .f32⟩
  | .hbm, ⟨8, _⟩ => ⟨S192x1, .f32⟩
  | .hbm, ⟨9, _⟩ => ⟨S_, .f32⟩
  | .hbm, ⟨10, _⟩ => ⟨S192x1, .f32⟩
  | .hbm, ⟨11, _⟩ => ⟨S192x8192, .f32⟩
  | .hbm, ⟨12, _⟩ => ⟨S192x8192, .f32⟩
  | .hbm, ⟨13, _⟩ => ⟨S192x8192, .f32⟩
  | .local _ .vmem, ⟨0, _⟩ => ⟨S4096x192, .bf16⟩
  | .local _ .vmem, ⟨1, _⟩ => ⟨S4096x192, .bf16⟩
  | .local _ .vmem, ⟨2, _⟩ => ⟨S4096x192, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S192x1, .f32⟩
  | .local _ .vmem, ⟨10, _⟩ => ⟨S192x1, .f32⟩
  | .local _ .vmem, ⟨11, _⟩ => ⟨S192x1, .f32⟩
  | .local _ .vmem, ⟨12, _⟩ => ⟨S192x256, .f32⟩
  | .local _ .vmem, ⟨13, _⟩ => ⟨S192x256, .f32⟩
  | .local _ .vmem, ⟨14, _⟩ => ⟨S192x256, .f32⟩
  | .local _ .vmem, ⟨15, _⟩ => ⟨S192x256, .f32⟩
  | .local _ .vmem, ⟨16, _⟩ => ⟨S192x256, .f32⟩
  | .local _ .vmem, ⟨17, _⟩ => ⟨S192x256, .f32⟩
  | _, _ => ⟨S4096x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S192x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S192x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S192x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S192x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AdaDRIdeal.lean ====
abbrev S4096x192 : Shape := ⟨2, ![4096, 192]⟩
abbrev S4096x8192 : Shape := ⟨2, ![4096, 8192]⟩
abbrev S4 : Shape := ⟨1, ![4]⟩
abbrev S4x48 : Shape := ⟨2, ![4, 48]⟩
abbrev S192 : Shape := ⟨1, ![192]⟩
abbrev S192x1 : Shape := ⟨2, ![192, 1]⟩
abbrev S192x8192 : Shape := ⟨2, ![192, 8192]⟩

abbrev nBuf : Space → Nat
  | .hbm => 14
  | .vmem => 0
  | .smem => 0
  | _ => 0

abbrev bufTy : (tb : Table) → Fin (tcTables nBuf tb) → BufTy
  | .hbm, ⟨0, _⟩ => ⟨S4096x192, .bf16⟩
  | .hbm, ⟨1, _⟩ => ⟨S4096x192, .bf16⟩
  | .hbm, ⟨2, _⟩ => ⟨S4096x192, .bf16⟩
  | .hbm, ⟨3, _⟩ => ⟨S4096x8192, .bf16⟩
  | .hbm, ⟨4, _⟩ => ⟨S4096x8192, .bf16⟩
  | .hbm, ⟨5, _⟩ => ⟨S4, .f32⟩
  | .hbm, ⟨6, _⟩ => ⟨S4x48, .f32⟩
  | .hbm, ⟨7, _⟩ => ⟨S192, .f32⟩
  | .hbm, ⟨8, _⟩ => ⟨S192x1, .f32⟩
  | .hbm, ⟨9, _⟩ => ⟨S192x8192, .f32⟩
  | .hbm, ⟨10, _⟩ => ⟨S192x8192, .f32⟩
  | .hbm, ⟨11, _⟩ => ⟨S192x8192, .f32⟩
  | .hbm, ⟨12, _⟩ => ⟨S192x8192, .f32⟩
  | .hbm, ⟨13, _⟩ => ⟨S192x8192, .f32⟩
  | _, _ => ⟨S4096x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== MidK.lean ====
abbrev S4096x8192 : Shape := ⟨2, ![4096, 8192]⟩
abbrev S3584x8192 : Shape := ⟨2, ![3584, 8192]⟩
abbrev S28x64 : Shape := ⟨2, ![28, 64]⟩
abbrev S8192x3584 : Shape := ⟨2, ![8192, 3584]⟩
abbrev S64x28 : Shape := ⟨2, ![64, 28]⟩
abbrev S4096x192 : Shape := ⟨2, ![4096, 192]⟩
abbrev S4x48x3584 : Shape := ⟨3, ![4, 48, 3584]⟩
abbrev S4 : Shape := ⟨1, ![4]⟩
abbrev S32 : Shape := ⟨1, ![32]⟩
abbrev S192x3584 : Shape := ⟨2, ![192, 3584]⟩
abbrev S32x1 : Shape := ⟨2, ![32, 1]⟩
abbrev S1x4 : Shape := ⟨2, ![1, 4]⟩
abbrev S32x4 : Shape := ⟨2, ![32, 4]⟩
abbrev S48 : Shape := ⟨1, ![48]⟩
abbrev S4x1 : Shape := ⟨2, ![4, 1]⟩
abbrev S1x48 : Shape := ⟨2, ![1, 48]⟩
abbrev S4x48 : Shape := ⟨2, ![4, 48]⟩
abbrev S32x4x1 : Shape := ⟨3, ![32, 4, 1]⟩
abbrev S1x4x48 : Shape := ⟨3, ![1, 4, 48]⟩
abbrev S32x4x48 : Shape := ⟨3, ![32, 4, 48]⟩
abbrev S32x192 : Shape := ⟨2, ![32, 192]⟩
abbrev S32x128x192 : Shape := ⟨3, ![32, 128, 192]⟩
abbrev S_ : Shape := ⟨0, ![]⟩
abbrev S32x128 : Shape := ⟨2, ![32, 128]⟩
abbrev S4096 : Shape := ⟨1, ![4096]⟩
abbrev S4096x1 : Shape := ⟨2, ![4096, 1]⟩
abbrev S28x64x128 : Shape := ⟨3, ![28, 64, 128]⟩
abbrev S28x8192 : Shape := ⟨2, ![28, 8192]⟩
abbrev S64x28x128 : Shape := ⟨3, ![64, 28, 128]⟩
abbrev S64x3584 : Shape := ⟨2, ![64, 3584]⟩
abbrev S14x2x8192 : Shape := ⟨3, ![14, 2, 8192]⟩
abbrev S1x64x3584 : Shape := ⟨3, ![1, 64, 3584]⟩
abbrev S4096x3584 : Shape := ⟨2, ![4096, 3584]⟩
abbrev S4096x28 : Shape := ⟨2, ![4096, 28]⟩
abbrev S256x8192 : Shape := ⟨2, ![256, 8192]⟩
abbrev S1x2x8192 : Shape := ⟨3, ![1, 2, 8192]⟩
abbrev S8192x256 : Shape := ⟨2, ![8192, 256]⟩
abbrev S1x64x256 : Shape := ⟨3, ![1, 64, 256]⟩
abbrev S256x192 : Shape := ⟨2, ![256, 192]⟩
abbrev S192x256 : Shape := ⟨2, ![192, 256]⟩
abbrev S256x1 : Shape := ⟨2, ![256, 1]⟩
abbrev S256x256 : Shape := ⟨2, ![256, 256]⟩
abbrev S256x28 : Shape := ⟨2, ![256, 28]⟩
abbrev S128x8192 : Shape := ⟨2, ![128, 8192]⟩
abbrev S1x1x8192 : Shape := ⟨3, ![1, 1, 8192]⟩
abbrev S1x8192 : Shape := ⟨2, ![1, 8192]⟩
abbrev S128x256 : Shape := ⟨2, ![128, 256]⟩
abbrev S1x1x256 : Shape := ⟨3, ![1, 1, 256]⟩
abbrev S1x256 : Shape := ⟨2, ![1, 256]⟩
abbrev S256x128 : Shape := ⟨2, ![256, 128]⟩
abbrev S256 : Shape := ⟨1, ![256]⟩

abbrev nBuf : Space → Nat
  | .hbm => 74
  | .vmem => 63
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S3584x8192, .fp8e4m3⟩
  | .hbm, ⟨3, _⟩ => ⟨S28x64, .f32⟩
  | .hbm, ⟨4, _⟩ => ⟨S3584x8192, .fp8e4m3⟩
  | .hbm, ⟨5, _⟩ => ⟨S28x64, .f32⟩
  | .hbm, ⟨6, _⟩ => ⟨S8192x3584, .fp8e4m3⟩
  | .hbm, ⟨7, _⟩ => ⟨S64x28, .f32⟩
  | .hbm, ⟨8, _⟩ => ⟨S4096x192, .bf16⟩
  | .hbm, ⟨9, _⟩ => ⟨S4096x192, .bf16⟩
  | .hbm, ⟨10, _⟩ => ⟨S4096x192, .bf16⟩
  | .hbm, ⟨11, _⟩ => ⟨S4x48x3584, .bf16⟩
  | .hbm, ⟨12, _⟩ => ⟨S4x48x3584, .bf16⟩
  | .hbm, ⟨13, _⟩ => ⟨S4x48x3584, .bf16⟩
  | .hbm, ⟨14, _⟩ => ⟨S4, .f32⟩
  | .hbm, ⟨15, _⟩ => ⟨S4, .i32⟩
  | .hbm, ⟨16, _⟩ => ⟨S32, .i32⟩
  | .hbm, ⟨17, _⟩ => ⟨S192x3584, .bf16⟩
  | .hbm, ⟨18, _⟩ => ⟨S192x3584, .bf16⟩
  | .hbm, ⟨19, _⟩ => ⟨S192x3584, .bf16⟩
  | .hbm, ⟨20, _⟩ => ⟨S32x1, .i32⟩
  | .hbm, ⟨21, _⟩ => ⟨S4, .i32⟩
  | .hbm, ⟨22, _⟩ => ⟨S1x4, .i32⟩
  | .hbm, ⟨23, _⟩ => ⟨S32x4, .i32⟩
  | .hbm, ⟨24, _⟩ => ⟨S32x4, .i32⟩
  | .hbm, ⟨25, _⟩ => ⟨S32x4, .i1⟩
  | .hbm, ⟨26, _⟩ => ⟨S48, .i32⟩
  | .hbm, ⟨27, _⟩ => ⟨S4x1, .i32⟩
  | .hbm, ⟨28, _⟩ => ⟨S1x48, .i32⟩
  | .hbm, ⟨29, _⟩ => ⟨S4x48, .i32⟩
  | .hbm, ⟨30, _⟩ => ⟨S4x48, .i32⟩
  | .hbm, ⟨31, _⟩ => ⟨S4x48, .i1⟩
  | .hbm, ⟨32, _⟩ => ⟨S32x4x1, .i1⟩
  | .hbm, ⟨33, _⟩ => ⟨S1x4x48, .i1⟩
  | .hbm, ⟨34, _⟩ => ⟨S32x4x48, .i1⟩
  | .hbm, ⟨35, _⟩ => ⟨S32x4x48, .i1⟩
  | .hbm, ⟨36, _⟩ => ⟨S32x4x48, .i1⟩
  | .hbm, ⟨37, _⟩ => ⟨S32x192, .i1⟩
  | .hbm, ⟨38, _⟩ => ⟨S32x192, .f32⟩
  | .hbm, ⟨39, _⟩ => ⟨S32x128x192, .f32⟩
  | .hbm, ⟨40, _⟩ => ⟨S4096x192, .f32⟩
  | .hbm, ⟨41, _⟩ => ⟨S_, .f32⟩
  | .hbm, ⟨42, _⟩ => ⟨S_, .f32⟩
  | .hbm, ⟨43, _⟩ => ⟨S32x4, .f32⟩
  | .hbm, ⟨44, _⟩ => ⟨S32x4, .f32⟩
  | .hbm, ⟨45, _⟩ => ⟨S32x4, .f32⟩
  | .hbm, ⟨46, _⟩ => ⟨S_, .f32⟩
  | .hbm, ⟨47, _⟩ => ⟨S32, .f32⟩
  | .hbm, ⟨48, _⟩ => ⟨S32x128, .f32⟩
  | .hbm, ⟨49, _⟩ => ⟨S4096, .f32⟩
  | .hbm, ⟨50, _⟩ => ⟨S4096x1, .f32⟩
  | .hbm, ⟨51, _⟩ => ⟨S28x64x128, .f32⟩
  | .hbm, ⟨52, _⟩ => ⟨S28x8192, .f32⟩
  | .hbm, ⟨53, _⟩ => ⟨S28x64x128, .f32⟩
  | .hbm, ⟨54, _⟩ => ⟨S28x8192, .f32⟩
  | .hbm, ⟨55, _⟩ => ⟨S64x28x128, .f32⟩
  | .hbm, ⟨56, _⟩ => ⟨S64x3584, .f32⟩
  | .hbm, ⟨57, _⟩ => ⟨S14x2x8192, .f32⟩
  | .hbm, ⟨58, _⟩ => ⟨S14x2x8192, .f32⟩
  | .hbm, ⟨59, _⟩ => ⟨S1x64x3584, .f32⟩
  | .hbm, ⟨60, _⟩ => ⟨S4096x3584, .fp8e4m3⟩
  | .hbm, ⟨61, _⟩ => ⟨S4096x28, .f32⟩
  | .hbm, ⟨62, _⟩ => ⟨S4096x3584, .fp8e4m3⟩
  | .hbm, ⟨63, _⟩ => ⟨S4096x28, .f32⟩
  | .hbm, ⟨64, _⟩ => ⟨S4096x3584, .fp8e4m3⟩
  | .hbm, ⟨65, _⟩ => ⟨S4096x28, .f32⟩
  | .hbm, ⟨66, _⟩ => ⟨S4096x3584, .bf16⟩
  | .hbm, ⟨67, _⟩ => ⟨S4096x3584, .bf16⟩
  | .hbm, ⟨68, _⟩ => ⟨S4096x3584, .bf16⟩
  | .hbm, ⟨69, _⟩ => ⟨S4096x3584, .bf16⟩
  | .hbm, ⟨70, _⟩ => ⟨S4096x3584, .bf16⟩
  | .hbm, ⟨71, _⟩ => ⟨S4096x192, .bf16⟩
  | .hbm, ⟨72, _⟩ => ⟨S4096x192, .bf16⟩
  | .hbm, ⟨73, _⟩ => ⟨S4096x192, .bf16⟩
  | .local _ .vmem, ⟨0, _⟩ => ⟨S256x8192, .bf16⟩
  | .local _ .vmem, ⟨1, _⟩ => ⟨S256x8192, .bf16⟩
  | .local _ .vmem, ⟨2, _⟩ => ⟨S256x8192, .bf16⟩
  | .local _ .vmem, ⟨3, _⟩ => ⟨S256x8192, .bf16⟩
  | .local _ .vmem, ⟨4, _⟩ => ⟨S256x8192, .fp8e4m3⟩
  | .local _ .vmem, ⟨5, _⟩ => ⟨S256x8192, .fp8e4m3⟩
  | .local _ .vmem, ⟨6, _⟩ => ⟨S1x2x8192, .f32⟩
  | .local _ .vmem, ⟨7, _⟩ => ⟨S1x2x8192, .f32⟩
  | .local _ .vmem, ⟨8, _⟩ => ⟨S256x8192, .fp8e4m3⟩
  | .local _ .vmem, ⟨9, _⟩ => ⟨S256x8192, .fp8e4m3⟩
  | .local _ .vmem, ⟨10, _⟩ => ⟨S1x2x8192, .f32⟩
  | .local _ .vmem, ⟨11, _⟩ => ⟨S1x2x8192, .f32⟩
  | .local _ .vmem, ⟨12, _⟩ => ⟨S8192x256, .fp8e4m3⟩
  | .local _ .vmem, ⟨13, _⟩ => ⟨S8192x256, .fp8e4m3⟩
  | .local _ .vmem, ⟨14, _⟩ => ⟨S1x64x256, .f32⟩
  | .local _ .vmem, ⟨15, _⟩ => ⟨S1x64x256, .f32⟩
  | .local _ .vmem, ⟨16, _⟩ => ⟨S256x192, .bf16⟩
  | .local _ .vmem, ⟨17, _⟩ => ⟨S256x192, .bf16⟩
  | .local _ .vmem, ⟨18, _⟩ => ⟨S256x192, .bf16⟩
  | .local _ .vmem, ⟨19, _⟩ => ⟨S256x192, .bf16⟩
  | .local _ .vmem, ⟨20, _⟩ => ⟨S256x192, .bf16⟩
  | .local _ .vmem, ⟨21, _⟩ => ⟨S256x192, .bf16⟩
  | .local _ .vmem, ⟨22, _⟩ => ⟨S192x256, .bf16⟩
  | .local _ .vmem, ⟨23, _⟩ => ⟨S192x256, .bf16⟩
  | .local _ .vmem, ⟨24, _⟩ => ⟨S192x256, .bf16⟩
  | .local _ .vmem, ⟨25, _⟩ => ⟨S192x256, .bf16⟩
  | .local _ .vmem, ⟨26, _⟩ => ⟨S192x256, .bf16⟩
  | .local _ .vmem, ⟨27, _⟩ => ⟨S192x256, .bf16⟩
  | .local _ .vmem, ⟨28, _⟩ => ⟨S256x192, .f32⟩
  | .local _ .vmem, ⟨29, _⟩ => ⟨S256x192, .f32⟩
  | .local _ .vmem, ⟨30, _⟩ => ⟨S256x1, .f32⟩
  | .local _ .vmem, ⟨31, _⟩ => ⟨S256x1, .f32⟩
  | .local _ .vmem, ⟨32, _⟩ => ⟨S256x256, .fp8e4m3⟩
  | .local _ .vmem, ⟨33, _⟩ => ⟨S256x256, .fp8e4m3⟩
  | .local _ .vmem, ⟨34, _⟩ => ⟨S256x28, .f32⟩
  | .local _ .vmem, ⟨35, _⟩ => ⟨S256x28, .f32⟩
  | .local _ .vmem, ⟨36, _⟩ => ⟨S256x256, .fp8e4m3⟩
  | .local _ .vmem, ⟨37, _⟩ => ⟨S256x256, .fp8e4m3⟩
  | .local _ .vmem, ⟨38, _⟩ => ⟨S256x28, .f32⟩
  | .local _ .vmem, ⟨39, _⟩ => ⟨S256x28, .f32⟩
  | .local _ .vmem, ⟨40, _⟩ => ⟨S256x256, .fp8e4m3⟩
  | .local _ .vmem, ⟨41, _⟩ => ⟨S256x256, .fp8e4m3⟩
  | .local _ .vmem, ⟨42, _⟩ => ⟨S256x28, .f32⟩
  | .local _ .vmem, ⟨43, _⟩ => ⟨S256x28, .f32⟩
  | .local _ .vmem, ⟨44, _⟩ => ⟨S256x256, .bf16⟩
  | .local _ .vmem, ⟨45, _⟩ => ⟨S256x256, .bf16⟩
  | .local _ .vmem, ⟨46, _⟩ => ⟨S256x256, .bf16⟩
  | .local _ .vmem, ⟨47, _⟩ => ⟨S256x256, .bf16⟩
  | .local _ .vmem, ⟨48, _⟩ => ⟨S256x256, .bf16⟩
  | .local _ .vmem, ⟨49, _⟩ => ⟨S256x256, .bf16⟩
  | .local _ .vmem, ⟨50, _⟩ => ⟨S256x256, .bf16⟩
  | .local _ .vmem, ⟨51, _⟩ => ⟨S256x256, .bf16⟩
  | .local _ .vmem, ⟨52, _⟩ => ⟨S256x256, .bf16⟩
  | .local _ .vmem, ⟨53, _⟩ => ⟨S256x256, .bf16⟩
  | .local _ .vmem, ⟨54, _⟩ => ⟨S256x192, .bf16⟩
  | .local _ .vmem, ⟨55, _⟩ => ⟨S256x192, .bf16⟩
  | .local _ .vmem, ⟨56, _⟩ => ⟨S256x192, .bf16⟩
  | .local _ .vmem, ⟨57, _⟩ => ⟨S256x192, .bf16⟩
  | .local _ .vmem, ⟨58, _⟩ => ⟨S256x192, .bf16⟩
  | .local _ .vmem, ⟨59, _⟩ => ⟨S256x192, .bf16⟩
  | .local _ .vmem, ⟨60, _⟩ => ⟨S256x192, .f32⟩
  | .local _ .vmem, ⟨61, _⟩ => ⟨S256x192, .f32⟩
  | .local _ .vmem, ⟨62, _⟩ => ⟨S256x192, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v24 : Ref sig .tc := ⟨.hbm, 45, rfl⟩
abbrev main_cst_0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38_0 : Ref sig .tc := ⟨.hbm, 60, rfl⟩
abbrev main_v38_1 : Ref sig .tc := ⟨.hbm, 61, rfl⟩
abbrev main_v38_2 : Ref sig .tc := ⟨.hbm, 62, rfl⟩
abbrev main_v38_3 : Ref sig .tc := ⟨.hbm, 63, rfl⟩
abbrev main_v38_4 : Ref sig .tc := ⟨.hbm, 64, rfl⟩
abbrev main_v38_5 : Ref sig .tc := ⟨.hbm, 65, rfl⟩
abbrev main_v38_6 : Ref sig .tc := ⟨.hbm, 66, rfl⟩
abbrev main_v38_7 : Ref sig .tc := ⟨.hbm, 67, rfl⟩
abbrev main_v38_8 : Ref sig .tc := ⟨.hbm, 68, rfl⟩
abbrev main_v38_9 : Ref sig .tc := ⟨.hbm, 69, rfl⟩
abbrev main_v38_10 : Ref sig .tc := ⟨.hbm, 70, rfl⟩
abbrev main_v38_11 : Ref sig .tc := ⟨.hbm, 71, rfl⟩
abbrev main_v38_12 : Ref sig .tc := ⟨.hbm, 72, rfl⟩
abbrev main_v38_13 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_scratch0 : Ref sig .tc := ⟨.vmem, 60, rfl⟩
abbrev cc0_scratch1 : Ref sig .tc := ⟨.vmem, 61, rfl⟩
abbrev cc0_scratch2 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59

abbrev nD : Nat := 1
abbrev τ : Topo := Topo.v7x

variable {F : FTy → Type} [FloatOps F]

abbrev grid0 : Pipeline.Grid := ⟨2, ![16, 14], ![false, false]⟩

def k0_cond2 (i : grid0.Coords) : BitVec 1 :=
  let arg1 : BitVec 32 := BitVec.ofNat 32 (i 1).val
  let c13_i32 : BitVec 32 := 13#32
  let v1255 : BitVec 1 := Scalar.cmpi .eq arg1 c13_i32
  let v1256 : BitVec 32 := Scalar.extui v1255
  let c0_i32_526 : BitVec 32 := 0#32
  let v1257 : BitVec 1 := Scalar.cmpi .ne v1256 c0_i32_526
  v1257

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8192x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S192x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S192x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S192x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S256x192 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S256x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S256x256 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x28 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S256x256 .fp8e4m3 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S256x28 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S256x256 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S256x28 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S256x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S256x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S256x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S256x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S256x192 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, false]

abbrev stage0_28 : Fin 2 → Memref sig .tc .vmem S256x192 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, false]

abbrev stage0_29 : Fin 2 → Memref sig .tc .vmem S256x192 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, false]
-- ==== MidRIdeal.lean ====
abbrev S4096x8192 : Shape := ⟨2, ![4096, 8192]⟩
abbrev S3584x8192 : Shape := ⟨2, ![3584, 8192]⟩
abbrev S28x64 : Shape := ⟨2, ![28, 64]⟩
abbrev S8192x3584 : Shape := ⟨2, ![8192, 3584]⟩
abbrev S64x28 : Shape := ⟨2, ![64, 28]⟩
abbrev S4096x192 : Shape := ⟨2, ![4096, 192]⟩
abbrev S4x48x3584 : Shape := ⟨3, ![4, 48, 3584]⟩
abbrev S4 : Shape := ⟨1, ![4]⟩
abbrev S32 : Shape := ⟨1, ![32]⟩
abbrev S4096x3584 : Shape := ⟨2, ![4096, 3584]⟩
abbrev S4096x28 : Shape := ⟨2, ![4096, 28]⟩
abbrev S192x3584 : Shape := ⟨2, ![192, 3584]⟩
abbrev S28x128x64x128 : Shape := ⟨4, ![28, 128, 64, 128]⟩
abbrev S28x1x64x1 : Shape := ⟨4, ![28, 1, 64, 1]⟩
abbrev S64x128x28x128 : Shape := ⟨4, ![64, 128, 28, 128]⟩
abbrev S64x1x28x1 : Shape := ⟨4, ![64, 1, 28, 1]⟩
abbrev S32x1 : Shape := ⟨2, ![32, 1]⟩
abbrev S32x128 : Shape := ⟨2, ![32, 128]⟩
abbrev S4096 : Shape := ⟨1, ![4096]⟩
abbrev S4096x1 : Shape := ⟨2, ![4096, 1]⟩
abbrev S1x4 : Shape := ⟨2, ![1, 4]⟩
abbrev S4096x4 : Shape := ⟨2, ![4096, 4]⟩
abbrev S1x48 : Shape := ⟨2, ![1, 48]⟩
abbrev S48 : Shape := ⟨1, ![48]⟩
abbrev S4x1 : Shape := ⟨2, ![4, 1]⟩
abbrev S4x48 : Shape := ⟨2, ![4, 48]⟩
abbrev S4096x4x1 : Shape := ⟨3, ![4096, 4, 1]⟩
abbrev S1x4x48 : Shape := ⟨3, ![1, 4, 48]⟩
abbrev S4096x4x48 : Shape := ⟨3, ![4096, 4, 48]⟩
abbrev S4096x28x128 : Shape := ⟨3, ![4096, 28, 128]⟩
abbrev S1x1x255 : Shape := ⟨3, ![1, 1, 255]⟩
abbrev S4096x28x1 : Shape := ⟨3, ![4096, 28, 1]⟩
abbrev S4096x28x255 : Shape := ⟨3, ![4096, 28, 255]⟩

abbrev nBuf : Space → Nat
  | .hbm => 31
  | .vmem => 31
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S3584x8192, .fp8e4m3⟩
  | .hbm, ⟨3, _⟩ => ⟨S28x64, .f32⟩
  | .hbm, ⟨4, _⟩ => ⟨S3584x8192, .fp8e4m3⟩
  | .hbm, ⟨5, _⟩ => ⟨S28x64, .f32⟩
  | .hbm, ⟨6, _⟩ => ⟨S8192x3584, .fp8e4m3⟩
  | .hbm, ⟨7, _⟩ => ⟨S64x28, .f32⟩
  | .hbm, ⟨8, _⟩ => ⟨S4096x192, .bf16⟩
  | .hbm, ⟨9, _⟩ => ⟨S4096x192, .bf16⟩
  | .hbm, ⟨10, _⟩ => ⟨S4096x192, .bf16⟩
  | .hbm, ⟨11, _⟩ => ⟨S4x48x3584, .bf16⟩
  | .hbm, ⟨12, _⟩ => ⟨S4x48x3584, .bf16⟩
  | .hbm, ⟨13, _⟩ => ⟨S4x48x3584, .bf16⟩
  | .hbm, ⟨14, _⟩ => ⟨S4, .f32⟩
  | .hbm, ⟨15, _⟩ => ⟨S4, .i32⟩
  | .hbm, ⟨16, _⟩ => ⟨S32, .i32⟩
  | .hbm, ⟨17, _⟩ => ⟨S4096x3584, .fp8e4m3⟩
  | .hbm, ⟨18, _⟩ => ⟨S4096x28, .f32⟩
  | .hbm, ⟨19, _⟩ => ⟨S4096x3584, .fp8e4m3⟩
  | .hbm, ⟨20, _⟩ => ⟨S4096x28, .f32⟩
  | .hbm, ⟨21, _⟩ => ⟨S4096x3584, .fp8e4m3⟩
  | .hbm, ⟨22, _⟩ => ⟨S4096x28, .f32⟩
  | .hbm, ⟨23, _⟩ => ⟨S4096x3584, .bf16⟩
  | .hbm, ⟨24, _⟩ => ⟨S4096x3584, .bf16⟩
  | .hbm, ⟨25, _⟩ => ⟨S4096x3584, .bf16⟩
  | .hbm, ⟨26, _⟩ => ⟨S4096x3584, .bf16⟩
  | .hbm, ⟨27, _⟩ => ⟨S4096x3584, .bf16⟩
  | .hbm, ⟨28, _⟩ => ⟨S4096x192, .bf16⟩
  | .hbm, ⟨29, _⟩ => ⟨S4096x192, .bf16⟩
  | .hbm, ⟨30, _⟩ => ⟨S4096x192, .bf16⟩
  | .local _ .vmem, ⟨0, _⟩ => ⟨S4096x8192, .bf16⟩
  | .local _ .vmem, ⟨1, _⟩ => ⟨S4096x8192, .bf16⟩
  | .local _ .vmem, ⟨2, _⟩ => ⟨S3584x8192, .fp8e4m3⟩
  | .local _ .vmem, ⟨3, _⟩ => ⟨S28x64, .f32⟩
  | .local _ .vmem, ⟨4, _⟩ => ⟨S3584x8192, .fp8e4m3⟩
  | .local _ .vmem, ⟨5, _⟩ => ⟨S28x64, .f32⟩
  | .local _ .vmem, ⟨6, _⟩ => ⟨S8192x3584, .fp8e4m3⟩
  | .local _ .vmem, ⟨7, _⟩ => ⟨S64x28, .f32⟩
  | .local _ .vmem, ⟨8, _⟩ => ⟨S4096x192, .bf16⟩
  | .local _ .vmem, ⟨9, _⟩ => ⟨S4096x192, .bf16⟩
  | .local _ .vmem, ⟨10, _⟩ => ⟨S4096x192, .bf16⟩
  | .local _ .vmem, ⟨11, _⟩ => ⟨S4x48x3584, .bf16⟩
  | .local _ .vmem, ⟨12, _⟩ => ⟨S4x48x3584, .bf16⟩
  | .local _ .vmem, ⟨13, _⟩ => ⟨S4x48x3584, .bf16⟩
  | .local _ .vmem, ⟨14, _⟩ => ⟨S4, .f32⟩
  | .local _ .vmem, ⟨15, _⟩ => ⟨S4, .i32⟩
  | .local _ .vmem, ⟨16, _⟩ => ⟨S32, .i32⟩
  | .local _ .vmem, ⟨17, _⟩ => ⟨S4096x3584, .fp8e4m3⟩
  | .local _ .vmem, ⟨18, _⟩ => ⟨S4096x28, .f32⟩
  | .local _ .vmem, ⟨19, _⟩ => ⟨S4096x3584, .fp8e4m3⟩
  | .local _ .vmem, ⟨20, _⟩ => ⟨S4096x28, .f32⟩
  | .local _ .vmem, ⟨21, _⟩ => ⟨S4096x3584, .fp8e4m3⟩
  | .local _ .vmem, ⟨22, _⟩ => ⟨S4096x28, .f32⟩
  | .local _ .vmem, ⟨23, _⟩ => ⟨S4096x3584, .bf16⟩
  | .local _ .vmem, ⟨24, _⟩ => ⟨S4096x3584, .bf16⟩
  | .local _ .vmem, ⟨25, _⟩ => ⟨S4096x3584, .bf16⟩
  | .local _ .vmem, ⟨26, _⟩ => ⟨S4096x3584, .bf16⟩
  | .local _ .vmem, ⟨27, _⟩ => ⟨S4096x3584, .bf16⟩
  | .local _ .vmem, ⟨28, _⟩ => ⟨S4096x192, .bf16⟩
  | .local _ .vmem, ⟨29, _⟩ => ⟨S4096x192, .bf16⟩
  | .local _ .vmem, ⟨30, _⟩ => ⟨S4096x192, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v0_3 : Ref sig .tc := ⟨.hbm, 20, rfl⟩
abbrev main_v0_4 : Ref sig .tc := ⟨.hbm, 21, rfl⟩
abbrev main_v0_5 : Ref sig .tc := ⟨.hbm, 22, rfl⟩
abbrev main_v0_6 : Ref sig .tc := ⟨.hbm, 23, rfl⟩
abbrev main_v0_7 : Ref sig .tc := ⟨.hbm, 24, rfl⟩
abbrev main_v0_8 : Ref sig .tc := ⟨.hbm, 25, rfl⟩
abbrev main_v0_9 : Ref sig .tc := ⟨.hbm, 26, rfl⟩
abbrev main_v0_10 : Ref sig .tc := ⟨.hbm, 27, rfl⟩
abbrev main_v0_11 : Ref sig .tc := ⟨.hbm, 28, rfl⟩
abbrev main_v0_12 : Ref sig .tc := ⟨.hbm, 29, rfl⟩
abbrev main_v0_13 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30

abbrev nD : Nat := 1
abbrev τ : Topo := Topo.v7x

variable {F : FTy → Type} [FloatOps F]

abbrev grid0 : Pipeline.Grid := .none

abbrev stage0_0 : Fin 1 → Memref sig .tc .vmem S4096x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S28x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x28 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x48x3584 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x48x3584 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x48x3584 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32 .i32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4096x3584 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4096x28 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4096x3584 .fp8e4m3 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4096x28 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4096x3584 .fp8e4m3 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S4096x28 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4096x3584 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S4096x3584 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4096x3584 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S4096x3584 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S4096x3584 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S4096x192 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S4096x192 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S4096x192 .bf16 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
-- ==== Proof.Slabs.lean ====
/-
  Facts about arrays read at an index that do not speak of any one program: a concatenation of slabs of 128 rows, and a
  weight stored as codes with one scale per 128 by 128 tile.
-/
module

public import Idealize.ShloMosaic.Lib.Pipeline.Value
public import Idealize.ShloMosaic.Lib.Pointwise
public import Idealize.ShloMosaic.Lib.MatmulPlain

@[expose] public section

noncomputable section

namespace Cert.Proof

open Idealize.ShloMosaic
open scoped BigOperators

/-- `n` slabs of 128 rows laid one under the other, read at row `i`: row `i % 128` of slab `i / 128`. The slabs are given
    by what they hold (`g`), row for row. -/
theorem slabs_apply {α : Type} {n R N : ℕ} (hR : R = 128 * n) (f : Fin n → (⟨2, ![128, N]⟩ : Shape).Idx → α)
    (h : Shape.Concatenates ((List.ofFn fun k : Fin n => (⟨⟨2, ![128, N]⟩, f k⟩ : (s : Shape) × (s.Idx → α))).map (·.1))
      (⟨2, ![R, N]⟩ : Shape) 0)
    (g : Fin R → Fin N → α)
    (hg : ∀ (k : Fin n) (a : Fin 128) (b : Fin N) (hr : 128 * k.val + a.val < R), f k (ix2 a b) = g ⟨128 * k.val + a.val, hr⟩ b)
    (i : Fin R) (j : Fin N) :
    concatenate (⟨2, ![R, N]⟩ : Shape) 0 (List.ofFn fun k : Fin n => (⟨⟨2, ![128, N]⟩, f k⟩ : (s : Shape) × (s.Idx → α))) h
      (ix2 i j) = g i j := by
  have hi : i.val / 128 < n := by have := i.isLt; omega
  have hm : i.val % 128 < 128 := Nat.mod_lt _ (by norm_num)
  rw [concatenate_ofFn_apply (t := (⟨2, ![R, N]⟩ : Shape)) (0 : Fin 2) f h rfl 128 rfl (ix2 i j) ⟨i.val / 128, hi⟩ rfl (ix2 ⟨i.val % 128, hm⟩ j) rfl
    (fun b hb => by
      match b with
      | ⟨0, _⟩ => exact absurd rfl hb
      | ⟨1, _⟩ => rfl)]
  have hlt : 128 * (i.val / 128) + i.val % 128 < R := by have := i.isLt; omega
  rw [hg ⟨i.val / 128, hi⟩ ⟨i.val % 128, hm⟩ j hlt]
  congr 1
  exact Fin.ext (Nat.div_add_mod _ _)

/-- A stored weight at row `i`, column `j`: its code times the scale of the 128 by 128 tile it lies in. -/
def deq {R C R' C' : ℕ} (hR : R ≤ 128 * R') (hC : C ≤ 128 * C') (codes : (⟨2, ![R, C]⟩ : Shape).Idx → EReal)
    (scales : (⟨2, ![R', C']⟩ : Shape).Idx → EReal) (i : Fin R) (j : Fin C) : EReal :=
  codes (ix2 i j) * scales (ix2 ⟨i.val / 128, by have := i.isLt; omega⟩ ⟨j.val / 128, by have := j.isLt; omega⟩)

/-- A selection by an equality of words is the choice by that equality. -/
theorem select_eq {α : Type} {w : ℕ} (a b : BitVec w) (x y : α) :
    Scalar.select (IntOp.cmpi .eq a b) x y = if a = b then x else y := by
  by_cases h : a = b
  · simp [Scalar.select, IntOp.cmpi, h]
  · have hb : (a == b) = false := by simpa using h
    simp [Scalar.select, IntOp.cmpi, h, hb]

/-- The adapter stack `[4, 48, C]` read as one matrix of 192 rows. -/
def stack {C : ℕ} (w : (⟨3, ![4, 48, C]⟩ : Shape).Idx → EReal) (r : Fin 192) (j : Fin C) : EReal :=
  w (ix3 ⟨r.val / 48, by have := r.isLt; omega⟩ ⟨r.val % 48, Nat.mod_lt _ (by norm_num)⟩ j)

/-- The scaling of token `t`: the `alpha` of the adapter its block of 128 tokens uses (zero if that is none of the four). -/
def alphaRow (alpha : (⟨1, ![4]⟩ : Shape).Idx → EReal) (job : (⟨1, ![32]⟩ : Shape).Idx → BitVec 32) (t : Fin 4096) : EReal :=
  ∑ n : Fin 4, if job (ix1 ⟨t.val / 128, by have := t.isLt; omega⟩) = BitVec.ofNat 32 n.val then alpha (ix1 n) else 0

end Cert.Proof

end
-- ==== Proof.OutSpec.lean ====
/-
  The output call's two results as plain sums over the extended reals: the function that both the kernel and its
  reference are shown to compute.
-/
module

public import proofs.«01_k».proof.Proof.Slabs

@[expose] public section

noncomputable section

namespace Cert.Proof

open Idealize.ShloMosaic
open scoped BigOperators

/-- `y = x + act · w_downᵀ + alpha · (z_down · b_down)` at token `t`, column `d`. -/
def ySpec (aq : (⟨2, ![4096, 3584]⟩ : Shape).Idx → EReal) (wd : (⟨2, ![8192, 3584]⟩ : Shape).Idx → EReal)
    (sd : (⟨2, ![64, 28]⟩ : Shape).Idx → EReal) (zd : (⟨2, ![4096, 192]⟩ : Shape).Idx → EReal)
    (bd : (⟨3, ![4, 48, 8192]⟩ : Shape).Idx → EReal) (alpha : (⟨1, ![4]⟩ : Shape).Idx → EReal)
    (job : (⟨1, ![32]⟩ : Shape).Idx → BitVec 32) (x : (⟨2, ![4096, 8192]⟩ : Shape).Idx → EReal) (t : Fin 4096) (d : Fin 8192) :
    EReal :=
  x (ix2 t d) + ∑ f : Fin 3584, aq (ix2 t f) * deq (R' := 64) (C' := 28) (by norm_num) (by norm_num) wd sd d f
    + alphaRow alpha job t * ∑ r : Fin 192, zd (ix2 t r) * stack bd r d

/-- `dn = dg · w_gate + du · w_up + dz_gate · a_gate + dz_up · a_up` at token `t`, column `d`. -/
def dnSpec (gq uq : (⟨2, ![4096, 3584]⟩ : Shape).Idx → EReal) (wg : (⟨2, ![3584, 8192]⟩ : Shape).Idx → EReal)
    (sg : (⟨2, ![28, 64]⟩ : Shape).Idx → EReal) (wu : (⟨2, ![3584, 8192]⟩ : Shape).Idx → EReal)
    (su : (⟨2, ![28, 64]⟩ : Shape).Idx → EReal) (dzg dzu : (⟨2, ![4096, 192]⟩ : Shape).Idx → EReal)
    (ag au : (⟨3, ![4, 48, 8192]⟩ : Shape).Idx → EReal) (t : Fin 4096) (d : Fin 8192) : EReal :=
  ∑ f : Fin 3584, gq (ix2 t f) * deq (R' := 28) (C' := 64) (by norm_num) (by norm_num) wg sg f d
    + ∑ f : Fin 3584, uq (ix2 t f) * deq (R' := 28) (C' := 64) (by norm_num) (by norm_num) wu su f d
    + ∑ r : Fin 192, dzg (ix2 t r) * stack ag r d
    + ∑ r : Fin 192, dzu (ix2 t r) * stack au r d

end Cert.Proof

end
-- ==== Proof.OutBlock.lean ====
/-
  What one grid point of the output call computes, read at an index of its two output blocks: sums over the point's input
  blocks, the weights' row slabs put back together.
-/
module

public import proofs.«01_k».proof.Proof.OutSpec
public import proofs.«01_k».proof.Proof.Gen.OutKIdeal.Value

@[expose] public section

noncomputable section

namespace Cert.Proof.OutBlock

open Idealize.ShloMosaic Cert.OutKIdeal Cert.OutKIdeal.Gen
open scoped BigOperators

/-- Slab `k` of a gate or up weight block: 128 rows of codes, each multiplied by the row of scales of the slab. -/
def slab (x : Vec Ideal S3584x512 .fp8e4m3) (s : Vec Ideal S1x28x512 .f32) (k : Fin 28) : FVec Ideal S128x512 .bf16 :=
  mulf (extf .bf16 (View.ld x (Rect.unit (s := S3584x512) ![128 * k.val, 0] S128x512.size (fun a => by
      have := k.isLt
      match a with
      | ⟨0, _⟩ => show 128 * k.val + 128 ≤ 3584; omega
      | ⟨1, _⟩ => show 0 + 512 ≤ 512; omega))) bitsLt_fp8e4m3_bf16)
    (broadcastTo S128x512 (truncf .bf16 (shapeCast S1x512 (View.ld s (Rect.unit (s := S1x28x512) ![0, k.val, 0] S1x1x512.size (fun a => by
      have := k.isLt
      match a with
      | ⟨0, _⟩ => show 0 + 1 ≤ 1; omega
      | ⟨1, _⟩ => show k.val + 1 ≤ 28; omega
      | ⟨2, _⟩ => show 0 + 512 ≤ 512; omega))) shapeCasts_S1x1x512_S1x512) bitsLt_bf16_f32) broadcasts_S1x512_S128x512)

theorem slab_apply (x : Vec Ideal S3584x512 .fp8e4m3) (s : Vec Ideal S1x28x512 .f32) (k : Fin 28) (a : Fin 128) (b : Fin 512)
    (hr : 128 * k.val + a.val < 3584) :
    slab x s k (ix2 a b) = x (ix2 ⟨128 * k.val + a.val, hr⟩ b) * s (ix3 0 ⟨(128 * k.val + a.val) / 128, by omega⟩ b) := by
  have e : (⟨(128 * k.val + a.val) / 128, by omega⟩ : Fin 28) = k := Fin.ext (by show (128 * k.val + a.val) / 128 = k.val; omega)
  rw [e]
  pointwise [slab]

/-- The slabs one under the other. -/
def weight (x : Vec Ideal S3584x512 .fp8e4m3) (s : Vec Ideal S1x28x512 .f32) : FVec Ideal S3584x512 .bf16 :=
  concatenate S3584x512 0 (List.ofFn fun k : Fin 28 => (⟨S128x512, slab x s k⟩ : (s : Shape) × (s.Idx → Ideal .bf16)))
    concatenates_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S3584x512_d0

theorem weight_apply (x : Vec Ideal S3584x512 .fp8e4m3) (s : Vec Ideal S1x28x512 .f32) (i : Fin 3584) (j : Fin 512) :
    weight x s (ix2 i j) = x (ix2 i j) * s (ix3 0 ⟨i.val / 128, by omega⟩ j) :=
  slabs_apply (n := 28) (R := 3584) (N := 512) (by norm_num) (slab x s) _ (fun i j => x (ix2 i j) * s (ix3 0 ⟨i.val / 128, by omega⟩ j))
    (slab_apply x s) i j

/-- Slab `k` of a down weight block, in the same way: 128 rows of 3584 codes. -/
def slabT (x : Vec Ideal S512x3584 .fp8e4m3) (s : Vec Ideal S1x4x3584 .f32) (k : Fin 4) : FVec Ideal S128x3584 .bf16 :=
  mulf (extf .bf16 (View.ld x (Rect.unit (s := S512x3584) ![128 * k.val, 0] S128x3584.size (fun a => by
      have := k.isLt
      match a with
      | ⟨0, _⟩ => show 128 * k.val + 128 ≤ 512; omega
      | ⟨1, _⟩ => show 0 + 3584 ≤ 3584; omega))) bitsLt_fp8e4m3_bf16)
    (broadcastTo S128x3584 (truncf .bf16 (shapeCast S1x3584 (View.ld s (Rect.unit (s := S1x4x3584) ![0, k.val, 0] S1x1x3584.size (fun a => by
      have := k.isLt
      match a with
      | ⟨0, _⟩ => show 0 + 1 ≤ 1; omega
      | ⟨1, _⟩ => show k.val + 1 ≤ 4; omega
      | ⟨2, _⟩ => show 0 + 3584 ≤ 3584; omega))) shapeCasts_S1x1x3584_S1x3584) bitsLt_bf16_f32) broadcasts_S1x3584_S128x3584)

set_option maxRecDepth 40000 in
theorem slabT_apply (x : Vec Ideal S512x3584 .fp8e4m3) (s : Vec Ideal S1x4x3584 .f32) (k : Fin 4) (a : Fin 128) (b : Fin 3584)
    (hr : 128 * k.val + a.val < 512) :
    slabT x s k (ix2 a b) = x (ix2 ⟨128 * k.val + a.val, hr⟩ b) * s (ix3 0 ⟨(128 * k.val + a.val) / 128, by omega⟩ b) := by
  have e : (⟨(128 * k.val + a.val) / 128, by omega⟩ : Fin 4) = k := Fin.ext (by show (128 * k.val + a.val) / 128 = k.val; omega)
  rw [e]
  pointwise [slabT]

/-- The down weight block, its four slabs one under the other. -/
def weightT (x : Vec Ideal S512x3584 .fp8e4m3) (s : Vec Ideal S1x4x3584 .f32) : FVec Ideal S512x3584 .bf16 :=
  concatenate S512x3584 0 (List.ofFn fun k : Fin 4 => (⟨S128x3584, slabT x s k⟩ : (s : Shape) × (s.Idx → Ideal .bf16)))
    concatenates_S128x3584_S128x3584_S128x3584_S128x3584_S512x3584_d0

theorem weightT_apply (x : Vec Ideal S512x3584 .fp8e4m3) (s : Vec Ideal S1x4x3584 .f32) (i : Fin 512) (j : Fin 3584) :
    weightT x s (ix2 i j) = x (ix2 i j) * s (ix3 0 ⟨i.val / 128, by omega⟩ j) :=
  slabs_apply (n := 4) (R := 512) (N := 3584) (by norm_num) (slabT x s) _ (fun i j => x (ix2 i j) * s (ix3 0 ⟨i.val / 128, by omega⟩ j))
    (slabT_apply x s) i j

variable (x0 x1 x2 : Vec Ideal S512x3584 .bf16) (x3 : Vec Ideal S512x3584 .fp8e4m3) (x4 : Vec Ideal S1x4x3584 .f32)
  (x5 : Vec Ideal S3584x512 .fp8e4m3) (x6 : Vec Ideal S1x28x512 .f32) (x7 : Vec Ideal S3584x512 .fp8e4m3)
  (x8 : Vec Ideal S1x28x512 .f32) (x9 x10 x11 : Vec Ideal S512x192 .bf16) (x12 x13 x14 : Vec Ideal S192x512 .bf16)
  (x15 : Vec Ideal S512x1 .f32) (x16 : Vec Ideal S512x512 .bf16)

/-- The product of a block of rows with a gate or up weight block. -/
def prod (x : FVec Ideal S512x3584 .bf16) (w : FVec Ideal S3584x512 .bf16) : FVec Ideal S512x512 .f32 :=
  matmul dot_S512x3584_S3584x512_S512x512_1_0_0_1_n_n none x w (constant S512x512 .f32 0x00000000#32)

/-- The product of a block of rows with the transpose of a down weight block. -/
def prodT (x : FVec Ideal S512x3584 .bf16) (w : FVec Ideal S512x3584 .bf16) : FVec Ideal S512x512 .f32 :=
  matmul dot_S512x3584_S512x3584_S512x512_1_1_0_0_n_n none x w (constant S512x512 .f32 0x00000000#32)

/-- The product of a block of adapter projections with a block of the stacked adapters. -/
def prodA (x : FVec Ideal S512x192 .bf16) (w : FVec Ideal S192x512 .bf16) : FVec Ideal S512x512 .f32 :=
  matmul dot_S512x192_S192x512_S512x512_1_0_0_1_n_n none x (shapeCast S192x512 w shapeCasts_S192x512_S192x512)
    (constant S512x512 .f32 0x00000000#32)

theorem hz2 : (![0, 0] : Fin 2 → Nat) = fun _ => 0 := funext fun a => by fin_cases a <;> rfl

/-- The `y` block is one tree of operations over the input blocks. -/
theorem out17_eq : out0_17 x0 x1 x2 x3 x4 x5 x6 x7 x8 x9 x10 x11 x12 x13 x14 x15 x16
    = truncf .bf16 (addf (addf (extf .f32 x16 bitsLt_bf16_f32) (prodT x0 (weightT x3 x4)))
        (mulf (broadcastTo S512x512 (shapeCast S512x1 x15 shapeCasts_S512x1_S512x1) broadcasts_S512x1_S512x512) (prodA x9 x12)))
        bitsLt_bf16_f32 := by
  unfold out0_17
  rw [View.canon_unit_zero hz2, View.ld_unit_zero (S := S512x3584) hz2 _ x0, View.ld_unit_zero (S := S512x512) hz2 _ x16,
    View.ld_unit_zero (S := S512x1) hz2 _ x15, View.ld_unit_zero (S := S512x192) hz2 _ x9,
    View.ld_unit_zero (S := S192x512) hz2 _ x12]
  rfl

/-- So is the `dn` block. -/
theorem out18_eq : out0_18 x0 x1 x2 x3 x4 x5 x6 x7 x8 x9 x10 x11 x12 x13 x14 x15 x16
    = addf (addf (addf (prod x1 (weight x5 x6)) (prod x2 (weight x7 x8))) (prodA x10 x13)) (prodA x11 x14) := by
  unfold out0_18
  rw [View.canon_unit_zero hz2, View.ld_unit_zero (S := S512x3584) hz2 _ x1, View.ld_unit_zero (S := S512x3584) hz2 _ x2,
    View.ld_unit_zero (S := S512x192) hz2 _ x10, View.ld_unit_zero (S := S512x192) hz2 _ x11,
    View.ld_unit_zero (S := S192x512) hz2 _ x13, View.ld_unit_zero (S := S192x512) hz2 _ x14]
  rfl

/-- The `y` block at row `p`, column `q`. -/
theorem y_apply (p q : Fin 512) : out0_17 x0 x1 x2 x3 x4 x5 x6 x7 x8 x9 x10 x11 x12 x13 x14 x15 x16 (ix2 p q)
    = x16 (ix2 p q) + ∑ f : Fin 3584, x0 (ix2 p f) * (x3 (ix2 q f) * x4 (ix3 0 ⟨q.val / 128, by omega⟩ f))
      + x15 (ix2 p 0) * ∑ r : Fin 192, x9 (ix2 p r) * x12 (ix2 r q) := by
  rw [out17_eq]
  pointwise [prodT, prodA, weightT_apply, dot_S512x3584_S512x3584_S512x512_1_1_0_0_n_n, dot_S512x192_S192x512_S512x512_1_0_0_1_n_n]

/-- The `dn` block at row `p`, column `q`. -/
theorem dn_apply (p q : Fin 512) : out0_18 x0 x1 x2 x3 x4 x5 x6 x7 x8 x9 x10 x11 x12 x13 x14 x15 x16 (ix2 p q)
    = ∑ f : Fin 3584, x1 (ix2 p f) * (x5 (ix2 f q) * x6 (ix3 0 ⟨f.val / 128, by omega⟩ q))
      + ∑ f : Fin 3584, x2 (ix2 p f) * (x7 (ix2 f q) * x8 (ix3 0 ⟨f.val / 128, by omega⟩ q))
      + ∑ r : Fin 192, x10 (ix2 p r) * x13 (ix2 r q) + ∑ r : Fin 192, x11 (ix2 p r) * x14 (ix2 r q) := by
  rw [out18_eq]
  pointwise [prod, prodA, weight_apply, dot_S512x3584_S3584x512_S512x512_1_0_0_1_n_n, dot_S512x192_S192x512_S512x512_1_0_0_1_n_n]

end Cert.Proof.OutBlock

end
-- ==== Proof.OutHost.lean ====
/-
  The arrays the output call's host lines make before the kernel starts, read at an index: the stacked adapters, the
  scales spread along the contracted or the produced axis, and the tokens' scalings.
-/
module

public import proofs.«01_k».proof.Proof.OutSpec
public import proofs.«01_k».proof.Proof.Gen.OutKIdeal.Value

@[expose] public section

noncomputable section

namespace Cert.Proof.OutHost

open Idealize.ShloMosaic Idealize.ShloMosaic.TcCoe Cert.OutKIdeal Cert.OutKIdeal.Gen
open scoped BigOperators

variable (m : (ℓ : Loc nD τ sig) → Buf (Elt Ideal) ℓ)

/-- The list of the host lines, flattened. -/
theorem V_eq (c : Dev nD) (b : Ref sig .tc) : V m c b = StableHlo.after (hostOps0 ++ hostOps0_1 ++ hostOps0_2) (fun b => m (c, b)) b := by
  simp only [V, List.flatten_cons, List.flatten_nil, List.append_nil, List.append_assoc]

/-- Laying the four adapters' rows one under the other reads row `r` at row `r % 48` of adapter `r / 48`. -/
theorem shapeCast_stack (w : S4x48x8192.Idx → EReal) (h : S4x48x8192.ShapeCasts S192x8192) (r : Fin 192) (d : Fin 8192) :
    shapeCast S192x8192 w h (ix2 r d) = stack w r d := by
  refine shapeCast_apply w h (ix2 r d) _ ?_
  rw [Shape.rowMajor_val_three, Shape.rowMajor_val_two]
  show (r.val / 48 * 48 + r.val % 48) * 8192 + d.val = r.val * 8192 + d.val
  omega

/-- The stacked adapter `main_arg12` as one matrix. -/
theorem v0_eq (c : Dev nD) : (V m c main_v0 : Vec Ideal S192x8192 .bf16)
    = shapeCast S192x8192 (m ((c : Thread nD τ).loc main_arg12)) shapeCasts_S4x48x8192_S192x8192 := by
  rw [V_eq]
  simp only [hostOps0, hostOps0_1, hostOps0_2, List.cons_append, List.nil_append]
  after_results
  rfl

theorem v0_apply (c : Dev nD) (r : Fin 192) (d : Fin 8192) :
    (V m c main_v0 : Vec Ideal S192x8192 .bf16) (ix2 r d) = stack (m ((c : Thread nD τ).loc main_arg12)) r d := by
  rw [v0_eq]
  exact shapeCast_stack _ _ r d

/-- The stacked adapter `main_arg13` as one matrix. -/
theorem v1_eq (c : Dev nD) : (V m c main_v1 : Vec Ideal S192x8192 .bf16)
    = shapeCast S192x8192 (m ((c : Thread nD τ).loc main_arg13)) shapeCasts_S4x48x8192_S192x8192 := by
  rw [V_eq]
  simp only [hostOps0, hostOps0_1, hostOps0_2, List.cons_append, List.nil_append]
  after_results
  rfl

theorem v1_apply (c : Dev nD) (r : Fin 192) (d : Fin 8192) :
    (V m c main_v1 : Vec Ideal S192x8192 .bf16) (ix2 r d) = stack (m ((c : Thread nD τ).loc main_arg13)) r d := by
  rw [v1_eq]
  exact shapeCast_stack _ _ r d

/-- The stacked adapter `main_arg14` as one matrix. -/
theorem v2_eq (c : Dev nD) : (V m c main_v2 : Vec Ideal S192x8192 .bf16)
    = shapeCast S192x8192 (m ((c : Thread nD τ).loc main_arg14)) shapeCasts_S4x48x8192_S192x8192 := by
  rw [V_eq]
  simp only [hostOps0, hostOps0_1, hostOps0_2, List.cons_append, List.nil_append]
  after_results
  rfl

theorem v2_apply (c : Dev nD) (r : Fin 192) (d : Fin 8192) :
    (V m c main_v2 : Vec Ideal S192x8192 .bf16) (ix2 r d) = stack (m ((c : Thread nD τ).loc main_arg14)) r d := by
  rw [v2_eq]
  exact shapeCast_stack _ _ r d

/-- The tokens' scalings: each block's `alpha`, picked by comparing its adapter number with 0, 1, 2, 3, spread over its 128 tokens. -/
def alphaTerm (alpha : Vec Ideal S4 .f32) (job : Vec Ideal S32 .i32) : Vec Ideal S4096x1 .f32 :=
  broadcastInDim S4096x1 ![0] bcast_S4096_S4096x1_0 (shapeCast S4096 (broadcastInDim S32x128 ![0] bcast_S32_S32x128_0
    (Host.reduceAdd (F := Ideal) (φ := .f32)
      (select (cmpi CmpIPredicate.eq
          (broadcastInDim S32x4 ![0, 1] bcast_S32x1_S32x4_0_1 (broadcastInDim S32x1 ![0] bcast_S32_S32x1_0 job))
          (broadcastInDim S32x4 ![0, 1] bcast_S1x4_S32x4_0_1 (broadcastInDim S1x4 ![1] bcast_S4_S1x4_1 (iotaInDim S4 32 0))))
        (broadcastInDim S32x4 ![1] bcast_S4_S32x4_1 alpha)
        (broadcastInDim S32x4 ![] bcast_S_S32x4 (constant S_ FTy.f32 0#32)))
      (constant S_ FTy.f32 0#32) reducesTo_S32x4_S32_d1 h_S_)) shapeCasts_S32x128_S4096)

theorem v13_eq (c : Dev nD) : (V m c main_v13 : Vec Ideal S4096x1 .f32)
    = alphaTerm (m ((c : Thread nD τ).loc main_arg15)) (m ((c : Thread nD τ).loc main_arg16)) := by
  rw [V_eq]
  simp only [hostOps0, hostOps0_1, hostOps0_2, List.cons_append, List.nil_append]
  after_results
  rfl

theorem v13_apply (c : Dev nD) (t : Fin 4096) : (V m c main_v13 : Vec Ideal S4096x1 .f32) (ix2 t (0 : Fin 1))
    = alphaRow (m ((c : Thread nD τ).loc main_arg15)) (m ((c : Thread nD τ).loc main_arg16)) t := by
  rw [v13_eq]
  unfold alphaRow
  pointwise [alphaTerm, select_eq]

/-- The scales `main_arg8`, each spread over the 128 entries of the last axis it serves. -/
theorem v20_eq (c : Dev nD) : (V m c main_v20 : Vec Ideal S16x4x3584 .f32)
    = shapeCast S16x4x3584 (shapeCast S64x3584 (broadcastInDim S64x28x128 ![0, 1] bcast_S64x28_S64x28x128_0_1 (m ((c : Thread nD τ).loc main_arg8))) shapeCasts_S64x28x128_S64x3584) shapeCasts_S64x3584_S16x4x3584 := by
  rw [V_eq]
  simp only [hostOps0, hostOps0_1, hostOps0_2, List.cons_append, List.nil_append]
  after_results
  rfl

theorem v20_apply (c : Dev nD) (j : Fin 16) (k : Fin 4) (f : Fin 3584) : (V m c main_v20 : Vec Ideal S16x4x3584 .f32) (ix3 j k f)
    = ((m ((c : Thread nD τ).loc main_arg8) : Vec Ideal S64x28 .f32)) (ix2 (⟨j.val * 4 + k.val, by have := j.isLt; have := k.isLt; omega⟩ : Fin 64) (⟨f.val / 128, by have := f.isLt; omega⟩ : Fin 28)) := by
  rw [v20_eq]
  pointwise []

/-- The scales `main_arg4`, each spread over the 128 entries of the last axis it serves. -/
theorem v21_eq (c : Dev nD) : (V m c main_v21 : Vec Ideal S1x28x8192 .f32)
    = shapeCast S1x28x8192 (shapeCast S28x8192 (broadcastInDim S28x64x128 ![0, 1] bcast_S28x64_S28x64x128_0_1 (m ((c : Thread nD τ).loc main_arg4))) shapeCasts_S28x64x128_S28x8192) shapeCasts_S28x8192_S1x28x8192 := by
  rw [V_eq]
  simp only [hostOps0, hostOps0_1, hostOps0_2, List.cons_append, List.nil_append]
  after_results
  rfl

theorem v21_apply (c : Dev nD) (k : Fin 28) (d : Fin 8192) : (V m c main_v21 : Vec Ideal S1x28x8192 .f32) (ix3 (0 : Fin 1) k d)
    = ((m ((c : Thread nD τ).loc main_arg4) : Vec Ideal S28x64 .f32)) (ix2 k (⟨d.val / 128, by have := d.isLt; omega⟩ : Fin 64)) := by
  rw [v21_eq]
  pointwise []

/-- The scales `main_arg6`, each spread over the 128 entries of the last axis it serves. -/
theorem v22_eq (c : Dev nD) : (V m c main_v22 : Vec Ideal S1x28x8192 .f32)
    = shapeCast S1x28x8192 (shapeCast S28x8192 (broadcastInDim S28x64x128 ![0, 1] bcast_S28x64_S28x64x128_0_1 (m ((c : Thread nD τ).loc main_arg6))) shapeCasts_S28x64x128_S28x8192) shapeCasts_S28x8192_S1x28x8192 := by
  rw [V_eq]
  simp only [hostOps0, hostOps0_1, hostOps0_2, List.cons_append, List.nil_append]
  after_results
  rfl

theorem v22_apply (c : Dev nD) (k : Fin 28) (d : Fin 8192) : (V m c main_v22 : Vec Ideal S1x28x8192 .f32) (ix3 (0 : Fin 1) k d)
    = ((m ((c : Thread nD τ).loc main_arg6) : Vec Ideal S28x64 .f32)) (ix2 k (⟨d.val / 128, by have := d.isLt; omega⟩ : Fin 64)) := by
  rw [v22_eq]
  pointwise []

end Cert.Proof.OutHost

end
-- ==== Proof.OutRun.lean ====
/-
  The output call's two arrays after the run: each grid point writes its block of `ySpec` and of `dnSpec`, and the blocks
  fill the arrays.
-/
module

public import proofs.«01_k».proof.Proof.OutBlock
public import proofs.«01_k».proof.Proof.OutHost
public import Idealize.ShloMosaic.Lib.Pipeline.ValueKit

@[expose] public section

set_option maxRecDepth 16384

noncomputable section

namespace Cert.Proof.OutRun

open Idealize.ShloMosaic Idealize.ShloMosaic.TcCoe Idealize.SL.Sem Cert.OutKIdeal Cert.OutKIdeal.Gen
open scoped BigOperators

variable (m : (ℓ : Loc nD τ sig) → Buf (Elt Ideal) ℓ) (ρ : Dev nD → PrngReg)

/-! ## Where each window's block lies, decided over the 128 grid points -/

theorem idx0 : ∀ t : Fin grid0.N, win0_0.index t = ![t.val / 16, 0] := by decide +kernel
theorem idx1 : ∀ t : Fin grid0.N, win0_1.index t = ![t.val / 16, 0] := by decide +kernel
theorem idx2 : ∀ t : Fin grid0.N, win0_2.index t = ![t.val / 16, 0] := by decide +kernel
theorem idx3 : ∀ t : Fin grid0.N, win0_3.index t = ![t.val % 16, 0] := by decide +kernel
theorem idx4 : ∀ t : Fin grid0.N, win0_4.index t = ![t.val % 16, 0, 0] := by decide +kernel
theorem idx5 : ∀ t : Fin grid0.N, win0_5.index t = ![0, t.val % 16] := by decide +kernel
theorem idx6 : ∀ t : Fin grid0.N, win0_6.index t = ![0, 0, t.val % 16] := by decide +kernel
theorem idx7 : ∀ t : Fin grid0.N, win0_7.index t = ![0, t.val % 16] := by decide +kernel
theorem idx8 : ∀ t : Fin grid0.N, win0_8.index t = ![0, 0, t.val % 16] := by decide +kernel
theorem idx9 : ∀ t : Fin grid0.N, win0_9.index t = ![t.val / 16, 0] := by decide +kernel
theorem idx10 : ∀ t : Fin grid0.N, win0_10.index t = ![t.val / 16, 0] := by decide +kernel
theorem idx11 : ∀ t : Fin grid0.N, win0_11.index t = ![t.val / 16, 0] := by decide +kernel
theorem idx12 : ∀ t : Fin grid0.N, win0_12.index t = ![0, t.val % 16] := by decide +kernel
theorem idx13 : ∀ t : Fin grid0.N, win0_13.index t = ![0, t.val % 16] := by decide +kernel
theorem idx14 : ∀ t : Fin grid0.N, win0_14.index t = ![0, t.val % 16] := by decide +kernel
theorem idx15 : ∀ t : Fin grid0.N, win0_15.index t = ![t.val / 16, 0] := by decide +kernel
theorem idx16 : ∀ t : Fin grid0.N, win0_16.index t = ![t.val / 16, t.val % 16] := by decide +kernel
theorem idx17 : ∀ t : Fin grid0.N, win0_17.index t = ![t.val / 16, t.val % 16] := by decide +kernel
theorem idx18 : ∀ t : Fin grid0.N, win0_18.index t = ![t.val / 16, t.val % 16] := by decide +kernel

/-- The array row of a point's block row `p`, and the array column of its block column `q`. -/
def row (t : Fin grid0.N) (p : Fin 512) : Fin 4096 := ⟨t.val / 16 * 512 + p.val, by have := t.isLt; have h : grid0.N = 128 := N_0; have := p.isLt; omega⟩
def col (t : Fin grid0.N) (q : Fin 512) : Fin 8192 := ⟨t.val % 16 * 512 + q.val, by have := q.isLt; omega⟩

/-! ## The input windows' blocks, read at an index -/

theorem blk0 (c : Dev nD) (t : Fin grid0.N) (p : Fin 512) (f : Fin 3584) : iblk m c 0 t (ix2 p f) = (m ((c : Thread nD τ).loc main_arg0)) (ix2 (row t p) f) := by
  blk_ext [iblk, V_main_arg0, row, col, idx0 t]
theorem blk1 (c : Dev nD) (t : Fin grid0.N) (p : Fin 512) (f : Fin 3584) : iblk m c 1 t (ix2 p f) = (m ((c : Thread nD τ).loc main_arg1)) (ix2 (row t p) f) := by
  blk_ext [iblk, V_main_arg1, row, col, idx1 t]
theorem blk2 (c : Dev nD) (t : Fin grid0.N) (p : Fin 512) (f : Fin 3584) : iblk m c 2 t (ix2 p f) = (m ((c : Thread nD τ).loc main_arg2)) (ix2 (row t p) f) := by
  blk_ext [iblk, V_main_arg2, row, col, idx2 t]
theorem blk9 (c : Dev nD) (t : Fin grid0.N) (p : Fin 512) (f : Fin 192) : iblk m c 9 t (ix2 p f) = (m ((c : Thread nD τ).loc main_arg9)) (ix2 (row t p) f) := by
  blk_ext [iblk, V_main_arg9, row, col, idx9 t]
theorem blk10 (c : Dev nD) (t : Fin grid0.N) (p : Fin 512) (f : Fin 192) : iblk m c 10 t (ix2 p f) = (m ((c : Thread nD τ).loc main_arg10)) (ix2 (row t p) f) := by
  blk_ext [iblk, V_main_arg10, row, col, idx10 t]
theorem blk11 (c : Dev nD) (t : Fin grid0.N) (p : Fin 512) (f : Fin 192) : iblk m c 11 t (ix2 p f) = (m ((c : Thread nD τ).loc main_arg11)) (ix2 (row t p) f) := by
  blk_ext [iblk, V_main_arg11, row, col, idx11 t]
theorem blk15 (c : Dev nD) (t : Fin grid0.N) (p : Fin 512) : iblk m c 15 t (ix2 p (0 : Fin 1)) = (V m c main_v13 : _) (ix2 (row t p) (0 : Fin 1)) := by
  blk_ext [iblk,  row, col, idx15 t]
theorem blk16 (c : Dev nD) (t : Fin grid0.N) (p q : Fin 512) : iblk m c 16 t (ix2 p q) = (m ((c : Thread nD τ).loc main_arg17)) (ix2 (row t p) (col t q)) := by
  blk_ext [iblk, V_main_arg17, row, col, idx16 t]
theorem blk3 (c : Dev nD) (t : Fin grid0.N) (q : Fin 512) (f : Fin 3584) : iblk m c 3 t (ix2 q f) = (m ((c : Thread nD τ).loc main_arg7)) (ix2 (col t q) f) := by
  blk_ext [iblk, V_main_arg7, row, col, idx3 t]
theorem blk4 (c : Dev nD) (t : Fin grid0.N) (k : Fin 4) (f : Fin 3584) : iblk m c 4 t (ix3 (0 : Fin 1) k f) = (V m c main_v20 : _) (ix3 (⟨t.val % 16, by omega⟩ : Fin 16) k f) := by
  blk_ext [iblk,  row, col, idx4 t]
theorem blk5 (c : Dev nD) (t : Fin grid0.N) (f : Fin 3584) (q : Fin 512) : iblk m c 5 t (ix2 f q) = (m ((c : Thread nD τ).loc main_arg3)) (ix2 f (col t q)) := by
  blk_ext [iblk, V_main_arg3, row, col, idx5 t]
theorem blk7 (c : Dev nD) (t : Fin grid0.N) (f : Fin 3584) (q : Fin 512) : iblk m c 7 t (ix2 f q) = (m ((c : Thread nD τ).loc main_arg5)) (ix2 f (col t q)) := by
  blk_ext [iblk, V_main_arg5, row, col, idx7 t]
theorem blk12 (c : Dev nD) (t : Fin grid0.N) (r : Fin 192) (q : Fin 512) : iblk m c 12 t (ix2 r q) = (V m c main_v2 : _) (ix2 r (col t q)) := by
  blk_ext [iblk,  row, col, idx12 t]
theorem blk13 (c : Dev nD) (t : Fin grid0.N) (r : Fin 192) (q : Fin 512) : iblk m c 13 t (ix2 r q) = (V m c main_v0 : _) (ix2 r (col t q)) := by
  blk_ext [iblk,  row, col, idx13 t]
theorem blk14 (c : Dev nD) (t : Fin grid0.N) (r : Fin 192) (q : Fin 512) : iblk m c 14 t (ix2 r q) = (V m c main_v1 : _) (ix2 r (col t q)) := by
  blk_ext [iblk,  row, col, idx14 t]
theorem blk6 (c : Dev nD) (t : Fin grid0.N) (k : Fin 28) (q : Fin 512) : iblk m c 6 t (ix3 (0 : Fin 1) k q) = (V m c main_v21 : _) (ix3 (0 : Fin 1) k (col t q)) := by
  blk_ext [iblk,  row, col, idx6 t]
theorem blk8 (c : Dev nD) (t : Fin grid0.N) (k : Fin 28) (q : Fin 512) : iblk m c 8 t (ix3 (0 : Fin 1) k q) = (V m c main_v22 : _) (ix3 (0 : Fin 1) k (col t q)) := by
  blk_ext [iblk,  row, col, idx8 t]

/-! ## The blocks of the host-made arrays, read at an index of the arguments -/

theorem arg12 (c : Dev nD) (t : Fin grid0.N) (r : Fin 192) (q : Fin 512) :
    iblk m c 12 t (ix2 r q) = stack (m ((c : Thread nD τ).loc main_arg14)) r (col t q) := (blk12 m c t r q).trans (OutHost.v2_apply m c r (col t q))
theorem arg13 (c : Dev nD) (t : Fin grid0.N) (r : Fin 192) (q : Fin 512) :
    iblk m c 13 t (ix2 r q) = stack (m ((c : Thread nD τ).loc main_arg12)) r (col t q) := (blk13 m c t r q).trans (OutHost.v0_apply m c r (col t q))
theorem arg14 (c : Dev nD) (t : Fin grid0.N) (r : Fin 192) (q : Fin 512) :
    iblk m c 14 t (ix2 r q) = stack (m ((c : Thread nD τ).loc main_arg13)) r (col t q) := (blk14 m c t r q).trans (OutHost.v1_apply m c r (col t q))
theorem arg15 (c : Dev nD) (t : Fin grid0.N) (p : Fin 512) :
    iblk m c 15 t (ix2 p (0 : Fin 1)) = alphaRow (m ((c : Thread nD τ).loc main_arg15)) (m ((c : Thread nD τ).loc main_arg16)) (row t p) := (blk15 m c t p).trans (OutHost.v13_apply m c (row t p))
theorem arg4 (c : Dev nD) (t : Fin grid0.N) (q : Fin 512) (f : Fin 3584) :
    iblk m c 4 t (ix3 (0 : Fin 1) (⟨q.val / 128, by omega⟩ : Fin 4) f)
      = (m ((c : Thread nD τ).loc main_arg8)) (ix2 (⟨(col t q).val / 128, by have := (col t q).isLt; omega⟩ : Fin 64) (⟨f.val / 128, by omega⟩ : Fin 28)) := by
  refine (blk4 m c t _ f).trans ((OutHost.v20_apply m c _ _ f).trans ?_)
  congr 2
  refine Fin.ext ?_
  show t.val % 16 * 4 + q.val / 128 = (t.val % 16 * 512 + q.val) / 128
  omega
theorem arg6 (c : Dev nD) (t : Fin grid0.N) (k : Fin 28) (q : Fin 512) :
    iblk m c 6 t (ix3 (0 : Fin 1) k q) = (m ((c : Thread nD τ).loc main_arg4)) (ix2 k (⟨(col t q).val / 128, by have := (col t q).isLt; omega⟩ : Fin 64)) :=
  (blk6 m c t k q).trans (OutHost.v21_apply m c k (col t q))
theorem arg8 (c : Dev nD) (t : Fin grid0.N) (k : Fin 28) (q : Fin 512) :
    iblk m c 8 t (ix3 (0 : Fin 1) k q) = (m ((c : Thread nD τ).loc main_arg6)) (ix2 k (⟨(col t q).val / 128, by have := (col t q).isLt; omega⟩ : Fin 64)) :=
  (blk8 m c t k q).trans (OutHost.v22_apply m c k (col t q))

/-! ## The two arrays after the run -/

/-- The sum a grid point computes for `y` is the one of the array's row and column. -/
theorem y_point (c : Dev nD) (t : Fin grid0.N) (p q : Fin 512) :
    out0_17 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (ix2 p q)
    = ySpec (m ((c : Thread nD τ).loc main_arg0)) (m ((c : Thread nD τ).loc main_arg7)) (m ((c : Thread nD τ).loc main_arg8)) (m ((c : Thread nD τ).loc main_arg9)) (m ((c : Thread nD τ).loc main_arg14)) (m ((c : Thread nD τ).loc main_arg15)) (m ((c : Thread nD τ).loc main_arg16)) (m ((c : Thread nD τ).loc main_arg17)) (row t p) (col t q) := by
  rw [OutBlock.y_apply]
  unfold ySpec deq
  simp only [arg4, blk0, blk3, blk9, arg12, arg15, blk16]

/-- The sum a grid point computes for `dn` is the one of the array's row and column. -/
theorem dn_point (c : Dev nD) (t : Fin grid0.N) (p q : Fin 512) :
    out0_18 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (ix2 p q)
    = dnSpec (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (row t p) (col t q) := by
  rw [OutBlock.dn_apply]
  unfold dnSpec deq
  simp only [blk1, blk2, blk5, arg6, blk7, arg8, blk10, blk11, arg13, arg14]

/-- The array `y` as a function of the arguments. -/
def yArr (c : Dev nD) : Vec Ideal S4096x8192 .bf16 := fun i =>
  ySpec (m ((c : Thread nD τ).loc main_arg0)) (m ((c : Thread nD τ).loc main_arg7)) (m ((c : Thread nD τ).loc main_arg8)) (m ((c : Thread nD τ).loc main_arg9)) (m ((c : Thread nD τ).loc main_arg14)) (m ((c : Thread nD τ).loc main_arg15)) (m ((c : Thread nD τ).loc main_arg16)) (m ((c : Thread nD τ).loc main_arg17)) (i 0) (i 1)

/-- The array `dn` as a function of the arguments. -/
def dnArr (c : Dev nD) : Vec Ideal S4096x8192 .f32 := fun i =>
  dnSpec (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (i 0) (i 1)

theorem final17 (c : Dev nD) : (dats m 0 c).arrAt 17 cfg0.N = yArr m c := by
  refine (dats m 0 c).arrAt_eq_of_covers 17 _ (by decide +kernel) fun t hf y => ?_
  have hr : (((cfg0.win 17).blk t).view.emb y : S4096x8192.Idx) 0 = row t (y 0) := by
    refine Fin.ext ?_
    blk_simp [idx17 t, row]
  have hc : (((cfg0.win 17).blk t).view.emb y : S4096x8192.Idx) 1 = col t (y 1) := by
    refine Fin.ext ?_
    blk_simp [idx17 t, col]
  show _ = yArr m c _
  unfold yArr
  rw [hr, hc]
  blk_simp
  rw [after0_17]
  exact (congrArg _ (eq_ix2 _)).trans (y_point m c t (y 0) (y 1))

theorem final18 (c : Dev nD) : (dats m 0 c).arrAt 18 cfg0.N = dnArr m c := by
  refine (dats m 0 c).arrAt_eq_of_covers 18 _ (by decide +kernel) fun t hf y => ?_
  have hr : (((cfg0.win 18).blk t).view.emb y : S4096x8192.Idx) 0 = row t (y 0) := by
    refine Fin.ext ?_
    blk_simp [idx18 t, row]
  have hc : (((cfg0.win 18).blk t).view.emb y : S4096x8192.Idx) 1 = col t (y 1) := by
    refine Fin.ext ?_
    blk_simp [idx18 t, col]
  show _ = dnArr m c _
  unfold dnArr
  rw [hr, hc]
  blk_simp
  rw [after0_18]
  exact (congrArg _ (eq_ix2 _)).trans (dn_point m c t (y 0) (y 1))

end Cert.Proof.OutRun

end
-- ==== Proof.OutRef.lean ====
/-
  The reference of the output call read at an index: what its two results hold at token `t`, column `d`, written with the
  stored weights, the adapters and the tokens' scalings.
-/
module

public import proofs.«01_k».proof.Proof.OutSpec
public import proofs.«01_k».proof.Proof.Gen.OutRIdeal.Value

@[expose] public section

noncomputable section

namespace Cert.Proof.OutRef

open Idealize.ShloMosaic Cert.OutRIdeal Cert.OutRIdeal.Gen Cert.OutRIdeal.Value
open scoped BigOperators

variable (a0 a1 a2 : Vec Ideal S4096x3584 .bf16) (a3 a5 : Vec Ideal S3584x8192 .fp8e4m3) (a4 a6 : Vec Ideal S28x64 .f32)
  (a7 : Vec Ideal S8192x3584 .fp8e4m3) (a8 : Vec Ideal S64x28 .f32) (a9 a10 a11 : Vec Ideal S4096x192 .bf16)
  (a12 a13 a14 : Vec Ideal S4x48x8192 .bf16) (a15 : Vec Ideal S4 .f32) (a16 : Vec Ideal S32 .i32)
  (a17 : Vec Ideal S4096x8192 .bf16)

/-- The gate and up weights as the reference forms them. -/
theorem weight_apply (a3 : Vec Ideal S3584x8192 .fp8e4m3) (a4 : Vec Ideal S28x64 .f32) (i : Fin 3584) (j : Fin 8192) :
    k0_pay5 a3 a4 (ix2 i j) = deq (R' := 28) (C' := 64) (by norm_num) (by norm_num) a3 a4 i j := by
  pointwise [k0_pay5, deq]

/-- The two weights are formed by the same operations. -/
theorem weight_apply' (a3 : Vec Ideal S3584x8192 .fp8e4m3) (a4 : Vec Ideal S28x64 .f32) (i : Fin 3584) (j : Fin 8192) :
    k0_pay6 a3 a4 (ix2 i j) = deq (R' := 28) (C' := 64) (by norm_num) (by norm_num) a3 a4 i j := weight_apply a3 a4 i j

/-- The reference's `y` at token `t`, column `d`. -/
theorem y_apply (t : Fin 4096) (d : Fin 8192) :
    (G18 a0 a1 a2 a3 a4 a5 a6 a7 a8 a9 a10 a11 a12 a13 a14 a15 a16 a17 : Vec Ideal S4096x8192 .bf16) (ix2 t d)
      = ySpec a0 a7 a8 a9 a14 a15 a16 a17 t d := by
  pointwise [G18, k0_pay9, k0_pay4, k0_pay7, k0_pay8, ySpec, deq, stack, alphaRow, select_eq, dot_S4096x3584_S8192x3584_S4096x8192_1_1_0_0_n_n, dot_S4096x192_S192x8192_S4096x8192_1_0_0_1_n_n]

/-- The reference's `dn` at token `t`, column `d`. -/
theorem dn_apply (t : Fin 4096) (d : Fin 8192) :
    (G19 a0 a1 a2 a3 a4 a5 a6 a7 a8 a9 a10 a11 a12 a13 a14 a15 a16 a17 : Vec Ideal S4096x8192 .f32) (ix2 t d)
      = dnSpec a1 a2 a3 a4 a5 a6 a10 a11 a12 a13 t d := by
  pointwise [G19, k0_pay1, k0_pay2, k0_pay3, k0_pay10, weight_apply, weight_apply', dnSpec, stack, dot_S4096x3584_S3584x8192_S4096x8192_1_0_0_1_n_n, dot_S4096x192_S192x8192_S4096x8192_1_0_0_1_n_n]

end Cert.Proof.OutRef

end
-- ==== Proof.OutClaims.lean ====
/-
  The output call's claims: its frames, the idealized text against the exact one, and the kernel against the reference over
  the extended reals.
-/
module

public import proofs.«01_k».proof.Defs
public import proofs.«01_k».proof.Proof.OutRun
public import proofs.«01_k».proof.Proof.OutRef
public import proofs.«01_k».proof.Proof.Gen.OutK.Frame

@[expose] public section

noncomputable section

namespace Cert.Proof.OutClaims

open Idealize.ShloMosaic Idealize.ShloMosaic.TcCoe Idealize.SL.Sem

theorem frame_k : Cert.quiescent_OutK := fun m ρ _ => Cert.OutK.Gen.frame m ρ
theorem frame_ki : Cert.quiescent_OutKIdeal := fun m ρ _ => Cert.OutKIdeal.Gen.frame m ρ
theorem frame_ri : Cert.quiescent_OutRIdeal := fun m ρ _ => Cert.OutRIdeal.Gen.frame m ρ
theorem preserves : Cert.preserves_OutK_OutKIdeal := trivial

/-- Both programs end with `y` and `dn` at the sums of `OutSpec`. -/
theorem algebraic : Cert.algebraic_OutKIdeal_OutRIdeal := by
  intro m g m' g' _ hagree
  refine ⟨fun c => OutRun.yArr m c, fun c => OutRun.dnArr m c, ?_, ?_⟩
  · exact (θ_run Cert.OutKIdeal.defs _ _).mono
      (fun _ h c => ⟨(h c).1.trans (OutRun.final17 m c), (h c).2.1.trans (OutRun.final18 m c), (h c).2.2⟩)
      (Cert.OutKIdeal.Value.run_blocks (F := Ideal) m g)
  · refine (θ_run Cert.OutRIdeal.defs _ _).mono (fun _ h c => ⟨(h c).1.trans ?_, (h c).2.1.trans ?_, (h c).2.2⟩)
      (Cert.OutRIdeal.Value.run (F := Ideal) m' g')
    · obtain ⟨h0, h1, h2, h3, h4, h5, h6, h7, h8, h9, h10, h11, h12, h13, h14, h15, h16, h17⟩ := hagree c
      rw [h0, h1, h2, h3, h4, h5, h6, h7, h8, h9, h10, h11, h12, h13, h14, h15, h16, h17]
      funext i
      refine (congrArg _ (eq_ix2 i)).trans (OutRef.y_apply _ _ _ _ _ _ _ _ _ _ _ _ _ _ _ _ _ _ (i 0) (i 1))
    · obtain ⟨h0, h1, h2, h3, h4, h5, h6, h7, h8, h9, h10, h11, h12, h13, h14, h15, h16, h17⟩ := hagree c
      rw [h0, h1, h2, h3, h4, h5, h6, h7, h8, h9, h10, h11, h12, h13, h14, h15, h16, h17]
      funext i
      refine (congrArg _ (eq_ix2 i)).trans (OutRef.dn_apply _ _ _ _ _ _ _ _ _ _ _ _ _ _ _ _ _ _ (i 0) (i 1))

end Cert.Proof.OutClaims

end
-- ==== Proof.AdaSpec.lean ====
/-
  The adapter gradients as sums, and the constant one the host lines write.
-/
module

public import proofs.«01_k».proof.Proof.Slabs

@[expose] public section

noncomputable section

namespace Cert.Proof

open Idealize.ShloMosaic
open scoped BigOperators

/-- The sum over the 4096 tokens of `l t r` times `v t j`. -/
def overTokens {W : ℕ} (l : (⟨2, ![4096, 192]⟩ : Shape).Idx → EReal) (v : (⟨2, ![4096, W]⟩ : Shape).Idx → EReal)
    (r : Fin 192) (j : Fin W) : EReal :=
  ∑ t : Fin 4096, l (ix2 t r) * v (ix2 t j)

/-- The same, scaled by the `alpha` of the adapter that row `r` belongs to. -/
def scaledOverTokens {W : ℕ} (alpha : (⟨1, ![4]⟩ : Shape).Idx → EReal) (l : (⟨2, ![4096, 192]⟩ : Shape).Idx → EReal)
    (v : (⟨2, ![4096, W]⟩ : Shape).Idx → EReal) (r : Fin 192) (j : Fin W) : EReal :=
  alpha (ix1 ⟨r.val / 48, by have := r.isLt; omega⟩) * overTokens l v r j

/-- The word of the float one reads as one. -/
theorem one_word : (Ideal.ofBits .f32 0x3F800000#32 : EReal) = 1 := by
  have h : Ideal.ofBits .f32 0x3F800000#32 = (((1 : ℝ) * (2 ^ 23 + 0 : ℕ) * (2 : ℝ) ^ ((127 : Int) - 127 - 23) : ℝ) : EReal) := rfl
  rw [h]
  norm_num

end Cert.Proof

end
-- ==== Proof.AdaFRun.lean ====
/-
  The adapter gradients of width 3584 after the kernel's run: each of the 14 grid points writes 256 columns of the three
  sums, and the blocks fill the arrays.
-/
module

public import proofs.«01_k».proof.Proof.AdaSpec
public import proofs.«01_k».proof.Proof.Gen.AdaFKIdeal.Value
public import Idealize.ShloMosaic.Lib.Pipeline.ValueKit

@[expose] public section

set_option maxRecDepth 16384

noncomputable section

namespace Cert.Proof.AdaFRun

open Idealize.ShloMosaic Idealize.ShloMosaic.TcCoe Idealize.SL.Sem Cert.AdaFKIdeal Cert.AdaFKIdeal.Gen
open scoped BigOperators

variable (m : (ℓ : Loc nD τ sig) → Buf (Elt Ideal) ℓ)

/-! ## What the body computes from its blocks -/

theorem pay1_apply (s : Vec Ideal S192x1 .f32) (l : Vec Ideal S4096x192 .bf16) (v : Vec Ideal S4096x256 .bf16) (r : Fin 192) (q : Fin 256) :
    k0_pay1 s l v (ix2 r q) = s (ix2 r (0 : Fin 1)) * overTokens l v r q := by
  unfold overTokens
  pointwise [k0_pay1]

theorem pay2_apply (s : Vec Ideal S192x1 .f32) (l : Vec Ideal S4096x192 .bf16) (v : Vec Ideal S4096x256 .bf16) (r : Fin 192) (q : Fin 256) :
    k0_pay2 s l v (ix2 r q) = s (ix2 r (0 : Fin 1)) * overTokens l v r q := by
  unfold overTokens
  pointwise [k0_pay2]

theorem pay3_apply (s : Vec Ideal S192x1 .f32) (l : Vec Ideal S4096x192 .bf16) (v : Vec Ideal S4096x256 .bf16) (r : Fin 192) (q : Fin 256) :
    k0_pay3 s l v (ix2 r q) = s (ix2 r (0 : Fin 1)) * overTokens l v r q := by
  unfold overTokens
  pointwise [k0_pay3]

/-! ## The column of scales -/

theorem v2_eq (c : Dev nD) : (V m c main_v2 : Vec Ideal S192x1 .f32)
    = broadcastInDim S192x1 ![0] bcast_S192_S192x1_0 (shapeCast S192 (broadcastInDim S4x48 ![0] bcast_S4_S4x48_0 (m ((c : Thread nD τ).loc main_arg6))) shapeCasts_S4x48_S192) := by
  simp only [V, hostOps0]
  after_results
  rfl

theorem v2_apply (c : Dev nD) (r : Fin 192) : (V m c main_v2 : Vec Ideal S192x1 .f32) (ix2 r (0 : Fin 1))
    = (m ((c : Thread nD τ).loc main_arg6) : Vec Ideal S4 .f32) (ix1 ⟨r.val / 48, by have := r.isLt; omega⟩) := by
  rw [v2_eq]
  pointwise []

theorem v3_eq (c : Dev nD) : (V m c main_v3 : Vec Ideal S192x1 .f32)
    = (broadcastInDim S192x1 ![] bcast_S_S192x1 (constant (F := Ideal) S_ .f32 0x3F800000#32) : Vec Ideal S192x1 .f32) := by
  simp only [V, hostOps0]
  after_results

theorem v3_apply (c : Dev nD) (r : Fin 192) : (V m c main_v3 : Vec Ideal S192x1 .f32) (ix2 r (0 : Fin 1)) = (1 : EReal) := by
  rw [v3_eq]
  exact one_word

/-! ## The blocks a grid point reads -/

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, t.val] := by decide +kernel
theorem idx4 : ∀ t : Fin grid0.N, win0_4.index t = ![0, t.val] := by decide +kernel
theorem idx5 : ∀ t : Fin grid0.N, win0_5.index t = ![0, t.val] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, t.val] := by decide +kernel
theorem idx10 : ∀ t : Fin grid0.N, win0_10.index t = ![0, t.val] := by decide +kernel
theorem idx11 : ∀ t : Fin grid0.N, win0_11.index t = ![0, t.val] := by decide +kernel

/-- The array column of a point's block column `q`. -/
def col (t : Fin grid0.N) (q : Fin 256) : Fin 3584 := ⟨t.val * 256 + q.val, by have := t.isLt; have h : grid0.N = 14 := N_0; have := q.isLt; omega⟩

theorem blk0 (c : Dev nD) (t : Fin grid0.N) (p : Fin 4096) (r : Fin 192) : iblk m c 0 t (ix2 p r) = (m ((c : Thread nD τ).loc main_arg0)) (ix2 p r) := by
  blk_ext [iblk, V_main_arg0, idx0 t]
theorem blk1 (c : Dev nD) (t : Fin grid0.N) (p : Fin 4096) (r : Fin 192) : iblk m c 1 t (ix2 p r) = (m ((c : Thread nD τ).loc main_arg1)) (ix2 p r) := by
  blk_ext [iblk, V_main_arg1, idx1 t]
theorem blk2 (c : Dev nD) (t : Fin grid0.N) (p : Fin 4096) (r : Fin 192) : iblk m c 2 t (ix2 p r) = (m ((c : Thread nD τ).loc main_arg2)) (ix2 p r) := by
  blk_ext [iblk, V_main_arg2, idx2 t]
theorem blk3 (c : Dev nD) (t : Fin grid0.N) (p : Fin 4096) (q : Fin 256) : iblk m c 3 t (ix2 p q) = (m ((c : Thread nD τ).loc main_arg3)) (ix2 p (col t q)) := by
  blk_ext [iblk, V_main_arg3, col, idx3 t]
theorem blk4 (c : Dev nD) (t : Fin grid0.N) (p : Fin 4096) (q : Fin 256) : iblk m c 4 t (ix2 p q) = (m ((c : Thread nD τ).loc main_arg4)) (ix2 p (col t q)) := by
  blk_ext [iblk, V_main_arg4, col, idx4 t]
theorem blk5 (c : Dev nD) (t : Fin grid0.N) (p : Fin 4096) (q : Fin 256) : iblk m c 5 t (ix2 p q) = (m ((c : Thread nD τ).loc main_arg5)) (ix2 p (col t q)) := by
  blk_ext [iblk, V_main_arg5, col, idx5 t]
theorem blk6 (c : Dev nD) (t : Fin grid0.N) (r : Fin 192) : iblk m c 6 t (ix2 r (0 : Fin 1)) = (V m c main_v2 : _) (ix2 r (0 : Fin 1)) := by
  blk_ext [iblk, idx6 t]
theorem blk7 (c : Dev nD) (t : Fin grid0.N) (r : Fin 192) : iblk m c 7 t (ix2 r (0 : Fin 1)) = (V m c main_v2 : _) (ix2 r (0 : Fin 1)) := by
  blk_ext [iblk, idx7 t]
theorem blk8 (c : Dev nD) (t : Fin grid0.N) (r : Fin 192) : iblk m c 8 t (ix2 r (0 : Fin 1)) = (V m c main_v3 : _) (ix2 r (0 : Fin 1)) := by
  blk_ext [iblk, idx8 t]

/-! ## The three arrays -/

def gateArr (c : Dev nD) : Vec Ideal S192x3584 .f32 := fun i =>
  scaledOverTokens (m ((c : Thread nD τ).loc main_arg6)) (m ((c : Thread nD τ).loc main_arg0)) (m ((c : Thread nD τ).loc main_arg3)) (i 0) (i 1)
def upArr (c : Dev nD) : Vec Ideal S192x3584 .f32 := fun i =>
  scaledOverTokens (m ((c : Thread nD τ).loc main_arg6)) (m ((c : Thread nD τ).loc main_arg1)) (m ((c : Thread nD τ).loc main_arg4)) (i 0) (i 1)
def downArr (c : Dev nD) : Vec Ideal S192x3584 .f32 := fun i =>
  overTokens (m ((c : Thread nD τ).loc main_arg2)) (m ((c : Thread nD τ).loc main_arg5)) (i 0) (i 1)

theorem hz2 : (![0, 0] : Fin 2 → Nat) = fun _ => 0 := by
  funext a
  match a with
  | ⟨0, _⟩ => rfl
  | ⟨1, _⟩ => rfl

theorem out9_apply (x0 x1 x2 : Vec Ideal S4096x192 .bf16) (x3 x4 x5 : Vec Ideal S4096x256 .bf16) (x6 x7 x8 : Vec Ideal S192x1 .f32) (r : Fin 192) (q : Fin 256) :
    out0_9 x0 x1 x2 x3 x4 x5 x6 x7 x8 (ix2 r q) = x6 (ix2 r (0 : Fin 1)) * overTokens x0 x3 r q := by
  unfold out0_9
  rw [View.ld_unit_zero hz2, View.ld_unit_zero hz2, View.ld_unit_zero hz2, View.canon_unit_zero hz2]
  exact pay1_apply _ _ _ r q
theorem out10_apply (x0 x1 x2 : Vec Ideal S4096x192 .bf16) (x3 x4 x5 : Vec Ideal S4096x256 .bf16) (x6 x7 x8 : Vec Ideal S192x1 .f32) (r : Fin 192) (q : Fin 256) :
    out0_10 x0 x1 x2 x3 x4 x5 x6 x7 x8 (ix2 r q) = x7 (ix2 r (0 : Fin 1)) * overTokens x1 x4 r q := by
  unfold out0_10
  rw [View.ld_unit_zero hz2, View.ld_unit_zero hz2, View.ld_unit_zero hz2, View.canon_unit_zero hz2]
  exact pay2_apply _ _ _ r q
theorem out11_apply (x0 x1 x2 : Vec Ideal S4096x192 .bf16) (x3 x4 x5 : Vec Ideal S4096x256 .bf16) (x6 x7 x8 : Vec Ideal S192x1 .f32) (r : Fin 192) (q : Fin 256) :
    out0_11 x0 x1 x2 x3 x4 x5 x6 x7 x8 (ix2 r q) = x8 (ix2 r (0 : Fin 1)) * overTokens x2 x5 r q := by
  unfold out0_11
  rw [View.ld_unit_zero hz2, View.ld_unit_zero hz2, View.ld_unit_zero hz2, View.canon_unit_zero hz2]
  exact pay3_apply _ _ _ r q

theorem point9 (c : Dev nD) (t : Fin grid0.N) (r : Fin 192) (q : Fin 256) :
    out0_9 (iblk m c 0 t) (iblk m c 1 t) (iblk m c 2 t) (iblk m c 3 t) (iblk m c 4 t) (iblk m c 5 t) (iblk m c 6 t) (iblk m c 7 t) (iblk m c 8 t) (ix2 r q)
      = scaledOverTokens (m ((c : Thread nD τ).loc main_arg6)) (m ((c : Thread nD τ).loc main_arg0)) (m ((c : Thread nD τ).loc main_arg3)) r (col t q) := by
  rw [out9_apply]
  unfold scaledOverTokens overTokens
  simp only [blk0, blk3, (blk6 m c t _).trans (v2_apply m c _)]

theorem final9 (c : Dev nD) : (dats m 0 c).arrAt 9 cfg0.N = gateArr m c := by
  refine (dats m 0 c).arrAt_eq_of_covers 9 _ (by decide +kernel) fun t hf y => ?_
  have hr : (((cfg0.win 9).blk t).view.emb y : S192x3584.Idx) 0 = y 0 := by
    refine Fin.ext ?_
    blk_simp [idx9 t]
  have hc : (((cfg0.win 9).blk t).view.emb y : S192x3584.Idx) 1 = col t (y 1) := by
    refine Fin.ext ?_
    blk_simp [idx9 t, col]
  show _ = gateArr m c _
  unfold gateArr
  rw [hr, hc]
  blk_simp
  rw [after0_9]
  exact (congrArg _ (eq_ix2 _)).trans (point9 m c t (y 0) (y 1))

theorem point10 (c : Dev nD) (t : Fin grid0.N) (r : Fin 192) (q : Fin 256) :
    out0_10 (iblk m c 0 t) (iblk m c 1 t) (iblk m c 2 t) (iblk m c 3 t) (iblk m c 4 t) (iblk m c 5 t) (iblk m c 6 t) (iblk m c 7 t) (iblk m c 8 t) (ix2 r q)
      = scaledOverTokens (m ((c : Thread nD τ).loc main_arg6)) (m ((c : Thread nD τ).loc main_arg1)) (m ((c : Thread nD τ).loc main_arg4)) r (col t q) := by
  rw [out10_apply]
  unfold scaledOverTokens overTokens
  simp only [blk1, blk4, (blk7 m c t _).trans (v2_apply m c _)]

theorem final10 (c : Dev nD) : (dats m 0 c).arrAt 10 cfg0.N = upArr m c := by
  refine (dats m 0 c).arrAt_eq_of_covers 10 _ (by decide +kernel) fun t hf y => ?_
  have hr : (((cfg0.win 10).blk t).view.emb y : S192x3584.Idx) 0 = y 0 := by
    refine Fin.ext ?_
    blk_simp [idx10 t]
  have hc : (((cfg0.win 10).blk t).view.emb y : S192x3584.Idx) 1 = col t (y 1) := by
    refine Fin.ext ?_
    blk_simp [idx10 t, col]
  show _ = upArr m c _
  unfold upArr
  rw [hr, hc]
  blk_simp
  rw [after0_10]
  exact (congrArg _ (eq_ix2 _)).trans (point10 m c t (y 0) (y 1))

theorem point11 (c : Dev nD) (t : Fin grid0.N) (r : Fin 192) (q : Fin 256) :
    out0_11 (iblk m c 0 t) (iblk m c 1 t) (iblk m c 2 t) (iblk m c 3 t) (iblk m c 4 t) (iblk m c 5 t) (iblk m c 6 t) (iblk m c 7 t) (iblk m c 8 t) (ix2 r q)
      = overTokens (m ((c : Thread nD τ).loc main_arg2)) (m ((c : Thread nD τ).loc main_arg5)) r (col t q) := by
  rw [out11_apply]
  unfold overTokens
  simp only [blk2, blk5, (blk8 m c t _).trans (v3_apply m c _), one_mul]

theorem final11 (c : Dev nD) : (dats m 0 c).arrAt 11 cfg0.N = downArr m c := by
  refine (dats m 0 c).arrAt_eq_of_covers 11 _ (by decide +kernel) fun t hf y => ?_
  have hr : (((cfg0.win 11).blk t).view.emb y : S192x3584.Idx) 0 = y 0 := by
    refine Fin.ext ?_
    blk_simp [idx11 t]
  have hc : (((cfg0.win 11).blk t).view.emb y : S192x3584.Idx) 1 = col t (y 1) := by
    refine Fin.ext ?_
    blk_simp [idx11 t, col]
  show _ = downArr m c _
  unfold downArr
  rw [hr, hc]
  blk_simp
  rw [after0_11]
  exact (congrArg _ (eq_ix2 _)).trans (point11 m c t (y 0) (y 1))

end Cert.Proof.AdaFRun

end
-- ==== Proof.AdaFRef.lean ====
/-
  The reference of the adapter gradients of width 3584, read at an index.
-/
module

public import proofs.«01_k».proof.Proof.AdaSpec
public import proofs.«01_k».proof.Proof.Gen.AdaFRIdeal.Run

@[expose] public section

noncomputable section

namespace Cert.Proof.AdaFRef

open Idealize.ShloMosaic Cert.AdaFRIdeal Cert.AdaFRIdeal.Gen
open scoped BigOperators

theorem plain_apply (l : Vec Ideal S4096x192 .bf16) (v : Vec Ideal S4096x3584 .bf16) (r : Fin 192) (j : Fin 3584) :
    (Host.dotGeneral (F := Ideal) (φ₁ := .bf16) (φ₂ := .bf16) dot_S4096x192_S4096x3584_S192x3584_0_0_1_1_n_n none l v) (ix2 r j) = overTokens l v r j := by
  unfold overTokens
  pointwise []

theorem scaled_apply (a : Vec Ideal S4 .f32) (l : Vec Ideal S4096x192 .bf16) (v : Vec Ideal S4096x3584 .bf16) (r : Fin 192) (j : Fin 3584) :
    (mulf (F := Ideal) (φ := .f32) (broadcastInDim S192x3584 ![0, 1] bcast_S192x1_S192x3584_0_1 (broadcastInDim S192x1 ![0] bcast_S192_S192x1_0 (shapeCast S192 (broadcastInDim S4x48 ![0] bcast_S4_S4x48_0 a) shapeCasts_S4x48_S192)))
      (Host.dotGeneral (F := Ideal) (φ₁ := .bf16) (φ₂ := .bf16) dot_S4096x192_S4096x3584_S192x3584_0_0_1_1_n_n none l v)) (ix2 r j) = scaledOverTokens a l v r j := by
  unfold scaledOverTokens overTokens
  pointwise []

end Cert.Proof.AdaFRef

end
-- ==== Proof.AdaFClaims.lean ====
/-
  The claims of the adapter gradients of width 3584: their frames, the idealized text against the exact one, and the kernel
  against the reference over the extended reals.
-/
module

public import proofs.«01_k».proof.Defs
public import proofs.«01_k».proof.Proof.AdaFRun
public import proofs.«01_k».proof.Proof.AdaFRef
public import proofs.«01_k».proof.Proof.Gen.AdaFK.Frame

@[expose] public section

noncomputable section

namespace Cert.Proof.AdaFClaims

open Idealize.ShloMosaic Idealize.ShloMosaic.TcCoe Idealize.SL.Sem

theorem frame_k : Cert.quiescent_AdaFK := fun m ρ _ => Cert.AdaFK.Gen.frame m ρ
theorem frame_ki : Cert.quiescent_AdaFKIdeal := fun m ρ _ => Cert.AdaFKIdeal.Gen.frame m ρ
theorem frame_ri : Cert.quiescent_AdaFRIdeal := fun m ρ _ =>
  (θ_run Cert.AdaFRIdeal.defs _ _).mono (fun r h => ⟨fun c => (h c).2.2.2, sem_eq_zero_of_no_sems (by decide) r.2⟩)
    (Cert.AdaFRIdeal.Value.run (F := Ideal) m ρ)
theorem preserves : Cert.preserves_AdaFK_AdaFKIdeal := trivial

/-- Both programs end with the three gradients at the sums of `AdaSpec`. -/
theorem algebraic : Cert.algebraic_AdaFKIdeal_AdaFRIdeal := by
  intro m g m' g' _ hagree
  refine ⟨fun c => AdaFRun.gateArr m c, fun c => AdaFRun.upArr m c, fun c => AdaFRun.downArr m c, ?_, ?_⟩
  · exact (θ_run Cert.AdaFKIdeal.defs _ _).mono
      (fun _ h c => ⟨(h c).1.trans (AdaFRun.final9 m c), (h c).2.1.trans (AdaFRun.final10 m c), (h c).2.2.1.trans (AdaFRun.final11 m c), (h c).2.2.2⟩)
      (Cert.AdaFKIdeal.Value.run_blocks (F := Ideal) m g)
  · refine (θ_run Cert.AdaFRIdeal.defs _ _).mono (fun _ h c => ⟨(h c).1.trans ?_, (h c).2.1.trans ?_, (h c).2.2.1.trans ?_, (h c).2.2.2⟩)
      (Cert.AdaFRIdeal.Value.run (F := Ideal) m' g')
    · obtain ⟨h0, h1, h2, h3, h4, h5, h6⟩ := hagree c
      rw [h0, h3, h6]
      funext i
      exact (congrArg _ (eq_ix2 i)).trans (AdaFRef.scaled_apply _ _ _ (i 0) (i 1))
    · obtain ⟨h0, h1, h2, h3, h4, h5, h6⟩ := hagree c
      rw [h1, h4, h6]
      funext i
      exact (congrArg _ (eq_ix2 i)).trans (AdaFRef.scaled_apply _ _ _ (i 0) (i 1))
    · obtain ⟨h0, h1, h2, h3, h4, h5, h6⟩ := hagree c
      rw [h2, h5]
      funext i
      exact (congrArg _ (eq_ix2 i)).trans (AdaFRef.plain_apply _ _ (i 0) (i 1))

end Cert.Proof.AdaFClaims

end
-- ==== Proof.AdaDRun.lean ====
/-
  The adapter gradients of width 8192 after the kernel's run: each of the 32 grid points writes 256 columns of the three
  sums, and the blocks fill the arrays.
-/
module

public import proofs.«01_k».proof.Proof.AdaSpec
public import proofs.«01_k».proof.Proof.Gen.AdaDKIdeal.Value
public import Idealize.ShloMosaic.Lib.Pipeline.ValueKit

@[expose] public section

set_option maxRecDepth 16384

noncomputable section

namespace Cert.Proof.AdaDRun

open Idealize.ShloMosaic Idealize.ShloMosaic.TcCoe Idealize.SL.Sem Cert.AdaDKIdeal Cert.AdaDKIdeal.Gen
open scoped BigOperators

variable (m : (ℓ : Loc nD τ sig) → Buf (Elt Ideal) ℓ)

/-! ## What the body computes from its blocks -/

theorem pay1_apply (s : Vec Ideal S192x1 .f32) (l : Vec Ideal S4096x192 .bf16) (v : Vec Ideal S4096x256 .bf16) (r : Fin 192) (q : Fin 256) :
    k0_pay1 s l v (ix2 r q) = s (ix2 r (0 : Fin 1)) * overTokens l v r q := by
  unfold overTokens
  pointwise [k0_pay1]

theorem pay2_apply (s : Vec Ideal S192x1 .f32) (l : Vec Ideal S4096x192 .bf16) (v : Vec Ideal S4096x256 .bf16) (r : Fin 192) (q : Fin 256) :
    k0_pay2 s l v (ix2 r q) = s (ix2 r (0 : Fin 1)) * overTokens l v r q := by
  unfold overTokens
  pointwise [k0_pay2]

theorem pay3_apply (s : Vec Ideal S192x1 .f32) (l : Vec Ideal S4096x192 .bf16) (v : Vec Ideal S4096x256 .bf16) (r : Fin 192) (q : Fin 256) :
    k0_pay3 s l v (ix2 r q) = s (ix2 r (0 : Fin 1)) * overTokens l v r q := by
  unfold overTokens
  pointwise [k0_pay3]

/-! ## The column of scales -/

theorem v2_eq (c : Dev nD) : (V m c main_v2 : Vec Ideal S192x1 .f32)
    = broadcastInDim S192x1 ![0] bcast_S192_S192x1_0 (shapeCast S192 (broadcastInDim S4x48 ![0] bcast_S4_S4x48_0 (m ((c : Thread nD τ).loc main_arg5))) shapeCasts_S4x48_S192) := by
  simp only [V, hostOps0]
  after_results
  rfl

theorem v2_apply (c : Dev nD) (r : Fin 192) : (V m c main_v2 : Vec Ideal S192x1 .f32) (ix2 r (0 : Fin 1))
    = (m ((c : Thread nD τ).loc main_arg5) : Vec Ideal S4 .f32) (ix1 ⟨r.val / 48, by have := r.isLt; omega⟩) := by
  rw [v2_eq]
  pointwise []

theorem v3_eq (c : Dev nD) : (V m c main_v3 : Vec Ideal S192x1 .f32)
    = (broadcastInDim S192x1 ![] bcast_S_S192x1 (constant (F := Ideal) S_ .f32 0x3F800000#32) : Vec Ideal S192x1 .f32) := by
  simp only [V, hostOps0]
  after_results

theorem v3_apply (c : Dev nD) (r : Fin 192) : (V m c main_v3 : Vec Ideal S192x1 .f32) (ix2 r (0 : Fin 1)) = (1 : EReal) := by
  rw [v3_eq]
  exact one_word

/-! ## The blocks a grid point reads -/

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, t.val] := by decide +kernel
theorem idx4 : ∀ t : Fin grid0.N, win0_4.index t = ![0, t.val] := by decide +kernel
theorem idx5 : ∀ t : Fin grid0.N, win0_5.index t = ![0, t.val] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, t.val] := by decide +kernel
theorem idx10 : ∀ t : Fin grid0.N, win0_10.index t = ![0, t.val] := by decide +kernel
theorem idx11 : ∀ t : Fin grid0.N, win0_11.index t = ![0, t.val] := by decide +kernel

/-- The array column of a point's block column `q`. -/
def col (t : Fin grid0.N) (q : Fin 256) : Fin 8192 := ⟨t.val * 256 + q.val, by have := t.isLt; have h : grid0.N = 32 := N_0; have := q.isLt; omega⟩

theorem blk0 (c : Dev nD) (t : Fin grid0.N) (p : Fin 4096) (r : Fin 192) : iblk m c 0 t (ix2 p r) = (m ((c : Thread nD τ).loc main_arg0)) (ix2 p r) := by
  blk_ext [iblk, V_main_arg0, idx0 t]
theorem blk1 (c : Dev nD) (t : Fin grid0.N) (p : Fin 4096) (r : Fin 192) : iblk m c 1 t (ix2 p r) = (m ((c : Thread nD τ).loc main_arg1)) (ix2 p r) := by
  blk_ext [iblk, V_main_arg1, idx1 t]
theorem blk2 (c : Dev nD) (t : Fin grid0.N) (p : Fin 4096) (r : Fin 192) : iblk m c 2 t (ix2 p r) = (m ((c : Thread nD τ).loc main_arg2)) (ix2 p r) := by
  blk_ext [iblk, V_main_arg2, idx2 t]
theorem blk3 (c : Dev nD) (t : Fin grid0.N) (p : Fin 4096) (q : Fin 256) : iblk m c 3 t (ix2 p q) = (m ((c : Thread nD τ).loc main_arg3)) (ix2 p (col t q)) := by
  blk_ext [iblk, V_main_arg3, col, idx3 t]
theorem blk4 (c : Dev nD) (t : Fin grid0.N) (p : Fin 4096) (q : Fin 256) : iblk m c 4 t (ix2 p q) = (m ((c : Thread nD τ).loc main_arg3)) (ix2 p (col t q)) := by
  blk_ext [iblk, V_main_arg3, col, idx4 t]
theorem blk5 (c : Dev nD) (t : Fin grid0.N) (p : Fin 4096) (q : Fin 256) : iblk m c 5 t (ix2 p q) = (m ((c : Thread nD τ).loc main_arg4)) (ix2 p (col t q)) := by
  blk_ext [iblk, V_main_arg4, col, idx5 t]
theorem blk6 (c : Dev nD) (t : Fin grid0.N) (r : Fin 192) : iblk m c 6 t (ix2 r (0 : Fin 1)) = (V m c main_v3 : _) (ix2 r (0 : Fin 1)) := by
  blk_ext [iblk, idx6 t]
theorem blk7 (c : Dev nD) (t : Fin grid0.N) (r : Fin 192) : iblk m c 7 t (ix2 r (0 : Fin 1)) = (V m c main_v3 : _) (ix2 r (0 : Fin 1)) := by
  blk_ext [iblk, idx7 t]
theorem blk8 (c : Dev nD) (t : Fin grid0.N) (r : Fin 192) : iblk m c 8 t (ix2 r (0 : Fin 1)) = (V m c main_v2 : _) (ix2 r (0 : Fin 1)) := by
  blk_ext [iblk, idx8 t]

/-! ## The three arrays -/

def gateArr (c : Dev nD) : Vec Ideal S192x8192 .f32 := fun i =>
  overTokens (m ((c : Thread nD τ).loc main_arg0)) (m ((c : Thread nD τ).loc main_arg3)) (i 0) (i 1)
def upArr (c : Dev nD) : Vec Ideal S192x8192 .f32 := fun i =>
  overTokens (m ((c : Thread nD τ).loc main_arg1)) (m ((c : Thread nD τ).loc main_arg3)) (i 0) (i 1)
def downArr (c : Dev nD) : Vec Ideal S192x8192 .f32 := fun i =>
  scaledOverTokens (m ((c : Thread nD τ).loc main_arg5)) (m ((c : Thread nD τ).loc main_arg2)) (m ((c : Thread nD τ).loc main_arg4)) (i 0) (i 1)

theorem hz2 : (![0, 0] : Fin 2 → Nat) = fun _ => 0 := by
  funext a
  match a with
  | ⟨0, _⟩ => rfl
  | ⟨1, _⟩ => rfl

theorem out9_apply (x0 x1 x2 : Vec Ideal S4096x192 .bf16) (x3 x4 x5 : Vec Ideal S4096x256 .bf16) (x6 x7 x8 : Vec Ideal S192x1 .f32) (r : Fin 192) (q : Fin 256) :
    out0_9 x0 x1 x2 x3 x4 x5 x6 x7 x8 (ix2 r q) = x6 (ix2 r (0 : Fin 1)) * overTokens x0 x3 r q := by
  unfold out0_9
  rw [View.ld_unit_zero hz2, View.ld_unit_zero hz2, View.ld_unit_zero hz2, View.canon_unit_zero hz2]
  exact pay1_apply _ _ _ r q
theorem out10_apply (x0 x1 x2 : Vec Ideal S4096x192 .bf16) (x3 x4 x5 : Vec Ideal S4096x256 .bf16) (x6 x7 x8 : Vec Ideal S192x1 .f32) (r : Fin 192) (q : Fin 256) :
    out0_10 x0 x1 x2 x3 x4 x5 x6 x7 x8 (ix2 r q) = x7 (ix2 r (0 : Fin 1)) * overTokens x1 x4 r q := by
  unfold out0_10
  rw [View.ld_unit_zero hz2, View.ld_unit_zero hz2, View.ld_unit_zero hz2, View.canon_unit_zero hz2]
  exact pay2_apply _ _ _ r q
theorem out11_apply (x0 x1 x2 : Vec Ideal S4096x192 .bf16) (x3 x4 x5 : Vec Ideal S4096x256 .bf16) (x6 x7 x8 : Vec Ideal S192x1 .f32) (r : Fin 192) (q : Fin 256) :
    out0_11 x0 x1 x2 x3 x4 x5 x6 x7 x8 (ix2 r q) = x8 (ix2 r (0 : Fin 1)) * overTokens x2 x5 r q := by
  unfold out0_11
  rw [View.ld_unit_zero hz2, View.ld_unit_zero hz2, View.ld_unit_zero hz2, View.canon_unit_zero hz2]
  exact pay3_apply _ _ _ r q

theorem point9 (c : Dev nD) (t : Fin grid0.N) (r : Fin 192) (q : Fin 256) :
    out0_9 (iblk m c 0 t) (iblk m c 1 t) (iblk m c 2 t) (iblk m c 3 t) (iblk m c 4 t) (iblk m c 5 t) (iblk m c 6 t) (iblk m c 7 t) (iblk m c 8 t) (ix2 r q)
      = overTokens (m ((c : Thread nD τ).loc main_arg0)) (m ((c : Thread nD τ).loc main_arg3)) r (col t q) := by
  rw [out9_apply]
  unfold overTokens
  simp only [blk0, blk3, (blk6 m c t _).trans (v3_apply m c _), one_mul]

theorem final9 (c : Dev nD) : (dats m 0 c).arrAt 9 cfg0.N = gateArr m c := by
  refine (dats m 0 c).arrAt_eq_of_covers 9 _ (by decide +kernel) fun t hf y => ?_
  have hr : (((cfg0.win 9).blk t).view.emb y : S192x8192.Idx) 0 = y 0 := by
    refine Fin.ext ?_
    blk_simp [idx9 t]
  have hc : (((cfg0.win 9).blk t).view.emb y : S192x8192.Idx) 1 = col t (y 1) := by
    refine Fin.ext ?_
    blk_simp [idx9 t, col]
  show _ = gateArr m c _
  unfold gateArr
  rw [hr, hc]
  blk_simp
  rw [after0_9]
  exact (congrArg _ (eq_ix2 _)).trans (point9 m c t (y 0) (y 1))

theorem point10 (c : Dev nD) (t : Fin grid0.N) (r : Fin 192) (q : Fin 256) :
    out0_10 (iblk m c 0 t) (iblk m c 1 t) (iblk m c 2 t) (iblk m c 3 t) (iblk m c 4 t) (iblk m c 5 t) (iblk m c 6 t) (iblk m c 7 t) (iblk m c 8 t) (ix2 r q)
      = overTokens (m ((c : Thread nD τ).loc main_arg1)) (m ((c : Thread nD τ).loc main_arg3)) r (col t q) := by
  rw [out10_apply]
  unfold overTokens
  simp only [blk1, blk4, (blk7 m c t _).trans (v3_apply m c _), one_mul]

theorem final10 (c : Dev nD) : (dats m 0 c).arrAt 10 cfg0.N = upArr m c := by
  refine (dats m 0 c).arrAt_eq_of_covers 10 _ (by decide +kernel) fun t hf y => ?_
  have hr : (((cfg0.win 10).blk t).view.emb y : S192x8192.Idx) 0 = y 0 := by
    refine Fin.ext ?_
    blk_simp [idx10 t]
  have hc : (((cfg0.win 10).blk t).view.emb y : S192x8192.Idx) 1 = col t (y 1) := by
    refine Fin.ext ?_
    blk_simp [idx10 t, col]
  show _ = upArr m c _
  unfold upArr
  rw [hr, hc]
  blk_simp
  rw [after0_10]
  exact (congrArg _ (eq_ix2 _)).trans (point10 m c t (y 0) (y 1))

theorem point11 (c : Dev nD) (t : Fin grid0.N) (r : Fin 192) (q : Fin 256) :
    out0_11 (iblk m c 0 t) (iblk m c 1 t) (iblk m c 2 t) (iblk m c 3 t) (iblk m c 4 t) (iblk m c 5 t) (iblk m c 6 t) (iblk m c 7 t) (iblk m c 8 t) (ix2 r q)
      = scaledOverTokens (m ((c : Thread nD τ).loc main_arg5)) (m ((c : Thread nD τ).loc main_arg2)) (m ((c : Thread nD τ).loc main_arg4)) r (col t q) := by
  rw [out11_apply]
  unfold scaledOverTokens overTokens
  simp only [blk2, blk5, (blk8 m c t _).trans (v2_apply m c _)]

theorem final11 (c : Dev nD) : (dats m 0 c).arrAt 11 cfg0.N = downArr m c := by
  refine (dats m 0 c).arrAt_eq_of_covers 11 _ (by decide +kernel) fun t hf y => ?_
  have hr : (((cfg0.win 11).blk t).view.emb y : S192x8192.Idx) 0 = y 0 := by
    refine Fin.ext ?_
    blk_simp [idx11 t]
  have hc : (((cfg0.win 11).blk t).view.emb y : S192x8192.Idx) 1 = col t (y 1) := by
    refine Fin.ext ?_
    blk_simp [idx11 t, col]
  show _ = downArr m c _
  unfold downArr
  rw [hr, hc]
  blk_simp
  rw [after0_11]
  exact (congrArg _ (eq_ix2 _)).trans (point11 m c t (y 0) (y 1))

end Cert.Proof.AdaDRun

end
-- ==== Proof.AdaDRef.lean ====
/-
  The reference of the adapter gradients of width 8192, read at an index.
-/
module

public import proofs.«01_k».proof.Proof.AdaSpec
public import proofs.«01_k».proof.Proof.Gen.AdaDRIdeal.Run

@[expose] public section

noncomputable section

namespace Cert.Proof.AdaDRef

open Idealize.ShloMosaic Cert.AdaDRIdeal Cert.AdaDRIdeal.Gen
open scoped BigOperators

theorem plain_apply (l : Vec Ideal S4096x192 .bf16) (v : Vec Ideal S4096x8192 .bf16) (r : Fin 192) (j : Fin 8192) :
    (Host.dotGeneral (F := Ideal) (φ₁ := .bf16) (φ₂ := .bf16) dot_S4096x192_S4096x8192_S192x8192_0_0_1_1_n_n none l v) (ix2 r j) = overTokens l v r j := by
  unfold overTokens
  pointwise []

theorem scaled_apply (a : Vec Ideal S4 .f32) (l : Vec Ideal S4096x192 .bf16) (v : Vec Ideal S4096x8192 .bf16) (r : Fin 192) (j : Fin 8192) :
    (mulf (F := Ideal) (φ := .f32) (broadcastInDim S192x8192 ![0, 1] bcast_S192x1_S192x8192_0_1 (broadcastInDim S192x1 ![0] bcast_S192_S192x1_0 (shapeCast S192 (broadcastInDim S4x48 ![0] bcast_S4_S4x48_0 a) shapeCasts_S4x48_S192)))
      (Host.dotGeneral (F := Ideal) (φ₁ := .bf16) (φ₂ := .bf16) dot_S4096x192_S4096x8192_S192x8192_0_0_1_1_n_n none l v)) (ix2 r j) = scaledOverTokens a l v r j := by
  unfold scaledOverTokens overTokens
  pointwise []

end Cert.Proof.AdaDRef

end
-- ==== Proof.AdaDClaims.lean ====
/-
  The claims of the adapter gradients of width 8192: their frames, the idealized text against the exact one, and the kernel
  against the reference over the extended reals.
-/
module

public import proofs.«01_k».proof.Defs
public import proofs.«01_k».proof.Proof.AdaDRun
public import proofs.«01_k».proof.Proof.AdaDRef
public import proofs.«01_k».proof.Proof.Gen.AdaDK.Frame

@[expose] public section

noncomputable section

namespace Cert.Proof.AdaDClaims

open Idealize.ShloMosaic Idealize.ShloMosaic.TcCoe Idealize.SL.Sem

theorem frame_k : Cert.quiescent_AdaDK := fun m ρ _ => Cert.AdaDK.Gen.frame m ρ
theorem frame_ki : Cert.quiescent_AdaDKIdeal := fun m ρ _ => Cert.AdaDKIdeal.Gen.frame m ρ
theorem frame_ri : Cert.quiescent_AdaDRIdeal := fun m ρ _ =>
  (θ_run Cert.AdaDRIdeal.defs _ _).mono (fun r h => ⟨fun c => (h c).2.2.2, sem_eq_zero_of_no_sems (by decide) r.2⟩)
    (Cert.AdaDRIdeal.Value.run (F := Ideal) m ρ)
theorem preserves : Cert.preserves_AdaDK_AdaDKIdeal := trivial

/-- Both programs end with the three gradients at the sums of `AdaSpec`. -/
theorem algebraic : Cert.algebraic_AdaDKIdeal_AdaDRIdeal := by
  intro m g m' g' _ hagree
  refine ⟨fun c => AdaDRun.gateArr m c, fun c => AdaDRun.upArr m c, fun c => AdaDRun.downArr m c, ?_, ?_⟩
  · exact (θ_run Cert.AdaDKIdeal.defs _ _).mono
      (fun _ h c => ⟨(h c).1.trans (AdaDRun.final9 m c), (h c).2.1.trans (AdaDRun.final10 m c), (h c).2.2.1.trans (AdaDRun.final11 m c), (h c).2.2.2⟩)
      (Cert.AdaDKIdeal.Value.run_blocks (F := Ideal) m g)
  · refine (θ_run Cert.AdaDRIdeal.defs _ _).mono (fun _ h c => ⟨(h c).1.trans ?_, (h c).2.1.trans ?_, (h c).2.2.1.trans ?_, (h c).2.2.2⟩)
      (Cert.AdaDRIdeal.Value.run (F := Ideal) m' g')
    · obtain ⟨h0, h1, h2, h3, h4, h5⟩ := hagree c
      rw [h0, h3]
      funext i
      exact (congrArg _ (eq_ix2 i)).trans (AdaDRef.plain_apply _ _ (i 0) (i 1))
    · obtain ⟨h0, h1, h2, h3, h4, h5⟩ := hagree c
      rw [h1, h3]
      funext i
      exact (congrArg _ (eq_ix2 i)).trans (AdaDRef.plain_apply _ _ (i 0) (i 1))
    · obtain ⟨h0, h1, h2, h3, h4, h5⟩ := hagree c
      rw [h2, h4, h5]
      funext i
      exact (congrArg _ (eq_ix2 i)).trans (AdaDRef.scaled_apply _ _ _ (i 0) (i 1))

end Cert.Proof.AdaDClaims

end
-- ==== Proof.Level.lean ====
/-
  The exponent of a number as a level from 0 to 255: how many of the float words `1 <<< 23, …, 255 <<< 23` (the powers of
  two from `2^-126` to `2^127`, then infinity) it reaches. A binary search over the eight bits of the level finds it, and so
  does counting the words reached. The power-of-two scale of a group and the inverse of the scale are words made from it.
-/
module

public import Idealize.ShloMosaic.Lib.Pipeline.Value
public import Idealize.ShloMosaic.Lib.Pointwise
public import Idealize.ShloMosaic.Lib.WordSum

@[expose] public section

noncomputable section

namespace Cert.Proof

open Idealize.ShloMosaic
open scoped BigOperators

/-- The word with exponent field `p`, read as a float. -/
def power (p : ℕ) : EReal := Ideal.ofBits .f32 (BitVec.ofNat 32 p <<< 23)

theorem ofBits_f32 (b : BitVec 32) : Ideal.ofBits .f32 b = Ideal.ieee 8 23 b := rfl

/-- The reading of a word with sign bit clear and trailing bits clear. -/
theorem ieee_clear (b : BitVec 32) (p : ℕ) (ha : (b.extractLsb' 31 1 == 1#1) = false) (hb : (b.extractLsb' 23 8).toNat = p)
    (hc : (b.extractLsb' 0 23).toNat = 0) :
    Ideal.ieee 8 23 b = if p = 255 then ⊤ else if p = 0 then (0 : EReal) else (((2 : ℝ) ^ 23 * (2 : ℝ) ^ ((p : Int) - 127 - 23) : ℝ) : EReal) := by
  have e : Ideal.ieee 8 23 b
      = if (b.extractLsb' 23 8).toNat = 2 ^ 8 - 1 then (if (b.extractLsb' 0 23).toNat = 0 then (if (b.extractLsb' 31 1 == 1#1) then ⊥ else ⊤) else ⊥)
        else if (b.extractLsb' 23 8).toNat = 0 then
          (((if (b.extractLsb' 31 1 == 1#1) then (-1 : ℝ) else 1) * ((b.extractLsb' 0 23).toNat : ℝ) * (2 : ℝ) ^ (1 - (2 ^ (8 - 1) - 1) - 23 : Int) : ℝ) : EReal)
        else (((if (b.extractLsb' 31 1 == 1#1) then (-1 : ℝ) else 1) * ((2 ^ 23 + (b.extractLsb' 0 23).toNat : ℕ) : ℝ)
          * (2 : ℝ) ^ (((b.extractLsb' 23 8).toNat : Int) - (2 ^ (8 - 1) - 1) - 23) : ℝ) : EReal) := rfl
  rw [e, ha, hb, hc]
  rw [if_pos rfl, if_neg (by decide : ¬ (false = true))]
  rw [if_neg (by decide : ¬ (false = true))]
  have h1 : (2 : ℕ) ^ 8 - 1 = 255 := rfl
  rw [h1]
  refine if_congr Iff.rfl rfl (if_congr Iff.rfl ?_ ?_)
  · rw [Nat.cast_zero, mul_zero, zero_mul, EReal.coe_zero]
  · rw [one_mul, Nat.add_zero, Nat.cast_pow, Nat.cast_ofNat]
    norm_num

/-- The three parts of a word that has only an exponent field. -/
theorem parts : ∀ q : Fin 256, ((BitVec.ofNat 32 q.val <<< 23).extractLsb' 31 1 == 1#1) = false
      ∧ ((BitVec.ofNat 32 q.val <<< 23).extractLsb' 23 8).toNat = q.val ∧ ((BitVec.ofNat 32 q.val <<< 23).extractLsb' 0 23).toNat = 0 := by
  decide +kernel

theorem power_read (p : Fin 256) :
    power p.val = if p.val = 255 then ⊤ else if p.val = 0 then (0 : EReal) else (((2 : ℝ) ^ 23 * (2 : ℝ) ^ ((p.val : Int) - 127 - 23) : ℝ) : EReal) :=
  (ofBits_f32 _).trans (ieee_clear _ p.val (parts p).1 (parts p).2.1 (parts p).2.2)

/-- An exponent field from 1 to 254 is a power of two. -/
theorem power_eq (p : ℕ) (h1 : 1 ≤ p) (h2 : p ≤ 254) : power p = (((2 : ℝ) ^ ((p : Int) - 127) : ℝ) : EReal) := by
  have h := power_read (⟨p, by omega⟩ : Fin 256)
  have h' : power p = if p = 255 then ⊤ else if p = 0 then (0 : EReal) else (((2 : ℝ) ^ 23 * (2 : ℝ) ^ ((p : Int) - 127 - 23) : ℝ) : EReal) := h
  rw [h', if_neg (by omega), if_neg (by omega)]
  congr 1
  rw [show ((2 : ℝ) ^ 23) = (2 : ℝ) ^ (23 : Int) by norm_num, ← zpow_add₀ (by norm_num : (2 : ℝ) ≠ 0)]
  congr 1
  ring

/-- The exponent field 255 is infinity. -/
theorem power_top : power 255 = ⊤ := by
  have h : power 255 = if (255 : ℕ) = 255 then ⊤ else if (255 : ℕ) = 0 then (0 : EReal) else (((2 : ℝ) ^ 23 * (2 : ℝ) ^ (((255 : ℕ) : Int) - 127 - 23) : ℝ) : EReal) :=
    power_read (255 : Fin 256)
  rw [h, if_pos rfl]

theorem power_mono {p q : ℕ} (h1 : 1 ≤ p) (hpq : p ≤ q) (h2 : q ≤ 255) : power p ≤ power q := by
  rcases Nat.lt_or_ge q 255 with hq | hq
  · rw [power_eq p h1 (by omega), power_eq q (by omega) (by omega), EReal.coe_le_coe_iff]
    exact zpow_le_zpow_right₀ (by norm_num) (by omega)
  · have : q = 255 := by omega
    rw [this, power_top]
    exact le_top

open Classical in
/-- How many of the words with exponent fields 1 to 255 the number `x` reaches. -/
def level (x : EReal) : ℕ := ((Finset.range 255).filter fun i => power (i + 1) ≤ x).card

theorem level_le (x : EReal) : level x ≤ 255 := by
  unfold level
  exact (Finset.card_filter_le _ _).trans (by simp)

/-- The words a number reaches are those up to its level. -/
theorem power_le_iff (x : EReal) (p : ℕ) (h1 : 1 ≤ p) (h2 : p ≤ 255) : power p ≤ x ↔ p ≤ level x := by
  classical
  constructor
  · intro h
    have hsub : Finset.range p ⊆ (Finset.range 255).filter fun i => power (i + 1) ≤ x := by
      intro i hi
      have hi' := Finset.mem_range.1 hi
      exact Finset.mem_filter.2 ⟨Finset.mem_range.2 (by omega), (power_mono (by omega) (by omega) h2).trans h⟩
    have := Finset.card_le_card hsub
    rw [Finset.card_range] at this
    exact this
  · intro h
    by_contra hn
    have hsub : ((Finset.range 255).filter fun i => power (i + 1) ≤ x) ⊆ Finset.range (p - 1) := by
      intro i hi
      obtain ⟨hi1, hi2⟩ := Finset.mem_filter.1 hi
      have := Finset.mem_range.1 hi1
      refine Finset.mem_range.2 ?_
      by_contra hlt
      exact hn ((power_mono h1 (by omega) (by omega)).trans hi2)
    have := Finset.card_le_card hsub
    rw [Finset.card_range] at this
    have h3 : level x ≤ p - 1 := this
    omega

/-! ## The binary search -/

/-- One step of the search: bit `b` is taken if the word with that bit added is reached. -/
def stepW (x : EReal) (f b : BitVec 32) : BitVec 32 :=
  Scalar.select (FloatOps.cmpf (F := Ideal) (φ := .f32) .oge x (FloatOps.ofBits (F := Ideal) .f32 (IntOp.shli .vector (IntOp.addi f b) 23#32))) (IntOp.addi f b) f

/-- The eight steps. -/
def searchW (x : EReal) : BitVec 32 :=
  stepW x (stepW x (stepW x (stepW x (stepW x (stepW x (stepW x (stepW x 0#32 128#32) 64#32) 32#32) 16#32) 8#32) 4#32) 2#32) 1#32

/-- The same step on numbers. -/
def stepN (c f b : ℕ) : ℕ := if f + b ≤ c then f + b else f

theorem stepN_le (c f b : ℕ) : stepN c f b ≤ f + b := by unfold stepN; split <;> omega

theorem stepW_eq (x : EReal) (f b : ℕ) (hb : 1 ≤ b) (h : f + b ≤ 255) :
    stepW x (BitVec.ofNat 32 f) (BitVec.ofNat 32 b) = BitVec.ofNat 32 (stepN (level x) f b) := by
  have ha : IntOp.addi (BitVec.ofNat 32 f) (BitVec.ofNat 32 b) = BitVec.ofNat 32 (f + b) := (BitVec.ofNat_add f b).symm
  have hs : FloatOps.ofBits (F := Ideal) .f32 (IntOp.shli .vector (BitVec.ofNat 32 (f + b)) 23#32) = power (f + b) := by
    unfold IntOp.shli power
    rw [if_pos (by decide)]
    rfl
  unfold stepW stepN
  rw [ha, hs]
  have hc : FloatOps.cmpf (F := Ideal) (φ := .f32) .oge x (power (f + b)) = BitVec.ofBool (decide (power (f + b) ≤ x)) := rfl
  rw [hc]
  by_cases hle : power (f + b) ≤ x
  · rw [if_pos ((power_le_iff x _ (by omega) h).1 hle)]
    simp [Scalar.select, hle]
  · rw [if_neg (fun hn => hle ((power_le_iff x _ (by omega) h).2 hn))]
    simp [Scalar.select, hle]

/-- The search finds the level. -/
theorem searchW_eq (x : EReal) : searchW x = BitVec.ofNat 32 (level x) := by
  have hl := level_le x
  have b1 := stepN_le (level x) 0 128
  have b2 := stepN_le (level x) (stepN (level x) 0 128) 64
  have b3 := stepN_le (level x) (stepN (level x) (stepN (level x) 0 128) 64) 32
  have b4 := stepN_le (level x) (stepN (level x) (stepN (level x) (stepN (level x) 0 128) 64) 32) 16
  have b5 := stepN_le (level x) (stepN (level x) (stepN (level x) (stepN (level x) (stepN (level x) 0 128) 64) 32) 16) 8
  have b6 := stepN_le (level x) (stepN (level x) (stepN (level x) (stepN (level x) (stepN (level x) (stepN (level x) 0 128) 64) 32) 16) 8) 4
  have b7 := stepN_le (level x) (stepN (level x) (stepN (level x) (stepN (level x) (stepN (level x) (stepN (level x) (stepN (level x) 0 128) 64) 32) 16) 8) 4) 2
  have key : ∀ c : Fin 256, stepN c (stepN c (stepN c (stepN c (stepN c (stepN c (stepN c (stepN c 0 128) 64) 32) 16) 8) 4) 2) 1 = c.val := by
    decide +kernel
  have k := key ⟨level x, by omega⟩
  unfold searchW
  rw [stepW_eq x 0 128 (by omega) (by omega), stepW_eq x _ 64 (by omega) (by omega), stepW_eq x _ 32 (by omega) (by omega),
    stepW_eq x _ 16 (by omega) (by omega), stepW_eq x _ 8 (by omega) (by omega), stepW_eq x _ 4 (by omega) (by omega),
    stepW_eq x _ 2 (by omega) (by omega), stepW_eq x _ 1 (by omega) (by omega)]
  exact congrArg (BitVec.ofNat 32) k

/-! ## The scale and its inverse -/

/-- The word of the scale: one power of two above the exponent found, and one at exponent zero. -/
def scaleWord (l : ℕ) : BitVec 32 := if l = 0 then 0x3F800000#32 else BitVec.ofNat 32 (l + 1) <<< 23

/-- The word of the scale's inverse. -/
def invWord (l : ℕ) : BitVec 32 := if l = 0 then 0x3F800000#32 else (253#32 - BitVec.ofNat 32 l) <<< 23

/-- The scale of a group whose largest entry, over 448, is `x`. -/
def scaleOf (x : EReal) : EReal := FloatOps.ofBits (F := Ideal) .f32 (scaleWord (level x))

/-- The inverse of that scale. -/
def invOf (x : EReal) : EReal := FloatOps.ofBits (F := Ideal) .f32 (invWord (level x))

/-- The scale's word as the kernel forms it from the exponent field. -/
theorem scale_of_search (x : EReal) :
    Scalar.select (IntOp.cmpi .eq (IntOp.shli .vector (searchW x) 23#32) 0#32) 1065353216#32
      (IntOp.addi (IntOp.shli .vector (searchW x) 23#32) 8388608#32) = scaleWord (level x) := by
  rw [searchW_eq]
  have key : ∀ c : Fin 256, Scalar.select (IntOp.cmpi .eq (IntOp.shli .vector (BitVec.ofNat 32 c.val) 23#32) 0#32) 1065353216#32
      (IntOp.addi (IntOp.shli .vector (BitVec.ofNat 32 c.val) 23#32) 8388608#32) = scaleWord c.val := by decide +kernel
  exact key ⟨level x, by have := level_le x; omega⟩

/-- The inverse's word as the kernel forms it from the exponent field. -/
theorem inv_of_search (x : EReal) :
    Scalar.select (IntOp.cmpi .eq (IntOp.shli .vector (searchW x) 23#32) 0#32) 1065353216#32
      (IntOp.subi 2122317824#32 (IntOp.shli .vector (searchW x) 23#32)) = invWord (level x) := by
  rw [searchW_eq]
  have key : ∀ c : Fin 256, Scalar.select (IntOp.cmpi .eq (IntOp.shli .vector (BitVec.ofNat 32 c.val) 23#32) 0#32) 1065353216#32
      (IntOp.subi 2122317824#32 (IntOp.shli .vector (BitVec.ofNat 32 c.val) 23#32)) = invWord c.val := by decide +kernel
  exact key ⟨level x, by have := level_le x; omega⟩

/-! ## The level by counting -/

/-- The exponent read off a count of the words reached: the count less 126, and zero if none is reached. -/
def expo (n : BitVec 32) : BitVec 32 :=
  Scalar.select (IntOp.cmpi .eq (IntOp.subi n 126#32) 4294967170#32) 0#32 (IntOp.subi n 126#32)

/-- The scale's word formed from that exponent. -/
theorem scale_of_count (x : EReal) :
    IntOp.shli .vector (IntOp.addi (expo (BitVec.ofNat 32 (level x))) 127#32) 23#32 = scaleWord (level x) := by
  have key : ∀ c : Fin 256, IntOp.shli .vector (IntOp.addi (expo (BitVec.ofNat 32 c.val)) 127#32) 23#32 = scaleWord c.val := by decide +kernel
  exact key ⟨level x, by have := level_le x; omega⟩

/-- The inverse's word formed from that exponent. -/
theorem inv_of_count (x : EReal) :
    IntOp.shli .vector (IntOp.addi (IntOp.subi 0#32 (expo (BitVec.ofNat 32 (level x)))) 127#32) 23#32 = invWord (level x) := by
  have key : ∀ c : Fin 256, IntOp.shli .vector (IntOp.addi (IntOp.subi 0#32 (expo (BitVec.ofNat 32 c.val))) 127#32) 23#32 = invWord c.val := by
    decide +kernel
  exact key ⟨level x, by have := level_le x; omega⟩

/-- Adding up ones over the members of a finite set that have a property counts them. -/
theorem fold_count {ι : Type} [DecidableEq ι] (s : Finset ι) (P : ι → Prop) [DecidablePred P] :
    s.fold IntOp.addi 0#32 (fun k => if P k then 1#32 else 0#32) = BitVec.ofNat 32 (s.filter P).card := by
  induction s using Finset.induction_on with
  | empty => rfl
  | insert a s ha ih =>
    rw [Finset.fold_insert ha, ih, Finset.filter_insert]
    by_cases h : P a
    · rw [if_pos h, if_pos h, Finset.card_insert_of_notMem (fun hm => ha (Finset.mem_filter.1 hm).1)]
      rw [Nat.add_comm]
      exact (BitVec.ofNat_add 1 _).symm
    · rw [if_neg h, if_neg h]
      exact BitVec.zero_add _

/-- The count of the words reached is the level. -/
theorem count_eq (x : EReal) :
    (Finset.univ : Finset (Fin 255)).fold IntOp.addi 0#32 (fun k => BitVec.setWidth 32 (FloatOps.cmpf (F := Ideal) (φ := .f32) .oge x
      (FloatOps.ofBits (F := Ideal) .f32 (IntOp.shli .vector (IntOp.addi (IntOp.subi (BitVec.ofNat 32 k.val) 126#32) 127#32) 23#32))))
      = BitVec.ofNat 32 (level x) := by
  classical
  have hw : ∀ k : Fin 255, IntOp.shli .vector (IntOp.addi (IntOp.subi (BitVec.ofNat 32 k.val) 126#32) 127#32) 23#32
      = BitVec.ofNat 32 (k.val + 1) <<< 23 := by decide +kernel
  have hf : (fun k : Fin 255 => BitVec.setWidth 32 (FloatOps.cmpf (F := Ideal) (φ := .f32) .oge x
      (FloatOps.ofBits (F := Ideal) .f32 (IntOp.shli .vector (IntOp.addi (IntOp.subi (BitVec.ofNat 32 k.val) 126#32) 127#32) 23#32))))
      = fun k => if power (k.val + 1) ≤ x then 1#32 else 0#32 := by
    funext k
    rw [hw k]
    show BitVec.setWidth 32 (BitVec.ofBool (decide (power (k.val + 1) ≤ x))) = _
    by_cases h : power (k.val + 1) ≤ x
    · rw [if_pos h, decide_eq_true h]; rfl
    · rw [if_neg h, decide_eq_false h]; rfl
  rw [hf, fold_count]
  congr 1
  unfold level
  refine Finset.card_bij (fun k _ => k.val) ?_ ?_ ?_
  · intro k hk
    exact Finset.mem_filter.2 ⟨Finset.mem_range.2 k.isLt, (Finset.mem_filter.1 hk).2⟩
  · intro a _ b _ h
    exact Fin.ext h
  · intro i hi
    obtain ⟨h1, h2⟩ := Finset.mem_filter.1 hi
    exact ⟨⟨i, Finset.mem_range.1 h1⟩, Finset.mem_filter.2 ⟨Finset.mem_univ _, h2⟩, rfl⟩

end Cert.Proof

end
-- ==== Proof.MidSpec.lean ====
/-
  The results of the middle call as plain sums over the extended reals: the function that both the kernel and its reference
  are shown to compute. `t` is a token, `f` a column of the hidden width 3584, `d` one of the model width 8192, `r` a row of
  the stacked adapters, `k` a group of 128 columns.
-/
module

public import proofs.«01_k».proof.Proof.Slabs
public import proofs.«01_k».proof.Proof.Level

@[expose] public section

noncomputable section

namespace Cert.Proof.Mid

open Idealize.ShloMosaic
open scoped BigOperators

/-- The arrays the call reads. -/
structure In where
  hd : (⟨2, ![4096, 8192]⟩ : Shape).Idx → EReal
  dyd : (⟨2, ![4096, 8192]⟩ : Shape).Idx → EReal
  wg : (⟨2, ![3584, 8192]⟩ : Shape).Idx → EReal
  sg : (⟨2, ![28, 64]⟩ : Shape).Idx → EReal
  wu : (⟨2, ![3584, 8192]⟩ : Shape).Idx → EReal
  su : (⟨2, ![28, 64]⟩ : Shape).Idx → EReal
  wd : (⟨2, ![8192, 3584]⟩ : Shape).Idx → EReal
  sd : (⟨2, ![64, 28]⟩ : Shape).Idx → EReal
  zg : (⟨2, ![4096, 192]⟩ : Shape).Idx → EReal
  zu : (⟨2, ![4096, 192]⟩ : Shape).Idx → EReal
  dzd : (⟨2, ![4096, 192]⟩ : Shape).Idx → EReal
  bg : (⟨3, ![4, 48, 3584]⟩ : Shape).Idx → EReal
  bu : (⟨3, ![4, 48, 3584]⟩ : Shape).Idx → EReal
  ad : (⟨3, ![4, 48, 3584]⟩ : Shape).Idx → EReal
  alpha : (⟨1, ![4]⟩ : Shape).Idx → EReal
  ranks : (⟨1, ![4]⟩ : Shape).Idx → BitVec 32
  job : (⟨1, ![32]⟩ : Shape).Idx → BitVec 32

/-! ## Functions of numbers -/

/-- The constant one, as the float word both programs write. -/
def one : EReal := FloatOps.ofBits (F := Ideal) .f32 0x3F800000#32

/-- The logistic function. -/
def sig (g : EReal) : EReal := FloatOps.logistic (F := Ideal) (φ := .f32) g

/-- The activation `silu(gate) * up`. -/
def actOf (g u : EReal) : EReal := g * sig g * u

/-- The gradient at the gate. -/
def dgOf (g u d : EReal) : EReal := d * u * sig g * (one + g * (one - sig g))

/-- The gradient at the up projection. -/
def duOf (g d : EReal) : EReal := d * g * sig g

/-! ## The quantiser: one scale per group of 128 columns -/

/-- The largest magnitude of 128 numbers, times 1/448. -/
def target (v : Fin 128 → EReal) : EReal :=
  (Finset.univ : Finset (Fin 128)).fold max (FloatOps.ofBits (F := Ideal) .f32 0xFF800000#32) (fun j => FloatOps.absf (F := Ideal) (φ := .f32) (v j))
    * FloatOps.ofBits (F := Ideal) .f32 0x3B124925#32

/-- The number `x` in a group with that target: times the scale's inverse, clipped to the code's range. -/
def codeOf (x y : EReal) : EReal :=
  min (FloatOps.ofBits (F := Ideal) .f32 0x43E00000#32) (max (FloatOps.ofBits (F := Ideal) .f32 0xC3E00000#32) (x * invOf y))

/-- Group `k` of a row. -/
def group (v : Fin 3584 → EReal) (k : Fin 28) (j : Fin 128) : EReal := v ⟨k.val * 128 + j.val, by have := k.isLt; have := j.isLt; omega⟩

/-- The scale of group `k` of a row. -/
def scale (v : Fin 3584 → EReal) (k : Fin 28) : EReal := scaleOf (target (group v k))

/-- The code at column `f` of a row. -/
def code (v : Fin 3584 → EReal) (f : Fin 3584) : EReal := codeOf (v f) (target (group v ⟨f.val / 128, by have := f.isLt; omega⟩))

/-- What the code at column `f` stands for. -/
def decoded (v : Fin 3584 → EReal) (f : Fin 3584) : EReal := code v f * scale v ⟨f.val / 128, by have := f.isLt; omega⟩

/-! ## The results -/

variable (I : In) (t : Fin 4096)

/-- The gate before its activation. -/
def gate (f : Fin 3584) : EReal :=
  ∑ d : Fin 8192, I.hd (ix2 t d) * deq (R' := 28) (C' := 64) (by norm_num) (by norm_num) I.wg I.sg f d
    + alphaRow I.alpha I.job t * ∑ r : Fin 192, I.zg (ix2 t r) * stack I.bg r f

/-- The up projection. -/
def up (f : Fin 3584) : EReal :=
  ∑ d : Fin 8192, I.hd (ix2 t d) * deq (R' := 28) (C' := 64) (by norm_num) (by norm_num) I.wu I.su f d
    + alphaRow I.alpha I.job t * ∑ r : Fin 192, I.zu (ix2 t r) * stack I.bu r f

/-- The gradient at the activation. -/
def dact (f : Fin 3584) : EReal :=
  ∑ d : Fin 8192, I.dyd (ix2 t d) * deq (R' := 64) (C' := 28) (by norm_num) (by norm_num) I.wd I.sd d f
    + ∑ r : Fin 192, I.dzd (ix2 t r) * stack I.ad r f

def act (f : Fin 3584) : EReal := actOf (gate I t f) (up I t f)
def dg (f : Fin 3584) : EReal := dgOf (gate I t f) (up I t f) (dact I t f)
def du (f : Fin 3584) : EReal := duOf (gate I t f) (dact I t f)

/-- Whether row `r` of the stacked adapters belongs to the token's adapter and lies within that adapter's rank. -/
def mask (r : Fin 192) : EReal :=
  if I.job (ix1 ⟨t.val / 128, by have := t.isLt; omega⟩) = BitVec.ofNat 32 (r.val / 48)
    ∧ (BitVec.ofNat 32 (r.val % 48)).slt (I.ranks (ix1 ⟨r.val / 48, by have := r.isLt; omega⟩)) = true then 1 else 0

def zDown (r : Fin 192) : EReal := mask I t r * ∑ f : Fin 3584, decoded (act I t) f * stack I.ad r f
def dzGate (r : Fin 192) : EReal := mask I t r * alphaRow I.alpha I.job t * ∑ f : Fin 3584, dg I t f * stack I.bg r f
def dzUp (r : Fin 192) : EReal := mask I t r * alphaRow I.alpha I.job t * ∑ f : Fin 3584, du I t f * stack I.bu r f

end Cert.Proof.Mid

end
-- ==== Proof.MidHost.lean ====
/-
  The arrays the middle call's host lines make before the kernel starts, read at an index: the stacked adapters, the mask of
  the adapters' rows, the tokens' scalings and the scales spread along one axis.
-/
module

public import proofs.«01_k».proof.Proof.MidSpec
public import proofs.«01_k».proof.Proof.Gen.MidKIdeal.Frame.Runs

@[expose] public section

noncomputable section

namespace Cert.Proof.MidHost

open Idealize.ShloMosaic Idealize.ShloMosaic.TcCoe Cert.MidKIdeal Cert.MidKIdeal.Gen
open scoped BigOperators

variable (m : (ℓ : Loc nD τ sig) → Buf (Elt Ideal) ℓ)

/-- The arguments of the call. -/
def inputs (c : Dev nD) : Mid.In where
  hd := m ((c : Thread nD τ).loc main_arg0)
  dyd := m ((c : Thread nD τ).loc main_arg1)
  wg := m ((c : Thread nD τ).loc main_arg2)
  sg := m ((c : Thread nD τ).loc main_arg3)
  wu := m ((c : Thread nD τ).loc main_arg4)
  su := m ((c : Thread nD τ).loc main_arg5)
  wd := m ((c : Thread nD τ).loc main_arg6)
  sd := m ((c : Thread nD τ).loc main_arg7)
  zg := m ((c : Thread nD τ).loc main_arg8)
  zu := m ((c : Thread nD τ).loc main_arg9)
  dzd := m ((c : Thread nD τ).loc main_arg10)
  bg := m ((c : Thread nD τ).loc main_arg11)
  bu := m ((c : Thread nD τ).loc main_arg12)
  ad := m ((c : Thread nD τ).loc main_arg13)
  alpha := m ((c : Thread nD τ).loc main_arg14)
  ranks := m ((c : Thread nD τ).loc main_arg15)
  job := m ((c : Thread nD τ).loc main_arg16)

/-- The list of the host lines, flattened. -/
theorem V_eq (c : Dev nD) (b : Ref sig .tc) : V m c b = StableHlo.after (hostOps0 ++ hostOps0_1 ++ hostOps0_2) (fun b => m (c, b)) b := by
  simp only [V, List.flatten_cons, List.flatten_nil, List.append_nil, List.append_assoc]

/-- Laying the four adapters' rows one under the other reads row `r` at row `r % 48` of adapter `r / 48`. -/
theorem shapeCast_stack (w : S4x48x3584.Idx → EReal) (h : S4x48x3584.ShapeCasts S192x3584) (r : Fin 192) (f : Fin 3584) :
    shapeCast S192x3584 w h (ix2 r f) = stack w r f := by
  refine shapeCast_apply w h (ix2 r f) _ ?_
  rw [Shape.rowMajor_val_three, Shape.rowMajor_val_two]
  show (r.val / 48 * 48 + r.val % 48) * 3584 + f.val = r.val * 3584 + f.val
  omega

/-- The stacked adapter `bg` as one matrix. -/
theorem v0_eq (c : Dev nD) : (V m c main_v0 : Vec Ideal S192x3584 .bf16)
    = shapeCast S192x3584 (m ((c : Thread nD τ).loc main_arg11)) shapeCasts_S4x48x3584_S192x3584 := by
  rw [V_eq]
  simp only [hostOps0, hostOps0_1, hostOps0_2, List.cons_append, List.nil_append]
  after_results
  rfl

theorem v0_apply (c : Dev nD) (r : Fin 192) (f : Fin 3584) :
    (V m c main_v0 : Vec Ideal S192x3584 .bf16) (ix2 r f) = stack (inputs m c).bg r f := by
  rw [v0_eq]
  exact shapeCast_stack _ _ r f

/-- The stacked adapter `bu` as one matrix. -/
theorem v1_eq (c : Dev nD) : (V m c main_v1 : Vec Ideal S192x3584 .bf16)
    = shapeCast S192x3584 (m ((c : Thread nD τ).loc main_arg12)) shapeCasts_S4x48x3584_S192x3584 := by
  rw [V_eq]
  simp only [hostOps0, hostOps0_1, hostOps0_2, List.cons_append, List.nil_append]
  after_results
  rfl

theorem v1_apply (c : Dev nD) (r : Fin 192) (f : Fin 3584) :
    (V m c main_v1 : Vec Ideal S192x3584 .bf16) (ix2 r f) = stack (inputs m c).bu r f := by
  rw [v1_eq]
  exact shapeCast_stack _ _ r f

/-- The stacked adapter `ad` as one matrix. -/
theorem v2_eq (c : Dev nD) : (V m c main_v2 : Vec Ideal S192x3584 .bf16)
    = shapeCast S192x3584 (m ((c : Thread nD τ).loc main_arg13)) shapeCasts_S4x48x3584_S192x3584 := by
  rw [V_eq]
  simp only [hostOps0, hostOps0_1, hostOps0_2, List.cons_append, List.nil_append]
  after_results
  rfl

theorem v2_apply (c : Dev nD) (r : Fin 192) (f : Fin 3584) :
    (V m c main_v2 : Vec Ideal S192x3584 .bf16) (ix2 r f) = stack (inputs m c).ad r f := by
  rw [v2_eq]
  exact shapeCast_stack _ _ r f

/-- Whether each row of the stacked adapters is the token's and within its adapter's rank, as 1 or 0. -/
def maskTerm (ranks : Vec Ideal S4 .i32) (job : Vec Ideal S32 .i32) : Vec Ideal S4096x192 .f32 :=
  shapeCast S4096x192 (broadcastInDim S32x128x192 ![0, 2] bcast_S32x192_S32x128x192_0_2
    (uitofp (F := Ideal) .f32 (shapeCast S32x192 (andi
      (broadcastInDim S32x4x48 ![0, 1, 2] bcast_S32x4x1_S32x4x48_0_1_2 (broadcastInDim S32x4x1 ![0, 1] bcast_S32x4_S32x4x1_0_1
        (cmpi CmpIPredicate.eq
          (broadcastInDim S32x4 ![0, 1] bcast_S32x1_S32x4_0_1 (broadcastInDim S32x1 ![0] bcast_S32_S32x1_0 job))
          (broadcastInDim S32x4 ![0, 1] bcast_S1x4_S32x4_0_1 (broadcastInDim S1x4 ![1] bcast_S4_S1x4_1 (iotaInDim S4 32 0))))))
      (broadcastInDim S32x4x48 ![0, 1, 2] bcast_S1x4x48_S32x4x48_0_1_2 (broadcastInDim S1x4x48 ![1, 2] bcast_S4x48_S1x4x48_1_2
        (cmpi CmpIPredicate.slt
          (broadcastInDim S4x48 ![0, 1] bcast_S1x48_S4x48_0_1 (broadcastInDim S1x48 ![1] bcast_S48_S1x48_1 (iotaInDim S48 32 0)))
          (broadcastInDim S4x48 ![0, 1] bcast_S4x1_S4x48_0_1 (broadcastInDim S4x1 ![0] bcast_S4_S4x1_0 ranks))))))
      shapeCasts_S32x4x48_S32x192)))
    shapeCasts_S32x128x192_S4096x192

theorem v23_eq (c : Dev nD) : (V m c main_v23 : Vec Ideal S4096x192 .f32) = maskTerm (m ((c : Thread nD τ).loc main_arg15)) (m ((c : Thread nD τ).loc main_arg16)) := by
  rw [V_eq]
  simp only [hostOps0, hostOps0_1, hostOps0_2, List.cons_append, List.nil_append]
  after_results
  rfl

/-- Two conditions as bits, both of them, as a number. -/
theorem both_bits (a b r k : BitVec 32) :
    FloatOps.uitofp (F := Ideal) .f32 ((IntOp.cmpi .eq a b) &&& (IntOp.cmpi .slt r k))
      = if a = b ∧ r.slt k = true then (1 : EReal) else 0 := by
  by_cases h : a = b
  · by_cases h' : r.slt k = true <;> simp [IntOp.cmpi, h, h', FloatOps.uitofp]
  · have hb : (a == b) = false := by simpa using h
    by_cases h' : r.slt k = true <;> simp [IntOp.cmpi, h, hb, h', FloatOps.uitofp]

theorem maskTerm_apply (ranks : Vec Ideal S4 .i32) (job : Vec Ideal S32 .i32) (t : Fin 4096) (r : Fin 192) :
    maskTerm ranks job (ix2 t r) = if job (ix1 (⟨t.val / 128, by have := t.isLt; omega⟩ : Fin 32)) = BitVec.ofNat 32 (r.val / 48)
      ∧ (BitVec.ofNat 32 (r.val % 48)).slt (ranks (ix1 (⟨r.val / 48, by have := r.isLt; omega⟩ : Fin 4))) = true then (1 : EReal) else 0 := by
  refine Eq.trans ?_ (both_bits _ _ _ _)
  pointwise [maskTerm]
  rfl

theorem v23_apply (c : Dev nD) (t : Fin 4096) (r : Fin 192) : (V m c main_v23 : Vec Ideal S4096x192 .f32) (ix2 t r) = Mid.mask (inputs m c) t r := by
  rw [v23_eq]
  exact maskTerm_apply _ _ t r

/-- The tokens' scalings: each block's `alpha`, picked by comparing its adapter number with 0, 1, 2, 3, spread over its 128 tokens. -/
def alphaTerm (alpha : Vec Ideal S4 .f32) (job : Vec Ideal S32 .i32) : Vec Ideal S4096x1 .f32 :=
  broadcastInDim S4096x1 ![0] bcast_S4096_S4096x1_0 (shapeCast S4096 (broadcastInDim S32x128 ![0] bcast_S32_S32x128_0
    (Host.reduceAdd (F := Ideal) (φ := .f32)
      (select (cmpi CmpIPredicate.eq
          (broadcastInDim S32x4 ![0, 1] bcast_S32x1_S32x4_0_1 (broadcastInDim S32x1 ![0] bcast_S32_S32x1_0 job))
          (broadcastInDim S32x4 ![0, 1] bcast_S1x4_S32x4_0_1 (broadcastInDim S1x4 ![1] bcast_S4_S1x4_1 (iotaInDim S4 32 0))))
        (broadcastInDim S32x4 ![1] bcast_S4_S32x4_1 alpha)
        (broadcastInDim S32x4 ![] bcast_S_S32x4 (constant S_ FTy.f32 0#32)))
      (constant S_ FTy.f32 0#32) reducesTo_S32x4_S32_d1 h_S_)) shapeCasts_S32x128_S4096)

theorem v28_eq (c : Dev nD) : (V m c main_v28 : Vec Ideal S4096x1 .f32) = alphaTerm (m ((c : Thread nD τ).loc main_arg14)) (m ((c : Thread nD τ).loc main_arg16)) := by
  rw [V_eq]
  simp only [hostOps0, hostOps0_1, hostOps0_2, List.cons_append, List.nil_append]
  after_results
  rfl

theorem alphaTerm_apply (alpha : Vec Ideal S4 .f32) (job : Vec Ideal S32 .i32) (t : Fin 4096) :
    alphaTerm alpha job (ix2 t (0 : Fin 1)) = alphaRow alpha job t := by
  unfold alphaRow
  pointwise [alphaTerm, select_eq]

theorem v28_apply (c : Dev nD) (t : Fin 4096) : (V m c main_v28 : Vec Ideal S4096x1 .f32) (ix2 t (0 : Fin 1)) = alphaRow (inputs m c).alpha (inputs m c).job t := by
  rw [v28_eq]
  exact alphaTerm_apply _ _ t

/-- The scales `sg`, each spread over the 128 entries of the last axis it serves. -/
theorem v35_eq (c : Dev nD) : (V m c main_v35 : Vec Ideal S14x2x8192 .f32)
    = shapeCast S14x2x8192 (shapeCast S28x8192 (broadcastInDim S28x64x128 ![0, 1] bcast_S28x64_S28x64x128_0_1 (m ((c : Thread nD τ).loc main_arg3))) shapeCasts_S28x64x128_S28x8192) shapeCasts_S28x8192_S14x2x8192 := by
  rw [V_eq]
  simp only [hostOps0, hostOps0_1, hostOps0_2, List.cons_append, List.nil_append]
  after_results
  rfl

theorem v35_apply (c : Dev nD) (j : Fin 14) (k : Fin 2) (d : Fin 8192) : (V m c main_v35 : Vec Ideal S14x2x8192 .f32) (ix3 j k d)
    = (inputs m c).sg (ix2 (⟨j.val * 2 + k.val, by have := j.isLt; have := k.isLt; omega⟩ : Fin 28) (⟨d.val / 128, by have := d.isLt; omega⟩ : Fin 64)) := by
  rw [v35_eq]
  show _ = (((m ((c : Thread nD τ).loc main_arg3)) : Vec Ideal S28x64 .f32)) _
  pointwise []

/-- The scales `su`, each spread over the 128 entries of the last axis it serves. -/
theorem v36_eq (c : Dev nD) : (V m c main_v36 : Vec Ideal S14x2x8192 .f32)
    = shapeCast S14x2x8192 (shapeCast S28x8192 (broadcastInDim S28x64x128 ![0, 1] bcast_S28x64_S28x64x128_0_1 (m ((c : Thread nD τ).loc main_arg5))) shapeCasts_S28x64x128_S28x8192) shapeCasts_S28x8192_S14x2x8192 := by
  rw [V_eq]
  simp only [hostOps0, hostOps0_1, hostOps0_2, List.cons_append, List.nil_append]
  after_results
  rfl

theorem v36_apply (c : Dev nD) (j : Fin 14) (k : Fin 2) (d : Fin 8192) : (V m c main_v36 : Vec Ideal S14x2x8192 .f32) (ix3 j k d)
    = (inputs m c).su (ix2 (⟨j.val * 2 + k.val, by have := j.isLt; have := k.isLt; omega⟩ : Fin 28) (⟨d.val / 128, by have := d.isLt; omega⟩ : Fin 64)) := by
  rw [v36_eq]
  show _ = (((m ((c : Thread nD τ).loc main_arg5)) : Vec Ideal S28x64 .f32)) _
  pointwise []

/-- The scales `sd`, each spread over the 128 entries of the last axis it serves. -/
theorem v37_eq (c : Dev nD) : (V m c main_v37 : Vec Ideal S1x64x3584 .f32)
    = shapeCast S1x64x3584 (shapeCast S64x3584 (broadcastInDim S64x28x128 ![0, 1] bcast_S64x28_S64x28x128_0_1 (m ((c : Thread nD τ).loc main_arg7))) shapeCasts_S64x28x128_S64x3584) shapeCasts_S64x3584_S1x64x3584 := by
  rw [V_eq]
  simp only [hostOps0, hostOps0_1, hostOps0_2, List.cons_append, List.nil_append]
  after_results
  rfl

theorem v37_apply (c : Dev nD) (k : Fin 64) (f : Fin 3584) : (V m c main_v37 : Vec Ideal S1x64x3584 .f32) (ix3 (0 : Fin 1) k f)
    = (inputs m c).sd (ix2 k (⟨f.val / 128, by have := f.isLt; omega⟩ : Fin 28)) := by
  rw [v37_eq]
  show _ = (((m ((c : Thread nD τ).loc main_arg7)) : Vec Ideal S64x28 .f32)) _
  pointwise []

end Cert.Proof.MidHost

end
-- ==== Proof.MidBlock.lean ====
/-
  What one grid point of the middle call computes before it quantises: gate, up projection, activation and the gradients as
  arrays over the point's input blocks, read at an index.
-/
module

public import proofs.«01_k».proof.Proof.MidSpec
public import proofs.«01_k».proof.Proof.Gen.MidKIdeal.Skeleton

@[expose] public section

noncomputable section

namespace Cert.Proof.MidBlock

open Idealize.ShloMosaic Cert.MidKIdeal Cert.MidKIdeal.Gen
open scoped BigOperators

/-! ## Stored weights: slabs of 128 rows -/

/-- Slab `k` of a gate or up weight block: 128 rows of codes, each multiplied by the row of scales of the slab. -/
def slab (x : Vec Ideal S256x8192 .fp8e4m3) (s : Vec Ideal S1x2x8192 .f32) (k : Fin 2) : FVec Ideal S128x8192 .bf16 :=
  mulf (extf .bf16 (View.ld x (Rect.unit (s := S256x8192) ![128 * k.val, 0] S128x8192.size (fun a => by
      have := k.isLt
      match a with
      | ⟨0, _⟩ => show 128 * k.val + 128 ≤ 256; omega
      | ⟨1, _⟩ => show 0 + 8192 ≤ 8192; omega))) bitsLt_fp8e4m3_bf16)
    (broadcastTo S128x8192 (truncf .bf16 (shapeCast S1x8192 (View.ld s (Rect.unit (s := S1x2x8192) ![0, k.val, 0] S1x1x8192.size (fun a => by
      have := k.isLt
      match a with
      | ⟨0, _⟩ => show 0 + 1 ≤ 1; omega
      | ⟨1, _⟩ => show k.val + 1 ≤ 2; omega
      | ⟨2, _⟩ => show 0 + 8192 ≤ 8192; omega))) shapeCasts_S1x1x8192_S1x8192) bitsLt_bf16_f32) broadcasts_S1x8192_S128x8192)

set_option maxRecDepth 40000 in
theorem slab_apply (x : Vec Ideal S256x8192 .fp8e4m3) (s : Vec Ideal S1x2x8192 .f32) (k : Fin 2) (a : Fin 128) (b : Fin 8192)
    (hr : 128 * k.val + a.val < 256) :
    slab x s k (ix2 a b) = x (ix2 ⟨128 * k.val + a.val, hr⟩ b) * s (ix3 0 ⟨(128 * k.val + a.val) / 128, by omega⟩ b) := by
  have e : (⟨(128 * k.val + a.val) / 128, by omega⟩ : Fin 2) = k := Fin.ext (by show (128 * k.val + a.val) / 128 = k.val; omega)
  rw [e]
  pointwise [slab]

/-- The two slabs one under the other. -/
def weight (x : Vec Ideal S256x8192 .fp8e4m3) (s : Vec Ideal S1x2x8192 .f32) : FVec Ideal S256x8192 .bf16 :=
  concatenate S256x8192 0 (List.ofFn fun k : Fin 2 => (⟨S128x8192, slab x s k⟩ : (s : Shape) × (s.Idx → Ideal .bf16)))
    concatenates_S128x8192_S128x8192_S256x8192_d0

theorem weight_apply (x : Vec Ideal S256x8192 .fp8e4m3) (s : Vec Ideal S1x2x8192 .f32) (i : Fin 256) (j : Fin 8192) :
    weight x s (ix2 i j) = x (ix2 i j) * s (ix3 0 ⟨i.val / 128, by omega⟩ j) :=
  slabs_apply (n := 2) (R := 256) (N := 8192) (by norm_num) (slab x s) _ (fun i j => x (ix2 i j) * s (ix3 0 ⟨i.val / 128, by omega⟩ j))
    (slab_apply x s) i j

/-- Slab `k` of a down weight block, in the same way: 128 rows of 256 codes. -/
def slabD (x : Vec Ideal S8192x256 .fp8e4m3) (s : Vec Ideal S1x64x256 .f32) (k : Fin 64) : FVec Ideal S128x256 .bf16 :=
  mulf (extf .bf16 (View.ld x (Rect.unit (s := S8192x256) ![128 * k.val, 0] S128x256.size (fun a => by
      have := k.isLt
      match a with
      | ⟨0, _⟩ => show 128 * k.val + 128 ≤ 8192; omega
      | ⟨1, _⟩ => show 0 + 256 ≤ 256; omega))) bitsLt_fp8e4m3_bf16)
    (broadcastTo S128x256 (truncf .bf16 (shapeCast S1x256 (View.ld s (Rect.unit (s := S1x64x256) ![0, k.val, 0] S1x1x256.size (fun a => by
      have := k.isLt
      match a with
      | ⟨0, _⟩ => show 0 + 1 ≤ 1; omega
      | ⟨1, _⟩ => show k.val + 1 ≤ 64; omega
      | ⟨2, _⟩ => show 0 + 256 ≤ 256; omega))) shapeCasts_S1x1x256_S1x256) bitsLt_bf16_f32) broadcasts_S1x256_S128x256)

theorem slabD_apply (x : Vec Ideal S8192x256 .fp8e4m3) (s : Vec Ideal S1x64x256 .f32) (k : Fin 64) (a : Fin 128) (b : Fin 256)
    (hr : 128 * k.val + a.val < 8192) :
    slabD x s k (ix2 a b) = x (ix2 ⟨128 * k.val + a.val, hr⟩ b) * s (ix3 0 ⟨(128 * k.val + a.val) / 128, by omega⟩ b) := by
  have e : (⟨(128 * k.val + a.val) / 128, by omega⟩ : Fin 64) = k := Fin.ext (by show (128 * k.val + a.val) / 128 = k.val; omega)
  rw [e]
  pointwise [slabD]

/-- The down weight block, its 64 slabs one under the other. -/
def weightD (x : Vec Ideal S8192x256 .fp8e4m3) (s : Vec Ideal S1x64x256 .f32) : FVec Ideal S8192x256 .bf16 :=
  concatenate S8192x256 0 (List.ofFn fun k : Fin 64 => (⟨S128x256, slabD x s k⟩ : (s : Shape) × (s.Idx → Ideal .bf16)))
    concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S8192x256_d0

theorem weightD_apply (x : Vec Ideal S8192x256 .fp8e4m3) (s : Vec Ideal S1x64x256 .f32) (i : Fin 8192) (j : Fin 256) :
    weightD x s (ix2 i j) = x (ix2 i j) * s (ix3 0 ⟨i.val / 128, by omega⟩ j) :=
  slabs_apply (n := 64) (R := 8192) (N := 256) (by norm_num) (slabD x s) _ (fun i j => x (ix2 i j) * s (ix3 0 ⟨i.val / 128, by omega⟩ j))
    (slabD_apply x s) i j

/-! ## Gate, up projection and gradient at the activation -/

/-- A row of adapter projections times a block of the stacked adapters. -/
def narrow (z : Vec Ideal S256x192 .bf16) (b : Vec Ideal S192x256 .bf16) : FVec Ideal S256x256 .f32 :=
  matmul (F := Ideal) (φ₁ := .bf16) (φ₂ := .bf16) dot_S256x192_S192x256_S256x256_1_0_0_1_n_n none z (shapeCast S192x256 b shapeCasts_S192x256_S192x256)
    (constant S256x256 .f32 0x00000000#32)

/-- The gate block, or with the other weights the up block. -/
def gateB (al : Vec Ideal S256x1 .f32) (h : Vec Ideal S256x8192 .bf16) (w : Vec Ideal S256x8192 .fp8e4m3) (s : Vec Ideal S1x2x8192 .f32)
    (z : Vec Ideal S256x192 .bf16) (b : Vec Ideal S192x256 .bf16) : FVec Ideal S256x256 .f32 :=
  extf .f32 (truncf .bf16 (addf (matmul (F := Ideal) (φ₁ := .bf16) (φ₂ := .bf16) dot_S256x8192_S256x8192_S256x256_1_1_0_0_n_n none h (weight w s) (constant S256x256 .f32 0x00000000#32))
    (mulf (broadcastTo S256x256 (shapeCast S256x1 al shapeCasts_S256x1_S256x1) broadcasts_S256x1_S256x256) (narrow z b))) bitsLt_bf16_f32) bitsLt_bf16_f32

set_option maxRecDepth 40000 in
theorem gateB_apply (al : Vec Ideal S256x1 .f32) (h : Vec Ideal S256x8192 .bf16) (w : Vec Ideal S256x8192 .fp8e4m3) (s : Vec Ideal S1x2x8192 .f32)
    (z : Vec Ideal S256x192 .bf16) (b : Vec Ideal S192x256 .bf16) (p q : Fin 256) :
    gateB al h w s z b (ix2 p q) = ∑ d : Fin 8192, h (ix2 p d) * (w (ix2 q d) * s (ix3 0 ⟨q.val / 128, by omega⟩ d))
      + al (ix2 p 0) * ∑ r : Fin 192, z (ix2 p r) * b (ix2 r q) := by
  pointwise [gateB, narrow, weight_apply, dot_S256x8192_S256x8192_S256x256_1_1_0_0_n_n, dot_S256x192_S192x256_S256x256_1_0_0_1_n_n]

/-- The block of the gradient at the activation. -/
def dactB (y : Vec Ideal S256x8192 .bf16) (w : Vec Ideal S8192x256 .fp8e4m3) (s : Vec Ideal S1x64x256 .f32) (z : Vec Ideal S256x192 .bf16)
    (b : Vec Ideal S192x256 .bf16) : FVec Ideal S256x256 .f32 :=
  addf (matmul (F := Ideal) (φ₁ := .bf16) (φ₂ := .bf16) dot_S256x8192_S8192x256_S256x256_1_0_0_1_n_n none y (weightD w s) (constant S256x256 .f32 0x00000000#32)) (narrow z b)

set_option maxRecDepth 40000 in
theorem dactB_apply (y : Vec Ideal S256x8192 .bf16) (w : Vec Ideal S8192x256 .fp8e4m3) (s : Vec Ideal S1x64x256 .f32) (z : Vec Ideal S256x192 .bf16)
    (b : Vec Ideal S192x256 .bf16) (p q : Fin 256) :
    dactB y w s z b (ix2 p q) = ∑ d : Fin 8192, y (ix2 p d) * (w (ix2 d q) * s (ix3 0 ⟨d.val / 128, by omega⟩ q))
      + ∑ r : Fin 192, z (ix2 p r) * b (ix2 r q) := by
  pointwise [dactB, narrow, weightD_apply, dot_S256x8192_S8192x256_S256x256_1_0_0_1_n_n, dot_S256x192_S192x256_S256x256_1_0_0_1_n_n]

/-! ## The activation and the two gradients -/

def actB (g u : FVec Ideal S256x256 .f32) : FVec Ideal S256x256 .f32 := mulf (mulf g (logistic g)) u
def dgB (g u d : FVec Ideal S256x256 .f32) : FVec Ideal S256x256 .f32 :=
  mulf (mulf (mulf d u) (logistic g)) (addf (broadcast S256x256 (Scalar.ofBits .f32 0x3F800000#32))
    (mulf g (subf (broadcast S256x256 (Scalar.ofBits .f32 0x3F800000#32)) (logistic g))))
def duB (g d : FVec Ideal S256x256 .f32) : FVec Ideal S256x256 .f32 := mulf (mulf d g) (logistic g)

theorem actB_at (g u : FVec Ideal S256x256 .f32) (i : S256x256.Idx) : actB g u i = Mid.actOf (g i) (u i) := rfl
theorem dgB_at (g u d : FVec Ideal S256x256 .f32) (i : S256x256.Idx) : dgB g u d i = Mid.dgOf (g i) (u i) (d i) := rfl
theorem duB_at (g d : FVec Ideal S256x256 .f32) (i : S256x256.Idx) : duB g d i = Mid.duOf (g i) (d i) := rfl

/-! ## What a point adds to an accumulator, and the last point's results -/

/-- The accumulator after a point. -/
def accB (prev : Vec Ideal S256x192 .f32) (x : Vec Ideal S256x256 .bf16) (b : Vec Ideal S192x256 .bf16) : FVec Ideal S256x192 .f32 :=
  shapeCast S256x192 (addf (F := Ideal) (φ := .f32) prev (matmul (F := Ideal) (φ₁ := .bf16) (φ₂ := .bf16) dot_S256x256_S192x256_S256x192_1_1_0_0_n_n none x
    (shapeCast S192x256 b shapeCasts_S192x256_S192x256) (constant S256x192 .f32 0x00000000#32))) shapeCasts_S256x192_S256x192

theorem accB_apply (prev : Vec Ideal S256x192 .f32) (x : Vec Ideal S256x256 .bf16) (b : Vec Ideal S192x256 .bf16) (p : Fin 256) (r : Fin 192) :
    accB prev x b (ix2 p r) = prev (ix2 p r) + ∑ q : Fin 256, x (ix2 p q) * b (ix2 r q) := by
  pointwise [accB, dot_S256x256_S192x256_S256x192_1_1_0_0_n_n]

theorem pay2_apply (mk acc : Vec Ideal S256x192 .f32) (p : Fin 256) (r : Fin 192) :
    k0_pay2 mk acc (ix2 p r) = mk (ix2 p r) * acc (ix2 p r) := by
  pointwise [k0_pay2, k0_pay1]
theorem pay3_apply (al : Vec Ideal S256x1 .f32) (mk acc : Vec Ideal S256x192 .f32) (p : Fin 256) (r : Fin 192) :
    k0_pay3 (k0_pay5 al) mk acc (ix2 p r) = mk (ix2 p r) * al (ix2 p 0) * acc (ix2 p r) := by
  pointwise [k0_pay3, k0_pay1, k0_pay5]
theorem pay4_apply (al : Vec Ideal S256x1 .f32) (mk acc : Vec Ideal S256x192 .f32) (p : Fin 256) (r : Fin 192) :
    k0_pay4 (k0_pay5 al) mk acc (ix2 p r) = mk (ix2 p r) * al (ix2 p 0) * acc (ix2 p r) := by
  pointwise [k0_pay4, k0_pay1, k0_pay5]

end Cert.Proof.MidBlock

end
-- ==== Proof.MidQuant.lean ====
/-
  The quantiser of one grid point of the middle call: 256 rows of one group of 128 columns, as arrays and read at an index.
-/
module

public import proofs.«01_k».proof.Proof.MidSpec
public import proofs.«01_k».proof.Proof.Gen.MidKIdeal.Skeleton

@[expose] public section

noncomputable section

namespace Cert.Proof.MidBlock

open Idealize.ShloMosaic Cert.MidKIdeal Cert.MidKIdeal.Gen
open scoped BigOperators

/-- The first or second group of 128 columns of a block. -/
def cols0 (v : FVec Ideal S256x256 .f32) : FVec Ideal S256x128 .f32 := extractStridedSlice S256x128 ![0, 0] v slices_S256x256_o0_0_S256x128
def cols1 (v : FVec Ideal S256x256 .f32) : FVec Ideal S256x128 .f32 := extractStridedSlice S256x128 ![0, 128] v slices_S256x256_o0_128_S256x128

theorem cols0_apply (v : FVec Ideal S256x256 .f32) (p : Fin 256) (j : Fin 128) : cols0 v (ix2 p j) = v (ix2 p ⟨j.val, by omega⟩) := by
  pointwise [cols0]
theorem cols1_apply (v : FVec Ideal S256x256 .f32) (p : Fin 256) (j : Fin 128) : cols1 v (ix2 p j) = v (ix2 p ⟨128 + j.val, by omega⟩) := by
  pointwise [cols1]

/-- Each row's largest magnitude times 1/448. -/
def amaxV (w : FVec Ideal S256x128 .f32) : FVec Ideal S256x1 .f32 :=
  mulf (shapeCast S256x1 (multiReduction .maximumf [1] S256 (absf w) 0xFF800000#32 reduces_S256x128_S256 (.inl rfl) rfl) shapeCasts_S256_S256x1)
    (broadcast S256x1 (Scalar.ofBits .f32 0x3B124925#32))

theorem rowMax_apply (w : FVec Ideal S256x128 .f32) (p : Fin 256) :
    shapeCast S256x1 (multiReduction (F := Ideal) (φ := .f32) .maximumf [1] S256 w 0xFF800000#32 reduces_S256x128_S256 (.inl rfl) rfl) shapeCasts_S256_S256x1 (ix2 p (0 : Fin 1))
      = (Finset.univ : Finset (Fin 128)).fold max (FloatOps.ofBits (F := Ideal) .f32 0xFF800000#32) (fun j => w (ix2 p j)) := by
  pointwise []

theorem mulf_at {S : Shape} (a b : FVec Ideal S .f32) (i : S.Idx) : mulf a b i = (a i * b i : EReal) := rfl

theorem amaxV_apply (w : FVec Ideal S256x128 .f32) (p : Fin 256) : amaxV w (ix2 p (0 : Fin 1)) = Mid.target (fun j => w (ix2 p j)) := by
  unfold amaxV Mid.target
  rw [mulf_at, rowMax_apply]
  rfl

/-- One step of the search for the exponent field. -/
def stepV (a : FVec Ideal S256x1 .f32) (f : IVec S256x1 32) (b : BitVec 32) : IVec S256x1 32 :=
  select (cmpf .oge a (bitcastToFloat .f32 (shli (addi f (broadcast S256x1 b)) (broadcast S256x1 23#32)))) (addi f (broadcast S256x1 b)) f

theorem stepV_at (a : FVec Ideal S256x1 .f32) (f : IVec S256x1 32) (b : BitVec 32) (i : S256x1.Idx) : stepV a f b i = stepW (a i) (f i) b := rfl

/-- The exponent field, shifted to its place. -/
def searchV (a : FVec Ideal S256x1 .f32) : IVec S256x1 32 :=
  shli (stepV a (stepV a (stepV a (stepV a (stepV a (stepV a (stepV a (stepV a (broadcast S256x1 0#32) 128#32) 64#32) 32#32) 16#32) 8#32) 4#32) 2#32) 1#32)
    (broadcast S256x1 23#32)

theorem searchV_at (a : FVec Ideal S256x1 .f32) (i : S256x1.Idx) : searchV a i = IntOp.shli .vector (searchW (a i)) 23#32 := by
  show IntOp.shli .vector (stepV a _ 1#32 i) 23#32 = _
  simp only [stepV_at]
  rfl

/-- The scales. -/
def scaleV (a : FVec Ideal S256x1 .f32) : FVec Ideal S256x1 .f32 :=
  bitcastToFloat .f32 (select (cmpi .eq (searchV a) (broadcast S256x1 0#32)) (broadcast S256x1 1065353216#32) (addi (searchV a) (broadcast S256x1 8388608#32)))

theorem scaleV_at (a : FVec Ideal S256x1 .f32) (i : S256x1.Idx) : scaleV a i = scaleOf (a i) := by
  show FloatOps.ofBits (F := Ideal) .f32 (Scalar.select (IntOp.cmpi .eq (searchV a i) 0#32) 1065353216#32 (IntOp.addi (searchV a i) 8388608#32)) = _
  rw [searchV_at, scale_of_search]
  rfl

/-- Their inverses. -/
def invV (a : FVec Ideal S256x1 .f32) : FVec Ideal S256x1 .f32 :=
  bitcastToFloat .f32 (select (cmpi .eq (searchV a) (broadcast S256x1 0#32)) (broadcast S256x1 1065353216#32) (subi (broadcast S256x1 2122317824#32) (searchV a)))

theorem invV_at (a : FVec Ideal S256x1 .f32) (i : S256x1.Idx) : invV a i = invOf (a i) := by
  show FloatOps.ofBits (F := Ideal) .f32 (Scalar.select (IntOp.cmpi .eq (searchV a i) 0#32) 1065353216#32 (IntOp.subi 2122317824#32 (searchV a i))) = _
  rw [searchV_at, inv_of_search]
  rfl

/-- The codes. -/
def codesV (w : FVec Ideal S256x128 .f32) : FVec Ideal S256x128 .fp8e4m3 :=
  truncf .fp8e4m3 (minimumf (broadcast S256x128 (Scalar.ofBits .f32 0x43E00000#32)) (maximumf (broadcast S256x128 (Scalar.ofBits .f32 0xC3E00000#32))
    (mulf w (broadcastTo S256x128 (invV (amaxV w)) broadcasts_S256x1_S256x128)))) bitsLt_fp8e4m3_f32

theorem codesV_apply (w : FVec Ideal S256x128 .f32) (p : Fin 256) (j : Fin 128) :
    codesV w (ix2 p j) = Mid.codeOf (w (ix2 p j)) (Mid.target (fun k => w (ix2 p k))) := by
  pointwise [codesV, invV_at, amaxV_apply, Mid.codeOf]

/-- What the codes stand for. -/
def decodesV (w : FVec Ideal S256x128 .f32) : FVec Ideal S256x128 .bf16 :=
  mulf (extf .bf16 (codesV w) bitsLt_fp8e4m3_bf16) (broadcastTo S256x128 (truncf .bf16 (scaleV (amaxV w)) bitsLt_bf16_f32) broadcasts_S256x1_S256x128)

theorem decodesV_apply (w : FVec Ideal S256x128 .f32) (p : Fin 256) (j : Fin 128) :
    decodesV w (ix2 p j) = Mid.codeOf (w (ix2 p j)) (Mid.target (fun k => w (ix2 p k))) * scaleOf (Mid.target (fun k => w (ix2 p k))) := by
  pointwise [decodesV, codesV_apply, scaleV_at, amaxV_apply]

/-- The scales written into column `n * 2 + k` of an array of 28 columns. -/
def putV (n k : BitVec 32) (w : FVec Ideal S256x128 .f32) (prev : Vec Ideal S256x28 .f32) : FVec Ideal S256x28 .f32 :=
  select (cmpi .eq (iota .tc S256x28 32 [1] iota_S256x28_d1_w32) (broadcast S256x28 (Scalar.addi (Scalar.muli n 2#32) k)))
    (broadcastTo S256x28 (shapeCast S256x1 (scaleV (amaxV w)) shapeCasts_S256x1_S256x1) broadcasts_S256x1_S256x28)
    (shapeCast S256x28 prev shapeCasts_S256x28_S256x28)

theorem putV_apply (n : Fin 14) (k : Fin 2) (w : FVec Ideal S256x128 .f32) (prev : Vec Ideal S256x28 .f32) (p : Fin 256) (j : Fin 28) :
    putV (BitVec.ofNat 32 n.val) (BitVec.ofNat 32 k.val) w prev (ix2 p j)
      = if j.val = 2 * n.val + k.val then scaleOf (Mid.target (fun k => w (ix2 p k))) else prev (ix2 p j) := by
  have key : ∀ (n : Fin 14) (k : Fin 2) (j : Fin 28), (BitVec.ofNat 32 j.val = Scalar.addi (Scalar.muli (BitVec.ofNat 32 n.val) 2#32) (BitVec.ofNat 32 k.val)) ↔ j.val = 2 * n.val + k.val := by
    decide +kernel
  simp only [← key n k j]
  pointwise [putV, scaleV_at, amaxV_apply, select_eq]

end Cert.Proof.MidBlock

end
-- ==== Proof.MidPoint.lean ====
/-
  One grid point of the middle call as arrays over its input blocks: the two column tiles a block of codes is stored in, and
  the arrays every case of the body computes.
-/
module

public import proofs.«01_k».proof.Proof.MidBlock
public import proofs.«01_k».proof.Proof.MidQuant
public import proofs.«01_k».proof.Proof.Gen.MidKIdeal.Frame.Runs
public import Idealize.ShloMosaic.Lib.Pipeline.ValueKit

@[expose] public section

set_option maxRecDepth 16384

noncomputable section

namespace Cert.Proof.MidBlock

open Idealize.ShloMosaic Cert.MidKIdeal Cert.MidKIdeal.Gen
open Idealize.ShloMosaic.TcCoe Idealize.ShloMosaic.Tactic
open scoped BigOperators

/-- Two tiles of 128 columns side by side, as the body stores them: the right one last. -/
def tiles {e : EltTy} (a b : Vec Ideal S256x128 e) : Vec Ideal S256x256 e :=
  View.canon (Val := Elt Ideal) [⟨Rect.unit ![0, 128] ![256, 128] inb_S256x256_S256x128_0_128, b⟩, ⟨Rect.unit ![0, 0] ![256, 128] inb_S256x256_S256x128_0_0, a⟩]

theorem tiles_apply {e : EltTy} (a b : Vec Ideal S256x128 e) (G : Fin 256 → Fin 256 → Elt Ideal e)
    (ha : ∀ p (j : Fin 128), a (ix2 p j) = G p ⟨j.val, by omega⟩) (hb : ∀ p (j : Fin 128), b (ix2 p j) = G p ⟨128 + j.val, by omega⟩)
    (p q : Fin 256) : tiles a b (ix2 p q) = G p q := by
  refine View.canon_apply_of_pieces (fun y => G (y 0) (y 1)) _ ?_ (ix2 p q) ?_
  rotate_left
  · exact View.cover_of_tiledL (s := S256x256) _ ![256, 128] (by sl_kernel_rfl) (ix2 p q)
  intro x hx y
  simp only [List.mem_cons, List.not_mem_nil, or_false] at hx
  rcases hx with rfl | rfl
  · refine (congrArg b (eq_ix2 y)).trans ((hb (y 0) (y 1)).trans (congrArg₂ G (Fin.ext ?_) (Fin.ext ?_))) <;> simp [Rect.emb, LoadRect.idx, Rect.unit]
  · refine (congrArg a (eq_ix2 y)).trans ((ha (y 0) (y 1)).trans (congrArg₂ G (Fin.ext ?_) (Fin.ext ?_))) <;> simp [Rect.emb, LoadRect.idx, Rect.unit]

/-- The whole block read back after the two stores. -/
theorem readCov_tiles {sig : RefSig} {κ : Kind} {sp : Space} {e : EltTy} (v : View sig κ sp S256x256 e) (a b : Vec Ideal S256x128 e) (inb) :
    v.readCov (Val := Elt Ideal) [⟨Rect.unit ![0, 128] ![256, 128] inb_S256x256_S256x128_0_128, b⟩, ⟨Rect.unit ![0, 0] ![256, 128] inb_S256x256_S256x128_0_0, a⟩]
      (Rect.unit (s := S256x256) ![0, 0] ![256, 256] inb).toLoadRect = tiles a b := by
  rw [View.readCov_eq_canon']
  funext j
  refine congrArg (tiles a b) (funext fun k => Fin.ext ?_)
  match k with
  | ⟨0, _⟩ => simp [LoadRect.idx, Rect.unit]
  | ⟨1, _⟩ => simp [LoadRect.idx, Rect.unit]

/-- The codes of a block and what they stand for, both groups. -/
def codes2 (w : FVec Ideal S256x256 .f32) : Vec Ideal S256x256 .fp8e4m3 := tiles (codesV (cols0 w)) (codesV (cols1 w))
def decodes2 (w : FVec Ideal S256x256 .f32) : Vec Ideal S256x256 .bf16 := tiles (decodesV (cols0 w)) (decodesV (cols1 w))

/-- The group of 128 columns of a row that column `q` lies in. -/
def grp (w : FVec Ideal S256x256 .f32) (p q : Fin 256) (k : Fin 128) : EReal :=
  w (ix2 p ⟨q.val / 128 * 128 + k.val, by have := q.isLt; have := k.isLt; omega⟩)

theorem grp0 (w : FVec Ideal S256x256 .f32) (p : Fin 256) (j : Fin 128) :
    (fun k => cols0 w (ix2 p k)) = grp w p ⟨j.val, by omega⟩ := funext fun k => by
  rw [cols0_apply]; exact congrArg (fun x => w (ix2 p x)) (Fin.ext (by have := j.isLt; show k.val = j.val / 128 * 128 + k.val; omega))
theorem grp1 (w : FVec Ideal S256x256 .f32) (p : Fin 256) (j : Fin 128) :
    (fun k => cols1 w (ix2 p k)) = grp w p ⟨128 + j.val, by omega⟩ := funext fun k => by
  rw [cols1_apply]; exact congrArg (fun x => w (ix2 p x)) (Fin.ext (by have := j.isLt; show 128 + k.val = (128 + j.val) / 128 * 128 + k.val; omega))

theorem codes2_apply (w : FVec Ideal S256x256 .f32) (p q : Fin 256) :
    codes2 w (ix2 p q) = Mid.codeOf (w (ix2 p q)) (Mid.target (grp w p q)) :=
  tiles_apply (e := .fp8e4m3) (codesV (cols0 w)) (codesV (cols1 w)) (fun p q => (Mid.codeOf (w (ix2 p q)) (Mid.target (grp w p q)) : EReal))
    (fun p j => by rw [codesV_apply, grp0 w p j, cols0_apply]) (fun p j => by rw [codesV_apply, grp1 w p j, cols1_apply]) p q

theorem decodes2_apply (w : FVec Ideal S256x256 .f32) (p q : Fin 256) :
    decodes2 w (ix2 p q) = Mid.codeOf (w (ix2 p q)) (Mid.target (grp w p q)) * scaleOf (Mid.target (grp w p q)) :=
  tiles_apply (e := .bf16) (decodesV (cols0 w)) (decodesV (cols1 w)) (fun p q => (Mid.codeOf (w (ix2 p q)) (Mid.target (grp w p q)) * scaleOf (Mid.target (grp w p q)) : EReal))
    (fun p j => by rw [decodesV_apply, grp0 w p j, cols0_apply]) (fun p j => by rw [decodesV_apply, grp1 w p j, cols1_apply]) p q

/-- The two scale columns of a point written over what the columns held. -/
def put2 (n : BitVec 32) (w : FVec Ideal S256x256 .f32) (prev : Vec Ideal S256x28 .f32) : Vec Ideal S256x28 .f32 :=
  putV n 1#32 (cols1 w) (putV n 0#32 (cols0 w) prev)

theorem put2_apply (n : Fin 14) (w : FVec Ideal S256x256 .f32) (prev : Vec Ideal S256x28 .f32) (p : Fin 256) (j : Fin 28) :
    put2 (BitVec.ofNat 32 n.val) w prev (ix2 p j)
      = if j.val / 2 = n.val then scaleOf (Mid.target (grp w p ⟨j.val % 2 * 128, by omega⟩)) else prev (ix2 p j) := by
  have h1 := putV_apply n 1 (cols1 w) (putV (BitVec.ofNat 32 n.val) 0#32 (cols0 w) prev) p j
  have h0 := putV_apply n 0 (cols0 w) prev p j
  refine h1.trans ?_
  by_cases e1 : j.val = 2 * n.val + 1
  · rw [if_pos (by simpa using e1), if_pos (by omega), grp1 w p 0]
    exact congrArg (fun q => scaleOf (Mid.target (grp w p q))) (Fin.ext (by show 128 + 0 = j.val % 2 * 128; omega))
  · rw [if_neg (by simpa using e1)]
    refine h0.trans ?_
    by_cases e0 : j.val = 2 * n.val
    · rw [if_pos (by simpa using e0), if_pos (by omega), grp0 w p 0]
      exact congrArg (fun q => scaleOf (Mid.target (grp w p q))) (Fin.ext (by show 0 = j.val % 2 * 128; omega))
    · rw [if_neg (by simpa using e0), if_neg (by omega)]

/-! ## The arrays at a point -/

variable (m : (ℓ : Loc nD τ sig) → Buf (Elt Ideal) ℓ) (c : Dev nD) (t : Fin cfg0.N)

/-- The gate block at point `t`. -/
def gV : FVec Ideal S256x256 .f32 :=
  gateB (iblk m c 15 t) (iblk m c 0 t) (iblk m c 2 t) (iblk m c 3 t) (iblk m c 8 t) (iblk m c 11 t)
/-- The up block at point `t`. -/
def uV : FVec Ideal S256x256 .f32 :=
  gateB (iblk m c 15 t) (iblk m c 0 t) (iblk m c 4 t) (iblk m c 5 t) (iblk m c 9 t) (iblk m c 12 t)
/-- The block of the gradient at the activation at point `t`. -/
def dV : FVec Ideal S256x256 .f32 :=
  dactB (iblk m c 1 t) (iblk m c 6 t) (iblk m c 7 t) (iblk m c 10 t) (iblk m c 13 t)
def actV : FVec Ideal S256x256 .f32 := actB (gV m c t) (uV m c t)
def dgV : FVec Ideal S256x256 .f32 := dgB (gV m c t) (uV m c t) (dV m c t)
def duV : FVec Ideal S256x256 .f32 := duB (gV m c t) (dV m c t)
/-- The number of the point's column block, as the body reads it. -/
def colW : BitVec 32 := BitVec.ofNat 32 (grid0.coords t 1).val

end Cert.Proof.MidBlock

end
-- ==== Proof.MidVal.lean ====
/-
  The middle call's input blocks at a grid point, read at an index of the call's arguments, and what the point computes from
  them as the functions of MidSpec.
-/
module

public import proofs.«01_k».proof.Proof.MidHost
public import proofs.«01_k».proof.Proof.MidPoint

@[expose] public section

set_option maxRecDepth 16384

noncomputable section

namespace Cert.Proof.MidVal

open Idealize.ShloMosaic Idealize.ShloMosaic.TcCoe Cert.MidKIdeal Cert.MidKIdeal.Gen Cert.Proof.MidBlock
open Cert.Proof.MidHost (inputs)
open scoped BigOperators

variable (m : (ℓ : Loc nD τ sig) → Buf (Elt Ideal) ℓ)

/-! ## Where each window's block lies, decided over the 224 grid points -/

theorem idx0 : ∀ t : Fin grid0.N, win0_0.index t = ![t.val / 14, 0] := by decide +kernel
theorem idx1 : ∀ t : Fin grid0.N, win0_1.index t = ![t.val / 14, 0] := by decide +kernel
theorem idx2 : ∀ t : Fin grid0.N, win0_2.index t = ![t.val % 14, 0] := by decide +kernel
theorem idx3 : ∀ t : Fin grid0.N, win0_3.index t = ![t.val % 14, 0, 0] := by decide +kernel
theorem idx4 : ∀ t : Fin grid0.N, win0_4.index t = ![t.val % 14, 0] := by decide +kernel
theorem idx5 : ∀ t : Fin grid0.N, win0_5.index t = ![t.val % 14, 0, 0] := by decide +kernel
theorem idx6 : ∀ t : Fin grid0.N, win0_6.index t = ![0, t.val % 14] := by decide +kernel
theorem idx7 : ∀ t : Fin grid0.N, win0_7.index t = ![0, 0, t.val % 14] := by decide +kernel
theorem idx8 : ∀ t : Fin grid0.N, win0_8.index t = ![t.val / 14, 0] := by decide +kernel
theorem idx9 : ∀ t : Fin grid0.N, win0_9.index t = ![t.val / 14, 0] := by decide +kernel
theorem idx10 : ∀ t : Fin grid0.N, win0_10.index t = ![t.val / 14, 0] := by decide +kernel
theorem idx11 : ∀ t : Fin grid0.N, win0_11.index t = ![0, t.val % 14] := by decide +kernel
theorem idx12 : ∀ t : Fin grid0.N, win0_12.index t = ![0, t.val % 14] := by decide +kernel
theorem idx13 : ∀ t : Fin grid0.N, win0_13.index t = ![0, t.val % 14] := by decide +kernel
theorem idx14 : ∀ t : Fin grid0.N, win0_14.index t = ![t.val / 14, 0] := by decide +kernel
theorem idx15 : ∀ t : Fin grid0.N, win0_15.index t = ![t.val / 14, 0] := by decide +kernel
theorem idx16 : ∀ t : Fin grid0.N, win0_16.index t = ![t.val / 14, t.val % 14] := by decide +kernel
theorem idx17 : ∀ t : Fin grid0.N, win0_17.index t = ![t.val / 14, 0] := by decide +kernel
theorem idx18 : ∀ t : Fin grid0.N, win0_18.index t = ![t.val / 14, t.val % 14] := by decide +kernel
theorem idx19 : ∀ t : Fin grid0.N, win0_19.index t = ![t.val / 14, 0] := by decide +kernel
theorem idx20 : ∀ t : Fin grid0.N, win0_20.index t = ![t.val / 14, t.val % 14] := by decide +kernel
theorem idx21 : ∀ t : Fin grid0.N, win0_21.index t = ![t.val / 14, 0] := by decide +kernel
theorem idx22 : ∀ t : Fin grid0.N, win0_22.index t = ![t.val / 14, t.val % 14] := by decide +kernel
theorem idx23 : ∀ t : Fin grid0.N, win0_23.index t = ![t.val / 14, t.val % 14] := by decide +kernel
theorem idx24 : ∀ t : Fin grid0.N, win0_24.index t = ![t.val / 14, t.val % 14] := by decide +kernel
theorem idx25 : ∀ t : Fin grid0.N, win0_25.index t = ![t.val / 14, t.val % 14] := by decide +kernel
theorem idx26 : ∀ t : Fin grid0.N, win0_26.index t = ![t.val / 14, t.val % 14] := by decide +kernel
theorem idx27 : ∀ t : Fin grid0.N, win0_27.index t = ![t.val / 14, 0] := by decide +kernel
theorem idx28 : ∀ t : Fin grid0.N, win0_28.index t = ![t.val / 14, 0] := by decide +kernel
theorem idx29 : ∀ t : Fin grid0.N, win0_29.index t = ![t.val / 14, 0] := by decide +kernel
theorem coord1 : ∀ t : Fin grid0.N, (grid0.coords t 1).val = t.val % 14 := by decide +kernel

/-- The array row of a point's block row `p`, and the array column of its block column `q`. -/
def row (t : Fin grid0.N) (p : Fin 256) : Fin 4096 := ⟨t.val / 14 * 256 + p.val, by have := t.isLt; have h : grid0.N = 224 := N_0; have := p.isLt; omega⟩
def col (t : Fin grid0.N) (q : Fin 256) : Fin 3584 := ⟨t.val % 14 * 256 + q.val, by have := q.isLt; omega⟩

/-! ## The input windows' blocks, read at an index -/

theorem blk0 (c : Dev nD) (t : Fin grid0.N) (p : Fin 256) (d : Fin 8192) : iblk m c 0 t (ix2 p d) = (m ((c : Thread nD τ).loc main_arg0)) (ix2 (row t p) d) := by
  blk_ext [iblk, V_main_arg0, row, col, idx0 t]
theorem blk1 (c : Dev nD) (t : Fin grid0.N) (p : Fin 256) (d : Fin 8192) : iblk m c 1 t (ix2 p d) = (m ((c : Thread nD τ).loc main_arg1)) (ix2 (row t p) d) := by
  blk_ext [iblk, V_main_arg1, row, col, idx1 t]
theorem blk8 (c : Dev nD) (t : Fin grid0.N) (p : Fin 256) (r : Fin 192) : iblk m c 8 t (ix2 p r) = (m ((c : Thread nD τ).loc main_arg8)) (ix2 (row t p) r) := by
  blk_ext [iblk, V_main_arg8, row, col, idx8 t]
theorem blk9 (c : Dev nD) (t : Fin grid0.N) (p : Fin 256) (r : Fin 192) : iblk m c 9 t (ix2 p r) = (m ((c : Thread nD τ).loc main_arg9)) (ix2 (row t p) r) := by
  blk_ext [iblk, V_main_arg9, row, col, idx9 t]
theorem blk10 (c : Dev nD) (t : Fin grid0.N) (p : Fin 256) (r : Fin 192) : iblk m c 10 t (ix2 p r) = (m ((c : Thread nD τ).loc main_arg10)) (ix2 (row t p) r) := by
  blk_ext [iblk, V_main_arg10, row, col, idx10 t]
theorem blk2 (c : Dev nD) (t : Fin grid0.N) (q : Fin 256) (d : Fin 8192) : iblk m c 2 t (ix2 q d) = (m ((c : Thread nD τ).loc main_arg2)) (ix2 (col t q) d) := by
  blk_ext [iblk, V_main_arg2, row, col, idx2 t]
theorem blk4 (c : Dev nD) (t : Fin grid0.N) (q : Fin 256) (d : Fin 8192) : iblk m c 4 t (ix2 q d) = (m ((c : Thread nD τ).loc main_arg4)) (ix2 (col t q) d) := by
  blk_ext [iblk, V_main_arg4, row, col, idx4 t]
theorem blk6 (c : Dev nD) (t : Fin grid0.N) (d : Fin 8192) (q : Fin 256) : iblk m c 6 t (ix2 d q) = (m ((c : Thread nD τ).loc main_arg6)) (ix2 d (col t q)) := by
  blk_ext [iblk, V_main_arg6, row, col, idx6 t]
theorem blk3 (c : Dev nD) (t : Fin grid0.N) (k : Fin 2) (d : Fin 8192) : iblk m c 3 t (ix3 (0 : Fin 1) k d) = (V m c main_v35 : _) (ix3 (⟨t.val % 14, by omega⟩ : Fin 14) k d) := by
  blk_ext [iblk, row, col, idx3 t]
theorem blk5 (c : Dev nD) (t : Fin grid0.N) (k : Fin 2) (d : Fin 8192) : iblk m c 5 t (ix3 (0 : Fin 1) k d) = (V m c main_v36 : _) (ix3 (⟨t.val % 14, by omega⟩ : Fin 14) k d) := by
  blk_ext [iblk, row, col, idx5 t]
theorem blk7 (c : Dev nD) (t : Fin grid0.N) (k : Fin 64) (q : Fin 256) : iblk m c 7 t (ix3 (0 : Fin 1) k q) = (V m c main_v37 : _) (ix3 (0 : Fin 1) k (col t q)) := by
  blk_ext [iblk, row, col, idx7 t]
theorem blk11 (c : Dev nD) (t : Fin grid0.N) (r : Fin 192) (q : Fin 256) : iblk m c 11 t (ix2 r q) = (V m c main_v0 : _) (ix2 r (col t q)) := by
  blk_ext [iblk, row, col, idx11 t]
theorem blk12 (c : Dev nD) (t : Fin grid0.N) (r : Fin 192) (q : Fin 256) : iblk m c 12 t (ix2 r q) = (V m c main_v1 : _) (ix2 r (col t q)) := by
  blk_ext [iblk, row, col, idx12 t]
theorem blk13 (c : Dev nD) (t : Fin grid0.N) (r : Fin 192) (q : Fin 256) : iblk m c 13 t (ix2 r q) = (V m c main_v2 : _) (ix2 r (col t q)) := by
  blk_ext [iblk, row, col, idx13 t]
theorem blk14 (c : Dev nD) (t : Fin grid0.N) (p : Fin 256) (r : Fin 192) : iblk m c 14 t (ix2 p r) = (V m c main_v23 : _) (ix2 (row t p) r) := by
  blk_ext [iblk, row, col, idx14 t]
theorem blk15 (c : Dev nD) (t : Fin grid0.N) (p : Fin 256) : iblk m c 15 t (ix2 p (0 : Fin 1)) = (V m c main_v28 : _) (ix2 (row t p) (0 : Fin 1)) := by
  blk_ext [iblk, row, col, idx15 t]

/-! ## The blocks read at an index of the arguments -/

variable (c : Dev nD) (t : Fin grid0.N)

theorem in0 (p : Fin 256) (d : Fin 8192) : iblk m c 0 t (ix2 p d) = (inputs m c).hd (ix2 (row t p) d) := blk0 m c t p d
theorem in1 (p : Fin 256) (d : Fin 8192) : iblk m c 1 t (ix2 p d) = (inputs m c).dyd (ix2 (row t p) d) := blk1 m c t p d
theorem in8 (p : Fin 256) (r : Fin 192) : iblk m c 8 t (ix2 p r) = (inputs m c).zg (ix2 (row t p) r) := blk8 m c t p r
theorem in9 (p : Fin 256) (r : Fin 192) : iblk m c 9 t (ix2 p r) = (inputs m c).zu (ix2 (row t p) r) := blk9 m c t p r
theorem in10 (p : Fin 256) (r : Fin 192) : iblk m c 10 t (ix2 p r) = (inputs m c).dzd (ix2 (row t p) r) := blk10 m c t p r
theorem in2 (q : Fin 256) (d : Fin 8192) : iblk m c 2 t (ix2 q d) = (inputs m c).wg (ix2 (col t q) d) := blk2 m c t q d
theorem in4 (q : Fin 256) (d : Fin 8192) : iblk m c 4 t (ix2 q d) = (inputs m c).wu (ix2 (col t q) d) := blk4 m c t q d
theorem in6 (d : Fin 8192) (q : Fin 256) : iblk m c 6 t (ix2 d q) = (inputs m c).wd (ix2 d (col t q)) := blk6 m c t d q
theorem in3 (q : Fin 256) (d : Fin 8192) : iblk m c 3 t (ix3 (0 : Fin 1) (⟨q.val / 128, by omega⟩ : Fin 2) d)
    = (inputs m c).sg (ix2 (⟨(col t q).val / 128, by have := (col t q).isLt; omega⟩ : Fin 28) (⟨d.val / 128, by omega⟩ : Fin 64)) := by
  refine (blk3 m c t _ d).trans ((MidHost.v35_apply m c _ _ d).trans ?_)
  refine congrArg (fun k : Fin 28 => (inputs m c).sg (ix2 k (⟨d.val / 128, by omega⟩ : Fin 64))) (Fin.ext ?_)
  show t.val % 14 * 2 + q.val / 128 = (t.val % 14 * 256 + q.val) / 128
  omega
theorem in5 (q : Fin 256) (d : Fin 8192) : iblk m c 5 t (ix3 (0 : Fin 1) (⟨q.val / 128, by omega⟩ : Fin 2) d)
    = (inputs m c).su (ix2 (⟨(col t q).val / 128, by have := (col t q).isLt; omega⟩ : Fin 28) (⟨d.val / 128, by omega⟩ : Fin 64)) := by
  refine (blk5 m c t _ d).trans ((MidHost.v36_apply m c _ _ d).trans ?_)
  refine congrArg (fun k : Fin 28 => (inputs m c).su (ix2 k (⟨d.val / 128, by omega⟩ : Fin 64))) (Fin.ext ?_)
  show t.val % 14 * 2 + q.val / 128 = (t.val % 14 * 256 + q.val) / 128
  omega
theorem in7 (k : Fin 64) (q : Fin 256) : iblk m c 7 t (ix3 (0 : Fin 1) k q)
    = (inputs m c).sd (ix2 k (⟨(col t q).val / 128, by have := (col t q).isLt; omega⟩ : Fin 28)) :=
  (blk7 m c t k q).trans (MidHost.v37_apply m c k (col t q))
theorem in11 (r : Fin 192) (q : Fin 256) : iblk m c 11 t (ix2 r q) = stack (inputs m c).bg r (col t q) :=
  (blk11 m c t r q).trans (MidHost.v0_apply m c r (col t q))
theorem in12 (r : Fin 192) (q : Fin 256) : iblk m c 12 t (ix2 r q) = stack (inputs m c).bu r (col t q) :=
  (blk12 m c t r q).trans (MidHost.v1_apply m c r (col t q))
theorem in13 (r : Fin 192) (q : Fin 256) : iblk m c 13 t (ix2 r q) = stack (inputs m c).ad r (col t q) :=
  (blk13 m c t r q).trans (MidHost.v2_apply m c r (col t q))
theorem in14 (p : Fin 256) (r : Fin 192) : iblk m c 14 t (ix2 p r) = Mid.mask (inputs m c) (row t p) r :=
  (blk14 m c t p r).trans (MidHost.v23_apply m c (row t p) r)
theorem in15 (p : Fin 256) : iblk m c 15 t (ix2 p (0 : Fin 1)) = alphaRow (inputs m c).alpha (inputs m c).job (row t p) :=
  (blk15 m c t p).trans (MidHost.v28_apply m c (row t p))

/-! ## The point's arrays -/

theorem gV_apply (p q : Fin 256) : gV m c t (ix2 p q) = Mid.gate (inputs m c) (row t p) (col t q) := by
  unfold gV Mid.gate deq
  rw [gateB_apply]
  simp only [in0, in2, in3, in8, in11, in15]

theorem uV_apply (p q : Fin 256) : uV m c t (ix2 p q) = Mid.up (inputs m c) (row t p) (col t q) := by
  unfold uV Mid.up deq
  rw [gateB_apply]
  simp only [in0, in4, in5, in9, in12, in15]

theorem dV_apply (p q : Fin 256) : dV m c t (ix2 p q) = Mid.dact (inputs m c) (row t p) (col t q) := by
  unfold dV Mid.dact deq
  rw [dactB_apply]
  simp only [in1, in6, in7, in10, in13]

theorem actV_apply (p q : Fin 256) : actV m c t (ix2 p q) = Mid.act (inputs m c) (row t p) (col t q) := by
  unfold actV Mid.act
  rw [actB_at, gV_apply, uV_apply]
theorem dgV_apply (p q : Fin 256) : dgV m c t (ix2 p q) = Mid.dg (inputs m c) (row t p) (col t q) := by
  unfold dgV Mid.dg
  rw [dgB_at, gV_apply, uV_apply, dV_apply]
theorem duV_apply (p q : Fin 256) : duV m c t (ix2 p q) = Mid.du (inputs m c) (row t p) (col t q) := by
  unfold duV Mid.du
  rw [duB_at, gV_apply, dV_apply]

/-! ## The quantised blocks, for any array of rows `v` the block `w` is a part of -/

section
variable {t} {w : FVec Ideal S256x256 .f32} {v : Fin 4096 → Fin 3584 → EReal} (h : ∀ p q : Fin 256, w (ix2 p q) = v (row t p) (col t q))
include h

/-- A group of the block is the row's group of the same columns. -/
theorem grp_eq (p q : Fin 256) (k : Fin 28) (hk : k.val = (t.val % 14 * 256 + q.val) / 128) : grp w p q = Mid.group (v (row t p)) k := funext fun j => by
  unfold grp Mid.group
  rw [h]
  refine congrArg (v (row t p)) (Fin.ext ?_)
  show t.val % 14 * 256 + (q.val / 128 * 128 + j.val) = k.val * 128 + j.val
  omega

theorem codes2_eq (p q : Fin 256) : codes2 w (ix2 p q) = Mid.code (v (row t p)) (col t q) := by
  rw [codes2_apply, h, grp_eq h p q ⟨(col t q).val / 128, by have := (col t q).isLt; omega⟩ rfl]
  rfl

theorem decodes2_eq (p q : Fin 256) : decodes2 w (ix2 p q) = Mid.decoded (v (row t p)) (col t q) := by
  rw [decodes2_apply, h, grp_eq h p q ⟨(col t q).val / 128, by have := (col t q).isLt; omega⟩ rfl]
  rfl

theorem put2_eq (prev : Vec Ideal S256x28 .f32) (p : Fin 256) (j : Fin 28) :
    put2 (colW t) w prev (ix2 p j) = if j.val / 2 = t.val % 14 then Mid.scale (v (row t p)) j else prev (ix2 p j) := by
  have e : colW t = BitVec.ofNat 32 (⟨t.val % 14, by omega⟩ : Fin 14).val := congrArg (BitVec.ofNat 32) (coord1 t)
  rw [e, put2_apply]
  by_cases hj : j.val / 2 = t.val % 14
  · rw [if_pos hj, if_pos hj, grp_eq h p _ j (by show j.val = (t.val % 14 * 256 + j.val % 2 * 128) / 128; omega)]
    rfl
  · rw [if_neg hj, if_neg hj]

end

end Cert.Proof.MidVal

end
-- ==== Proof.MidRunA.lean ====
/-
  The kernel's body run at the first point of a row block (column block 0): the scales and the accumulators start from zero.
  `runA` holds, for each output and each carried scratch buffer, the stores the body makes (last first), with the proof that
  the body runs to its end on whole staging buffers and leaves exactly these stores behind.
-/
module

public import proofs.«01_k».proof.Proof.Gen.MidKIdeal.Frame.Runs

@[expose] public section

set_option maxRecDepth 16384

noncomputable section

namespace Cert.Proof.MidRun

open Cert.MidKIdeal Cert.MidKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- one body is run symbolically from beginning to end: this takes more than the default budget
set_option maxHeartbeats 0 in
/-- The stores of the body at the first point of a row block (column block 0): the scales and the accumulators start from zero, and the run that makes them. -/
noncomputable def runA (c : Dev nD) (i : grid0.Coords) (arg2 : Memref sig .tc .vmem S256x8192 .bf16) (harg2 : arg2.IsWhole) (arg3 : Memref sig .tc .vmem S256x8192 .bf16) (harg3 : arg3.IsWhole) (arg4 : Memref sig .tc .vmem S256x8192 .fp8e4m3) (harg4 : arg4.IsWhole) (arg5 : Memref sig .tc .vmem S1x2x8192 .f32) (harg5 : arg5.IsWhole) (arg6 : Memref sig .tc .vmem S256x8192 .fp8e4m3) (harg6 : arg6.IsWhole) (arg7 : Memref sig .tc .vmem S1x2x8192 .f32) (harg7 : arg7.IsWhole) (arg8 : Memref sig .tc .vmem S8192x256 .fp8e4m3) (harg8 : arg8.IsWhole) (arg9 : Memref sig .tc .vmem S1x64x256 .f32) (harg9 : arg9.IsWhole) (arg10 : Memref sig .tc .vmem S256x192 .bf16) (harg10 : arg10.IsWhole) (arg11 : Memref sig .tc .vmem S256x192 .bf16) (harg11 : arg11.IsWhole) (arg12 : Memref sig .tc .vmem S256x192 .bf16) (harg12 : arg12.IsWhole) (arg13 : Memref sig .tc .vmem S192x256 .bf16) (harg13 : arg13.IsWhole) (arg14 : Memref sig .tc .vmem S192x256 .bf16) (harg14 : arg14.IsWhole) (arg15 : Memref sig .tc .vmem S192x256 .bf16) (harg15 : arg15.IsWhole) (arg16 : Memref sig .tc .vmem S256x192 .f32) (harg16 : arg16.IsWhole) (arg17 : Memref sig .tc .vmem S256x1 .f32) (harg17 : arg17.IsWhole) (arg18 : Memref sig .tc .vmem S256x256 .fp8e4m3) (harg18 : arg18.IsWhole) (arg19 : Memref sig .tc .vmem S256x28 .f32) (harg19 : arg19.IsWhole) (arg20 : Memref sig .tc .vmem S256x256 .fp8e4m3) (harg20 : arg20.IsWhole) (arg21 : Memref sig .tc .vmem S256x28 .f32) (harg21 : arg21.IsWhole) (arg22 : Memref sig .tc .vmem S256x256 .fp8e4m3) (harg22 : arg22.IsWhole) (arg23 : Memref sig .tc .vmem S256x28 .f32) (harg23 : arg23.IsWhole) (arg24 : Memref sig .tc .vmem S256x256 .bf16) (harg24 : arg24.IsWhole) (arg25 : Memref sig .tc .vmem S256x256 .bf16) (harg25 : arg25.IsWhole) (arg26 : Memref sig .tc .vmem S256x256 .bf16) (harg26 : arg26.IsWhole) (arg27 : Memref sig .tc .vmem S256x256 .bf16) (harg27 : arg27.IsWhole) (arg28 : Memref sig .tc .vmem S256x256 .bf16) (harg28 : arg28.IsWhole) (arg29 : Memref sig .tc .vmem S256x192 .bf16) (harg29 : arg29.IsWhole) (arg30 : Memref sig .tc .vmem S256x192 .bf16) (harg30 : arg30.IsWhole) (arg31 : Memref sig .tc .vmem S256x192 .bf16) (harg31 : arg31.IsWhole) (arg32 : Memref sig .tc .vmem S256x192 .f32) (harg32 : arg32.IsWhole) (arg33 : Memref sig .tc .vmem S256x192 .f32) (harg33 : arg33.IsWhole) (arg34 : Memref sig .tc .vmem S256x192 .f32) (harg34 : arg34.IsWhole) (hc0 : cond0_0 i) (hc1 : ¬cond0_1 i)
    (x0 : Vec F S256x8192 .bf16) (x1 : Vec F S256x8192 .bf16) (x2 : Vec F S256x8192 .fp8e4m3) (x3 : Vec F S1x2x8192 .f32) (x4 : Vec F S256x8192 .fp8e4m3) (x5 : Vec F S1x2x8192 .f32) (x6 : Vec F S8192x256 .fp8e4m3) (x7 : Vec F S1x64x256 .f32) (x8 : Vec F S256x192 .bf16) (x9 : Vec F S256x192 .bf16) (x10 : Vec F S256x192 .bf16) (x11 : Vec F S192x256 .bf16) (x12 : Vec F S192x256 .bf16) (x13 : Vec F S192x256 .bf16) (x14 : Vec F S256x192 .f32) (x15 : Vec F S256x1 .f32) :
    Σ' (L16 : List (View.Piece (Elt F) S256x256 .fp8e4m3)), Σ' (L17 : List (View.Piece (Elt F) S256x28 .f32)), Σ' (L18 : List (View.Piece (Elt F) S256x256 .fp8e4m3)), Σ' (L19 : List (View.Piece (Elt F) S256x28 .f32)), Σ' (L20 : List (View.Piece (Elt F) S256x256 .fp8e4m3)), Σ' (L21 : List (View.Piece (Elt F) S256x28 .f32)), Σ' (L22 : List (View.Piece (Elt F) S256x256 .bf16)), Σ' (L23 : List (View.Piece (Elt F) S256x256 .bf16)), Σ' (L24 : List (View.Piece (Elt F) S256x256 .bf16)), Σ' (L25 : List (View.Piece (Elt F) S256x256 .bf16)), Σ' (L26 : List (View.Piece (Elt F) S256x256 .bf16)), Σ' (L27 : List (View.Piece (Elt F) S256x192 .bf16)), Σ' (L28 : List (View.Piece (Elt F) S256x192 .bf16)), Σ' (L29 : List (View.Piece (Elt F) S256x192 .bf16)), Σ' (LS0 : List (View.Piece (Elt F) S256x192 .f32)), Σ' (LS1 : List (View.Piece (Elt F) S256x192 .f32)), { LS2 : List (View.Piece (Elt F) S256x192 .f32) //
      ∀ (xi27 : Vec F S256x192 .bf16) (xi28 : Vec F S256x192 .bf16) (xi29 : Vec F S256x192 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare xi27 ∗ owns (c : Thread nD τ) arg30 fullShare xi28 ∗ owns (c : Thread nD τ) arg31 fullShare xi29 ∗ (∃ d, owns (c : Thread nD τ) arg32 fullShare d) ∗ (∃ d, owns (c : Thread nD τ) arg33 fullShare d) ∗ (∃ d, owns (c : Thread nD τ) arg34 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ owns (c : Thread nD τ) arg29 fullShare xi27 ∗ owns (c : Thread nD τ) arg30 fullShare xi28 ∗ owns (c : Thread nD τ) arg31 fullShare xi29 ∗ (∃ f, arg32.view.loc (c : Thread nD τ) ↦[arg32.view.set]{fullShare} arg32.view.writes (Elt F) f LS0) ∗ (∃ f, arg33.view.loc (c : Thread nD τ) ↦[arg33.view.set]{fullShare} arg33.view.writes (Elt F) f LS1) ∗ (∃ f, arg34.view.loc (c : Thread nD τ) ↦[arg34.view.set]{fullShare} arg34.view.writes (Elt F) f LS2)) -∗ K ⟨⟩))
          ⊢ wp frame (wpE (defs₀ (F := F)) Variants.none c none) E (cc0_mid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, ?_, ?_, ?_, ?_, ?_, ?_, ?_, ?_, ?_, ?_, [], [], [], ?_, ?_, ?_, fun xi27 xi28 xi29 E K => ?run⟩
  case run =>
    simp only [cc0_mid_eq_skeleton]; unfold cc0_mid_skel
    simp only [k0_part33_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%f27, %hf27, H27⟩, ⟨%f28, %hf28, H28⟩, ⟨%f29, %hf29, H29⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg29.eq_unread hf27; obtain rfl := harg30.eq_unread hf28; obtain rfl := harg31.eq_unread hf29
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [HS0]; · iexists _; iexact HS0
    isplitl [HS1]; · iexists _; iexact HS1
    iexists _; iexact HS2

end Cert.Proof.MidRun

end
-- ==== Proof.MidRunB.lean ====
/-
  The kernel's body run at a point in the middle of a row block.
  `runB` holds, for each output and each carried scratch buffer, the stores the body makes (last first), with the proof that
  the body runs to its end on whole staging buffers and leaves exactly these stores behind.
-/
module

public import proofs.«01_k».proof.Proof.Gen.MidKIdeal.Frame.Runs

@[expose] public section

set_option maxRecDepth 16384

noncomputable section

namespace Cert.Proof.MidRun

open Cert.MidKIdeal Cert.MidKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- one body is run symbolically from beginning to end: this takes more than the default budget
set_option maxHeartbeats 0 in
/-- The stores of the body at a point in the middle of a row block, and the run that makes them. -/
noncomputable def runB (c : Dev nD) (i : grid0.Coords) (arg2 : Memref sig .tc .vmem S256x8192 .bf16) (harg2 : arg2.IsWhole) (arg3 : Memref sig .tc .vmem S256x8192 .bf16) (harg3 : arg3.IsWhole) (arg4 : Memref sig .tc .vmem S256x8192 .fp8e4m3) (harg4 : arg4.IsWhole) (arg5 : Memref sig .tc .vmem S1x2x8192 .f32) (harg5 : arg5.IsWhole) (arg6 : Memref sig .tc .vmem S256x8192 .fp8e4m3) (harg6 : arg6.IsWhole) (arg7 : Memref sig .tc .vmem S1x2x8192 .f32) (harg7 : arg7.IsWhole) (arg8 : Memref sig .tc .vmem S8192x256 .fp8e4m3) (harg8 : arg8.IsWhole) (arg9 : Memref sig .tc .vmem S1x64x256 .f32) (harg9 : arg9.IsWhole) (arg10 : Memref sig .tc .vmem S256x192 .bf16) (harg10 : arg10.IsWhole) (arg11 : Memref sig .tc .vmem S256x192 .bf16) (harg11 : arg11.IsWhole) (arg12 : Memref sig .tc .vmem S256x192 .bf16) (harg12 : arg12.IsWhole) (arg13 : Memref sig .tc .vmem S192x256 .bf16) (harg13 : arg13.IsWhole) (arg14 : Memref sig .tc .vmem S192x256 .bf16) (harg14 : arg14.IsWhole) (arg15 : Memref sig .tc .vmem S192x256 .bf16) (harg15 : arg15.IsWhole) (arg16 : Memref sig .tc .vmem S256x192 .f32) (harg16 : arg16.IsWhole) (arg17 : Memref sig .tc .vmem S256x1 .f32) (harg17 : arg17.IsWhole) (arg18 : Memref sig .tc .vmem S256x256 .fp8e4m3) (harg18 : arg18.IsWhole) (arg19 : Memref sig .tc .vmem S256x28 .f32) (harg19 : arg19.IsWhole) (arg20 : Memref sig .tc .vmem S256x256 .fp8e4m3) (harg20 : arg20.IsWhole) (arg21 : Memref sig .tc .vmem S256x28 .f32) (harg21 : arg21.IsWhole) (arg22 : Memref sig .tc .vmem S256x256 .fp8e4m3) (harg22 : arg22.IsWhole) (arg23 : Memref sig .tc .vmem S256x28 .f32) (harg23 : arg23.IsWhole) (arg24 : Memref sig .tc .vmem S256x256 .bf16) (harg24 : arg24.IsWhole) (arg25 : Memref sig .tc .vmem S256x256 .bf16) (harg25 : arg25.IsWhole) (arg26 : Memref sig .tc .vmem S256x256 .bf16) (harg26 : arg26.IsWhole) (arg27 : Memref sig .tc .vmem S256x256 .bf16) (harg27 : arg27.IsWhole) (arg28 : Memref sig .tc .vmem S256x256 .bf16) (harg28 : arg28.IsWhole) (arg29 : Memref sig .tc .vmem S256x192 .bf16) (harg29 : arg29.IsWhole) (arg30 : Memref sig .tc .vmem S256x192 .bf16) (harg30 : arg30.IsWhole) (arg31 : Memref sig .tc .vmem S256x192 .bf16) (harg31 : arg31.IsWhole) (arg32 : Memref sig .tc .vmem S256x192 .f32) (harg32 : arg32.IsWhole) (arg33 : Memref sig .tc .vmem S256x192 .f32) (harg33 : arg33.IsWhole) (arg34 : Memref sig .tc .vmem S256x192 .f32) (harg34 : arg34.IsWhole) (hc0 : ¬cond0_0 i) (hc1 : ¬cond0_1 i)
    (x0 : Vec F S256x8192 .bf16) (x1 : Vec F S256x8192 .bf16) (x2 : Vec F S256x8192 .fp8e4m3) (x3 : Vec F S1x2x8192 .f32) (x4 : Vec F S256x8192 .fp8e4m3) (x5 : Vec F S1x2x8192 .f32) (x6 : Vec F S8192x256 .fp8e4m3) (x7 : Vec F S1x64x256 .f32) (x8 : Vec F S256x192 .bf16) (x9 : Vec F S256x192 .bf16) (x10 : Vec F S256x192 .bf16) (x11 : Vec F S192x256 .bf16) (x12 : Vec F S192x256 .bf16) (x13 : Vec F S192x256 .bf16) (x14 : Vec F S256x192 .f32) (x15 : Vec F S256x1 .f32) (xo17 : Vec F S256x28 .f32) (xo19 : Vec F S256x28 .f32) (xo21 : Vec F S256x28 .f32) (xs0 : Vec F S256x192 .f32) (xs1 : Vec F S256x192 .f32) (xs2 : Vec F S256x192 .f32) :
    Σ' (L16 : List (View.Piece (Elt F) S256x256 .fp8e4m3)), Σ' (L17 : List (View.Piece (Elt F) S256x28 .f32)), Σ' (L18 : List (View.Piece (Elt F) S256x256 .fp8e4m3)), Σ' (L19 : List (View.Piece (Elt F) S256x28 .f32)), Σ' (L20 : List (View.Piece (Elt F) S256x256 .fp8e4m3)), Σ' (L21 : List (View.Piece (Elt F) S256x28 .f32)), Σ' (L22 : List (View.Piece (Elt F) S256x256 .bf16)), Σ' (L23 : List (View.Piece (Elt F) S256x256 .bf16)), Σ' (L24 : List (View.Piece (Elt F) S256x256 .bf16)), Σ' (L25 : List (View.Piece (Elt F) S256x256 .bf16)), Σ' (L26 : List (View.Piece (Elt F) S256x256 .bf16)), Σ' (L27 : List (View.Piece (Elt F) S256x192 .bf16)), Σ' (L28 : List (View.Piece (Elt F) S256x192 .bf16)), Σ' (L29 : List (View.Piece (Elt F) S256x192 .bf16)), Σ' (LS0 : List (View.Piece (Elt F) S256x192 .f32)), Σ' (LS1 : List (View.Piece (Elt F) S256x192 .f32)), { LS2 : List (View.Piece (Elt F) S256x192 .f32) //
      ∀ (xi27 : Vec F S256x192 .bf16) (xi28 : Vec F S256x192 .bf16) (xi29 : Vec F S256x192 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ owns (c : Thread nD τ) arg19 fullShare xo17 ∗ (∃ d, owns (c : Thread nD τ) arg20 fullShare d) ∗ owns (c : Thread nD τ) arg21 fullShare xo19 ∗ (∃ d, owns (c : Thread nD τ) arg22 fullShare d) ∗ owns (c : Thread nD τ) arg23 fullShare xo21 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare xi27 ∗ owns (c : Thread nD τ) arg30 fullShare xi28 ∗ owns (c : Thread nD τ) arg31 fullShare xi29 ∗ owns (c : Thread nD τ) arg32 fullShare xs0 ∗ owns (c : Thread nD τ) arg33 fullShare xs1 ∗ owns (c : Thread nD τ) arg34 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ owns (c : Thread nD τ) arg29 fullShare xi27 ∗ owns (c : Thread nD τ) arg30 fullShare xi28 ∗ owns (c : Thread nD τ) arg31 fullShare xi29 ∗ (∃ f, arg32.view.loc (c : Thread nD τ) ↦[arg32.view.set]{fullShare} arg32.view.writes (Elt F) f LS0) ∗ (∃ f, arg33.view.loc (c : Thread nD τ) ↦[arg33.view.set]{fullShare} arg33.view.writes (Elt F) f LS1) ∗ (∃ f, arg34.view.loc (c : Thread nD τ) ↦[arg34.view.set]{fullShare} arg34.view.writes (Elt F) f LS2)) -∗ K ⟨⟩))
          ⊢ wp frame (wpE (defs₀ (F := F)) Variants.none c none) E (cc0_mid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, ?_, ?_, ?_, ?_, ?_, ?_, ?_, ?_, ?_, ?_, [], [], [], ?_, ?_, ?_, fun xi27 xi28 xi29 E K => ?run⟩
  case run =>
    simp only [cc0_mid_eq_skeleton]; unfold cc0_mid_skel
    simp only [k0_part33_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%d18, %f18, -, H18⟩, ⟨%f19, %hf19, H19⟩, ⟨%d20, %f20, -, H20⟩, ⟨%f21, %hf21, H21⟩, ⟨%d22, %f22, -, H22⟩, ⟨%d23, %f23, -, H23⟩, ⟨%d24, %f24, -, H24⟩, ⟨%d25, %f25, -, H25⟩, ⟨%d26, %f26, -, H26⟩, ⟨%f27, %hf27, H27⟩, ⟨%f28, %hf28, H28⟩, ⟨%f29, %hf29, H29⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg19.eq_unread hf17; obtain rfl := harg21.eq_unread hf19; obtain rfl := harg23.eq_unread hf21; obtain rfl := harg29.eq_unread hf27; obtain rfl := harg30.eq_unread hf28; obtain rfl := harg31.eq_unread hf29; obtain rfl := harg32.eq_unread hfs0; obtain rfl := harg33.eq_unread hfs1; obtain rfl := harg34.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [HS0]; · iexists _; iexact HS0
    isplitl [HS1]; · iexists _; iexact HS1
    iexists _; iexact HS2

end Cert.Proof.MidRun

end
-- ==== Proof.MidRunC.lean ====
/-
  The kernel's body run at the last point of a row block: the three adapter products are written out.
  `runC` holds, for each output and each carried scratch buffer, the stores the body makes (last first), with the proof that
  the body runs to its end on whole staging buffers and leaves exactly these stores behind.
-/
module

public import proofs.«01_k».proof.Proof.Gen.MidKIdeal.Frame.Runs

@[expose] public section

set_option maxRecDepth 16384

noncomputable section

namespace Cert.Proof.MidRun

open Cert.MidKIdeal Cert.MidKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- one body is run symbolically from beginning to end: this takes more than the default budget
set_option maxHeartbeats 0 in
/-- The stores of the body at the last point of a row block: the three adapter products are written out, and the run that makes them. -/
noncomputable def runC (c : Dev nD) (i : grid0.Coords) (arg2 : Memref sig .tc .vmem S256x8192 .bf16) (harg2 : arg2.IsWhole) (arg3 : Memref sig .tc .vmem S256x8192 .bf16) (harg3 : arg3.IsWhole) (arg4 : Memref sig .tc .vmem S256x8192 .fp8e4m3) (harg4 : arg4.IsWhole) (arg5 : Memref sig .tc .vmem S1x2x8192 .f32) (harg5 : arg5.IsWhole) (arg6 : Memref sig .tc .vmem S256x8192 .fp8e4m3) (harg6 : arg6.IsWhole) (arg7 : Memref sig .tc .vmem S1x2x8192 .f32) (harg7 : arg7.IsWhole) (arg8 : Memref sig .tc .vmem S8192x256 .fp8e4m3) (harg8 : arg8.IsWhole) (arg9 : Memref sig .tc .vmem S1x64x256 .f32) (harg9 : arg9.IsWhole) (arg10 : Memref sig .tc .vmem S256x192 .bf16) (harg10 : arg10.IsWhole) (arg11 : Memref sig .tc .vmem S256x192 .bf16) (harg11 : arg11.IsWhole) (arg12 : Memref sig .tc .vmem S256x192 .bf16) (harg12 : arg12.IsWhole) (arg13 : Memref sig .tc .vmem S192x256 .bf16) (harg13 : arg13.IsWhole) (arg14 : Memref sig .tc .vmem S192x256 .bf16) (harg14 : arg14.IsWhole) (arg15 : Memref sig .tc .vmem S192x256 .bf16) (harg15 : arg15.IsWhole) (arg16 : Memref sig .tc .vmem S256x192 .f32) (harg16 : arg16.IsWhole) (arg17 : Memref sig .tc .vmem S256x1 .f32) (harg17 : arg17.IsWhole) (arg18 : Memref sig .tc .vmem S256x256 .fp8e4m3) (harg18 : arg18.IsWhole) (arg19 : Memref sig .tc .vmem S256x28 .f32) (harg19 : arg19.IsWhole) (arg20 : Memref sig .tc .vmem S256x256 .fp8e4m3) (harg20 : arg20.IsWhole) (arg21 : Memref sig .tc .vmem S256x28 .f32) (harg21 : arg21.IsWhole) (arg22 : Memref sig .tc .vmem S256x256 .fp8e4m3) (harg22 : arg22.IsWhole) (arg23 : Memref sig .tc .vmem S256x28 .f32) (harg23 : arg23.IsWhole) (arg24 : Memref sig .tc .vmem S256x256 .bf16) (harg24 : arg24.IsWhole) (arg25 : Memref sig .tc .vmem S256x256 .bf16) (harg25 : arg25.IsWhole) (arg26 : Memref sig .tc .vmem S256x256 .bf16) (harg26 : arg26.IsWhole) (arg27 : Memref sig .tc .vmem S256x256 .bf16) (harg27 : arg27.IsWhole) (arg28 : Memref sig .tc .vmem S256x256 .bf16) (harg28 : arg28.IsWhole) (arg29 : Memref sig .tc .vmem S256x192 .bf16) (harg29 : arg29.IsWhole) (arg30 : Memref sig .tc .vmem S256x192 .bf16) (harg30 : arg30.IsWhole) (arg31 : Memref sig .tc .vmem S256x192 .bf16) (harg31 : arg31.IsWhole) (arg32 : Memref sig .tc .vmem S256x192 .f32) (harg32 : arg32.IsWhole) (arg33 : Memref sig .tc .vmem S256x192 .f32) (harg33 : arg33.IsWhole) (arg34 : Memref sig .tc .vmem S256x192 .f32) (harg34 : arg34.IsWhole) (hc0 : ¬cond0_0 i) (hc1 : cond0_1 i)
    (x0 : Vec F S256x8192 .bf16) (x1 : Vec F S256x8192 .bf16) (x2 : Vec F S256x8192 .fp8e4m3) (x3 : Vec F S1x2x8192 .f32) (x4 : Vec F S256x8192 .fp8e4m3) (x5 : Vec F S1x2x8192 .f32) (x6 : Vec F S8192x256 .fp8e4m3) (x7 : Vec F S1x64x256 .f32) (x8 : Vec F S256x192 .bf16) (x9 : Vec F S256x192 .bf16) (x10 : Vec F S256x192 .bf16) (x11 : Vec F S192x256 .bf16) (x12 : Vec F S192x256 .bf16) (x13 : Vec F S192x256 .bf16) (x14 : Vec F S256x192 .f32) (x15 : Vec F S256x1 .f32) (xo17 : Vec F S256x28 .f32) (xo19 : Vec F S256x28 .f32) (xo21 : Vec F S256x28 .f32) (xs0 : Vec F S256x192 .f32) (xs1 : Vec F S256x192 .f32) (xs2 : Vec F S256x192 .f32) :
    Σ' (L16 : List (View.Piece (Elt F) S256x256 .fp8e4m3)), Σ' (L17 : List (View.Piece (Elt F) S256x28 .f32)), Σ' (L18 : List (View.Piece (Elt F) S256x256 .fp8e4m3)), Σ' (L19 : List (View.Piece (Elt F) S256x28 .f32)), Σ' (L20 : List (View.Piece (Elt F) S256x256 .fp8e4m3)), Σ' (L21 : List (View.Piece (Elt F) S256x28 .f32)), Σ' (L22 : List (View.Piece (Elt F) S256x256 .bf16)), Σ' (L23 : List (View.Piece (Elt F) S256x256 .bf16)), Σ' (L24 : List (View.Piece (Elt F) S256x256 .bf16)), Σ' (L25 : List (View.Piece (Elt F) S256x256 .bf16)), Σ' (L26 : List (View.Piece (Elt F) S256x256 .bf16)), Σ' (L27 : List (View.Piece (Elt F) S256x192 .bf16)), Σ' (L28 : List (View.Piece (Elt F) S256x192 .bf16)), Σ' (L29 : List (View.Piece (Elt F) S256x192 .bf16)), Σ' (LS0 : List (View.Piece (Elt F) S256x192 .f32)), Σ' (LS1 : List (View.Piece (Elt F) S256x192 .f32)), { LS2 : List (View.Piece (Elt F) S256x192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ owns (c : Thread nD τ) arg19 fullShare xo17 ∗ (∃ d, owns (c : Thread nD τ) arg20 fullShare d) ∗ owns (c : Thread nD τ) arg21 fullShare xo19 ∗ (∃ d, owns (c : Thread nD τ) arg22 fullShare d) ∗ owns (c : Thread nD τ) arg23 fullShare xo21 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ owns (c : Thread nD τ) arg32 fullShare xs0 ∗ owns (c : Thread nD τ) arg33 fullShare xs1 ∗ owns (c : Thread nD τ) arg34 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f L28) ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f LS0) ∗ (∃ f, arg33.view.loc (c : Thread nD τ) ↦[arg33.view.set]{fullShare} arg33.view.writes (Elt F) f LS1) ∗ (∃ f, arg34.view.loc (c : Thread nD τ) ↦[arg34.view.set]{fullShare} arg34.view.writes (Elt F) f LS2)) -∗ K ⟨⟩))
          ⊢ wp frame (wpE (defs₀ (F := F)) Variants.none c none) E (cc0_mid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, ?_, ?_, ?_, ?_, ?_, ?_, ?_, ?_, ?_, ?_, ?_, ?_, ?_, ?_, ?_, ?_, fun E K => ?run⟩
  case run =>
    simp only [cc0_mid_eq_skeleton]; unfold cc0_mid_skel
    simp only [k0_part33_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%d18, %f18, -, H18⟩, ⟨%f19, %hf19, H19⟩, ⟨%d20, %f20, -, H20⟩, ⟨%f21, %hf21, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg19.eq_unread hf17; obtain rfl := harg21.eq_unread hf19; obtain rfl := harg23.eq_unread hf21; obtain rfl := harg32.eq_unread hfs0; obtain rfl := harg33.eq_unread hfs1; obtain rfl := harg34.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [HS0]; · iexists _; iexact HS0
    isplitl [HS1]; · iexists _; iexact HS1
    iexists _; iexact HS2

end Cert.Proof.MidRun

end
-- ==== Proof.MidOuts.lean ====
/-
  What the outputs' staging buffers and the accumulators hold after each grid point: the three cases of the body run at a
  point, the stores they make covering what they write, and the recursion over the points.
-/
module

public import proofs.«01_k».proof.Proof.MidRunA
public import proofs.«01_k».proof.Proof.MidRunB
public import proofs.«01_k».proof.Proof.MidRunC

@[expose] public section

set_option maxRecDepth 16384

noncomputable section

namespace Cert.Proof.MidRun

open Cert.MidKIdeal Cert.MidKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the staging buffers of the fourteen outputs and the three accumulators hold after a point, in window order. -/
abbrev Outs (F : FTy → Type) [FloatOps F] : Type :=
  Vec F S256x256 .fp8e4m3 × Vec F S256x28 .f32 × Vec F S256x256 .fp8e4m3 × Vec F S256x28 .f32 × Vec F S256x256 .fp8e4m3 × Vec F S256x28 .f32 × Vec F S256x256 .bf16 × Vec F S256x256 .bf16 × Vec F S256x256 .bf16 × Vec F S256x256 .bf16 × Vec F S256x256 .bf16 × Vec F S256x192 .bf16 × Vec F S256x192 .bf16 × Vec F S256x192 .bf16 × Vec F S256x192 .f32 × Vec F S256x192 .f32 × Vec F S256x192 .f32

/-- Case A run at point `t`, on the point's staging buffers and input blocks. -/
def atA (c : Dev nD) (t : Fin cfg0.N) (h0 : t.val % 14 = 0) (h1 : ¬t.val % 14 = 13) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- Case B run at point `t`, on the point's staging buffers and input blocks, over what the point before left (`p`). -/
def atB (c : Dev nD) (t : Fin cfg0.N) (h0 : ¬t.val % 14 = 0) (h1 : ¬t.val % 14 = 13) (p : Outs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.2.1 p.2.2.2.1 p.2.2.2.2.2.1 p.2.2.2.2.2.2.2.2.2.2.2.2.2.2.1 p.2.2.2.2.2.2.2.2.2.2.2.2.2.2.2.1 p.2.2.2.2.2.2.2.2.2.2.2.2.2.2.2.2

/-- Case C run at point `t`, on the point's staging buffers and input blocks, over what the point before left (`p`). -/
def atC (c : Dev nD) (t : Fin cfg0.N) (h0 : ¬t.val % 14 = 0) (h1 : t.val % 14 = 13) (p : Outs F) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.2.1 p.2.2.2.1 p.2.2.2.2.2.1 p.2.2.2.2.2.2.2.2.2.2.2.2.2.2.1 p.2.2.2.2.2.2.2.2.2.2.2.2.2.2.2.1 p.2.2.2.2.2.2.2.2.2.2.2.2.2.2.2.2

/-- What case A leaves in the outputs and the accumulators: its stores read back. -/
def outsA (c : Dev nD) (t : Fin cfg0.N) (h0 : t.val % 14 = 0) (h1 : ¬t.val % 14 = 13) : Outs F :=
  (VO0_16.read (Elt F) (VO0_16.writes (Elt F) VO0_16.junk (atA m c t h0 h1).1),
   VO0_17.read (Elt F) (VO0_17.writes (Elt F) VO0_17.junk (atA m c t h0 h1).2.1),
   VO0_18.read (Elt F) (VO0_18.writes (Elt F) VO0_18.junk (atA m c t h0 h1).2.2.1),
   VO0_19.read (Elt F) (VO0_19.writes (Elt F) VO0_19.junk (atA m c t h0 h1).2.2.2.1),
   VO0_20.read (Elt F) (VO0_20.writes (Elt F) VO0_20.junk (atA m c t h0 h1).2.2.2.2.1),
   VO0_21.read (Elt F) (VO0_21.writes (Elt F) VO0_21.junk (atA m c t h0 h1).2.2.2.2.2.1),
   VO0_22.read (Elt F) (VO0_22.writes (Elt F) VO0_22.junk (atA m c t h0 h1).2.2.2.2.2.2.1),
   VO0_23.read (Elt F) (VO0_23.writes (Elt F) VO0_23.junk (atA m c t h0 h1).2.2.2.2.2.2.2.1),
   VO0_24.read (Elt F) (VO0_24.writes (Elt F) VO0_24.junk (atA m c t h0 h1).2.2.2.2.2.2.2.2.1),
   VO0_25.read (Elt F) (VO0_25.writes (Elt F) VO0_25.junk (atA m c t h0 h1).2.2.2.2.2.2.2.2.2.1),
   VO0_26.read (Elt F) (VO0_26.writes (Elt F) VO0_26.junk (atA m c t h0 h1).2.2.2.2.2.2.2.2.2.2.1),
   VO0_27.read (Elt F) (VO0_27.writes (Elt F) VO0_27.junk (atA m c t h0 h1).2.2.2.2.2.2.2.2.2.2.2.1),
   VO0_28.read (Elt F) (VO0_28.writes (Elt F) VO0_28.junk (atA m c t h0 h1).2.2.2.2.2.2.2.2.2.2.2.2.1),
   VO0_29.read (Elt F) (VO0_29.writes (Elt F) VO0_29.junk (atA m c t h0 h1).2.2.2.2.2.2.2.2.2.2.2.2.2.1),
   VS0_0.read (Elt F) (VS0_0.writes (Elt F) VS0_0.junk (atA m c t h0 h1).2.2.2.2.2.2.2.2.2.2.2.2.2.2.1),
   VS0_1.read (Elt F) (VS0_1.writes (Elt F) VS0_1.junk (atA m c t h0 h1).2.2.2.2.2.2.2.2.2.2.2.2.2.2.2.1),
   VS0_2.read (Elt F) (VS0_2.writes (Elt F) VS0_2.junk (atA m c t h0 h1).2.2.2.2.2.2.2.2.2.2.2.2.2.2.2.2.1))

/-! Case A's stores fill each buffer it writes. -/

theorem coverA_16 (c : Dev nD) (t : Fin cfg0.N) (h0 : t.val % 14 = 0) (h1 : ¬t.val % 14 = 13) (y : S256x256.Idx) :
    ∃ pc ∈ (atA m c t h0 h1).1, y ∈ pc.1.set :=
  View.cover_of_tiledL (atA m c t h0 h1).1 S256x128.size (by sl_kernel_rfl) y
theorem coverA_17 (c : Dev nD) (t : Fin cfg0.N) (h0 : t.val % 14 = 0) (h1 : ¬t.val % 14 = 13) (y : S256x28.Idx) :
    ∃ pc ∈ (atA m c t h0 h1).2.1, y ∈ pc.1.set :=
  View.cover_of_tiledL (atA m c t h0 h1).2.1 S256x28.size (by sl_kernel_rfl) y
theorem coverA_18 (c : Dev nD) (t : Fin cfg0.N) (h0 : t.val % 14 = 0) (h1 : ¬t.val % 14 = 13) (y : S256x256.Idx) :
    ∃ pc ∈ (atA m c t h0 h1).2.2.1, y ∈ pc.1.set :=
  View.cover_of_tiledL (atA m c t h0 h1).2.2.1 S256x128.size (by sl_kernel_rfl) y
theorem coverA_19 (c : Dev nD) (t : Fin cfg0.N) (h0 : t.val % 14 = 0) (h1 : ¬t.val % 14 = 13) (y : S256x28.Idx) :
    ∃ pc ∈ (atA m c t h0 h1).2.2.2.1, y ∈ pc.1.set :=
  View.cover_of_tiledL (atA m c t h0 h1).2.2.2.1 S256x28.size (by sl_kernel_rfl) y
theorem coverA_20 (c : Dev nD) (t : Fin cfg0.N) (h0 : t.val % 14 = 0) (h1 : ¬t.val % 14 = 13) (y : S256x256.Idx) :
    ∃ pc ∈ (atA m c t h0 h1).2.2.2.2.1, y ∈ pc.1.set :=
  View.cover_of_tiledL (atA m c t h0 h1).2.2.2.2.1 S256x128.size (by sl_kernel_rfl) y
theorem coverA_21 (c : Dev nD) (t : Fin cfg0.N) (h0 : t.val % 14 = 0) (h1 : ¬t.val % 14 = 13) (y : S256x28.Idx) :
    ∃ pc ∈ (atA m c t h0 h1).2.2.2.2.2.1, y ∈ pc.1.set :=
  View.cover_of_tiledL (atA m c t h0 h1).2.2.2.2.2.1 S256x28.size (by sl_kernel_rfl) y
theorem coverA_22 (c : Dev nD) (t : Fin cfg0.N) (h0 : t.val % 14 = 0) (h1 : ¬t.val % 14 = 13) (y : S256x256.Idx) :
    ∃ pc ∈ (atA m c t h0 h1).2.2.2.2.2.2.1, y ∈ pc.1.set :=
  View.cover_of_tiledL (atA m c t h0 h1).2.2.2.2.2.2.1 S256x128.size (by sl_kernel_rfl) y
theorem coverA_23 (c : Dev nD) (t : Fin cfg0.N) (h0 : t.val % 14 = 0) (h1 : ¬t.val % 14 = 13) (y : S256x256.Idx) :
    ∃ pc ∈ (atA m c t h0 h1).2.2.2.2.2.2.2.1, y ∈ pc.1.set :=
  View.cover_of_tiledL (atA m c t h0 h1).2.2.2.2.2.2.2.1 S256x128.size (by sl_kernel_rfl) y
theorem coverA_24 (c : Dev nD) (t : Fin cfg0.N) (h0 : t.val % 14 = 0) (h1 : ¬t.val % 14 = 13) (y : S256x256.Idx) :
    ∃ pc ∈ (atA m c t h0 h1).2.2.2.2.2.2.2.2.1, y ∈ pc.1.set :=
  View.cover_of_tiledL (atA m c t h0 h1).2.2.2.2.2.2.2.2.1 S256x128.size (by sl_kernel_rfl) y
theorem coverA_25 (c : Dev nD) (t : Fin cfg0.N) (h0 : t.val % 14 = 0) (h1 : ¬t.val % 14 = 13) (y : S256x256.Idx) :
    ∃ pc ∈ (atA m c t h0 h1).2.2.2.2.2.2.2.2.2.1, y ∈ pc.1.set :=
  View.cover_of_tiledL (atA m c t h0 h1).2.2.2.2.2.2.2.2.2.1 S256x256.size (by sl_kernel_rfl) y
theorem coverA_26 (c : Dev nD) (t : Fin cfg0.N) (h0 : t.val % 14 = 0) (h1 : ¬t.val % 14 = 13) (y : S256x256.Idx) :
    ∃ pc ∈ (atA m c t h0 h1).2.2.2.2.2.2.2.2.2.2.1, y ∈ pc.1.set :=
  View.cover_of_tiledL (atA m c t h0 h1).2.2.2.2.2.2.2.2.2.2.1 S256x256.size (by sl_kernel_rfl) y
theorem scoverA_0 (c : Dev nD) (t : Fin cfg0.N) (h0 : t.val % 14 = 0) (h1 : ¬t.val % 14 = 13) (y : S256x192.Idx) :
    ∃ pc ∈ (atA m c t h0 h1).2.2.2.2.2.2.2.2.2.2.2.2.2.2.1, y ∈ pc.1.set :=
  View.cover_of_tiledL (atA m c t h0 h1).2.2.2.2.2.2.2.2.2.2.2.2.2.2.1 S256x192.size (by sl_kernel_rfl) y
theorem scoverA_1 (c : Dev nD) (t : Fin cfg0.N) (h0 : t.val % 14 = 0) (h1 : ¬t.val % 14 = 13) (y : S256x192.Idx) :
    ∃ pc ∈ (atA m c t h0 h1).2.2.2.2.2.2.2.2.2.2.2.2.2.2.2.1, y ∈ pc.1.set :=
  View.cover_of_tiledL (atA m c t h0 h1).2.2.2.2.2.2.2.2.2.2.2.2.2.2.2.1 S256x192.size (by sl_kernel_rfl) y
theorem scoverA_2 (c : Dev nD) (t : Fin cfg0.N) (h0 : t.val % 14 = 0) (h1 : ¬t.val % 14 = 13) (y : S256x192.Idx) :
    ∃ pc ∈ (atA m c t h0 h1).2.2.2.2.2.2.2.2.2.2.2.2.2.2.2.2.1, y ∈ pc.1.set :=
  View.cover_of_tiledL (atA m c t h0 h1).2.2.2.2.2.2.2.2.2.2.2.2.2.2.2.2.1 S256x192.size (by sl_kernel_rfl) y

/-- What case B leaves in the outputs and the accumulators: its stores read back. -/
def outsB (c : Dev nD) (t : Fin cfg0.N) (h0 : ¬t.val % 14 = 0) (h1 : ¬t.val % 14 = 13) (p : Outs F) : Outs F :=
  (VO0_16.read (Elt F) (VO0_16.writes (Elt F) VO0_16.junk (atB m c t h0 h1 p).1),
   VO0_17.read (Elt F) (VO0_17.writes (Elt F) VO0_17.junk (atB m c t h0 h1 p).2.1),
   VO0_18.read (Elt F) (VO0_18.writes (Elt F) VO0_18.junk (atB m c t h0 h1 p).2.2.1),
   VO0_19.read (Elt F) (VO0_19.writes (Elt F) VO0_19.junk (atB m c t h0 h1 p).2.2.2.1),
   VO0_20.read (Elt F) (VO0_20.writes (Elt F) VO0_20.junk (atB m c t h0 h1 p).2.2.2.2.1),
   VO0_21.read (Elt F) (VO0_21.writes (Elt F) VO0_21.junk (atB m c t h0 h1 p).2.2.2.2.2.1),
   VO0_22.read (Elt F) (VO0_22.writes (Elt F) VO0_22.junk (atB m c t h0 h1 p).2.2.2.2.2.2.1),
   VO0_23.read (Elt F) (VO0_23.writes (Elt F) VO0_23.junk (atB m c t h0 h1 p).2.2.2.2.2.2.2.1),
   VO0_24.read (Elt F) (VO0_24.writes (Elt F) VO0_24.junk (atB m c t h0 h1 p).2.2.2.2.2.2.2.2.1),
   VO0_25.read (Elt F) (VO0_25.writes (Elt F) VO0_25.junk (atB m c t h0 h1 p).2.2.2.2.2.2.2.2.2.1),
   VO0_26.read (Elt F) (VO0_26.writes (Elt F) VO0_26.junk (atB m c t h0 h1 p).2.2.2.2.2.2.2.2.2.2.1),
   VO0_27.read (Elt F) (VO0_27.writes (Elt F) VO0_27.junk (atB m c t h0 h1 p).2.2.2.2.2.2.2.2.2.2.2.1),
   VO0_28.read (Elt F) (VO0_28.writes (Elt F) VO0_28.junk (atB m c t h0 h1 p).2.2.2.2.2.2.2.2.2.2.2.2.1),
   VO0_29.read (Elt F) (VO0_29.writes (Elt F) VO0_29.junk (atB m c t h0 h1 p).2.2.2.2.2.2.2.2.2.2.2.2.2.1),
   VS0_0.read (Elt F) (VS0_0.writes (Elt F) VS0_0.junk (atB m c t h0 h1 p).2.2.2.2.2.2.2.2.2.2.2.2.2.2.1),
   VS0_1.read (Elt F) (VS0_1.writes (Elt F) VS0_1.junk (atB m c t h0 h1 p).2.2.2.2.2.2.2.2.2.2.2.2.2.2.2.1),
   VS0_2.read (Elt F) (VS0_2.writes (Elt F) VS0_2.junk (atB m c t h0 h1 p).2.2.2.2.2.2.2.2.2.2.2.2.2.2.2.2.1))

/-! Case B's stores fill each buffer it writes. -/

theorem coverB_16 (c : Dev nD) (t : Fin cfg0.N) (h0 : ¬t.val % 14 = 0) (h1 : ¬t.val % 14 = 13) (p : Outs F) (y : S256x256.Idx) :
    ∃ pc ∈ (atB m c t h0 h1 p).1, y ∈ pc.1.set :=
  View.cover_of_tiledL (atB m c t h0 h1 p).1 S256x128.size (by sl_kernel_rfl) y
theorem coverB_17 (c : Dev nD) (t : Fin cfg0.N) (h0 : ¬t.val % 14 = 0) (h1 : ¬t.val % 14 = 13) (p : Outs F) (y : S256x28.Idx) :
    ∃ pc ∈ (atB m c t h0 h1 p).2.1, y ∈ pc.1.set :=
  View.cover_of_tiledL (atB m c t h0 h1 p).2.1 S256x28.size (by sl_kernel_rfl) y
theorem coverB_18 (c : Dev nD) (t : Fin cfg0.N) (h0 : ¬t.val % 14 = 0) (h1 : ¬t.val % 14 = 13) (p : Outs F) (y : S256x256.Idx) :
    ∃ pc ∈ (atB m c t h0 h1 p).2.2.1, y ∈ pc.1.set :=
  View.cover_of_tiledL (atB m c t h0 h1 p).2.2.1 S256x128.size (by sl_kernel_rfl) y
theorem coverB_19 (c : Dev nD) (t : Fin cfg0.N) (h0 : ¬t.val % 14 = 0) (h1 : ¬t.val % 14 = 13) (p : Outs F) (y : S256x28.Idx) :
    ∃ pc ∈ (atB m c t h0 h1 p).2.2.2.1, y ∈ pc.1.set :=
  View.cover_of_tiledL (atB m c t h0 h1 p).2.2.2.1 S256x28.size (by sl_kernel_rfl) y
theorem coverB_20 (c : Dev nD) (t : Fin cfg0.N) (h0 : ¬t.val % 14 = 0) (h1 : ¬t.val % 14 = 13) (p : Outs F) (y : S256x256.Idx) :
    ∃ pc ∈ (atB m c t h0 h1 p).2.2.2.2.1, y ∈ pc.1.set :=
  View.cover_of_tiledL (atB m c t h0 h1 p).2.2.2.2.1 S256x128.size (by sl_kernel_rfl) y
theorem coverB_21 (c : Dev nD) (t : Fin cfg0.N) (h0 : ¬t.val % 14 = 0) (h1 : ¬t.val % 14 = 13) (p : Outs F) (y : S256x28.Idx) :
    ∃ pc ∈ (atB m c t h0 h1 p).2.2.2.2.2.1, y ∈ pc.1.set :=
  View.cover_of_tiledL (atB m c t h0 h1 p).2.2.2.2.2.1 S256x28.size (by sl_kernel_rfl) y
theorem coverB_22 (c : Dev nD) (t : Fin cfg0.N) (h0 : ¬t.val % 14 = 0) (h1 : ¬t.val % 14 = 13) (p : Outs F) (y : S256x256.Idx) :
    ∃ pc ∈ (atB m c t h0 h1 p).2.2.2.2.2.2.1, y ∈ pc.1.set :=
  View.cover_of_tiledL (atB m c t h0 h1 p).2.2.2.2.2.2.1 S256x128.size (by sl_kernel_rfl) y
theorem coverB_23 (c : Dev nD) (t : Fin cfg0.N) (h0 : ¬t.val % 14 = 0) (h1 : ¬t.val % 14 = 13) (p : Outs F) (y : S256x256.Idx) :
    ∃ pc ∈ (atB m c t h0 h1 p).2.2.2.2.2.2.2.1, y ∈ pc.1.set :=
  View.cover_of_tiledL (atB m c t h0 h1 p).2.2.2.2.2.2.2.1 S256x128.size (by sl_kernel_rfl) y
theorem coverB_24 (c : Dev nD) (t : Fin cfg0.N) (h0 : ¬t.val % 14 = 0) (h1 : ¬t.val % 14 = 13) (p : Outs F) (y : S256x256.Idx) :
    ∃ pc ∈ (atB m c t h0 h1 p).2.2.2.2.2.2.2.2.1, y ∈ pc.1.set :=
  View.cover_of_tiledL (atB m c t h0 h1 p).2.2.2.2.2.2.2.2.1 S256x128.size (by sl_kernel_rfl) y
theorem coverB_25 (c : Dev nD) (t : Fin cfg0.N) (h0 : ¬t.val % 14 = 0) (h1 : ¬t.val % 14 = 13) (p : Outs F) (y : S256x256.Idx) :
    ∃ pc ∈ (atB m c t h0 h1 p).2.2.2.2.2.2.2.2.2.1, y ∈ pc.1.set :=
  View.cover_of_tiledL (atB m c t h0 h1 p).2.2.2.2.2.2.2.2.2.1 S256x256.size (by sl_kernel_rfl) y
theorem coverB_26 (c : Dev nD) (t : Fin cfg0.N) (h0 : ¬t.val % 14 = 0) (h1 : ¬t.val % 14 = 13) (p : Outs F) (y : S256x256.Idx) :
    ∃ pc ∈ (atB m c t h0 h1 p).2.2.2.2.2.2.2.2.2.2.1, y ∈ pc.1.set :=
  View.cover_of_tiledL (atB m c t h0 h1 p).2.2.2.2.2.2.2.2.2.2.1 S256x256.size (by sl_kernel_rfl) y
theorem scoverB_0 (c : Dev nD) (t : Fin cfg0.N) (h0 : ¬t.val % 14 = 0) (h1 : ¬t.val % 14 = 13) (p : Outs F) (y : S256x192.Idx) :
    ∃ pc ∈ (atB m c t h0 h1 p).2.2.2.2.2.2.2.2.2.2.2.2.2.2.1, y ∈ pc.1.set :=
  View.cover_of_tiledL (atB m c t h0 h1 p).2.2.2.2.2.2.2.2.2.2.2.2.2.2.1 S256x192.size (by sl_kernel_rfl) y
theorem scoverB_1 (c : Dev nD) (t : Fin cfg0.N) (h0 : ¬t.val % 14 = 0) (h1 : ¬t.val % 14 = 13) (p : Outs F) (y : S256x192.Idx) :
    ∃ pc ∈ (atB m c t h0 h1 p).2.2.2.2.2.2.2.2.2.2.2.2.2.2.2.1, y ∈ pc.1.set :=
  View.cover_of_tiledL (atB m c t h0 h1 p).2.2.2.2.2.2.2.2.2.2.2.2.2.2.2.1 S256x192.size (by sl_kernel_rfl) y
theorem scoverB_2 (c : Dev nD) (t : Fin cfg0.N) (h0 : ¬t.val % 14 = 0) (h1 : ¬t.val % 14 = 13) (p : Outs F) (y : S256x192.Idx) :
    ∃ pc ∈ (atB m c t h0 h1 p).2.2.2.2.2.2.2.2.2.2.2.2.2.2.2.2.1, y ∈ pc.1.set :=
  View.cover_of_tiledL (atB m c t h0 h1 p).2.2.2.2.2.2.2.2.2.2.2.2.2.2.2.2.1 S256x192.size (by sl_kernel_rfl) y

/-- What case C leaves in the outputs and the accumulators: its stores read back. -/
def outsC (c : Dev nD) (t : Fin cfg0.N) (h0 : ¬t.val % 14 = 0) (h1 : t.val % 14 = 13) (p : Outs F) : Outs F :=
  (VO0_16.read (Elt F) (VO0_16.writes (Elt F) VO0_16.junk (atC m c t h0 h1 p).1),
   VO0_17.read (Elt F) (VO0_17.writes (Elt F) VO0_17.junk (atC m c t h0 h1 p).2.1),
   VO0_18.read (Elt F) (VO0_18.writes (Elt F) VO0_18.junk (atC m c t h0 h1 p).2.2.1),
   VO0_19.read (Elt F) (VO0_19.writes (Elt F) VO0_19.junk (atC m c t h0 h1 p).2.2.2.1),
   VO0_20.read (Elt F) (VO0_20.writes (Elt F) VO0_20.junk (atC m c t h0 h1 p).2.2.2.2.1),
   VO0_21.read (Elt F) (VO0_21.writes (Elt F) VO0_21.junk (atC m c t h0 h1 p).2.2.2.2.2.1),
   VO0_22.read (Elt F) (VO0_22.writes (Elt F) VO0_22.junk (atC m c t h0 h1 p).2.2.2.2.2.2.1),
   VO0_23.read (Elt F) (VO0_23.writes (Elt F) VO0_23.junk (atC m c t h0 h1 p).2.2.2.2.2.2.2.1),
   VO0_24.read (Elt F) (VO0_24.writes (Elt F) VO0_24.junk (atC m c t h0 h1 p).2.2.2.2.2.2.2.2.1),
   VO0_25.read (Elt F) (VO0_25.writes (Elt F) VO0_25.junk (atC m c t h0 h1 p).2.2.2.2.2.2.2.2.2.1),
   VO0_26.read (Elt F) (VO0_26.writes (Elt F) VO0_26.junk (atC m c t h0 h1 p).2.2.2.2.2.2.2.2.2.2.1),
   VO0_27.read (Elt F) (VO0_27.writes (Elt F) VO0_27.junk (atC m c t h0 h1 p).2.2.2.2.2.2.2.2.2.2.2.1),
   VO0_28.read (Elt F) (VO0_28.writes (Elt F) VO0_28.junk (atC m c t h0 h1 p).2.2.2.2.2.2.2.2.2.2.2.2.1),
   VO0_29.read (Elt F) (VO0_29.writes (Elt F) VO0_29.junk (atC m c t h0 h1 p).2.2.2.2.2.2.2.2.2.2.2.2.2.1),
   VS0_0.read (Elt F) (VS0_0.writes (Elt F) VS0_0.junk (atC m c t h0 h1 p).2.2.2.2.2.2.2.2.2.2.2.2.2.2.1),
   VS0_1.read (Elt F) (VS0_1.writes (Elt F) VS0_1.junk (atC m c t h0 h1 p).2.2.2.2.2.2.2.2.2.2.2.2.2.2.2.1),
   VS0_2.read (Elt F) (VS0_2.writes (Elt F) VS0_2.junk (atC m c t h0 h1 p).2.2.2.2.2.2.2.2.2.2.2.2.2.2.2.2.1))

/-! Case C's stores fill each buffer it writes. -/

theorem coverC_16 (c : Dev nD) (t : Fin cfg0.N) (h0 : ¬t.val % 14 = 0) (h1 : t.val % 14 = 13) (p : Outs F) (y : S256x256.Idx) :
    ∃ pc ∈ (atC m c t h0 h1 p).1, y ∈ pc.1.set :=
  View.cover_of_tiledL (atC m c t h0 h1 p).1 S256x128.size (by sl_kernel_rfl) y
theorem coverC_17 (c : Dev nD) (t : Fin cfg0.N) (h0 : ¬t.val % 14 = 0) (h1 : t.val % 14 = 13) (p : Outs F) (y : S256x28.Idx) :
    ∃ pc ∈ (atC m c t h0 h1 p).2.1, y ∈ pc.1.set :=
  View.cover_of_tiledL (atC m c t h0 h1 p).2.1 S256x28.size (by sl_kernel_rfl) y
theorem coverC_18 (c : Dev nD) (t : Fin cfg0.N) (h0 : ¬t.val % 14 = 0) (h1 : t.val % 14 = 13) (p : Outs F) (y : S256x256.Idx) :
    ∃ pc ∈ (atC m c t h0 h1 p).2.2.1, y ∈ pc.1.set :=
  View.cover_of_tiledL (atC m c t h0 h1 p).2.2.1 S256x128.size (by sl_kernel_rfl) y
theorem coverC_19 (c : Dev nD) (t : Fin cfg0.N) (h0 : ¬t.val % 14 = 0) (h1 : t.val % 14 = 13) (p : Outs F) (y : S256x28.Idx) :
    ∃ pc ∈ (atC m c t h0 h1 p).2.2.2.1, y ∈ pc.1.set :=
  View.cover_of_tiledL (atC m c t h0 h1 p).2.2.2.1 S256x28.size (by sl_kernel_rfl) y
theorem coverC_20 (c : Dev nD) (t : Fin cfg0.N) (h0 : ¬t.val % 14 = 0) (h1 : t.val % 14 = 13) (p : Outs F) (y : S256x256.Idx) :
    ∃ pc ∈ (atC m c t h0 h1 p).2.2.2.2.1, y ∈ pc.1.set :=
  View.cover_of_tiledL (atC m c t h0 h1 p).2.2.2.2.1 S256x128.size (by sl_kernel_rfl) y
theorem coverC_21 (c : Dev nD) (t : Fin cfg0.N) (h0 : ¬t.val % 14 = 0) (h1 : t.val % 14 = 13) (p : Outs F) (y : S256x28.Idx) :
    ∃ pc ∈ (atC m c t h0 h1 p).2.2.2.2.2.1, y ∈ pc.1.set :=
  View.cover_of_tiledL (atC m c t h0 h1 p).2.2.2.2.2.1 S256x28.size (by sl_kernel_rfl) y
theorem coverC_22 (c : Dev nD) (t : Fin cfg0.N) (h0 : ¬t.val % 14 = 0) (h1 : t.val % 14 = 13) (p : Outs F) (y : S256x256.Idx) :
    ∃ pc ∈ (atC m c t h0 h1 p).2.2.2.2.2.2.1, y ∈ pc.1.set :=
  View.cover_of_tiledL (atC m c t h0 h1 p).2.2.2.2.2.2.1 S256x128.size (by sl_kernel_rfl) y
theorem coverC_23 (c : Dev nD) (t : Fin cfg0.N) (h0 : ¬t.val % 14 = 0) (h1 : t.val % 14 = 13) (p : Outs F) (y : S256x256.Idx) :
    ∃ pc ∈ (atC m c t h0 h1 p).2.2.2.2.2.2.2.1, y ∈ pc.1.set :=
  View.cover_of_tiledL (atC m c t h0 h1 p).2.2.2.2.2.2.2.1 S256x128.size (by sl_kernel_rfl) y
theorem coverC_24 (c : Dev nD) (t : Fin cfg0.N) (h0 : ¬t.val % 14 = 0) (h1 : t.val % 14 = 13) (p : Outs F) (y : S256x256.Idx) :
    ∃ pc ∈ (atC m c t h0 h1 p).2.2.2.2.2.2.2.2.1, y ∈ pc.1.set :=
  View.cover_of_tiledL (atC m c t h0 h1 p).2.2.2.2.2.2.2.2.1 S256x128.size (by sl_kernel_rfl) y
theorem coverC_25 (c : Dev nD) (t : Fin cfg0.N) (h0 : ¬t.val % 14 = 0) (h1 : t.val % 14 = 13) (p : Outs F) (y : S256x256.Idx) :
    ∃ pc ∈ (atC m c t h0 h1 p).2.2.2.2.2.2.2.2.2.1, y ∈ pc.1.set :=
  View.cover_of_tiledL (atC m c t h0 h1 p).2.2.2.2.2.2.2.2.2.1 S256x256.size (by sl_kernel_rfl) y
theorem coverC_26 (c : Dev nD) (t : Fin cfg0.N) (h0 : ¬t.val % 14 = 0) (h1 : t.val % 14 = 13) (p : Outs F) (y : S256x256.Idx) :
    ∃ pc ∈ (atC m c t h0 h1 p).2.2.2.2.2.2.2.2.2.2.1, y ∈ pc.1.set :=
  View.cover_of_tiledL (atC m c t h0 h1 p).2.2.2.2.2.2.2.2.2.2.1 S256x256.size (by sl_kernel_rfl) y
theorem coverC_27 (c : Dev nD) (t : Fin cfg0.N) (h0 : ¬t.val % 14 = 0) (h1 : t.val % 14 = 13) (p : Outs F) (y : S256x192.Idx) :
    ∃ pc ∈ (atC m c t h0 h1 p).2.2.2.2.2.2.2.2.2.2.2.1, y ∈ pc.1.set :=
  View.cover_of_tiledL (atC m c t h0 h1 p).2.2.2.2.2.2.2.2.2.2.2.1 S256x192.size (by sl_kernel_rfl) y
theorem coverC_28 (c : Dev nD) (t : Fin cfg0.N) (h0 : ¬t.val % 14 = 0) (h1 : t.val % 14 = 13) (p : Outs F) (y : S256x192.Idx) :
    ∃ pc ∈ (atC m c t h0 h1 p).2.2.2.2.2.2.2.2.2.2.2.2.1, y ∈ pc.1.set :=
  View.cover_of_tiledL (atC m c t h0 h1 p).2.2.2.2.2.2.2.2.2.2.2.2.1 S256x192.size (by sl_kernel_rfl) y
theorem coverC_29 (c : Dev nD) (t : Fin cfg0.N) (h0 : ¬t.val % 14 = 0) (h1 : t.val % 14 = 13) (p : Outs F) (y : S256x192.Idx) :
    ∃ pc ∈ (atC m c t h0 h1 p).2.2.2.2.2.2.2.2.2.2.2.2.2.1, y ∈ pc.1.set :=
  View.cover_of_tiledL (atC m c t h0 h1 p).2.2.2.2.2.2.2.2.2.2.2.2.2.1 S256x192.size (by sl_kernel_rfl) y
theorem scoverC_0 (c : Dev nD) (t : Fin cfg0.N) (h0 : ¬t.val % 14 = 0) (h1 : t.val % 14 = 13) (p : Outs F) (y : S256x192.Idx) :
    ∃ pc ∈ (atC m c t h0 h1 p).2.2.2.2.2.2.2.2.2.2.2.2.2.2.1, y ∈ pc.1.set :=
  View.cover_of_tiledL (atC m c t h0 h1 p).2.2.2.2.2.2.2.2.2.2.2.2.2.2.1 S256x192.size (by sl_kernel_rfl) y
theorem scoverC_1 (c : Dev nD) (t : Fin cfg0.N) (h0 : ¬t.val % 14 = 0) (h1 : t.val % 14 = 13) (p : Outs F) (y : S256x192.Idx) :
    ∃ pc ∈ (atC m c t h0 h1 p).2.2.2.2.2.2.2.2.2.2.2.2.2.2.2.1, y ∈ pc.1.set :=
  View.cover_of_tiledL (atC m c t h0 h1 p).2.2.2.2.2.2.2.2.2.2.2.2.2.2.2.1 S256x192.size (by sl_kernel_rfl) y
theorem scoverC_2 (c : Dev nD) (t : Fin cfg0.N) (h0 : ¬t.val % 14 = 0) (h1 : t.val % 14 = 13) (p : Outs F) (y : S256x192.Idx) :
    ∃ pc ∈ (atC m c t h0 h1 p).2.2.2.2.2.2.2.2.2.2.2.2.2.2.2.2.1, y ∈ pc.1.set :=
  View.cover_of_tiledL (atC m c t h0 h1 p).2.2.2.2.2.2.2.2.2.2.2.2.2.2.2.2.1 S256x192.size (by sl_kernel_rfl) y

/-- What the buffers hold after point `n`: the point's case, over what the point before left. -/
def outsAt0 (c : Dev nD) : (n : ℕ) → n < cfg0.N → Outs F
  | 0, hn => outsA m c ⟨0, hn⟩ (Nat.zero_mod _) (fun h => by dsimp only at h; omega)
  | n + 1, hn =>
    if h0 : (n + 1) % 14 = 0 then outsA m c ⟨n + 1, hn⟩ h0 (fun h => by dsimp only at h; omega)
    else if h1 : (n + 1) % 14 = 13 then outsC m c ⟨n + 1, hn⟩ h0 h1 (outsAt0 c n (Nat.lt_of_succ_lt hn))
    else outsB m c ⟨n + 1, hn⟩ h0 h1 (outsAt0 c n (Nat.lt_of_succ_lt hn))

/-- What the point before left. -/
abbrev prev (c : Dev nD) (t : Fin cfg0.N) : Outs F :=
  outsAt0 m c (t.val - 1) (Nat.lt_of_le_of_lt (Nat.sub_le _ _) t.isLt)

theorem outsAt0_A (c : Dev nD) (t : Fin cfg0.N) (h0 : t.val % 14 = 0) (h1 : ¬t.val % 14 = 13) :
    outsAt0 m c t.val t.isLt = outsA m c t h0 h1 := by
  obtain ⟨n, hn⟩ := t
  cases n with
  | zero => exact rfl
  | succ n => exact (dif_pos h0).trans rfl

theorem outsAt0_B (c : Dev nD) (t : Fin cfg0.N) (h0 : ¬t.val % 14 = 0) (h1 : ¬t.val % 14 = 13) :
    outsAt0 m c t.val t.isLt = outsB m c t h0 h1 (prev m c t) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 14 = 0) (h1 : t.val % 14 = 13) :
    outsAt0 m c t.val t.isLt = outsC m c t h0 h1 (prev m c t) := by
  obtain ⟨n, hn⟩ := t
  cases n with
  | zero => exact (by exfalso; (try dsimp only at h0); exact absurd (Nat.zero_mod _) h0)
  | succ n => exact (dif_neg h0).trans ((dif_pos h1).trans rfl)

end Cert.Proof.MidRun

end
-- ==== Proof.MidCaseA.lean ====
/-
  What case A of the middle call's body (the first of a row of points) leaves in each output and accumulator, as the arrays of MidPoint.
-/
module

public import proofs.«01_k».proof.Proof.MidOuts
public import proofs.«01_k».proof.Proof.MidPoint
public import Idealize.ShloMosaic.Lib.Pipeline.ValueKit
public import Idealize.ShloMosaic.Lib.Pipeline.ReadBack

@[expose] public section

set_option maxRecDepth 16384
set_option maxHeartbeats 0

noncomputable section

namespace Cert.Proof.MidRun
open Cert.MidKIdeal Cert.MidKIdeal.Gen Cert.Proof.MidBlock
open Idealize.ShloMosaic Idealize.ShloMosaic.TcCoe Idealize.ShloMosaic.Tactic
open Idealize.SL.Sem

variable (m : (ℓ : Loc nD τ sig) → Buf (Elt Ideal) ℓ) (c : Dev nD) (t : Fin cfg0.N) (h0 : t.val % 14 = 0) (h1 : ¬t.val % 14 = 13)

theorem a_ac : (outsA m c t h0 h1).1 = codes2 (actV m c t) := by
  unfold outsA; dsimp only; unfold atA
  frame_out
  sl_kernel_rfl

theorem a_as : (outsA m c t h0 h1).2.1 = put2 (colW t) (actV m c t) (fun _ => FloatOps.ofBits (F := Ideal) .f32 0x00000000#32) := by
  unfold outsA; dsimp only; unfold atA
  frame_out
  sl_kernel_rfl

theorem a_aq : (outsA m c t h0 h1).2.2.2.2.2.2.1 = decodes2 (actV m c t) := by
  unfold outsA; dsimp only; unfold atA
  frame_out
  sl_kernel_rfl

theorem a_gc : (outsA m c t h0 h1).2.2.1 = codes2 (dgV m c t) := by
  unfold outsA; dsimp only; unfold atA
  frame_out
  sl_kernel_rfl

theorem a_gs : (outsA m c t h0 h1).2.2.2.1 = put2 (colW t) (dgV m c t) (fun _ => FloatOps.ofBits (F := Ideal) .f32 0x00000000#32) := by
  unfold outsA; dsimp only; unfold atA
  frame_out
  sl_kernel_rfl

theorem a_gq : (outsA m c t h0 h1).2.2.2.2.2.2.2.1 = decodes2 (dgV m c t) := by
  unfold outsA; dsimp only; unfold atA
  frame_out
  sl_kernel_rfl

theorem a_uc : (outsA m c t h0 h1).2.2.2.2.1 = codes2 (duV m c t) := by
  unfold outsA; dsimp only; unfold atA
  frame_out
  sl_kernel_rfl

theorem a_us : (outsA m c t h0 h1).2.2.2.2.2.1 = put2 (colW t) (duV m c t) (fun _ => FloatOps.ofBits (F := Ideal) .f32 0x00000000#32) := by
  unfold outsA; dsimp only; unfold atA
  frame_out
  sl_kernel_rfl

theorem a_uq : (outsA m c t h0 h1).2.2.2.2.2.2.2.2.1 = decodes2 (duV m c t) := by
  unfold outsA; dsimp only; unfold atA
  frame_out
  sl_kernel_rfl

theorem a_dgb : (outsA m c t h0 h1).2.2.2.2.2.2.2.2.2.1 = truncf .bf16 (dgV m c t) bitsLt_bf16_f32 := by
  unfold outsA; dsimp only; unfold atA
  frame_out
  sl_kernel_rfl

theorem a_dub : (outsA m c t h0 h1).2.2.2.2.2.2.2.2.2.2.1 = truncf .bf16 (duV m c t) bitsLt_bf16_f32 := by
  unfold outsA; dsimp only; unfold atA
  frame_out
  sl_kernel_rfl

theorem a_accd : (outsA m c t h0 h1).2.2.2.2.2.2.2.2.2.2.2.2.2.2.1 = accB (fun _ => FloatOps.ofBits (F := Ideal) .f32 0x00000000#32) (shapeCast S256x256 (decodes2 (actV m c t)) shapeCasts_S256x256_S256x256) (iblk m c 13 t) := by
  unfold outsA; dsimp only; unfold atA
  frame_out
  rw [readCov_tiles]
  sl_kernel_rfl

theorem a_accg : (outsA m c t h0 h1).2.2.2.2.2.2.2.2.2.2.2.2.2.2.2.1 = accB (fun _ => FloatOps.ofBits (F := Ideal) .f32 0x00000000#32) (truncf .bf16 (dgV m c t) bitsLt_bf16_f32) (iblk m c 11 t) := by
  unfold outsA; dsimp only; unfold atA
  frame_out
  sl_kernel_rfl

theorem a_accu : (outsA m c t h0 h1).2.2.2.2.2.2.2.2.2.2.2.2.2.2.2.2 = accB (fun _ => FloatOps.ofBits (F := Ideal) .f32 0x00000000#32) (truncf .bf16 (duV m c t) bitsLt_bf16_f32) (iblk m c 12 t) := by
  unfold outsA; dsimp only; unfold atA
  frame_out
  sl_kernel_rfl

end Cert.Proof.MidRun

end
-- ==== Proof.MidCaseB.lean ====
/-
  What case B of the middle call's body (the points between) leaves in each output and accumulator, as the arrays of MidPoint.
-/
module

public import proofs.«01_k».proof.Proof.MidOuts
public import proofs.«01_k».proof.Proof.MidPoint
public import Idealize.ShloMosaic.Lib.Pipeline.ValueKit
public import Idealize.ShloMosaic.Lib.Pipeline.ReadBack

@[expose] public section

set_option maxRecDepth 16384
set_option maxHeartbeats 0

noncomputable section

namespace Cert.Proof.MidRun
open Cert.MidKIdeal Cert.MidKIdeal.Gen Cert.Proof.MidBlock
open Idealize.ShloMosaic Idealize.ShloMosaic.TcCoe Idealize.ShloMosaic.Tactic
open Idealize.SL.Sem

variable (m : (ℓ : Loc nD τ sig) → Buf (Elt Ideal) ℓ) (c : Dev nD) (t : Fin cfg0.N) (h0 : ¬t.val % 14 = 0) (h1 : ¬t.val % 14 = 13) (p : Outs Ideal)

theorem b_ac : (outsB m c t h0 h1 p).1 = codes2 (actV m c t) := by
  unfold outsB; dsimp only; unfold atB
  frame_out
  sl_kernel_rfl

theorem b_as : (outsB m c t h0 h1 p).2.1 = put2 (colW t) (actV m c t) (p.2.1) := by
  unfold outsB; dsimp only; unfold atB
  frame_out
  sl_kernel_rfl

theorem b_aq : (outsB m c t h0 h1 p).2.2.2.2.2.2.1 = decodes2 (actV m c t) := by
  unfold outsB; dsimp only; unfold atB
  frame_out
  sl_kernel_rfl

theorem b_gc : (outsB m c t h0 h1 p).2.2.1 = codes2 (dgV m c t) := by
  unfold outsB; dsimp only; unfold atB
  frame_out
  sl_kernel_rfl

theorem b_gs : (outsB m c t h0 h1 p).2.2.2.1 = put2 (colW t) (dgV m c t) (p.2.2.2.1) := by
  unfold outsB; dsimp only; unfold atB
  frame_out
  sl_kernel_rfl

theorem b_gq : (outsB m c t h0 h1 p).2.2.2.2.2.2.2.1 = decodes2 (dgV m c t) := by
  unfold outsB; dsimp only; unfold atB
  frame_out
  sl_kernel_rfl

theorem b_uc : (outsB m c t h0 h1 p).2.2.2.2.1 = codes2 (duV m c t) := by
  unfold outsB; dsimp only; unfold atB
  frame_out
  sl_kernel_rfl

theorem b_us : (outsB m c t h0 h1 p).2.2.2.2.2.1 = put2 (colW t) (duV m c t) (p.2.2.2.2.2.1) := by
  unfold outsB; dsimp only; unfold atB
  frame_out
  sl_kernel_rfl

theorem b_uq : (outsB m c t h0 h1 p).2.2.2.2.2.2.2.2.1 = decodes2 (duV m c t) := by
  unfold outsB; dsimp only; unfold atB
  frame_out
  sl_kernel_rfl

theorem b_dgb : (outsB m c t h0 h1 p).2.2.2.2.2.2.2.2.2.1 = truncf .bf16 (dgV m c t) bitsLt_bf16_f32 := by
  unfold outsB; dsimp only; unfold atB
  frame_out
  sl_kernel_rfl

theorem b_dub : (outsB m c t h0 h1 p).2.2.2.2.2.2.2.2.2.2.1 = truncf .bf16 (duV m c t) bitsLt_bf16_f32 := by
  unfold outsB; dsimp only; unfold atB
  frame_out
  sl_kernel_rfl

theorem b_accd : (outsB m c t h0 h1 p).2.2.2.2.2.2.2.2.2.2.2.2.2.2.1 = accB (p.2.2.2.2.2.2.2.2.2.2.2.2.2.2.1) (shapeCast S256x256 (decodes2 (actV m c t)) shapeCasts_S256x256_S256x256) (iblk m c 13 t) := by
  unfold outsB; dsimp only; unfold atB
  frame_out
  rw [read_unread_whole]
  rw [readCov_tiles]
  sl_kernel_rfl

theorem b_accg : (outsB m c t h0 h1 p).2.2.2.2.2.2.2.2.2.2.2.2.2.2.2.1 = accB (p.2.2.2.2.2.2.2.2.2.2.2.2.2.2.2.1) (truncf .bf16 (dgV m c t) bitsLt_bf16_f32) (iblk m c 11 t) := by
  unfold outsB; dsimp only; unfold atB
  frame_out
  rw [read_unread_whole]
  sl_kernel_rfl

theorem b_accu : (outsB m c t h0 h1 p).2.2.2.2.2.2.2.2.2.2.2.2.2.2.2.2 = accB (p.2.2.2.2.2.2.2.2.2.2.2.2.2.2.2.2) (truncf .bf16 (duV m c t) bitsLt_bf16_f32) (iblk m c 12 t) := by
  unfold outsB; dsimp only; unfold atB
  frame_out
  rw [read_unread_whole]
  sl_kernel_rfl

end Cert.Proof.MidRun

end
-- ==== Proof.MidCaseC.lean ====
/-
  What case C of the middle call's body (the last of a row of points) leaves in each output and accumulator, as the arrays of MidPoint.
-/
module

public import proofs.«01_k».proof.Proof.MidOuts
public import proofs.«01_k».proof.Proof.MidPoint
public import Idealize.ShloMosaic.Lib.Pipeline.ValueKit
public import Idealize.ShloMosaic.Lib.Pipeline.ReadBack

@[expose] public section

set_option maxRecDepth 16384
set_option maxHeartbeats 0

noncomputable section

namespace Cert.Proof.MidRun
open Cert.MidKIdeal Cert.MidKIdeal.Gen Cert.Proof.MidBlock
open Idealize.ShloMosaic Idealize.ShloMosaic.TcCoe Idealize.ShloMosaic.Tactic
open Idealize.SL.Sem

variable (m : (ℓ : Loc nD τ sig) → Buf (Elt Ideal) ℓ) (c : Dev nD) (t : Fin cfg0.N) (h0 : ¬t.val % 14 = 0) (h1 : t.val % 14 = 13) (p : Outs Ideal)

theorem c_ac : (outsC m c t h0 h1 p).1 = codes2 (actV m c t) := by
  unfold outsC; dsimp only; unfold atC
  frame_out
  sl_kernel_rfl

theorem c_as : (outsC m c t h0 h1 p).2.1 = put2 (colW t) (actV m c t) (p.2.1) := by
  unfold outsC; dsimp only; unfold atC
  frame_out
  sl_kernel_rfl

theorem c_aq : (outsC m c t h0 h1 p).2.2.2.2.2.2.1 = decodes2 (actV m c t) := by
  unfold outsC; dsimp only; unfold atC
  frame_out
  sl_kernel_rfl

theorem c_gc : (outsC m c t h0 h1 p).2.2.1 = codes2 (dgV m c t) := by
  unfold outsC; dsimp only; unfold atC
  frame_out
  sl_kernel_rfl

theorem c_gs : (outsC m c t h0 h1 p).2.2.2.1 = put2 (colW t) (dgV m c t) (p.2.2.2.1) := by
  unfold outsC; dsimp only; unfold atC
  frame_out
  sl_kernel_rfl

theorem c_gq : (outsC m c t h0 h1 p).2.2.2.2.2.2.2.1 = decodes2 (dgV m c t) := by
  unfold outsC; dsimp only; unfold atC
  frame_out
  sl_kernel_rfl

theorem c_uc : (outsC m c t h0 h1 p).2.2.2.2.1 = codes2 (duV m c t) := by
  unfold outsC; dsimp only; unfold atC
  frame_out
  sl_kernel_rfl

theorem c_us : (outsC m c t h0 h1 p).2.2.2.2.2.1 = put2 (colW t) (duV m c t) (p.2.2.2.2.2.1) := by
  unfold outsC; dsimp only; unfold atC
  frame_out
  sl_kernel_rfl

theorem c_uq : (outsC m c t h0 h1 p).2.2.2.2.2.2.2.2.1 = decodes2 (duV m c t) := by
  unfold outsC; dsimp only; unfold atC
  frame_out
  sl_kernel_rfl

theorem c_dgb : (outsC m c t h0 h1 p).2.2.2.2.2.2.2.2.2.1 = truncf .bf16 (dgV m c t) bitsLt_bf16_f32 := by
  unfold outsC; dsimp only; unfold atC
  frame_out
  sl_kernel_rfl

theorem c_dub : (outsC m c t h0 h1 p).2.2.2.2.2.2.2.2.2.2.1 = truncf .bf16 (duV m c t) bitsLt_bf16_f32 := by
  unfold outsC; dsimp only; unfold atC
  frame_out
  sl_kernel_rfl

theorem c_accd : (outsC m c t h0 h1 p).2.2.2.2.2.2.2.2.2.2.2.2.2.2.1 = accB (p.2.2.2.2.2.2.2.2.2.2.2.2.2.2.1) (shapeCast S256x256 (decodes2 (actV m c t)) shapeCasts_S256x256_S256x256) (iblk m c 13 t) := by
  unfold outsC; dsimp only; unfold atC
  frame_out
  rw [read_unread_whole]
  rw [readCov_tiles]
  sl_kernel_rfl

theorem c_accg : (outsC m c t h0 h1 p).2.2.2.2.2.2.2.2.2.2.2.2.2.2.2.1 = accB (p.2.2.2.2.2.2.2.2.2.2.2.2.2.2.2.1) (truncf .bf16 (dgV m c t) bitsLt_bf16_f32) (iblk m c 11 t) := by
  unfold outsC; dsimp only; unfold atC
  frame_out
  rw [read_unread_whole]
  sl_kernel_rfl

theorem c_accu : (outsC m c t h0 h1 p).2.2.2.2.2.2.2.2.2.2.2.2.2.2.2.2 = accB (p.2.2.2.2.2.2.2.2.2.2.2.2.2.2.2.2) (truncf .bf16 (duV m c t) bitsLt_bf16_f32) (iblk m c 12 t) := by
  unfold outsC; dsimp only; unfold atC
  frame_out
  rw [read_unread_whole]
  sl_kernel_rfl

theorem c_zd : (outsC m c t h0 h1 p).2.2.2.2.2.2.2.2.2.2.2.1 = k0_pay2 (iblk m c 14 t) (accB (p.2.2.2.2.2.2.2.2.2.2.2.2.2.2.1) (shapeCast S256x256 (decodes2 (actV m c t)) shapeCasts_S256x256_S256x256) (iblk m c 13 t)) := by
  unfold outsC; dsimp only; unfold atC
  frame_out
  rw [read_unread_whole]
  rw [readCov_tiles]
  sl_kernel_rfl

theorem c_zg : (outsC m c t h0 h1 p).2.2.2.2.2.2.2.2.2.2.2.2.1 = k0_pay3 (k0_pay5 (iblk m c 15 t)) (iblk m c 14 t) (accB (p.2.2.2.2.2.2.2.2.2.2.2.2.2.2.2.1) (truncf .bf16 (dgV m c t) bitsLt_bf16_f32) (iblk m c 11 t)) := by
  unfold outsC; dsimp only; unfold atC
  frame_out
  rw [read_unread_whole]
  sl_kernel_rfl

theorem c_zu : (outsC m c t h0 h1 p).2.2.2.2.2.2.2.2.2.2.2.2.2.1 = k0_pay4 (k0_pay5 (iblk m c 15 t)) (iblk m c 14 t) (accB (p.2.2.2.2.2.2.2.2.2.2.2.2.2.2.2.2) (truncf .bf16 (duV m c t) bitsLt_bf16_f32) (iblk m c 12 t)) := by
  unfold outsC; dsimp only; unfold atC
  frame_out
  rw [read_unread_whole]
  sl_kernel_rfl

end Cert.Proof.MidRun

end
-- ==== Proof.MidState.lean ====
/-
  The middle call's outputs and accumulators after each grid point: the blocks that a point computes alone, the scale columns
  filled two at a time along a row of points, and the accumulators as partial sums along that row.
-/
module

public import proofs.«01_k».proof.Proof.MidVal
public import proofs.«01_k».proof.Proof.MidCaseA
public import proofs.«01_k».proof.Proof.MidCaseB
public import proofs.«01_k».proof.Proof.MidCaseC

@[expose] public section

set_option maxRecDepth 16384

noncomputable section

namespace Cert.Proof.MidVal

open Idealize.ShloMosaic Idealize.ShloMosaic.TcCoe Cert.MidKIdeal Cert.MidKIdeal.Gen Cert.Proof.MidBlock Cert.Proof.MidRun
open Cert.Proof.MidHost (inputs)
open scoped BigOperators

variable (m : (ℓ : Loc nD τ sig) → Buf (Elt Ideal) ℓ) (c : Dev nD)

/-- The point before. -/
def before (t : Fin grid0.N) : Fin grid0.N := ⟨t.val - 1, Nat.lt_of_le_of_lt (Nat.sub_le _ _) t.isLt⟩

theorem row_before (t : Fin grid0.N) (h : ¬t.val % 14 = 0) (p : Fin 256) : row (before t) p = row t p :=
  Fin.ext (by show (t.val - 1) / 14 * 256 + p.val = t.val / 14 * 256 + p.val; omega)

/-! ## Two columns of scales per point -/

/-- Filled two columns at a time along a row of points, the scale array holds the row's scales up to the point's own columns. -/
theorem scales_of_steps (S : Fin grid0.N → Vec Ideal S256x28 .f32) (w : Fin grid0.N → FVec Ideal S256x256 .f32) (v : Fin 4096 → Fin 3584 → EReal)
    (z : Vec Ideal S256x28 .f32) (hw : ∀ t p q, w t (ix2 p q) = v (row t p) (col t q))
    (h0 : ∀ t : Fin grid0.N, t.val % 14 = 0 → S t = put2 (colW t) (w t) z)
    (h1 : ∀ t : Fin grid0.N, ¬t.val % 14 = 0 → S t = put2 (colW t) (w t) (S (before t))) :
    ∀ (t : Fin grid0.N) (p : Fin 256) (j : Fin 28), j.val / 2 ≤ t.val % 14 → S t (ix2 p j) = Mid.scale (v (row t p)) j := by
  suffices H : ∀ (n : ℕ) (t : Fin grid0.N), t.val % 14 = n → ∀ (p : Fin 256) (j : Fin 28), j.val / 2 ≤ n → S t (ix2 p j) = Mid.scale (v (row t p)) j from
    fun t p j hj => H _ t rfl p j hj
  intro n
  induction n with
  | zero =>
    intro t ht p j hj
    rw [h0 t ht, put2_eq (hw t), if_pos (by omega)]
  | succ n ih =>
    intro t ht p j hj
    rw [h1 t (by omega), put2_eq (hw t)]
    by_cases e : j.val / 2 = t.val % 14
    · rw [if_pos e]
    · rw [if_neg e, ← row_before t (by omega) p]
      exact ih (before t) (by show (t.val - 1) % 14 = n; omega) p j (by omega)

/-! ## The accumulators -/

/-- Column `q` of block `i` of the hidden width. -/
def at' (i : Fin 14) (q : Fin 256) : Fin 3584 := ⟨i.val * 256 + q.val, by have := i.isLt; have := q.isLt; omega⟩

/-- A sum over the hidden width, block by block. -/
theorem sum_blocks (f : Fin 3584 → EReal) : ∑ i : Fin 14, ∑ q : Fin 256, f (at' i q) = ∑ k : Fin 3584, f k := by
  have e : ∑ k : Fin (14 * 256), f k = ∑ x : Fin 14 × Fin 256, f (finProdFinEquiv x) := (Equiv.sum_comp finProdFinEquiv (fun k : Fin (14 * 256) => f k)).symm
  refine Eq.trans ?_ e.symm
  rw [Fintype.sum_prod_type]
  refine Finset.sum_congr rfl fun i _ => Finset.sum_congr rfl fun q _ => congrArg f (Fin.ext ?_)
  show i.val * 256 + q.val = q.val + 256 * i.val
  omega

theorem acc_zero (x : Vec Ideal S256x256 .bf16) (b : Vec Ideal S192x256 .bf16) (p : Fin 256) (r : Fin 192) :
    accB (fun _ => FloatOps.ofBits (F := Ideal) .f32 0x00000000#32) x b (ix2 p r) = ∑ q : Fin 256, x (ix2 p q) * b (ix2 r q) := by
  pointwise [accB, dot_S256x256_S192x256_S256x192_1_1_0_0_n_n]

/-- Along a row of points an accumulator holds the sum over the blocks so far, and after the last over the whole width. -/
theorem acc_of_steps (S : Fin grid0.N → Vec Ideal S256x192 .f32) (x : Fin grid0.N → Vec Ideal S256x256 .bf16) (b : Fin grid0.N → Vec Ideal S192x256 .bf16)
    (v : Fin 4096 → Fin 3584 → EReal) (u : Fin 192 → Fin 3584 → EReal)
    (hx : ∀ t p q, x t (ix2 p q) = v (row t p) (col t q)) (hb : ∀ t r q, b t (ix2 r q) = u r (col t q))
    (h0 : ∀ t : Fin grid0.N, t.val % 14 = 0 → S t = accB (fun _ => FloatOps.ofBits (F := Ideal) .f32 0x00000000#32) (x t) (b t))
    (h1 : ∀ t : Fin grid0.N, ¬t.val % 14 = 0 → S t = accB (S (before t)) (x t) (b t))
    (t : Fin grid0.N) (ht : t.val % 14 = 13) (p : Fin 256) (r : Fin 192) :
    S t (ix2 p r) = ∑ f : Fin 3584, v (row t p) f * u r f := by
  have term : ∀ (t : Fin grid0.N) (i : Fin 14), t.val % 14 = i.val → ∑ q : Fin 256, x t (ix2 p q) * b t (ix2 r q) = ∑ q : Fin 256, v (row t p) (at' i q) * u r (at' i q) :=
    fun t i e => Finset.sum_congr rfl fun q _ => by
      have hc : col t q = at' i q := Fin.ext (by show t.val % 14 * 256 + q.val = i.val * 256 + q.val; rw [e])
      rw [hx, hb, hc]
  have H : ∀ (n : ℕ) (t : Fin grid0.N), t.val % 14 = n →
      S t (ix2 p r) = ∑ i ∈ (Finset.univ : Finset (Fin 14)).filter (fun i => i.val ≤ n), ∑ q : Fin 256, v (row t p) (at' i q) * u r (at' i q) := by
    intro n
    induction n with
    | zero =>
      intro t ht
      have e : (Finset.univ : Finset (Fin 14)).filter (fun i => i.val ≤ 0) = {0} := by decide
      rw [h0 t ht, acc_zero, e, Finset.sum_singleton]
      exact term t 0 ht
    | succ n ih =>
      intro t ht
      have hn : n + 1 < 14 := by omega
      have e : (Finset.univ : Finset (Fin 14)).filter (fun i => i.val ≤ n + 1) = insert ⟨n + 1, hn⟩ ((Finset.univ : Finset (Fin 14)).filter (fun i => i.val ≤ n)) := by
        ext i
        simp only [Finset.mem_filter, Finset.mem_univ, true_and, Finset.mem_insert, Fin.ext_iff]
        omega
      rw [h1 t (by omega), accB_apply, ih (before t) (by show (t.val - 1) % 14 = n; omega), e, Finset.sum_insert (by simp), row_before t (by omega) p, add_comm,
        term t ⟨n + 1, hn⟩ ht]
  have e : (Finset.univ : Finset (Fin 14)).filter (fun i => i.val ≤ 13) = Finset.univ := by decide
  rw [H 13 t ht, e]
  exact sum_blocks (fun f => v (row t p) f * u r f)

/-! ## The state after a point -/

/-- What the outputs and accumulators hold after point `t`. -/
def st (t : Fin grid0.N) : Outs Ideal := outsAt0 m c t.val t.isLt

theorem st_A (t : Fin grid0.N) (h0 : t.val % 14 = 0) (h1 : ¬t.val % 14 = 13) : st m c t = outsA m c t h0 h1 := outsAt0_A m c t h0 h1
theorem st_B (t : Fin grid0.N) (h0 : ¬t.val % 14 = 0) (h1 : ¬t.val % 14 = 13) : st m c t = outsB m c t h0 h1 (st m c (before t)) := outsAt0_B m c t h0 h1
theorem st_C (t : Fin grid0.N) (h0 : ¬t.val % 14 = 0) (h1 : t.val % 14 = 13) : st m c t = outsC m c t h0 h1 (st m c (before t)) := outsAt0_C m c t h0 h1

theorem st_ac (t : Fin grid0.N) : (st m c t).1 = codes2 (actV m c t) := by
  by_cases h0 : t.val % 14 = 0
  · rw [st_A m c t h0 (by omega)]; exact a_ac m c t h0 (by omega)
  · by_cases h1 : t.val % 14 = 13
    · rw [st_C m c t h0 h1]; exact c_ac m c t h0 h1 _
    · rw [st_B m c t h0 h1]; exact b_ac m c t h0 h1 _

theorem st_aq (t : Fin grid0.N) : (st m c t).2.2.2.2.2.2.1 = decodes2 (actV m c t) := by
  by_cases h0 : t.val % 14 = 0
  · rw [st_A m c t h0 (by omega)]; exact a_aq m c t h0 (by omega)
  · by_cases h1 : t.val % 14 = 13
    · rw [st_C m c t h0 h1]; exact c_aq m c t h0 h1 _
    · rw [st_B m c t h0 h1]; exact b_aq m c t h0 h1 _

theorem st_as0 (t : Fin grid0.N) (h0 : t.val % 14 = 0) : (st m c t).2.1 = put2 (colW t) (actV m c t) (fun _ => FloatOps.ofBits (F := Ideal) .f32 0x00000000#32) := by
  rw [st_A m c t h0 (by omega)]; exact a_as m c t h0 (by omega)
theorem st_as1 (t : Fin grid0.N) (h0 : ¬t.val % 14 = 0) : (st m c t).2.1 = put2 (colW t) (actV m c t) ((st m c (before t)).2.1) := by
  by_cases h1 : t.val % 14 = 13
  · rw [st_C m c t h0 h1]; exact c_as m c t h0 h1 _
  · rw [st_B m c t h0 h1]; exact b_as m c t h0 h1 _

theorem st_gc (t : Fin grid0.N) : (st m c t).2.2.1 = codes2 (dgV m c t) := by
  by_cases h0 : t.val % 14 = 0
  · rw [st_A m c t h0 (by omega)]; exact a_gc m c t h0 (by omega)
  · by_cases h1 : t.val % 14 = 13
    · rw [st_C m c t h0 h1]; exact c_gc m c t h0 h1 _
    · rw [st_B m c t h0 h1]; exact b_gc m c t h0 h1 _

theorem st_gq (t : Fin grid0.N) : (st m c t).2.2.2.2.2.2.2.1 = decodes2 (dgV m c t) := by
  by_cases h0 : t.val % 14 = 0
  · rw [st_A m c t h0 (by omega)]; exact a_gq m c t h0 (by omega)
  · by_cases h1 : t.val % 14 = 13
    · rw [st_C m c t h0 h1]; exact c_gq m c t h0 h1 _
    · rw [st_B m c t h0 h1]; exact b_gq m c t h0 h1 _

theorem st_gs0 (t : Fin grid0.N) (h0 : t.val % 14 = 0) : (st m c t).2.2.2.1 = put2 (colW t) (dgV m c t) (fun _ => FloatOps.ofBits (F := Ideal) .f32 0x00000000#32) := by
  rw [st_A m c t h0 (by omega)]; exact a_gs m c t h0 (by omega)
theorem st_gs1 (t : Fin grid0.N) (h0 : ¬t.val % 14 = 0) : (st m c t).2.2.2.1 = put2 (colW t) (dgV m c t) ((st m c (before t)).2.2.2.1) := by
  by_cases h1 : t.val % 14 = 13
  · rw [st_C m c t h0 h1]; exact c_gs m c t h0 h1 _
  · rw [st_B m c t h0 h1]; exact b_gs m c t h0 h1 _

theorem st_uc (t : Fin grid0.N) : (st m c t).2.2.2.2.1 = codes2 (duV m c t) := by
  by_cases h0 : t.val % 14 = 0
  · rw [st_A m c t h0 (by omega)]; exact a_uc m c t h0 (by omega)
  · by_cases h1 : t.val % 14 = 13
    · rw [st_C m c t h0 h1]; exact c_uc m c t h0 h1 _
    · rw [st_B m c t h0 h1]; exact b_uc m c t h0 h1 _

theorem st_uq (t : Fin grid0.N) : (st m c t).2.2.2.2.2.2.2.2.1 = decodes2 (duV m c t) := by
  by_cases h0 : t.val % 14 = 0
  · rw [st_A m c t h0 (by omega)]; exact a_uq m c t h0 (by omega)
  · by_cases h1 : t.val % 14 = 13
    · rw [st_C m c t h0 h1]; exact c_uq m c t h0 h1 _
    · rw [st_B m c t h0 h1]; exact b_uq m c t h0 h1 _

theorem st_us0 (t : Fin grid0.N) (h0 : t.val % 14 = 0) : (st m c t).2.2.2.2.2.1 = put2 (colW t) (duV m c t) (fun _ => FloatOps.ofBits (F := Ideal) .f32 0x00000000#32) := by
  rw [st_A m c t h0 (by omega)]; exact a_us m c t h0 (by omega)
theorem st_us1 (t : Fin grid0.N) (h0 : ¬t.val % 14 = 0) : (st m c t).2.2.2.2.2.1 = put2 (colW t) (duV m c t) ((st m c (before t)).2.2.2.2.2.1) := by
  by_cases h1 : t.val % 14 = 13
  · rw [st_C m c t h0 h1]; exact c_us m c t h0 h1 _
  · rw [st_B m c t h0 h1]; exact b_us m c t h0 h1 _

theorem st_dgb (t : Fin grid0.N) : (st m c t).2.2.2.2.2.2.2.2.2.1 = truncf .bf16 (dgV m c t) bitsLt_bf16_f32 := by
  by_cases h0 : t.val % 14 = 0
  · rw [st_A m c t h0 (by omega)]; exact a_dgb m c t h0 (by omega)
  · by_cases h1 : t.val % 14 = 13
    · rw [st_C m c t h0 h1]; exact c_dgb m c t h0 h1 _
    · rw [st_B m c t h0 h1]; exact b_dgb m c t h0 h1 _

theorem st_dub (t : Fin grid0.N) : (st m c t).2.2.2.2.2.2.2.2.2.2.1 = truncf .bf16 (duV m c t) bitsLt_bf16_f32 := by
  by_cases h0 : t.val % 14 = 0
  · rw [st_A m c t h0 (by omega)]; exact a_dub m c t h0 (by omega)
  · by_cases h1 : t.val % 14 = 13
    · rw [st_C m c t h0 h1]; exact c_dub m c t h0 h1 _
    · rw [st_B m c t h0 h1]; exact b_dub m c t h0 h1 _

theorem st_accd0 (t : Fin grid0.N) (h0 : t.val % 14 = 0) : (st m c t).2.2.2.2.2.2.2.2.2.2.2.2.2.2.1 = accB (fun _ => FloatOps.ofBits (F := Ideal) .f32 0x00000000#32) (shapeCast S256x256 (decodes2 (actV m c t)) shapeCasts_S256x256_S256x256) (iblk m c 13 t) := by
  rw [st_A m c t h0 (by omega)]; exact a_accd m c t h0 (by omega)
theorem st_accd1 (t : Fin grid0.N) (h0 : ¬t.val % 14 = 0) : (st m c t).2.2.2.2.2.2.2.2.2.2.2.2.2.2.1 = accB ((st m c (before t)).2.2.2.2.2.2.2.2.2.2.2.2.2.2.1) (shapeCast S256x256 (decodes2 (actV m c t)) shapeCasts_S256x256_S256x256) (iblk m c 13 t) := by
  by_cases h1 : t.val % 14 = 13
  · rw [st_C m c t h0 h1]; exact c_accd m c t h0 h1 _
  · rw [st_B m c t h0 h1]; exact b_accd m c t h0 h1 _

theorem st_accg0 (t : Fin grid0.N) (h0 : t.val % 14 = 0) : (st m c t).2.2.2.2.2.2.2.2.2.2.2.2.2.2.2.1 = accB (fun _ => FloatOps.ofBits (F := Ideal) .f32 0x00000000#32) (truncf .bf16 (dgV m c t) bitsLt_bf16_f32) (iblk m c 11 t) := by
  rw [st_A m c t h0 (by omega)]; exact a_accg m c t h0 (by omega)
theorem st_accg1 (t : Fin grid0.N) (h0 : ¬t.val % 14 = 0) : (st m c t).2.2.2.2.2.2.2.2.2.2.2.2.2.2.2.1 = accB ((st m c (before t)).2.2.2.2.2.2.2.2.2.2.2.2.2.2.2.1) (truncf .bf16 (dgV m c t) bitsLt_bf16_f32) (iblk m c 11 t) := by
  by_cases h1 : t.val % 14 = 13
  · rw [st_C m c t h0 h1]; exact c_accg m c t h0 h1 _
  · rw [st_B m c t h0 h1]; exact b_accg m c t h0 h1 _

theorem st_accu0 (t : Fin grid0.N) (h0 : t.val % 14 = 0) : (st m c t).2.2.2.2.2.2.2.2.2.2.2.2.2.2.2.2 = accB (fun _ => FloatOps.ofBits (F := Ideal) .f32 0x00000000#32) (truncf .bf16 (duV m c t) bitsLt_bf16_f32) (iblk m c 12 t) := by
  rw [st_A m c t h0 (by omega)]; exact a_accu m c t h0 (by omega)
theorem st_accu1 (t : Fin grid0.N) (h0 : ¬t.val % 14 = 0) : (st m c t).2.2.2.2.2.2.2.2.2.2.2.2.2.2.2.2 = accB ((st m c (before t)).2.2.2.2.2.2.2.2.2.2.2.2.2.2.2.2) (truncf .bf16 (duV m c t) bitsLt_bf16_f32) (iblk m c 12 t) := by
  by_cases h1 : t.val % 14 = 13
  · rw [st_C m c t h0 h1]; exact c_accu m c t h0 h1 _
  · rw [st_B m c t h0 h1]; exact b_accu m c t h0 h1 _

theorem same_apply (x : Vec Ideal S256x256 .bf16) (p q : Fin 256) : shapeCast S256x256 x shapeCasts_S256x256_S256x256 (ix2 p q) = x (ix2 p q) := by
  pointwise []

/-! ## The results at a point, as the functions of MidSpec -/

theorem ac_apply (t : Fin grid0.N) (p q : Fin 256) : (st m c t).1 (ix2 p q) = Mid.code (Mid.act (inputs m c) (row t p)) (col t q) := by
  rw [st_ac]; exact codes2_eq (actV_apply m c t) p q
theorem aq_apply (t : Fin grid0.N) (p q : Fin 256) : (st m c t).2.2.2.2.2.2.1 (ix2 p q) = Mid.decoded (Mid.act (inputs m c) (row t p)) (col t q) := by
  rw [st_aq]; exact decodes2_eq (actV_apply m c t) p q
theorem as_apply (t : Fin grid0.N) (ht : t.val % 14 = 13) (p : Fin 256) (j : Fin 28) : (st m c t).2.1 (ix2 p j) = Mid.scale (Mid.act (inputs m c) (row t p)) j :=
  scales_of_steps (fun t => (st m c t).2.1) (fun t => actV m c t) (fun t => Mid.act (inputs m c) t) _ (fun t p q => actV_apply m c t p q)
    (fun t h => st_as0 m c t h) (fun t h => st_as1 m c t h) t p j (by have := j.isLt; omega)
theorem gc_apply (t : Fin grid0.N) (p q : Fin 256) : (st m c t).2.2.1 (ix2 p q) = Mid.code (Mid.dg (inputs m c) (row t p)) (col t q) := by
  rw [st_gc]; exact codes2_eq (dgV_apply m c t) p q
theorem gq_apply (t : Fin grid0.N) (p q : Fin 256) : (st m c t).2.2.2.2.2.2.2.1 (ix2 p q) = Mid.decoded (Mid.dg (inputs m c) (row t p)) (col t q) := by
  rw [st_gq]; exact decodes2_eq (dgV_apply m c t) p q
theorem gs_apply (t : Fin grid0.N) (ht : t.val % 14 = 13) (p : Fin 256) (j : Fin 28) : (st m c t).2.2.2.1 (ix2 p j) = Mid.scale (Mid.dg (inputs m c) (row t p)) j :=
  scales_of_steps (fun t => (st m c t).2.2.2.1) (fun t => dgV m c t) (fun t => Mid.dg (inputs m c) t) _ (fun t p q => dgV_apply m c t p q)
    (fun t h => st_gs0 m c t h) (fun t h => st_gs1 m c t h) t p j (by have := j.isLt; omega)
theorem uc_apply (t : Fin grid0.N) (p q : Fin 256) : (st m c t).2.2.2.2.1 (ix2 p q) = Mid.code (Mid.du (inputs m c) (row t p)) (col t q) := by
  rw [st_uc]; exact codes2_eq (duV_apply m c t) p q
theorem uq_apply (t : Fin grid0.N) (p q : Fin 256) : (st m c t).2.2.2.2.2.2.2.2.1 (ix2 p q) = Mid.decoded (Mid.du (inputs m c) (row t p)) (col t q) := by
  rw [st_uq]; exact decodes2_eq (duV_apply m c t) p q
theorem us_apply (t : Fin grid0.N) (ht : t.val % 14 = 13) (p : Fin 256) (j : Fin 28) : (st m c t).2.2.2.2.2.1 (ix2 p j) = Mid.scale (Mid.du (inputs m c) (row t p)) j :=
  scales_of_steps (fun t => (st m c t).2.2.2.2.2.1) (fun t => duV m c t) (fun t => Mid.du (inputs m c) t) _ (fun t p q => duV_apply m c t p q)
    (fun t h => st_us0 m c t h) (fun t h => st_us1 m c t h) t p j (by have := j.isLt; omega)
theorem dgb_apply (t : Fin grid0.N) (p q : Fin 256) : (st m c t).2.2.2.2.2.2.2.2.2.1 (ix2 p q) = Mid.dg (inputs m c) (row t p) (col t q) := by
  rw [st_dgb]; exact dgV_apply m c t p q
theorem dub_apply (t : Fin grid0.N) (p q : Fin 256) : (st m c t).2.2.2.2.2.2.2.2.2.2.1 (ix2 p q) = Mid.du (inputs m c) (row t p) (col t q) := by
  rw [st_dub]; exact duV_apply m c t p q
theorem accd_apply (t : Fin grid0.N) (ht : t.val % 14 = 13) (p : Fin 256) (r : Fin 192) :
    (st m c t).2.2.2.2.2.2.2.2.2.2.2.2.2.2.1 (ix2 p r) = ∑ f : Fin 3584, Mid.decoded (Mid.act (inputs m c) (row t p)) f * stack (inputs m c).ad r f :=
  acc_of_steps (fun t => (st m c t).2.2.2.2.2.2.2.2.2.2.2.2.2.2.1) (fun t => shapeCast S256x256 (decodes2 (actV m c t)) shapeCasts_S256x256_S256x256) (fun t => iblk m c 13 t) (fun t => Mid.decoded (Mid.act (inputs m c) t)) (fun r f => stack (inputs m c).ad r f)
    (fun t p q => (same_apply _ p q).trans (decodes2_eq (actV_apply m c t) p q)) (fun t r q => in13 m c t r q) (fun t h => st_accd0 m c t h) (fun t h => st_accd1 m c t h) t ht p r
theorem accg_apply (t : Fin grid0.N) (ht : t.val % 14 = 13) (p : Fin 256) (r : Fin 192) :
    (st m c t).2.2.2.2.2.2.2.2.2.2.2.2.2.2.2.1 (ix2 p r) = ∑ f : Fin 3584, Mid.dg (inputs m c) (row t p) f * stack (inputs m c).bg r f :=
  acc_of_steps (fun t => (st m c t).2.2.2.2.2.2.2.2.2.2.2.2.2.2.2.1) (fun t => truncf .bf16 (dgV m c t) bitsLt_bf16_f32) (fun t => iblk m c 11 t) (fun t => Mid.dg (inputs m c) t) (fun r f => stack (inputs m c).bg r f)
    (fun t p q => dgV_apply m c t p q) (fun t r q => in11 m c t r q) (fun t h => st_accg0 m c t h) (fun t h => st_accg1 m c t h) t ht p r
theorem accu_apply (t : Fin grid0.N) (ht : t.val % 14 = 13) (p : Fin 256) (r : Fin 192) :
    (st m c t).2.2.2.2.2.2.2.2.2.2.2.2.2.2.2.2 (ix2 p r) = ∑ f : Fin 3584, Mid.du (inputs m c) (row t p) f * stack (inputs m c).bu r f :=
  acc_of_steps (fun t => (st m c t).2.2.2.2.2.2.2.2.2.2.2.2.2.2.2.2) (fun t => truncf .bf16 (duV m c t) bitsLt_bf16_f32) (fun t => iblk m c 12 t) (fun t => Mid.du (inputs m c) t) (fun r f => stack (inputs m c).bu r f)
    (fun t p q => duV_apply m c t p q) (fun t r q => in12 m c t r q) (fun t h => st_accu0 m c t h) (fun t h => st_accu1 m c t h) t ht p r
theorem zd_apply (t : Fin grid0.N) (ht : t.val % 14 = 13) (p : Fin 256) (r : Fin 192) : (st m c t).2.2.2.2.2.2.2.2.2.2.2.1 (ix2 p r) = Mid.zDown (inputs m c) (row t p) r := by
  have e : (st m c t).2.2.2.2.2.2.2.2.2.2.2.1 = k0_pay2 (iblk m c 14 t) ((st m c t).2.2.2.2.2.2.2.2.2.2.2.2.2.2.1) := by
    rw [st_C m c t (by omega) ht]
    exact (c_zd m c t (by omega) ht _).trans (congrArg (k0_pay2 (iblk m c 14 t)) (c_accd m c t (by omega) ht _).symm)
  rw [e, pay2_apply, accd_apply m c t ht, in14]
  rfl
theorem zg_apply (t : Fin grid0.N) (ht : t.val % 14 = 13) (p : Fin 256) (r : Fin 192) : (st m c t).2.2.2.2.2.2.2.2.2.2.2.2.1 (ix2 p r) = Mid.dzGate (inputs m c) (row t p) r := by
  have e : (st m c t).2.2.2.2.2.2.2.2.2.2.2.2.1 = k0_pay3 (k0_pay5 (iblk m c 15 t)) (iblk m c 14 t) ((st m c t).2.2.2.2.2.2.2.2.2.2.2.2.2.2.2.1) := by
    rw [st_C m c t (by omega) ht]
    exact (c_zg m c t (by omega) ht _).trans (congrArg (k0_pay3 (k0_pay5 (iblk m c 15 t)) (iblk m c 14 t)) (c_accg m c t (by omega) ht _).symm)
  rw [e, pay3_apply, accg_apply m c t ht, in14, in15]
  rfl
theorem zu_apply (t : Fin grid0.N) (ht : t.val % 14 = 13) (p : Fin 256) (r : Fin 192) : (st m c t).2.2.2.2.2.2.2.2.2.2.2.2.2.1 (ix2 p r) = Mid.dzUp (inputs m c) (row t p) r := by
  have e : (st m c t).2.2.2.2.2.2.2.2.2.2.2.2.2.1 = k0_pay4 (k0_pay5 (iblk m c 15 t)) (iblk m c 14 t) ((st m c t).2.2.2.2.2.2.2.2.2.2.2.2.2.2.2.2) := by
    rw [st_C m c t (by omega) ht]
    exact (c_zu m c t (by omega) ht _).trans (congrArg (k0_pay4 (k0_pay5 (iblk m c 15 t)) (iblk m c 14 t)) (c_accu m c t (by omega) ht _).symm)
  rw [e, pay4_apply, accu_apply m c t ht, in14, in15]
  rfl

end Cert.Proof.MidVal

end
-- ==== Proof.MidArrays.lean ====
/-
  The fourteen arrays of the middle call, each as one function of the inputs.
-/
module

public import proofs.«01_k».proof.Proof.MidSpec
public import proofs.«01_k».proof.MidKIdeal

@[expose] public section

set_option maxRecDepth 16384

noncomputable section

namespace Cert.Proof.Mid

open Idealize.ShloMosaic Cert.MidKIdeal

/-- The codes, the scales and the decoded values of an array given row by row; and the array itself. -/
def codes (v : Fin 4096 → Fin 3584 → EReal) : Vec Ideal S4096x3584 .fp8e4m3 := fun i => code (v (i 0)) (i 1)
def scales (v : Fin 4096 → Fin 3584 → EReal) : Vec Ideal S4096x28 .f32 := fun i => scale (v (i 0)) (i 1)
def decodeds (v : Fin 4096 → Fin 3584 → EReal) : Vec Ideal S4096x3584 .bf16 := fun i => decoded (v (i 0)) (i 1)
def whole (v : Fin 4096 → Fin 3584 → EReal) : Vec Ideal S4096x3584 .bf16 := fun i => v (i 0) (i 1)
def thin (v : Fin 4096 → Fin 192 → EReal) : Vec Ideal S4096x192 .bf16 := fun i => v (i 0) (i 1)

end Cert.Proof.Mid

end
-- ==== Proof.MidFrame.lean ====
/-
  The frame of the call: the pipeline's proof data (what every staging buffer holds after every point), the body's obligation
  at each of the three cases, the run with every output array named, and the frame claim at any reading of the floats.
-/
module

public import proofs.«01_k».proof.Proof.MidOuts
public import Idealize.ShloMosaic.Lib.Claim

@[expose] public section

set_option maxRecDepth 16384

noncomputable section

namespace Cert.Proof.MidRun

open Cert.MidKIdeal Cert.MidKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.2.2.2.2.2.1) ∗ owns (c : Thread nD τ) scM0_1 fullShare ((outsAt0 m c n hn).2.2.2.2.2.2.2.2.2.2.2.2.2.2.2.1) ∗ owns (c : Thread nD τ) scM0_2 fullShare ((outsAt0 m c n hn).2.2.2.2.2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2.2.2.2.2.2.1) ∗ owns (c : Thread nD τ) scM0_1 fullShare ((outsAt0 m c n hn).2.2.2.2.2.2.2.2.2.2.2.2.2.2.2.1) ∗ owns (c : Thread nD τ) scM0_2 fullShare ((outsAt0 m c n hn).2.2.2.2.2.2.2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.2.2.2.2.1) ∗ owns (c : Thread nD τ) scM0_1 fullShare ((outsAt0 m c (n - 1) (by omega)).2.2.2.2.2.2.2.2.2.2.2.2.2.2.2.1) ∗ owns (c : Thread nD τ) scM0_2 fullShare ((outsAt0 m c (n - 1) (by omega)).2.2.2.2.2.2.2.2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨18, _⟩ => (outsAt0 m c t.val t.isLt).2.2.1
    | ⟨19, _⟩ => (outsAt0 m c t.val t.isLt).2.2.2.1
    | ⟨20, _⟩ => (outsAt0 m c t.val t.isLt).2.2.2.2.1
    | ⟨21, _⟩ => (outsAt0 m c t.val t.isLt).2.2.2.2.2.1
    | ⟨22, _⟩ => (outsAt0 m c t.val t.isLt).2.2.2.2.2.2.1
    | ⟨23, _⟩ => (outsAt0 m c t.val t.isLt).2.2.2.2.2.2.2.1
    | ⟨24, _⟩ => (outsAt0 m c t.val t.isLt).2.2.2.2.2.2.2.2.1
    | ⟨25, _⟩ => (outsAt0 m c t.val t.isLt).2.2.2.2.2.2.2.2.2.1
    | ⟨26, _⟩ => (outsAt0 m c t.val t.isLt).2.2.2.2.2.2.2.2.2.2.1
    | ⟨27, _⟩ => (outsAt0 m c t.val t.isLt).2.2.2.2.2.2.2.2.2.2.2.1
    | ⟨28, _⟩ => (outsAt0 m c t.val t.isLt).2.2.2.2.2.2.2.2.2.2.2.2.1
    | ⟨29, _⟩ => (outsAt0 m c t.val t.isLt).2.2.2.2.2.2.2.2.2.2.2.2.2.1
    | ⟨_ + 30, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]
theorem after0_18 (c : Dev nD) (t : Fin cfg0.N) : (dats m 0 c).after 18 t = (outsAt0 m c t.val t.isLt).2.2.1 := by dsimp only [dats]
theorem after0_19 (c : Dev nD) (t : Fin cfg0.N) : (dats m 0 c).after 19 t = (outsAt0 m c t.val t.isLt).2.2.2.1 := by dsimp only [dats]
theorem after0_20 (c : Dev nD) (t : Fin cfg0.N) : (dats m 0 c).after 20 t = (outsAt0 m c t.val t.isLt).2.2.2.2.1 := by dsimp only [dats]
theorem after0_21 (c : Dev nD) (t : Fin cfg0.N) : (dats m 0 c).after 21 t = (outsAt0 m c t.val t.isLt).2.2.2.2.2.1 := by dsimp only [dats]
theorem after0_22 (c : Dev nD) (t : Fin cfg0.N) : (dats m 0 c).after 22 t = (outsAt0 m c t.val t.isLt).2.2.2.2.2.2.1 := by dsimp only [dats]
theorem after0_23 (c : Dev nD) (t : Fin cfg0.N) : (dats m 0 c).after 23 t = (outsAt0 m c t.val t.isLt).2.2.2.2.2.2.2.1 := by dsimp only [dats]
theorem after0_24 (c : Dev nD) (t : Fin cfg0.N) : (dats m 0 c).after 24 t = (outsAt0 m c t.val t.isLt).2.2.2.2.2.2.2.2.1 := by dsimp only [dats]
theorem after0_25 (c : Dev nD) (t : Fin cfg0.N) : (dats m 0 c).after 25 t = (outsAt0 m c t.val t.isLt).2.2.2.2.2.2.2.2.2.1 := by dsimp only [dats]
theorem after0_26 (c : Dev nD) (t : Fin cfg0.N) : (dats m 0 c).after 26 t = (outsAt0 m c t.val t.isLt).2.2.2.2.2.2.2.2.2.2.1 := by dsimp only [dats]
theorem after0_27 (c : Dev nD) (t : Fin cfg0.N) : (dats m 0 c).after 27 t = (outsAt0 m c t.val t.isLt).2.2.2.2.2.2.2.2.2.2.2.1 := by dsimp only [dats]
theorem after0_28 (c : Dev nD) (t : Fin cfg0.N) : (dats m 0 c).after 28 t = (outsAt0 m c t.val t.isLt).2.2.2.2.2.2.2.2.2.2.2.2.1 := by dsimp only [dats]
theorem after0_29 (c : Dev nD) (t : Fin cfg0.N) : (dats m 0 c).after 29 t = (outsAt0 m c t.val t.isLt).2.2.2.2.2.2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 14 = 0) (h1 : ¬t.val % 14 = 13) (d) :
    (dats m 0 c).before 17 t d = (prev m c t).2.1 := by
  have hN : t.val < 224 := lt_of_lt_of_eq t.isLt (show cfg0.N = 224 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case B output 19's current staging buffer holds what the body left at the point before: the point is
    not the first, the buffer was not written back between (`flush0_19`), the window is live and uncut (Lib/Pipeline/Frame.lean
    `Dat.before_out_kept`). -/
theorem before0_19_B (c : Dev nD) (t : Fin cfg0.N) (h0 : ¬t.val % 14 = 0) (h1 : ¬t.val % 14 = 13) (d) :
    (dats m 0 c).before 19 t d = (prev m c t).2.2.2.1 := by
  have hN : t.val < 224 := lt_of_lt_of_eq t.isLt (show cfg0.N = 224 from N_0)
  rw [Dat.before_out_kept _ 19 rfl t (by omega) (Bool.eq_false_iff.mpr fun h => by have := (flush0_19 _).mp h; dsimp only at this; omega)
    (fun _ => rfl) (fun _ _ => rfl)]
  dsimp only [dats]
/-- At a point of case B output 21's current staging buffer holds what the body left at the point before: the point is
    not the first, the buffer was not written back between (`flush0_21`), the window is live and uncut (Lib/Pipeline/Frame.lean
    `Dat.before_out_kept`). -/
theorem before0_21_B (c : Dev nD) (t : Fin cfg0.N) (h0 : ¬t.val % 14 = 0) (h1 : ¬t.val % 14 = 13) (d) :
    (dats m 0 c).before 21 t d = (prev m c t).2.2.2.2.2.1 := by
  have hN : t.val < 224 := lt_of_lt_of_eq t.isLt (show cfg0.N = 224 from N_0)
  rw [Dat.before_out_kept _ 21 rfl t (by omega) (Bool.eq_false_iff.mpr fun h => by have := (flush0_21 _).mp h; dsimp only at this; omega)
    (fun _ => rfl) (fun _ _ => rfl)]
  dsimp only [dats]
/-- At a point of case C output 17's current staging buffer holds what the body left at the point before: the point is
    not the first, the buffer was not written back between (`flush0_17`), the window is live and uncut (Lib/Pipeline/Frame.lean
    `Dat.before_out_kept`). -/
theorem before0_17_C (c : Dev nD) (t : Fin cfg0.N) (h0 : ¬t.val % 14 = 0) (h1 : t.val % 14 = 13) (d) :
    (dats m 0 c).before 17 t d = (prev m c t).2.1 := by
  have hN : t.val < 224 := lt_of_lt_of_eq t.isLt (show cfg0.N = 224 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case C output 19's current staging buffer holds what the body left at the point before: the point is
    not the first, the buffer was not written back between (`flush0_19`), the window is live and uncut (Lib/Pipeline/Frame.lean
    `Dat.before_out_kept`). -/
theorem before0_19_C (c : Dev nD) (t : Fin cfg0.N) (h0 : ¬t.val % 14 = 0) (h1 : t.val % 14 = 13) (d) :
    (dats m 0 c).before 19 t d = (prev m c t).2.2.2.1 := by
  have hN : t.val < 224 := lt_of_lt_of_eq t.isLt (show cfg0.N = 224 from N_0)
  rw [Dat.before_out_kept _ 19 rfl t (by omega) (Bool.eq_false_iff.mpr fun h => by have := (flush0_19 _).mp h; dsimp only at this; omega)
    (fun _ => rfl) (fun _ _ => rfl)]
  dsimp only [dats]
/-- At a point of case C output 21's current staging buffer holds what the body left at the point before: the point is
    not the first, the buffer was not written back between (`flush0_21`), the window is live and uncut (Lib/Pipeline/Frame.lean
    `Dat.before_out_kept`). -/
theorem before0_21_C (c : Dev nD) (t : Fin cfg0.N) (h0 : ¬t.val % 14 = 0) (h1 : t.val % 14 = 13) (d) :
    (dats m 0 c).before 21 t d = (prev m c t).2.2.2.2.2.1 := by
  have hN : t.val < 224 := lt_of_lt_of_eq t.isLt (show cfg0.N = 224 from N_0)
  rw [Dat.before_out_kept _ 21 rfl t (by omega) (Bool.eq_false_iff.mpr fun h => by have := (flush0_21 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t)

set_option maxHeartbeats 38400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  have hN : t.val < 224 := lt_of_lt_of_eq t.isLt (show cfg0.N = 224 from N_0)
  by_cases h0 : t.val % 14 = 0
  · by_cases h1 : t.val % 14 = 13
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [show (dats m 0 c).leavesExact 24 t = owns (c : Thread nD τ) (ms0_24 t) fullShare ((dats m 0 c).after 24 t) from by
      unfold Dat.leavesExact; rw [liveAt0_24 t], after0_24]
      rw [show (dats m 0 c).leavesExact 25 t = owns (c : Thread nD τ) (ms0_25 t) fullShare ((dats m 0 c).after 25 t) from by
      unfold Dat.leavesExact; rw [liveAt0_25 t], after0_25]
      rw [show (dats m 0 c).leavesExact 26 t = owns (c : Thread nD τ) (ms0_26 t) fullShare ((dats m 0 c).after 26 t) from by
      unfold Dat.leavesExact; rw [liveAt0_26 t], after0_26]
      rw [Dat.leavesExact_idle (dats m 0 c) 27 t (idleAt0_27_A t ((hcond0_0 t).mpr h0) (fun h => h1 ((hcond0_1 t).mp h))) (noFlush0_27_A t ((hcond0_0 t).mpr h0) (fun h => h1 ((hcond0_1 t).mp h)))]
      rw [Dat.leavesExact_idle (dats m 0 c) 28 t (idleAt0_28_A t ((hcond0_0 t).mpr h0) (fun h => h1 ((hcond0_1 t).mp h))) (noFlush0_28_A t ((hcond0_0 t).mpr h0) (fun h => h1 ((hcond0_1 t).mp h)))]
      rw [Dat.leavesExact_idle (dats m 0 c) 29 t (idleAt0_29_A t ((hcond0_0 t).mpr h0) (fun h => h1 ((hcond0_1 t).mp h))) (noFlush0_29_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold outsA; dsimp only
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
        iapply ((atA m c t h0 h1).2.2.2.2.2.2.2.2.2.2.2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [H18]; · iexists _; iexact H18
        isplitl [H19]; · iexists _; iexact H19
        isplitl [H20]; · iexists _; iexact H20
        isplitl [H21]; · iexists _; iexact H21
        isplitl [H22]; · iexists _; iexact H22
        isplitl [H23]; · iexists _; iexact H23
        isplitl [H24]; · iexists _; iexact H24
        isplitl [H25]; · iexists _; iexact H25
        isplitl [H26]; · iexists _; iexact H26
        isplitl [H27]; · iexact H27
        isplitl [H28]; · iexact H28
        isplitl [H29]; · iexact H29
        isplitl [HS0]; · iexact HS0
        isplitl [HS1]; · iexact HS1
        isplitl [HS2]; · iexact HS2
        iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, H27, H28, H29, ⟨%es0, HS0⟩, ⟨%es1, HS1⟩, ⟨%es2, HS2⟩⟩
        isplitl [HS0 HS1 HS2 Hg]
        · isplitl [HS0 HS1 HS2]
          · isplitl [HS0]
            · unfold owns; iexists _; isplitr; swap; iexact HS0; ipureintro; exact View.read_writes_of_cover _ _ _ _ _ (scoverA_0 m c t h0 h1)
            isplitl [HS1]
            · unfold owns; iexists _; isplitr; swap; iexact HS1; ipureintro; exact View.read_writes_of_cover _ _ _ _ _ (scoverA_1 m c t h0 h1)
            unfold owns; iexists _; isplitr; swap; iexact HS2; ipureintro; exact View.read_writes_of_cover _ _ _ _ _ (scoverA_2 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]
        · unfold owns; iexists _; isplitr; swap; iexact H16; ipureintro; exact View.read_writes_of_cover _ _ _ _ _ (coverA_16 m c t h0 h1)
        isplitl [H17]
        · unfold owns; iexists _; isplitr; swap; iexact H17; ipureintro; exact View.read_writes_of_cover _ _ _ _ _ (coverA_17 m c t h0 h1)
        isplitl [H18]
        · unfold owns; iexists _; isplitr; swap; iexact H18; ipureintro; exact View.read_writes_of_cover _ _ _ _ _ (coverA_18 m c t h0 h1)
        isplitl [H19]
        · unfold owns; iexists _; isplitr; swap; iexact H19; ipureintro; exact View.read_writes_of_cover _ _ _ _ _ (coverA_19 m c t h0 h1)
        isplitl [H20]
        · unfold owns; iexists _; isplitr; swap; iexact H20; ipureintro; exact View.read_writes_of_cover _ _ _ _ _ (coverA_20 m c t h0 h1)
        isplitl [H21]
        · unfold owns; iexists _; isplitr; swap; iexact H21; ipureintro; exact View.read_writes_of_cover _ _ _ _ _ (coverA_21 m c t h0 h1)
        isplitl [H22]
        · unfold owns; iexists _; isplitr; swap; iexact H22; ipureintro; exact View.read_writes_of_cover _ _ _ _ _ (coverA_22 m c t h0 h1)
        isplitl [H23]
        · unfold owns; iexists _; isplitr; swap; iexact H23; ipureintro; exact View.read_writes_of_cover _ _ _ _ _ (coverA_23 m c t h0 h1)
        isplitl [H24]
        · unfold owns; iexists _; isplitr; swap; iexact H24; ipureintro; exact View.read_writes_of_cover _ _ _ _ _ (coverA_24 m c t h0 h1)
        isplitl [H25]
        · unfold owns; iexists _; isplitr; swap; iexact H25; ipureintro; exact View.read_writes_of_cover _ _ _ _ _ (coverA_25 m c t h0 h1)
        isplitl [H26]
        · unfold owns; iexists _; isplitr; swap; iexact H26; ipureintro; exact View.read_writes_of_cover _ _ _ _ _ (coverA_26 m c t h0 h1)
        isplitl [H27]; · iexists _; iexact H27
        isplitl [H28]; · iexists _; iexact H28
        iexists _; iexact H29
      · rw [PhiS_castSucc m c t, PhiS_pos m c _ _ hz]
        rw [outsAt0_A m c t h0 h1]
        unfold outsA; dsimp only
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
        iapply ((atA m c t h0 h1).2.2.2.2.2.2.2.2.2.2.2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [H18]; · iexists _; iexact H18
        isplitl [H19]; · iexists _; iexact H19
        isplitl [H20]; · iexists _; iexact H20
        isplitl [H21]; · iexists _; iexact H21
        isplitl [H22]; · iexists _; iexact H22
        isplitl [H23]; · iexists _; iexact H23
        isplitl [H24]; · iexists _; iexact H24
        isplitl [H25]; · iexists _; iexact H25
        isplitl [H26]; · iexists _; iexact H26
        isplitl [H27]; · iexact H27
        isplitl [H28]; · iexact H28
        isplitl [H29]; · iexact H29
        isplitl [HS0]; · iexists _; iexact HS0
        isplitl [HS1]; · iexists _; iexact HS1
        isplitl [HS2]; · iexists _; iexact HS2
        iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, H27, H28, H29, ⟨%es0, HS0⟩, ⟨%es1, HS1⟩, ⟨%es2, HS2⟩⟩
        isplitl [HS0 HS1 HS2 Hg]
        · isplitl [HS0 HS1 HS2]
          · isplitl [HS0]
            · unfold owns; iexists _; isplitr; swap; iexact HS0; ipureintro; exact View.read_writes_of_cover _ _ _ _ _ (scoverA_0 m c t h0 h1)
            isplitl [HS1]
            · unfold owns; iexists _; isplitr; swap; iexact HS1; ipureintro; exact View.read_writes_of_cover _ _ _ _ _ (scoverA_1 m c t h0 h1)
            unfold owns; iexists _; isplitr; swap; iexact HS2; ipureintro; exact View.read_writes_of_cover _ _ _ _ _ (scoverA_2 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]
        · unfold owns; iexists _; isplitr; swap; iexact H16; ipureintro; exact View.read_writes_of_cover _ _ _ _ _ (coverA_16 m c t h0 h1)
        isplitl [H17]
        · unfold owns; iexists _; isplitr; swap; iexact H17; ipureintro; exact View.read_writes_of_cover _ _ _ _ _ (coverA_17 m c t h0 h1)
        isplitl [H18]
        · unfold owns; iexists _; isplitr; swap; iexact H18; ipureintro; exact View.read_writes_of_cover _ _ _ _ _ (coverA_18 m c t h0 h1)
        isplitl [H19]
        · unfold owns; iexists _; isplitr; swap; iexact H19; ipureintro; exact View.read_writes_of_cover _ _ _ _ _ (coverA_19 m c t h0 h1)
        isplitl [H20]
        · unfold owns; iexists _; isplitr; swap; iexact H20; ipureintro; exact View.read_writes_of_cover _ _ _ _ _ (coverA_20 m c t h0 h1)
        isplitl [H21]
        · unfold owns; iexists _; isplitr; swap; iexact H21; ipureintro; exact View.read_writes_of_cover _ _ _ _ _ (coverA_21 m c t h0 h1)
        isplitl [H22]
        · unfold owns; iexists _; isplitr; swap; iexact H22; ipureintro; exact View.read_writes_of_cover _ _ _ _ _ (coverA_22 m c t h0 h1)
        isplitl [H23]
        · unfold owns; iexists _; isplitr; swap; iexact H23; ipureintro; exact View.read_writes_of_cover _ _ _ _ _ (coverA_23 m c t h0 h1)
        isplitl [H24]
        · unfold owns; iexists _; isplitr; swap; iexact H24; ipureintro; exact View.read_writes_of_cover _ _ _ _ _ (coverA_24 m c t h0 h1)
        isplitl [H25]
        · unfold owns; iexists _; isplitr; swap; iexact H25; ipureintro; exact View.read_writes_of_cover _ _ _ _ _ (coverA_25 m c t h0 h1)
        isplitl [H26]
        · unfold owns; iexists _; isplitr; swap; iexact H26; ipureintro; exact View.read_writes_of_cover _ _ _ _ _ (coverA_26 m c t h0 h1)
        isplitl [H27]; · iexists _; iexact H27
        isplitl [H28]; · iexists _; iexact H28
        iexists _; iexact H29
  · by_cases h1 : t.val % 14 = 13
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [show (dats m 0 c).leavesExact 24 t = owns (c : Thread nD τ) (ms0_24 t) fullShare ((dats m 0 c).after 24 t) from by
      unfold Dat.leavesExact; rw [liveAt0_24 t], after0_24]
      rw [show (dats m 0 c).leavesExact 25 t = owns (c : Thread nD τ) (ms0_25 t) fullShare ((dats m 0 c).after 25 t) from by
      unfold Dat.leavesExact; rw [liveAt0_25 t], after0_25]
      rw [show (dats m 0 c).leavesExact 26 t = owns (c : Thread nD τ) (ms0_26 t) fullShare ((dats m 0 c).after 26 t) from by
      unfold Dat.leavesExact; rw [liveAt0_26 t], after0_26]
      rw [show (dats m 0 c).leavesExact 27 t = owns (c : Thread nD τ) (ms0_27 t) fullShare ((dats m 0 c).after 27 t) from by
      unfold Dat.leavesExact; rw [liveAt0_27_C t (fun h => h0 ((hcond0_0 t).mp h)) ((hcond0_1 t).mpr h1)], after0_27]
      rw [show (dats m 0 c).leavesExact 28 t = owns (c : Thread nD τ) (ms0_28 t) fullShare ((dats m 0 c).after 28 t) from by
      unfold Dat.leavesExact; rw [liveAt0_28_C t (fun h => h0 ((hcond0_0 t).mp h)) ((hcond0_1 t).mpr h1)], after0_28]
      rw [show (dats m 0 c).leavesExact 29 t = owns (c : Thread nD τ) (ms0_29 t) fullShare ((dats m 0 c).after 29 t) from by
      unfold Dat.leavesExact; rw [liveAt0_29_C t (fun h => h0 ((hcond0_0 t).mp h)) ((hcond0_1 t).mpr h1)], after0_29]
      by_cases hz : t.val = 0
      · exfalso; have hN : t.val < 224 := lt_of_lt_of_eq t.isLt (show cfg0.N = 224 from N_0); omega
      · rw [PhiS_castSucc m c t, PhiS_pos m c _ _ hz]
        rw [outsAt0_C m c t h0 h1]
        simp only [before0_17_C m c t h0 h1, before0_19_C m c t h0 h1, before0_21_C m c t h0 h1]
        unfold outsC; dsimp only
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
        iapply ((atC m c t h0 h1 _).2.2.2.2.2.2.2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexact H17
        isplitl [H18]; · iexists _; iexact H18
        isplitl [H19]; · iexact H19
        isplitl [H20]; · iexists _; iexact H20
        isplitl [H21]; · iexact H21
        isplitl [H22]; · iexists _; iexact H22
        isplitl [H23]; · iexists _; iexact H23
        isplitl [H24]; · iexists _; iexact H24
        isplitl [H25]; · iexists _; iexact H25
        isplitl [H26]; · iexists _; iexact H26
        isplitl [H27]; · iexists _; iexact H27
        isplitl [H28]; · iexists _; iexact H28
        isplitl [H29]; · iexists _; iexact H29
        isplitl [HS0]; · iexact HS0
        isplitl [HS1]; · iexact HS1
        isplitl [HS2]; · iexact HS2
        iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%es0, HS0⟩, ⟨%es1, HS1⟩, ⟨%es2, HS2⟩⟩
        isplitl [HS0 HS1 HS2 Hg]
        · isplitl [HS0 HS1 HS2]
          · isplitl [HS0]
            · unfold owns; iexists _; isplitr; swap; iexact HS0; ipureintro; exact View.read_writes_of_cover _ _ _ _ _ (scoverC_0 m c t h0 h1 _)
            isplitl [HS1]
            · unfold owns; iexists _; isplitr; swap; iexact HS1; ipureintro; exact View.read_writes_of_cover _ _ _ _ _ (scoverC_1 m c t h0 h1 _)
            unfold owns; iexists _; isplitr; swap; iexact HS2; ipureintro; exact View.read_writes_of_cover _ _ _ _ _ (scoverC_2 m c t h0 h1 _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]
        · unfold owns; iexists _; isplitr; swap; iexact H16; ipureintro; exact View.read_writes_of_cover _ _ _ _ _ (coverC_16 m c t h0 h1 _)
        isplitl [H17]
        · unfold owns; iexists _; isplitr; swap; iexact H17; ipureintro; exact View.read_writes_of_cover _ _ _ _ _ (coverC_17 m c t h0 h1 _)
        isplitl [H18]
        · unfold owns; iexists _; isplitr; swap; iexact H18; ipureintro; exact View.read_writes_of_cover _ _ _ _ _ (coverC_18 m c t h0 h1 _)
        isplitl [H19]
        · unfold owns; iexists _; isplitr; swap; iexact H19; ipureintro; exact View.read_writes_of_cover _ _ _ _ _ (coverC_19 m c t h0 h1 _)
        isplitl [H20]
        · unfold owns; iexists _; isplitr; swap; iexact H20; ipureintro; exact View.read_writes_of_cover _ _ _ _ _ (coverC_20 m c t h0 h1 _)
        isplitl [H21]
        · unfold owns; iexists _; isplitr; swap; iexact H21; ipureintro; exact View.read_writes_of_cover _ _ _ _ _ (coverC_21 m c t h0 h1 _)
        isplitl [H22]
        · unfold owns; iexists _; isplitr; swap; iexact H22; ipureintro; exact View.read_writes_of_cover _ _ _ _ _ (coverC_22 m c t h0 h1 _)
        isplitl [H23]
        · unfold owns; iexists _; isplitr; swap; iexact H23; ipureintro; exact View.read_writes_of_cover _ _ _ _ _ (coverC_23 m c t h0 h1 _)
        isplitl [H24]
        · unfold owns; iexists _; isplitr; swap; iexact H24; ipureintro; exact View.read_writes_of_cover _ _ _ _ _ (coverC_24 m c t h0 h1 _)
        isplitl [H25]
        · unfold owns; iexists _; isplitr; swap; iexact H25; ipureintro; exact View.read_writes_of_cover _ _ _ _ _ (coverC_25 m c t h0 h1 _)
        isplitl [H26]
        · unfold owns; iexists _; isplitr; swap; iexact H26; ipureintro; exact View.read_writes_of_cover _ _ _ _ _ (coverC_26 m c t h0 h1 _)
        isplitl [H27]
        · unfold owns; iexists _; isplitr; swap; iexact H27; ipureintro; exact View.read_writes_of_cover _ _ _ _ _ (coverC_27 m c t h0 h1 _)
        isplitl [H28]
        · unfold owns; iexists _; isplitr; swap; iexact H28; ipureintro; exact View.read_writes_of_cover _ _ _ _ _ (coverC_28 m c t h0 h1 _)
        unfold owns; iexists _; isplitr; swap; iexact H29; ipureintro; exact View.read_writes_of_cover _ _ _ _ _ (coverC_29 m c t h0 h1 _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [show (dats m 0 c).leavesExact 24 t = owns (c : Thread nD τ) (ms0_24 t) fullShare ((dats m 0 c).after 24 t) from by
      unfold Dat.leavesExact; rw [liveAt0_24 t], after0_24]
      rw [show (dats m 0 c).leavesExact 25 t = owns (c : Thread nD τ) (ms0_25 t) fullShare ((dats m 0 c).after 25 t) from by
      unfold Dat.leavesExact; rw [liveAt0_25 t], after0_25]
      rw [show (dats m 0 c).leavesExact 26 t = owns (c : Thread nD τ) (ms0_26 t) fullShare ((dats m 0 c).after 26 t) from by
      unfold Dat.leavesExact; rw [liveAt0_26 t], after0_26]
      rw [Dat.leavesExact_idle (dats m 0 c) 27 t (idleAt0_27_B t (fun h => h0 ((hcond0_0 t).mp h)) (fun h => h1 ((hcond0_1 t).mp h))) (noFlush0_27_B t (fun h => h0 ((hcond0_0 t).mp h)) (fun h => h1 ((hcond0_1 t).mp h)))]
      rw [Dat.leavesExact_idle (dats m 0 c) 28 t (idleAt0_28_B t (fun h => h0 ((hcond0_0 t).mp h)) (fun h => h1 ((hcond0_1 t).mp h))) (noFlush0_28_B t (fun h => h0 ((hcond0_0 t).mp h)) (fun h => h1 ((hcond0_1 t).mp h)))]
      rw [Dat.leavesExact_idle (dats m 0 c) 29 t (idleAt0_29_B t (fun h => h0 ((hcond0_0 t).mp h)) (fun h => h1 ((hcond0_1 t).mp h))) (noFlush0_29_B t (fun h => h0 ((hcond0_0 t).mp h)) (fun h => h1 ((hcond0_1 t).mp h)))]
      by_cases hz : t.val = 0
      · exfalso; have hN : t.val < 224 := lt_of_lt_of_eq t.isLt (show cfg0.N = 224 from N_0); omega
      · rw [PhiS_castSucc m c t, PhiS_pos m c _ _ hz]
        rw [outsAt0_B m c t h0 h1]
        simp only [before0_17_B m c t h0 h1, before0_19_B m c t h0 h1, before0_21_B m c t h0 h1]
        unfold outsB; dsimp only
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
        iapply ((atB m c t h0 h1 _).2.2.2.2.2.2.2.2.2.2.2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexact H17
        isplitl [H18]; · iexists _; iexact H18
        isplitl [H19]; · iexact H19
        isplitl [H20]; · iexists _; iexact H20
        isplitl [H21]; · iexact H21
        isplitl [H22]; · iexists _; iexact H22
        isplitl [H23]; · iexists _; iexact H23
        isplitl [H24]; · iexists _; iexact H24
        isplitl [H25]; · iexists _; iexact H25
        isplitl [H26]; · iexists _; iexact H26
        isplitl [H27]; · iexact H27
        isplitl [H28]; · iexact H28
        isplitl [H29]; · iexact H29
        isplitl [HS0]; · iexact HS0
        isplitl [HS1]; · iexact HS1
        isplitl [HS2]; · iexact HS2
        iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, H27, H28, H29, ⟨%es0, HS0⟩, ⟨%es1, HS1⟩, ⟨%es2, HS2⟩⟩
        isplitl [HS0 HS1 HS2 Hg]
        · isplitl [HS0 HS1 HS2]
          · isplitl [HS0]
            · unfold owns; iexists _; isplitr; swap; iexact HS0; ipureintro; exact View.read_writes_of_cover _ _ _ _ _ (scoverB_0 m c t h0 h1 _)
            isplitl [HS1]
            · unfold owns; iexists _; isplitr; swap; iexact HS1; ipureintro; exact View.read_writes_of_cover _ _ _ _ _ (scoverB_1 m c t h0 h1 _)
            unfold owns; iexists _; isplitr; swap; iexact HS2; ipureintro; exact View.read_writes_of_cover _ _ _ _ _ (scoverB_2 m c t h0 h1 _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]
        · unfold owns; iexists _; isplitr; swap; iexact H16; ipureintro; exact View.read_writes_of_cover _ _ _ _ _ (coverB_16 m c t h0 h1 _)
        isplitl [H17]
        · unfold owns; iexists _; isplitr; swap; iexact H17; ipureintro; exact View.read_writes_of_cover _ _ _ _ _ (coverB_17 m c t h0 h1 _)
        isplitl [H18]
        · unfold owns; iexists _; isplitr; swap; iexact H18; ipureintro; exact View.read_writes_of_cover _ _ _ _ _ (coverB_18 m c t h0 h1 _)
        isplitl [H19]
        · unfold owns; iexists _; isplitr; swap; iexact H19; ipureintro; exact View.read_writes_of_cover _ _ _ _ _ (coverB_19 m c t h0 h1 _)
        isplitl [H20]
        · unfold owns; iexists _; isplitr; swap; iexact H20; ipureintro; exact View.read_writes_of_cover _ _ _ _ _ (coverB_20 m c t h0 h1 _)
        isplitl [H21]
        · unfold owns; iexists _; isplitr; swap; iexact H21; ipureintro; exact View.read_writes_of_cover _ _ _ _ _ (coverB_21 m c t h0 h1 _)
        isplitl [H22]
        · unfold owns; iexists _; isplitr; swap; iexact H22; ipureintro; exact View.read_writes_of_cover _ _ _ _ _ (coverB_22 m c t h0 h1 _)
        isplitl [H23]
        · unfold owns; iexists _; isplitr; swap; iexact H23; ipureintro; exact View.read_writes_of_cover _ _ _ _ _ (coverB_23 m c t h0 h1 _)
        isplitl [H24]
        · unfold owns; iexists _; isplitr; swap; iexact H24; ipureintro; exact View.read_writes_of_cover _ _ _ _ _ (coverB_24 m c t h0 h1 _)
        isplitl [H25]
        · unfold owns; iexists _; isplitr; swap; iexact H25; ipureintro; exact View.read_writes_of_cover _ _ _ _ _ (coverB_25 m c t h0 h1 _)
        isplitl [H26]
        · unfold owns; iexists _; isplitr; swap; iexact H26; ipureintro; exact View.read_writes_of_cover _ _ _ _ _ (coverB_26 m c t h0 h1 _)
        isplitl [H27]; · iexists _; iexact H27
        isplitl [H28]; · iexists _; iexact H28
        iexists _; iexact H29

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 0 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 224 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- The frame claim's statement (`Cert.quiescent_MidKIdeal`) at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.Proof.MidRun

end
-- ==== Proof.MidArr.lean ====
/-
  The fourteen arrays of the middle call after its run: each grid point writes its block, or its last point in a row of points
  writes the row's strip, and these fill the arrays.
-/
module

public import proofs.«01_k».proof.Proof.MidState
public import proofs.«01_k».proof.Proof.MidArrays
public import proofs.«01_k».proof.Proof.MidFrame
public import Idealize.ShloMosaic.Lib.Pipeline.ValueKit

@[expose] public section

set_option maxRecDepth 16384

noncomputable section

namespace Cert.Proof.MidVal

open Idealize.ShloMosaic Idealize.ShloMosaic.TcCoe Idealize.SL.Sem Cert.MidKIdeal Cert.MidKIdeal.Gen Cert.Proof.MidRun
open Cert.Proof.MidHost (inputs)

variable (m : (ℓ : Loc nD τ sig) → Buf (Elt Ideal) ℓ) (ρ : Dev nD → PrngReg) (c : Dev nD)

theorem final16 : (dats m 0 c).arrAt 16 cfg0.N = Mid.codes (Mid.act (inputs m c)) := by
  refine (dats m 0 c).arrAt_eq_of_covers 16 _ (by decide +kernel) fun t hf y => ?_
  have hr : (((cfg0.win 16).blk t).view.emb y : S4096x3584.Idx) 0 = row t (y 0) := by
    refine Fin.ext ?_
    blk_simp [idx16 t, row]
  have hc : (((cfg0.win 16).blk t).view.emb y : S4096x3584.Idx) 1 = col t (y 1) := by
    refine Fin.ext ?_
    blk_simp [idx16 t, col]
  show _ = Mid.codes _ _
  unfold Mid.codes
  rw [hr, hc]
  blk_simp
  rw [after0_16]
  exact (congrArg _ (eq_ix2 _)).trans (ac_apply m c t (y 0) (y 1))

theorem final17 : (dats m 0 c).arrAt 17 cfg0.N = Mid.scales (Mid.act (inputs m c)) := by
  refine (dats m 0 c).arrAt_eq_of_covers 17 _ (by decide +kernel) fun t hf y => ?_
  have hr : (((cfg0.win 17).blk t).view.emb y : S4096x28.Idx) 0 = row t (y 0) := by
    refine Fin.ext ?_
    blk_simp [idx17 t, row]
  have hc : (((cfg0.win 17).blk t).view.emb y : S4096x28.Idx) 1 = (y 1 : Fin 28) := by
    refine Fin.ext ?_
    blk_simp [idx17 t]
  show _ = Mid.scales _ _
  unfold Mid.scales
  rw [hr, hc]
  blk_simp
  rw [after0_17]
  exact (congrArg _ (eq_ix2 _)).trans (as_apply m c t ((flush0_17 t).mp hf) (y 0) (y 1))

theorem final18 : (dats m 0 c).arrAt 18 cfg0.N = Mid.codes (Mid.dg (inputs m c)) := by
  refine (dats m 0 c).arrAt_eq_of_covers 18 _ (by decide +kernel) fun t hf y => ?_
  have hr : (((cfg0.win 18).blk t).view.emb y : S4096x3584.Idx) 0 = row t (y 0) := by
    refine Fin.ext ?_
    blk_simp [idx18 t, row]
  have hc : (((cfg0.win 18).blk t).view.emb y : S4096x3584.Idx) 1 = col t (y 1) := by
    refine Fin.ext ?_
    blk_simp [idx18 t, col]
  show _ = Mid.codes _ _
  unfold Mid.codes
  rw [hr, hc]
  blk_simp
  rw [after0_18]
  exact (congrArg _ (eq_ix2 _)).trans (gc_apply m c t (y 0) (y 1))

theorem final19 : (dats m 0 c).arrAt 19 cfg0.N = Mid.scales (Mid.dg (inputs m c)) := by
  refine (dats m 0 c).arrAt_eq_of_covers 19 _ (by decide +kernel) fun t hf y => ?_
  have hr : (((cfg0.win 19).blk t).view.emb y : S4096x28.Idx) 0 = row t (y 0) := by
    refine Fin.ext ?_
    blk_simp [idx19 t, row]
  have hc : (((cfg0.win 19).blk t).view.emb y : S4096x28.Idx) 1 = (y 1 : Fin 28) := by
    refine Fin.ext ?_
    blk_simp [idx19 t]
  show _ = Mid.scales _ _
  unfold Mid.scales
  rw [hr, hc]
  blk_simp
  rw [after0_19]
  exact (congrArg _ (eq_ix2 _)).trans (gs_apply m c t ((flush0_19 t).mp hf) (y 0) (y 1))

theorem final20 : (dats m 0 c).arrAt 20 cfg0.N = Mid.codes (Mid.du (inputs m c)) := by
  refine (dats m 0 c).arrAt_eq_of_covers 20 _ (by decide +kernel) fun t hf y => ?_
  have hr : (((cfg0.win 20).blk t).view.emb y : S4096x3584.Idx) 0 = row t (y 0) := by
    refine Fin.ext ?_
    blk_simp [idx20 t, row]
  have hc : (((cfg0.win 20).blk t).view.emb y : S4096x3584.Idx) 1 = col t (y 1) := by
    refine Fin.ext ?_
    blk_simp [idx20 t, col]
  show _ = Mid.codes _ _
  unfold Mid.codes
  rw [hr, hc]
  blk_simp
  rw [after0_20]
  exact (congrArg _ (eq_ix2 _)).trans (uc_apply m c t (y 0) (y 1))

theorem final21 : (dats m 0 c).arrAt 21 cfg0.N = Mid.scales (Mid.du (inputs m c)) := by
  refine (dats m 0 c).arrAt_eq_of_covers 21 _ (by decide +kernel) fun t hf y => ?_
  have hr : (((cfg0.win 21).blk t).view.emb y : S4096x28.Idx) 0 = row t (y 0) := by
    refine Fin.ext ?_
    blk_simp [idx21 t, row]
  have hc : (((cfg0.win 21).blk t).view.emb y : S4096x28.Idx) 1 = (y 1 : Fin 28) := by
    refine Fin.ext ?_
    blk_simp [idx21 t]
  show _ = Mid.scales _ _
  unfold Mid.scales
  rw [hr, hc]
  blk_simp
  rw [after0_21]
  exact (congrArg _ (eq_ix2 _)).trans (us_apply m c t ((flush0_21 t).mp hf) (y 0) (y 1))

theorem final22 : (dats m 0 c).arrAt 22 cfg0.N = Mid.decodeds (Mid.act (inputs m c)) := by
  refine (dats m 0 c).arrAt_eq_of_covers 22 _ (by decide +kernel) fun t hf y => ?_
  have hr : (((cfg0.win 22).blk t).view.emb y : S4096x3584.Idx) 0 = row t (y 0) := by
    refine Fin.ext ?_
    blk_simp [idx22 t, row]
  have hc : (((cfg0.win 22).blk t).view.emb y : S4096x3584.Idx) 1 = col t (y 1) := by
    refine Fin.ext ?_
    blk_simp [idx22 t, col]
  show _ = Mid.decodeds _ _
  unfold Mid.decodeds
  rw [hr, hc]
  blk_simp
  rw [after0_22]
  exact (congrArg _ (eq_ix2 _)).trans (aq_apply m c t (y 0) (y 1))

theorem final23 : (dats m 0 c).arrAt 23 cfg0.N = Mid.decodeds (Mid.dg (inputs m c)) := by
  refine (dats m 0 c).arrAt_eq_of_covers 23 _ (by decide +kernel) fun t hf y => ?_
  have hr : (((cfg0.win 23).blk t).view.emb y : S4096x3584.Idx) 0 = row t (y 0) := by
    refine Fin.ext ?_
    blk_simp [idx23 t, row]
  have hc : (((cfg0.win 23).blk t).view.emb y : S4096x3584.Idx) 1 = col t (y 1) := by
    refine Fin.ext ?_
    blk_simp [idx23 t, col]
  show _ = Mid.decodeds _ _
  unfold Mid.decodeds
  rw [hr, hc]
  blk_simp
  rw [after0_23]
  exact (congrArg _ (eq_ix2 _)).trans (gq_apply m c t (y 0) (y 1))

theorem final24 : (dats m 0 c).arrAt 24 cfg0.N = Mid.decodeds (Mid.du (inputs m c)) := by
  refine (dats m 0 c).arrAt_eq_of_covers 24 _ (by decide +kernel) fun t hf y => ?_
  have hr : (((cfg0.win 24).blk t).view.emb y : S4096x3584.Idx) 0 = row t (y 0) := by
    refine Fin.ext ?_
    blk_simp [idx24 t, row]
  have hc : (((cfg0.win 24).blk t).view.emb y : S4096x3584.Idx) 1 = col t (y 1) := by
    refine Fin.ext ?_
    blk_simp [idx24 t, col]
  show _ = Mid.decodeds _ _
  unfold Mid.decodeds
  rw [hr, hc]
  blk_simp
  rw [after0_24]
  exact (congrArg _ (eq_ix2 _)).trans (uq_apply m c t (y 0) (y 1))

theorem final25 : (dats m 0 c).arrAt 25 cfg0.N = Mid.whole (Mid.dg (inputs m c)) := by
  refine (dats m 0 c).arrAt_eq_of_covers 25 _ (by decide +kernel) fun t hf y => ?_
  have hr : (((cfg0.win 25).blk t).view.emb y : S4096x3584.Idx) 0 = row t (y 0) := by
    refine Fin.ext ?_
    blk_simp [idx25 t, row]
  have hc : (((cfg0.win 25).blk t).view.emb y : S4096x3584.Idx) 1 = col t (y 1) := by
    refine Fin.ext ?_
    blk_simp [idx25 t, col]
  show _ = Mid.whole _ _
  unfold Mid.whole
  rw [hr, hc]
  blk_simp
  rw [after0_25]
  exact (congrArg _ (eq_ix2 _)).trans (dgb_apply m c t (y 0) (y 1))

theorem final26 : (dats m 0 c).arrAt 26 cfg0.N = Mid.whole (Mid.du (inputs m c)) := by
  refine (dats m 0 c).arrAt_eq_of_covers 26 _ (by decide +kernel) fun t hf y => ?_
  have hr : (((cfg0.win 26).blk t).view.emb y : S4096x3584.Idx) 0 = row t (y 0) := by
    refine Fin.ext ?_
    blk_simp [idx26 t, row]
  have hc : (((cfg0.win 26).blk t).view.emb y : S4096x3584.Idx) 1 = col t (y 1) := by
    refine Fin.ext ?_
    blk_simp [idx26 t, col]
  show _ = Mid.whole _ _
  unfold Mid.whole
  rw [hr, hc]
  blk_simp
  rw [after0_26]
  exact (congrArg _ (eq_ix2 _)).trans (dub_apply m c t (y 0) (y 1))

theorem final27 : (dats m 0 c).arrAt 27 cfg0.N = Mid.thin (Mid.zDown (inputs m c)) := by
  refine (dats m 0 c).arrAt_eq_of_covers 27 _ (by decide +kernel) fun t hf y => ?_
  have hr : (((cfg0.win 27).blk t).view.emb y : S4096x192.Idx) 0 = row t (y 0) := by
    refine Fin.ext ?_
    blk_simp [idx27 t, row]
  have hc : (((cfg0.win 27).blk t).view.emb y : S4096x192.Idx) 1 = (y 1 : Fin 192) := by
    refine Fin.ext ?_
    blk_simp [idx27 t]
  show _ = Mid.thin _ _
  unfold Mid.thin
  rw [hr, hc]
  blk_simp
  rw [after0_27]
  exact (congrArg _ (eq_ix2 _)).trans (zd_apply m c t ((flush0_27 t).mp hf) (y 0) (y 1))

theorem final28 : (dats m 0 c).arrAt 28 cfg0.N = Mid.thin (Mid.dzGate (inputs m c)) := by
  refine (dats m 0 c).arrAt_eq_of_covers 28 _ (by decide +kernel) fun t hf y => ?_
  have hr : (((cfg0.win 28).blk t).view.emb y : S4096x192.Idx) 0 = row t (y 0) := by
    refine Fin.ext ?_
    blk_simp [idx28 t, row]
  have hc : (((cfg0.win 28).blk t).view.emb y : S4096x192.Idx) 1 = (y 1 : Fin 192) := by
    refine Fin.ext ?_
    blk_simp [idx28 t]
  show _ = Mid.thin _ _
  unfold Mid.thin
  rw [hr, hc]
  blk_simp
  rw [after0_28]
  exact (congrArg _ (eq_ix2 _)).trans (zg_apply m c t ((flush0_28 t).mp hf) (y 0) (y 1))

theorem final29 : (dats m 0 c).arrAt 29 cfg0.N = Mid.thin (Mid.dzUp (inputs m c)) := by
  refine (dats m 0 c).arrAt_eq_of_covers 29 _ (by decide +kernel) fun t hf y => ?_
  have hr : (((cfg0.win 29).blk t).view.emb y : S4096x192.Idx) 0 = row t (y 0) := by
    refine Fin.ext ?_
    blk_simp [idx29 t, row]
  have hc : (((cfg0.win 29).blk t).view.emb y : S4096x192.Idx) 1 = (y 1 : Fin 192) := by
    refine Fin.ext ?_
    blk_simp [idx29 t]
  show _ = Mid.thin _ _
  unfold Mid.thin
  rw [hr, hc]
  blk_simp
  rw [after0_29]
  exact (congrArg _ (eq_ix2 _)).trans (zu_apply m c t ((flush0_29 t).mp hf) (y 0) (y 1))

theorem left16 (r : PUnit × MemSt nD τ sig (Elt Ideal)) (h : Pipeline.FramePost cfgs (dats m) 0 (V m) r) :
    r.2.mem ((c : Thread nD τ).loc main_v38_0) = Mid.codes (Mid.act (inputs m c)) :=
  Eq.trans (b := (dats m 0 c).arrAt 16 cfg0.N) ((h c).1 16) (final16 m c)

theorem left17 (r : PUnit × MemSt nD τ sig (Elt Ideal)) (h : Pipeline.FramePost cfgs (dats m) 0 (V m) r) :
    r.2.mem ((c : Thread nD τ).loc main_v38_1) = Mid.scales (Mid.act (inputs m c)) :=
  Eq.trans (b := (dats m 0 c).arrAt 17 cfg0.N) ((h c).1 17) (final17 m c)

theorem left18 (r : PUnit × MemSt nD τ sig (Elt Ideal)) (h : Pipeline.FramePost cfgs (dats m) 0 (V m) r) :
    r.2.mem ((c : Thread nD τ).loc main_v38_2) = Mid.codes (Mid.dg (inputs m c)) :=
  Eq.trans (b := (dats m 0 c).arrAt 18 cfg0.N) ((h c).1 18) (final18 m c)

theorem left19 (r : PUnit × MemSt nD τ sig (Elt Ideal)) (h : Pipeline.FramePost cfgs (dats m) 0 (V m) r) :
    r.2.mem ((c : Thread nD τ).loc main_v38_3) = Mid.scales (Mid.dg (inputs m c)) :=
  Eq.trans (b := (dats m 0 c).arrAt 19 cfg0.N) ((h c).1 19) (final19 m c)

theorem left20 (r : PUnit × MemSt nD τ sig (Elt Ideal)) (h : Pipeline.FramePost cfgs (dats m) 0 (V m) r) :
    r.2.mem ((c : Thread nD τ).loc main_v38_4) = Mid.codes (Mid.du (inputs m c)) :=
  Eq.trans (b := (dats m 0 c).arrAt 20 cfg0.N) ((h c).1 20) (final20 m c)

theorem left21 (r : PUnit × MemSt nD τ sig (Elt Ideal)) (h : Pipeline.FramePost cfgs (dats m) 0 (V m) r) :
    r.2.mem ((c : Thread nD τ).loc main_v38_5) = Mid.scales (Mid.du (inputs m c)) :=
  Eq.trans (b := (dats m 0 c).arrAt 21 cfg0.N) ((h c).1 21) (final21 m c)

theorem left22 (r : PUnit × MemSt nD τ sig (Elt Ideal)) (h : Pipeline.FramePost cfgs (dats m) 0 (V m) r) :
    r.2.mem ((c : Thread nD τ).loc main_v38_6) = Mid.decodeds (Mid.act (inputs m c)) :=
  Eq.trans (b := (dats m 0 c).arrAt 22 cfg0.N) ((h c).1 22) (final22 m c)

theorem left23 (r : PUnit × MemSt nD τ sig (Elt Ideal)) (h : Pipeline.FramePost cfgs (dats m) 0 (V m) r) :
    r.2.mem ((c : Thread nD τ).loc main_v38_7) = Mid.decodeds (Mid.dg (inputs m c)) :=
  Eq.trans (b := (dats m 0 c).arrAt 23 cfg0.N) ((h c).1 23) (final23 m c)

theorem left24 (r : PUnit × MemSt nD τ sig (Elt Ideal)) (h : Pipeline.FramePost cfgs (dats m) 0 (V m) r) :
    r.2.mem ((c : Thread nD τ).loc main_v38_8) = Mid.decodeds (Mid.du (inputs m c)) :=
  Eq.trans (b := (dats m 0 c).arrAt 24 cfg0.N) ((h c).1 24) (final24 m c)

theorem left25 (r : PUnit × MemSt nD τ sig (Elt Ideal)) (h : Pipeline.FramePost cfgs (dats m) 0 (V m) r) :
    r.2.mem ((c : Thread nD τ).loc main_v38_9) = Mid.whole (Mid.dg (inputs m c)) :=
  Eq.trans (b := (dats m 0 c).arrAt 25 cfg0.N) ((h c).1 25) (final25 m c)

theorem left26 (r : PUnit × MemSt nD τ sig (Elt Ideal)) (h : Pipeline.FramePost cfgs (dats m) 0 (V m) r) :
    r.2.mem ((c : Thread nD τ).loc main_v38_10) = Mid.whole (Mid.du (inputs m c)) :=
  Eq.trans (b := (dats m 0 c).arrAt 26 cfg0.N) ((h c).1 26) (final26 m c)

theorem left27 (r : PUnit × MemSt nD τ sig (Elt Ideal)) (h : Pipeline.FramePost cfgs (dats m) 0 (V m) r) :
    r.2.mem ((c : Thread nD τ).loc main_v38_11) = Mid.thin (Mid.zDown (inputs m c)) :=
  Eq.trans (b := (dats m 0 c).arrAt 27 cfg0.N) ((h c).1 27) (final27 m c)

theorem left28 (r : PUnit × MemSt nD τ sig (Elt Ideal)) (h : Pipeline.FramePost cfgs (dats m) 0 (V m) r) :
    r.2.mem ((c : Thread nD τ).loc main_v38_12) = Mid.thin (Mid.dzGate (inputs m c)) :=
  Eq.trans (b := (dats m 0 c).arrAt 28 cfg0.N) ((h c).1 28) (final28 m c)

theorem left29 (r : PUnit × MemSt nD τ sig (Elt Ideal)) (h : Pipeline.FramePost cfgs (dats m) 0 (V m) r) :
    r.2.mem ((c : Thread nD τ).loc main_v38_13) = Mid.thin (Mid.dzUp (inputs m c)) :=
  Eq.trans (b := (dats m 0 c).arrAt 29 cfg0.N) ((h c).1 29) (final29 m c)

/-- The run of the middle call: its fourteen arrays are those of the inputs, and the arguments stay. -/
theorem run_arrays : θ_run defs (onTc (τ := τ) (main (F := Ideal))) ⟨m, fun _ => 0, ρ⟩ (fun r => ∀ c : Dev nD,
      r.2.mem ((c.tc : Thread nD τ).loc main_v38_0) = Mid.codes (Mid.act (inputs m c))
      ∧ r.2.mem ((c.tc : Thread nD τ).loc main_v38_1) = Mid.scales (Mid.act (inputs m c))
      ∧ r.2.mem ((c.tc : Thread nD τ).loc main_v38_2) = Mid.codes (Mid.dg (inputs m c))
      ∧ r.2.mem ((c.tc : Thread nD τ).loc main_v38_3) = Mid.scales (Mid.dg (inputs m c))
      ∧ r.2.mem ((c.tc : Thread nD τ).loc main_v38_4) = Mid.codes (Mid.du (inputs m c))
      ∧ r.2.mem ((c.tc : Thread nD τ).loc main_v38_5) = Mid.scales (Mid.du (inputs m c))
      ∧ r.2.mem ((c.tc : Thread nD τ).loc main_v38_6) = Mid.decodeds (Mid.act (inputs m c))
      ∧ r.2.mem ((c.tc : Thread nD τ).loc main_v38_7) = Mid.decodeds (Mid.dg (inputs m c))
      ∧ r.2.mem ((c.tc : Thread nD τ).loc main_v38_8) = Mid.decodeds (Mid.du (inputs m c))
      ∧ r.2.mem ((c.tc : Thread nD τ).loc main_v38_9) = Mid.whole (Mid.dg (inputs m c))
      ∧ r.2.mem ((c.tc : Thread nD τ).loc main_v38_10) = Mid.whole (Mid.du (inputs m c))
      ∧ r.2.mem ((c.tc : Thread nD τ).loc main_v38_11) = Mid.thin (Mid.zDown (inputs m c))
      ∧ r.2.mem ((c.tc : Thread nD τ).loc main_v38_12) = Mid.thin (Mid.dzGate (inputs m c))
      ∧ r.2.mem ((c.tc : Thread nD τ).loc main_v38_13) = Mid.thin (Mid.dzUp (inputs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨left16 m c _ h.1, left17 m c _ h.1, left18 m c _ h.1, left19 m c _ h.1, left20 m c _ h.1, left21 m c _ h.1, left22 m c _ h.1, left23 m c _ h.1, left24 m c _ h.1, left25 m c _ h.1, left26 m c _ h.1, left27 m c _ h.1, left28 m c _ h.1, left29 m c _ h.1, h.2 c⟩)
    (θ_run_and (run_main m ρ) (unchanged m ρ))

end Cert.Proof.MidVal

end
-- ==== Proof.MidRef.lean ====
/-
  The reference of the middle call, read at an index.
-/
module

public import proofs.«01_k».proof.Proof.MidSpec
public import proofs.«01_k».proof.Proof.Gen.MidRIdeal.Skeleton

@[expose] public section

noncomputable section

namespace Cert.Proof.MidRef

open Idealize.ShloMosaic Cert.MidRIdeal Cert.MidRIdeal.Gen
open scoped BigOperators

/-- The rows in groups of 128 columns. -/
def groups (v : FVec Ideal S4096x3584 .f32) : FVec Ideal S4096x28x128 .f32 := shapeCast S4096x28x128 v shapeCasts_S4096x3584_S4096x28x128

/-- Each group's largest magnitude times 1/448. -/
def targets (v : FVec Ideal S4096x3584 .f32) : FVec Ideal S4096x28 .f32 :=
  mulf (multiReduction .maximumf [2] S4096x28 (absf (groups v)) 0xFF800000#32 reduces_S4096x28x128_S4096x28 (.inl rfl) rfl)
    (broadcast S4096x28 (Scalar.ofBits .f32 0x3B124925#32))

/-- How many of the 255 words each target reaches. -/
def counts (a : FVec Ideal S4096x28 .f32) : IVec S4096x28 32 :=
  multiReductionI .add [2] S4096x28 (extui 32 (cmpf .oge
    (broadcastTo S4096x28x255 (shapeCast S4096x28x1 a shapeCasts_S4096x28_S4096x28x1) broadcasts_S4096x28x1_S4096x28x255)
    (broadcastTo S4096x28x255 (bitcastToFloat .f32 (shli (addi (subi (iota .tc S1x1x255 32 [2] iota_S1x1x255_d2_w32) (broadcast S1x1x255 126#32))
      (broadcast S1x1x255 127#32)) (broadcast S1x1x255 23#32))) broadcasts_S1x1x255_S4096x28x255)) natLt_1_32) 0#32 reduces_S4096x28x255_S4096x28 rfl

/-- The maximum over a group's 128 numbers, as a fold. -/
theorem groupMax_apply (w : FVec Ideal S4096x28x128 .f32) (t : Fin 4096) (k : Fin 28) :
    multiReduction (F := Ideal) (φ := .f32) .maximumf [2] S4096x28 w 0xFF800000#32 reduces_S4096x28x128_S4096x28 (.inl rfl) rfl (ix2 t k)
      = (Finset.univ : Finset (Fin 128)).fold max (FloatOps.ofBits (F := Ideal) .f32 0xFF800000#32) (fun j => w (ix3 t k j)) := by
  pointwise []

theorem groups_apply (v : FVec Ideal S4096x3584 .f32) (t : Fin 4096) (k : Fin 28) (j : Fin 128) :
    groups v (ix3 t k j) = Mid.group (fun f => v (ix2 t f)) k j := by
  pointwise [groups, Mid.group]

/-- A product of two arrays at an index. -/
theorem mulf_at {S : Shape} (a b : FVec Ideal S .f32) (i : S.Idx) : mulf a b i = (a i * b i : EReal) := rfl

theorem targets_apply (v : FVec Ideal S4096x3584 .f32) (t : Fin 4096) (k : Fin 28) :
    targets v (ix2 t k) = Mid.target (Mid.group (fun f => v (ix2 t f)) k) := by
  unfold targets Mid.target
  rw [mulf_at, groupMax_apply]
  congr 1
  refine congrArg (fun g => Finset.fold max (FloatOps.ofBits (F := Ideal) .f32 0xFF800000#32) g Finset.univ) (funext fun j => ?_)
  rw [← groups_apply]
  rfl

theorem counts_apply (a : FVec Ideal S4096x28 .f32) (t : Fin 4096) (k : Fin 28) :
    counts a (ix2 t k) = BitVec.ofNat 32 (level (a (ix2 t k))) := by
  refine Eq.trans ?_ (count_eq _)
  pointwise [counts]

/-- The exponents of the groups' scales. -/
def expos (a : FVec Ideal S4096x28 .f32) : IVec S4096x28 32 :=
  select (cmpi .eq (subi (counts a) (broadcast S4096x28 126#32)) (broadcast S4096x28 4294967170#32)) (broadcast S4096x28 0#32)
    (subi (counts a) (broadcast S4096x28 126#32))

theorem expos_apply (a : FVec Ideal S4096x28 .f32) (t : Fin 4096) (k : Fin 28) :
    expos a (ix2 t k) = expo (BitVec.ofNat 32 (level (a (ix2 t k)))) := by rw [← counts_apply]; rfl

/-- The groups' scales. -/
def scales (v : FVec Ideal S4096x3584 .f32) : FVec Ideal S4096x28 .f32 :=
  bitcastToFloat .f32 (shli (addi (expos (targets v)) (broadcast S4096x28 127#32)) (broadcast S4096x28 23#32))

theorem scales_apply (v : FVec Ideal S4096x3584 .f32) (t : Fin 4096) (k : Fin 28) :
    scales v (ix2 t k) = Mid.scale (fun f => v (ix2 t f)) k := by
  show FloatOps.ofBits (F := Ideal) .f32 (IntOp.shli .vector (IntOp.addi (expos (targets v) (ix2 t k)) 127#32) 23#32) = _
  rw [expos_apply, scale_of_count, targets_apply]; rfl

/-- The scales' inverses. -/
def invs (v : FVec Ideal S4096x3584 .f32) : FVec Ideal S4096x28 .f32 :=
  bitcastToFloat .f32 (shli (addi (subi (broadcast S4096x28 0#32) (expos (targets v))) (broadcast S4096x28 127#32)) (broadcast S4096x28 23#32))

theorem invs_apply (v : FVec Ideal S4096x3584 .f32) (t : Fin 4096) (k : Fin 28) :
    invs v (ix2 t k) = invOf (Mid.target (Mid.group (fun f => v (ix2 t f)) k)) := by
  show FloatOps.ofBits (F := Ideal) .f32 (IntOp.shli .vector (IntOp.addi (IntOp.subi 0#32 (expos (targets v) (ix2 t k))) 127#32) 23#32) = _
  rw [expos_apply, inv_of_count, targets_apply]; rfl

/-- The codes. -/
def codes (v : FVec Ideal S4096x3584 .f32) : FVec Ideal S4096x3584 .fp8e4m3 :=
  shapeCast S4096x3584 (truncf .fp8e4m3 (minimumf (broadcast S4096x28x128 (Scalar.ofBits .f32 0x43E00000#32))
    (maximumf (broadcast S4096x28x128 (Scalar.ofBits .f32 0xC3E00000#32))
      (mulf (groups v) (broadcastTo S4096x28x128 (shapeCast S4096x28x1 (invs v) shapeCasts_S4096x28_S4096x28x1) broadcasts_S4096x28x1_S4096x28x128))))
    bitsLt_fp8e4m3_f32) shapeCasts_S4096x28x128_S4096x3584

theorem codes_apply (v : FVec Ideal S4096x3584 .f32) (t : Fin 4096) (f : Fin 3584) :
    codes v (ix2 t f) = Mid.code (fun f => v (ix2 t f)) f := by
  pointwise [codes, groups, invs_apply, Mid.code, Mid.codeOf]

/-- What the codes stand for. -/
def decodes (v : FVec Ideal S4096x3584 .f32) : FVec Ideal S4096x3584 .bf16 :=
  shapeCast S4096x3584 (mulf (shapeCast S4096x28x128 (extf .bf16 (codes v) bitsLt_fp8e4m3_bf16) shapeCasts_S4096x3584_S4096x28x128)
    (broadcastTo S4096x28x128 (shapeCast S4096x28x1 (truncf .bf16 (scales v) bitsLt_bf16_f32) shapeCasts_S4096x28_S4096x28x1) broadcasts_S4096x28x1_S4096x28x128))
    shapeCasts_S4096x28x128_S4096x3584

theorem decodes_apply (v : FVec Ideal S4096x3584 .f32) (t : Fin 4096) (f : Fin 3584) :
    decodes v (ix2 t f) = Mid.decoded (fun f => v (ix2 t f)) f := by
  pointwise [decodes, codes_apply, scales_apply, Mid.decoded]

end Cert.Proof.MidRef

end
-- ==== Proof.MidRef2.lean ====
/-
  The stages of the middle call's reference, read at an index: gate, up projection, gradient, masks and the three results
  of adapter width.
-/
module

public import proofs.«01_k».proof.Proof.MidRef

@[expose] public section

noncomputable section

namespace Cert.Proof.MidRef

open Idealize.ShloMosaic Cert.MidRIdeal Cert.MidRIdeal.Gen
open scoped BigOperators

variable (a0 : Vec Ideal S4096x8192 .bf16) (a1 : Vec Ideal S4096x8192 .bf16) (a2 : Vec Ideal S3584x8192 .fp8e4m3) (a3 : Vec Ideal S28x64 .f32) (a4 : Vec Ideal S3584x8192 .fp8e4m3)
  (a5 : Vec Ideal S28x64 .f32) (a6 : Vec Ideal S8192x3584 .fp8e4m3) (a7 : Vec Ideal S64x28 .f32) (a8 : Vec Ideal S4096x192 .bf16) (a9 : Vec Ideal S4096x192 .bf16)
  (a10 : Vec Ideal S4096x192 .bf16) (a11 : Vec Ideal S4x48x3584 .bf16) (a12 : Vec Ideal S4x48x3584 .bf16) (a13 : Vec Ideal S4x48x3584 .bf16) (a14 : Vec Ideal S4 .f32)
  (a15 : Vec Ideal S4 .i32) (a16 : Vec Ideal S32 .i32)

/-- The arguments as one record. -/
def inputs : Mid.In where
  hd := a0
  dyd := a1
  wg := a2
  sg := a3
  wu := a4
  su := a5
  wd := a6
  sd := a7
  zg := a8
  zu := a9
  dzd := a10
  bg := a11
  bu := a12
  ad := a13
  alpha := a14
  ranks := a15
  job := a16

/-! ## The weights, the stacked adapters, the scalings and the mask -/

theorem gateWeight_apply (i : Fin 3584) (j : Fin 8192) :
    k0_pay5 a2 a3 (ix2 i j) = deq (R' := 28) (C' := 64) (by norm_num) (by norm_num) a2 a3 i j := by
  pointwise [k0_pay5, deq]

theorem upWeight_apply (i : Fin 3584) (j : Fin 8192) :
    k0_pay6 a4 a5 (ix2 i j) = deq (R' := 28) (C' := 64) (by norm_num) (by norm_num) a4 a5 i j := gateWeight_apply a4 a5 i j

theorem downWeight_apply (i : Fin 8192) (j : Fin 3584) :
    k0_pay7 a6 a7 (ix2 i j) = deq (R' := 64) (C' := 28) (by norm_num) (by norm_num) a6 a7 i j := by
  pointwise [k0_pay7, deq]

theorem stack_apply (w : Vec Ideal S4x48x3584 .bf16) (r : Fin 192) (j : Fin 3584) : k0_pay2 w (ix2 r j) = stack w r j := by
  pointwise [k0_pay2, stack]

theorem alpha_apply (t : Fin 4096) : k0_pay10 a16 a14 (ix2 t (0 : Fin 1)) = alphaRow a14 a16 t := by
  pointwise [k0_pay10, alphaRow, select_eq]

/-- Two conditions as bits, both of them, as a number. -/
theorem both_bits (a b r k : BitVec 32) :
    FloatOps.sitofp (F := Ideal) .f32 (((IntOp.cmpi .eq a b) &&& (IntOp.cmpi .slt r k)).setWidth 32)
      = if a = b ∧ r.slt k = true then (1 : EReal) else 0 := by
  by_cases h : a = b
  · by_cases h' : r.slt k = true <;> simp [IntOp.cmpi, h, h', FloatOps.sitofp]
  · have hb : (a == b) = false := by simpa using h
    by_cases h' : r.slt k = true <;> simp [IntOp.cmpi, h, hb, h', FloatOps.sitofp]

theorem mask_apply (t : Fin 4096) (r : Fin 192) :
    k0_pay9 a15 (k0_pay8 a16) (ix2 t r) = Mid.mask (inputs a0 a1 a2 a3 a4 a5 a6 a7 a8 a9 a10 a11 a12 a13 a14 a15 a16) t r := by
  refine Eq.trans ?_ (both_bits _ _ _ _)
  pointwise [k0_pay9, k0_pay8]
  rfl

/-! ## Gate, up projection, gradient at the activation -/

/-- The gate as an array. -/
def gateV : FVec Ideal S4096x3584 .f32 := k0_pay11 (k0_pay2 a11) (k0_pay5 a2 a3) a16 a14 a0 a8
/-- The up projection as an array. -/
def upV : FVec Ideal S4096x3584 .f32 := k0_pay12 (k0_pay3 a12) (k0_pay6 a4 a5) (k0_pay10 a16 a14) a0 a9
/-- The gradient at the activation as an array. -/
def dactV : FVec Ideal S4096x3584 .f32 := k0_pay21 (k0_pay4 a13) (k0_pay7 a6 a7) a1 a10

theorem gateV_apply (t : Fin 4096) (f : Fin 3584) : gateV a0 a2 a3 a8 a11 a14 a16 (ix2 t f) = Mid.gate (inputs a0 a1 a2 a3 a4 a5 a6 a7 a8 a9 a10 a11 a12 a13 a14 a15 a16) t f := by
  pointwise [gateV, k0_pay11, gateWeight_apply, stack_apply, alpha_apply, Mid.gate, inputs, dot_S4096x8192_S3584x8192_S4096x3584_1_1_0_0_n_n, dot_S4096x192_S192x3584_S4096x3584_1_0_0_1_n_n]

theorem upV_apply (t : Fin 4096) (f : Fin 3584) : upV a0 a4 a5 a9 a12 a14 a16 (ix2 t f) = Mid.up (inputs a0 a1 a2 a3 a4 a5 a6 a7 a8 a9 a10 a11 a12 a13 a14 a15 a16) t f :=
  gateV_apply a0 a1 a4 a5 a2 a3 a6 a7 a9 a8 a10 a12 a11 a13 a14 a15 a16 t f

theorem dactV_apply (t : Fin 4096) (f : Fin 3584) : dactV a1 a6 a7 a10 a13 (ix2 t f) = Mid.dact (inputs a0 a1 a2 a3 a4 a5 a6 a7 a8 a9 a10 a11 a12 a13 a14 a15 a16) t f := by
  show k0_pay21 (k0_pay2 a13) _ _ _ _ = _
  pointwise [k0_pay21, downWeight_apply, stack_apply, Mid.dact, inputs, dot_S4096x8192_S8192x3584_S4096x3584_1_0_0_1_n_n, dot_S4096x192_S192x3584_S4096x3584_1_0_0_1_n_n]

/-! ## The activation and the two gradients -/

/-- The activation from the gate and the up projection. -/
def actV (g u : FVec Ideal S4096x3584 .f32) : FVec Ideal S4096x3584 .f32 := mulf (mulf g (logistic g)) u
/-- The gradient at the gate. -/
def dgV (g u d : FVec Ideal S4096x3584 .f32) : FVec Ideal S4096x3584 .f32 :=
  mulf (mulf (mulf d u) (logistic g)) (addf (broadcast S4096x3584 (Scalar.ofBits .f32 0x3F800000#32))
    (mulf g (subf (broadcast S4096x3584 (Scalar.ofBits .f32 0x3F800000#32)) (logistic g))))
/-- The gradient at the up projection. -/
def duV (g d : FVec Ideal S4096x3584 .f32) : FVec Ideal S4096x3584 .f32 := mulf (mulf d g) (logistic g)

theorem actV_at (g u : FVec Ideal S4096x3584 .f32) (i : S4096x3584.Idx) : actV g u i = Mid.actOf (g i) (u i) := rfl
theorem dgV_at (g u d : FVec Ideal S4096x3584 .f32) (i : S4096x3584.Idx) : dgV g u d i = Mid.dgOf (g i) (u i) (d i) := rfl
theorem duV_at (g d : FVec Ideal S4096x3584 .f32) (i : S4096x3584.Idx) : duV g d i = Mid.duOf (g i) (d i) := rfl

/-! ## The results of adapter width -/

theorem narrow_apply (b : FVec Ideal S192x3584 .bf16) (x : FVec Ideal S4096x3584 .bf16) (t : Fin 4096) (r : Fin 192) :
    matmul dot_S4096x3584_S192x3584_S4096x192_1_1_0_0_n_n none x b (constant S4096x192 .f32 0x00000000#32) (ix2 t r)
      = ∑ f : Fin 3584, x (ix2 t f) * b (ix2 r f) := by
  pointwise [dot_S4096x3584_S192x3584_S4096x192_1_1_0_0_n_n]

/-- `mask * sum`. -/
def masked (mk : FVec Ideal S4096x192 .f32) (b : FVec Ideal S192x3584 .bf16) (x : FVec Ideal S4096x3584 .bf16) : FVec Ideal S4096x192 .bf16 :=
  truncf .bf16 (mulf mk (matmul dot_S4096x3584_S192x3584_S4096x192_1_1_0_0_n_n none x b (constant S4096x192 .f32 0x00000000#32))) bitsLt_bf16_f32

theorem masked_apply (mk : FVec Ideal S4096x192 .f32) (b : FVec Ideal S192x3584 .bf16) (x : FVec Ideal S4096x3584 .bf16) (t : Fin 4096) (r : Fin 192) :
    masked mk b x (ix2 t r) = mk (ix2 t r) * ∑ f : Fin 3584, x (ix2 t f) * b (ix2 r f) := by
  rw [← narrow_apply]; rfl

/-- The mask times the tokens' scalings. -/
def scaledMask (mk : FVec Ideal S4096x192 .f32) (al : FVec Ideal S4096x1 .f32) : FVec Ideal S4096x192 .f32 :=
  mulf mk (broadcastTo S4096x192 al broadcasts_S4096x1_S4096x192)

theorem scaledMask_apply (mk : FVec Ideal S4096x192 .f32) (al : FVec Ideal S4096x1 .f32) (t : Fin 4096) (r : Fin 192) :
    scaledMask mk al (ix2 t r) = mk (ix2 t r) * al (ix2 t (0 : Fin 1)) := by
  pointwise [scaledMask]

end Cert.Proof.MidRef

end
-- ==== Proof.MidRFrame.lean ====
/-
  The frame of the reference of the middle call: one point whose body loads every array, stores every result whole, and
  nothing else. What each result array holds after the body, the body's triple, the pipeline's proof data, the run with every
  array named, and the frame claim at any reading of the floats.
-/
module

public import proofs.«01_k».proof.Proof.Gen.MidRIdeal.Launch
public import proofs.«01_k».proof.Proof.Gen.MidRIdeal.Skeleton
public import proofs.«01_k».proof.Proof.Gen.MidRIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Proof.MidRRun

open Cert.MidRIdeal Cert.MidRIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 0 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 0 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c)))⟩) h

/-! ## The body's accesses -/

abbrev r0_0 : Rect S4x48x3584 := Rect.unit (s := S4x48x3584) ![0, 0, 0] S4x48x3584.size inb_S4x48x3584_S4x48x3584_0_0_0
abbrev r0_1 : Rect S3584x8192 := Rect.unit (s := S3584x8192) ![0, 0] S3584x8192.size inb_S3584x8192_S3584x8192_0_0
abbrev r0_2 : Rect S28x64 := Rect.unit (s := S28x64) ![0, 0] S28x64.size inb_S28x64_S28x64_0_0
abbrev r0_3 : Rect S8192x3584 := Rect.unit (s := S8192x3584) ![0, 0] S8192x3584.size inb_S8192x3584_S8192x3584_0_0
abbrev r0_4 : Rect S64x28 := Rect.unit (s := S64x28) ![0, 0] S64x28.size inb_S64x28_S64x28_0_0
abbrev r0_5 : Rect S32 := Rect.unit (s := S32) ![0] S32.size inb_S32_S32_0
abbrev r0_6 : Rect S4 := Rect.unit (s := S4) ![0] S4.size inb_S4_S4_0
abbrev r0_7 : Rect S4096x8192 := Rect.unit (s := S4096x8192) ![0, 0] S4096x8192.size inb_S4096x8192_S4096x8192_0_0
abbrev r0_8 : Rect S4096x192 := Rect.unit (s := S4096x192) ![0, 0] S4096x192.size inb_S4096x192_S4096x192_0_0
abbrev r0_9 : Rect S4096x3584 := Rect.unit (s := S4096x3584) ![0, 0] S4096x3584.size inb_S4096x3584_S4096x3584_0_0
abbrev r0_10 : Rect S4096x28 := Rect.unit (s := S4096x28) ![0, 0] S4096x28.size inb_S4096x28_S4096x28_0_0

/-! ## What the body leaves in each output window's buffer -/

/-! ### Values of the body that the stores' payloads, spelt out, would write more than once

    Each is a vector the body binds (often a part call's result), stated over the input windows' blocks and
    numbered on from the skeleton's payload functions (`k0_pay41` …, after `k0_pay40`), so that
    `out0_W` and the values after it name it instead of spelling it out; the comment after each is the printed function's
    name for the value (a count appended where that name is bound again). -/

def k0_pay41 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S192x3584 .bf16 :=
  k0_pay2 (View.ld x11 r0_0) -- `v1`
def k0_pay42 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S192x3584 .bf16 :=
  k0_pay3 (View.ld x12 r0_0) -- `v3`
def k0_pay43 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S192x3584 .bf16 :=
  k0_pay4 (View.ld x13 r0_0) -- `v5`
def k0_pay44 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S3584x8192 .bf16 :=
  k0_pay6 (View.ld x4 r0_1) (View.ld x5 r0_2) -- `v23`
def k0_pay45 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S8192x3584 .bf16 :=
  k0_pay7 (View.ld x6 r0_3) (View.ld x7 r0_4) -- `v32`
def k0_pay46 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S4096x192 .f32 :=
  k0_pay9 (View.ld x15 r0_6) (k0_pay8 (View.ld x16 r0_5)) -- `v59`
def k0_pay47 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S4096x1 .f32 :=
  k0_pay10 (View.ld x16 r0_5) (View.ld x14 r0_6) -- `v77`
def k0_pay48 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S4096x3584 .f32 :=
  k0_pay11 (k0_pay41 x0 x1 x2 x3 x4 x5 x6 x7 x8 x9 x10 x11 x12 x13 x14 x15 x16) (k0_pay5 (View.ld x2 r0_1) (View.ld x3 r0_2)) (View.ld x16 r0_5) (View.ld x14 r0_6) (View.ld x0 r0_7) (View.ld x8 r0_8) -- `v86`
def k0_pay49 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S4096x3584 .f32 :=
  k0_pay12 (k0_pay42 x0 x1 x2 x3 x4 x5 x6 x7 x8 x9 x10 x11 x12 x13 x14 x15 x16) (k0_pay44 x0 x1 x2 x3 x4 x5 x6 x7 x8 x9 x10 x11 x12 x13 x14 x15 x16) (k0_pay47 x0 x1 x2 x3 x4 x5 x6 x7 x8 x9 x10 x11 x12 x13 x14 x15 x16) (View.ld x0 r0_7) (View.ld x9 r0_8) -- `v94`
def k0_pay50 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S4096x3584 .f32 :=
  k0_pay13 (k0_pay48 x0 x1 x2 x3 x4 x5 x6 x7 x8 x9 x10 x11 x12 x13 x14 x15 x16) -- `v95`
def k0_pay51 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S4096x28x128 .f32 :=
  k0_pay14 (k0_pay42 x0 x1 x2 x3 x4 x5 x6 x7 x8 x9 x10 x11 x12 x13 x14 x15 x16) (k0_pay44 x0 x1 x2 x3 x4 x5 x6 x7 x8 x9 x10 x11 x12 x13 x14 x15 x16) (k0_pay47 x0 x1 x2 x3 x4 x5 x6 x7 x8 x9 x10 x11 x12 x13 x14 x15 x16) (View.ld x0 r0_7) (k0_pay48 x0 x1 x2 x3 x4 x5 x6 x7 x8 x9 x10 x11 x12 x13 x14 x15 x16) (View.ld x9 r0_8) -- `v98`
def k0_pay52 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S4096x28 .f32 :=
  k0_pay16 (k0_pay42 x0 x1 x2 x3 x4 x5 x6 x7 x8 x9 x10 x11 x12 x13 x14 x15 x16) (k0_pay44 x0 x1 x2 x3 x4 x5 x6 x7 x8 x9 x10 x11 x12 x13 x14 x15 x16) (k0_pay47 x0 x1 x2 x3 x4 x5 x6 x7 x8 x9 x10 x11 x12 x13 x14 x15 x16) (View.ld x0 r0_7) (k0_pay48 x0 x1 x2 x3 x4 x5 x6 x7 x8 x9 x10 x11 x12 x13 x14 x15 x16) (View.ld x9 r0_8) -- `v127`
def k0_pay53 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : IVec S4096x28 32 :=
  k0_pay17 (k0_pay42 x0 x1 x2 x3 x4 x5 x6 x7 x8 x9 x10 x11 x12 x13 x14 x15 x16) (k0_pay44 x0 x1 x2 x3 x4 x5 x6 x7 x8 x9 x10 x11 x12 x13 x14 x15 x16) (k0_pay47 x0 x1 x2 x3 x4 x5 x6 x7 x8 x9 x10 x11 x12 x13 x14 x15 x16) (View.ld x0 r0_7) (k0_pay48 x0 x1 x2 x3 x4 x5 x6 x7 x8 x9 x10 x11 x12 x13 x14 x15 x16) (View.ld x9 r0_8) -- `v129`
def k0_pay54 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S4096x3584 .f32 :=
  k0_pay23 (k0_pay43 x0 x1 x2 x3 x4 x5 x6 x7 x8 x9 x10 x11 x12 x13 x14 x15 x16) (k0_pay45 x0 x1 x2 x3 x4 x5 x6 x7 x8 x9 x10 x11 x12 x13 x14 x15 x16) (k0_pay48 x0 x1 x2 x3 x4 x5 x6 x7 x8 x9 x10 x11 x12 x13 x14 x15 x16) (k0_pay50 x0 x1 x2 x3 x4 x5 x6 x7 x8 x9 x10 x11 x12 x13 x14 x15 x16) (View.ld x1 r0_7) (View.ld x10 r0_8) -- `v169`
def k0_pay55 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S4096x28 .f32 :=
  k0_pay25 (k0_pay43 x0 x1 x2 x3 x4 x5 x6 x7 x8 x9 x10 x11 x12 x13 x14 x15 x16) (k0_pay45 x0 x1 x2 x3 x4 x5 x6 x7 x8 x9 x10 x11 x12 x13 x14 x15 x16) (k0_pay48 x0 x1 x2 x3 x4 x5 x6 x7 x8 x9 x10 x11 x12 x13 x14 x15 x16) (k0_pay49 x0 x1 x2 x3 x4 x5 x6 x7 x8 x9 x10 x11 x12 x13 x14 x15 x16) (k0_pay50 x0 x1 x2 x3 x4 x5 x6 x7 x8 x9 x10 x11 x12 x13 x14 x15 x16) (View.ld x1 r0_7) (View.ld x10 r0_8) -- `v172`
def k0_pay56 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S4096x28 .f32 :=
  k0_pay27 (k0_pay55 x0 x1 x2 x3 x4 x5 x6 x7 x8 x9 x10 x11 x12 x13 x14 x15 x16) (Scalar.ofBits .f32 0x3B124925#32) -- `v199`
def k0_pay57 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S4096x3584 .fp8e4m3 :=
  k0_pay28 (k0_pay24 (k0_pay43 x0 x1 x2 x3 x4 x5 x6 x7 x8 x9 x10 x11 x12 x13 x14 x15 x16) (k0_pay45 x0 x1 x2 x3 x4 x5 x6 x7 x8 x9 x10 x11 x12 x13 x14 x15 x16) (k0_pay48 x0 x1 x2 x3 x4 x5 x6 x7 x8 x9 x10 x11 x12 x13 x14 x15 x16) (k0_pay49 x0 x1 x2 x3 x4 x5 x6 x7 x8 x9 x10 x11 x12 x13 x14 x15 x16) (k0_pay50 x0 x1 x2 x3 x4 x5 x6 x7 x8 x9 x10 x11 x12 x13 x14 x15 x16) (View.ld x1 r0_7) (View.ld x10 r0_8)) (k0_pay55 x0 x1 x2 x3 x4 x5 x6 x7 x8 x9 x10 x11 x12 x13 x14 x15 x16) (Scalar.ofBits .f32 0x3B124925#32) -- `v215`
def k0_pay58 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S4096x28x128 .f32 :=
  k0_pay30 (k0_pay54 x0 x1 x2 x3 x4 x5 x6 x7 x8 x9 x10 x11 x12 x13 x14 x15 x16) -- `v217`
def k0_pay59 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S4096x28 .f32 :=
  k0_pay32 (k0_pay58 x0 x1 x2 x3 x4 x5 x6 x7 x8 x9 x10 x11 x12 x13 x14 x15 x16) -- `v245`
def k0_pay60 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S4096x3584 .fp8e4m3 :=
  k0_pay33 (k0_pay29 (k0_pay54 x0 x1 x2 x3 x4 x5 x6 x7 x8 x9 x10 x11 x12 x13 x14 x15 x16)) (k0_pay58 x0 x1 x2 x3 x4 x5 x6 x7 x8 x9 x10 x11 x12 x13 x14 x15 x16) -- `v261`
def k0_pay61 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : FVec F S4096x3584 .bf16 :=
  k0_pay34 (k0_pay22 (k0_pay43 x0 x1 x2 x3 x4 x5 x6 x7 x8 x9 x10 x11 x12 x13 x14 x15 x16) (k0_pay45 x0 x1 x2 x3 x4 x5 x6 x7 x8 x9 x10 x11 x12 x13 x14 x15 x16) (k0_pay48 x0 x1 x2 x3 x4 x5 x6 x7 x8 x9 x10 x11 x12 x13 x14 x15 x16) (k0_pay49 x0 x1 x2 x3 x4 x5 x6 x7 x8 x9 x10 x11 x12 x13 x14 x15 x16) (k0_pay50 x0 x1 x2 x3 x4 x5 x6 x7 x8 x9 x10 x11 x12 x13 x14 x15 x16) (View.ld x1 r0_7) (View.ld x10 r0_8)) -- `v262`

/-- Window 17's staging buffer after the body, from the input windows' blocks: its 1 store as pieces, LAST
    FIRST (Lib/Pipeline/FrameBody.lean `View.canon`; the payloads are the skeleton's and the values stated above). -/
def out0_17 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : Vec F S4096x3584 .fp8e4m3 :=
  View.canon [⟨r0_9, k0_pay18 (k0_pay51 x0 x1 x2 x3 x4 x5 x6 x7 x8 x9 x10 x11 x12 x13 x14 x15 x16) (k0_pay53 x0 x1 x2 x3 x4 x5 x6 x7 x8 x9 x10 x11 x12 x13 x14 x15 x16) 127#32⟩]

/-- Its stores tile the buffer (checked by evaluation), so they cover it. -/
theorem cover0_17 (p0 : Vec F S4096x3584 .fp8e4m3) (y : S4096x3584.Idx) :
    ∃ pc ∈ ([⟨r0_9, p0⟩] : List (View.Piece (Elt F) S4096x3584 .fp8e4m3)), y ∈ pc.1.set :=
  View.cover_of_tiled [⟨r0_9, p0⟩] S4096x3584.size (by rfl) y

/-- Window 18's staging buffer after the body, from the input windows' blocks: its 1 store as pieces, LAST
    FIRST (Lib/Pipeline/FrameBody.lean `View.canon`; the payloads are the skeleton's and the values stated above). -/
def out0_18 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : Vec F S4096x28 .f32 :=
  View.canon [⟨r0_10, k0_pay52 x0 x1 x2 x3 x4 x5 x6 x7 x8 x9 x10 x11 x12 x13 x14 x15 x16⟩]

/-- Its stores tile the buffer (checked by evaluation), so they cover it. -/
theorem cover0_18 (p0 : Vec F S4096x28 .f32) (y : S4096x28.Idx) :
    ∃ pc ∈ ([⟨r0_10, p0⟩] : List (View.Piece (Elt F) S4096x28 .f32)), y ∈ pc.1.set :=
  View.cover_of_tiled [⟨r0_10, p0⟩] S4096x28.size (by rfl) y

/-- Window 19's staging buffer after the body, from the input windows' blocks: its 1 store as pieces, LAST
    FIRST (Lib/Pipeline/FrameBody.lean `View.canon`; the payloads are the skeleton's and the values stated above). -/
def out0_19 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : Vec F S4096x3584 .fp8e4m3 :=
  View.canon [⟨r0_9, k0_pay57 x0 x1 x2 x3 x4 x5 x6 x7 x8 x9 x10 x11 x12 x13 x14 x15 x16⟩]

/-- Its stores tile the buffer (checked by evaluation), so they cover it. -/
theorem cover0_19 (p0 : Vec F S4096x3584 .fp8e4m3) (y : S4096x3584.Idx) :
    ∃ pc ∈ ([⟨r0_9, p0⟩] : List (View.Piece (Elt F) S4096x3584 .fp8e4m3)), y ∈ pc.1.set :=
  View.cover_of_tiled [⟨r0_9, p0⟩] S4096x3584.size (by rfl) y

/-- Window 20's staging buffer after the body, from the input windows' blocks: its 1 store as pieces, LAST
    FIRST (Lib/Pipeline/FrameBody.lean `View.canon`; the payloads are the skeleton's and the values stated above). -/
def out0_20 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : Vec F S4096x28 .f32 :=
  View.canon [⟨r0_10, k0_pay56 x0 x1 x2 x3 x4 x5 x6 x7 x8 x9 x10 x11 x12 x13 x14 x15 x16⟩]

/-- Its stores tile the buffer (checked by evaluation), so they cover it. -/
theorem cover0_20 (p0 : Vec F S4096x28 .f32) (y : S4096x28.Idx) :
    ∃ pc ∈ ([⟨r0_10, p0⟩] : List (View.Piece (Elt F) S4096x28 .f32)), y ∈ pc.1.set :=
  View.cover_of_tiled [⟨r0_10, p0⟩] S4096x28.size (by rfl) y

/-- Window 21's staging buffer after the body, from the input windows' blocks: its 1 store as pieces, LAST
    FIRST (Lib/Pipeline/FrameBody.lean `View.canon`; the payloads are the skeleton's and the values stated above). -/
def out0_21 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : Vec F S4096x3584 .fp8e4m3 :=
  View.canon [⟨r0_9, k0_pay60 x0 x1 x2 x3 x4 x5 x6 x7 x8 x9 x10 x11 x12 x13 x14 x15 x16⟩]

/-- Its stores tile the buffer (checked by evaluation), so they cover it. -/
theorem cover0_21 (p0 : Vec F S4096x3584 .fp8e4m3) (y : S4096x3584.Idx) :
    ∃ pc ∈ ([⟨r0_9, p0⟩] : List (View.Piece (Elt F) S4096x3584 .fp8e4m3)), y ∈ pc.1.set :=
  View.cover_of_tiled [⟨r0_9, p0⟩] S4096x3584.size (by rfl) y

/-- Window 22's staging buffer after the body, from the input windows' blocks: its 1 store as pieces, LAST
    FIRST (Lib/Pipeline/FrameBody.lean `View.canon`; the payloads are the skeleton's and the values stated above). -/
def out0_22 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : Vec F S4096x28 .f32 :=
  View.canon [⟨r0_10, k0_pay59 x0 x1 x2 x3 x4 x5 x6 x7 x8 x9 x10 x11 x12 x13 x14 x15 x16⟩]

/-- Its stores tile the buffer (checked by evaluation), so they cover it. -/
theorem cover0_22 (p0 : Vec F S4096x28 .f32) (y : S4096x28.Idx) :
    ∃ pc ∈ ([⟨r0_10, p0⟩] : List (View.Piece (Elt F) S4096x28 .f32)), y ∈ pc.1.set :=
  View.cover_of_tiled [⟨r0_10, p0⟩] S4096x28.size (by rfl) y

/-- Window 23's staging buffer after the body, from the input windows' blocks: its 1 store as pieces, LAST
    FIRST (Lib/Pipeline/FrameBody.lean `View.canon`; the payloads are the skeleton's and the values stated above). -/
def out0_23 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : Vec F S4096x3584 .bf16 :=
  View.canon [⟨r0_9, k0_pay19 (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16) 127#32⟩]

/-- Its stores tile the buffer (checked by evaluation), so they cover it. -/
theorem cover0_23 (p0 : Vec F S4096x3584 .bf16) (y : S4096x3584.Idx) :
    ∃ pc ∈ ([⟨r0_9, p0⟩] : List (View.Piece (Elt F) S4096x3584 .bf16)), y ∈ pc.1.set :=
  View.cover_of_tiled [⟨r0_9, p0⟩] S4096x3584.size (by rfl) y

/-- Window 24's staging buffer after the body, from the input windows' blocks: its 1 store as pieces, LAST
    FIRST (Lib/Pipeline/FrameBody.lean `View.canon`; the payloads are the skeleton's and the values stated above). -/
def out0_24 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : Vec F S4096x3584 .bf16 :=
  View.canon [⟨r0_9, k0_pay38 (k0_pay56 x0 x1 x2 x3 x4 x5 x6 x7 x8 x9 x10 x11 x12 x13 x14 x15 x16) (k0_pay57 x0 x1 x2 x3 x4 x5 x6 x7 x8 x9 x10 x11 x12 x13 x14 x15 x16)⟩]

/-- Its stores tile the buffer (checked by evaluation), so they cover it. -/
theorem cover0_24 (p0 : Vec F S4096x3584 .bf16) (y : S4096x3584.Idx) :
    ∃ pc ∈ ([⟨r0_9, p0⟩] : List (View.Piece (Elt F) S4096x3584 .bf16)), y ∈ pc.1.set :=
  View.cover_of_tiled [⟨r0_9, p0⟩] S4096x3584.size (by rfl) y

/-- Window 25's staging buffer after the body, from the input windows' blocks: its 1 store as pieces, LAST
    FIRST (Lib/Pipeline/FrameBody.lean `View.canon`; the payloads are the skeleton's and the values stated above). -/
def out0_25 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : Vec F S4096x3584 .bf16 :=
  View.canon [⟨r0_9, k0_pay1 (k0_pay39 (k0_pay60 x0 x1 x2 x3 x4 x5 x6 x7 x8 x9 x10 x11 x12 x13 x14 x15 x16)) (k0_pay40 (k0_pay59 x0 x1 x2 x3 x4 x5 x6 x7 x8 x9 x10 x11 x12 x13 x14 x15 x16))⟩]

/-- Its stores tile the buffer (checked by evaluation), so they cover it. -/
theorem cover0_25 (p0 : Vec F S4096x3584 .bf16) (y : S4096x3584.Idx) :
    ∃ pc ∈ ([⟨r0_9, p0⟩] : List (View.Piece (Elt F) S4096x3584 .bf16)), y ∈ pc.1.set :=
  View.cover_of_tiled [⟨r0_9, p0⟩] S4096x3584.size (by rfl) y

/-- Window 26's staging buffer after the body, from the input windows' blocks: its 1 store as pieces, LAST
    FIRST (Lib/Pipeline/FrameBody.lean `View.canon`; the payloads are the skeleton's and the values stated above). -/
def out0_26 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : Vec F S4096x3584 .bf16 :=
  View.canon [⟨r0_9, k0_pay61 x0 x1 x2 x3 x4 x5 x6 x7 x8 x9 x10 x11 x12 x13 x14 x15 x16⟩]

/-- Its stores tile the buffer (checked by evaluation), so they cover it. -/
theorem cover0_26 (p0 : Vec F S4096x3584 .bf16) (y : S4096x3584.Idx) :
    ∃ pc ∈ ([⟨r0_9, p0⟩] : List (View.Piece (Elt F) S4096x3584 .bf16)), y ∈ pc.1.set :=
  View.cover_of_tiled [⟨r0_9, p0⟩] S4096x3584.size (by rfl) y

/-- Window 27's staging buffer after the body, from the input windows' blocks: its 1 store as pieces, LAST
    FIRST (Lib/Pipeline/FrameBody.lean `View.canon`; the payloads are the skeleton's and the values stated above). -/
def out0_27 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : Vec F S4096x3584 .bf16 :=
  View.canon [⟨r0_9, k0_pay35 (k0_pay54 x0 x1 x2 x3 x4 x5 x6 x7 x8 x9 x10 x11 x12 x13 x14 x15 x16)⟩]

/-- Its stores tile the buffer (checked by evaluation), so they cover it. -/
theorem cover0_27 (p0 : Vec F S4096x3584 .bf16) (y : S4096x3584.Idx) :
    ∃ pc ∈ ([⟨r0_9, p0⟩] : List (View.Piece (Elt F) S4096x3584 .bf16)), y ∈ pc.1.set :=
  View.cover_of_tiled [⟨r0_9, p0⟩] S4096x3584.size (by rfl) y

/-- Window 28's staging buffer after the body, from the input windows' blocks: its 1 store as pieces, LAST
    FIRST (Lib/Pipeline/FrameBody.lean `View.canon`; the payloads are the skeleton's and the values stated above). -/
def out0_28 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : Vec F S4096x192 .bf16 :=
  View.canon [⟨r0_8, k0_pay20 (k0_pay43 x0 x1 x2 x3 x4 x5 x6 x7 x8 x9 x10 x11 x12 x13 x14 x15 x16) (k0_pay46 x0 x1 x2 x3 x4 x5 x6 x7 x8 x9 x10 x11 x12 x13 x14 x15 x16) (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16) 127#32⟩]

/-- Its stores tile the buffer (checked by evaluation), so they cover it. -/
theorem cover0_28 (p0 : Vec F S4096x192 .bf16) (y : S4096x192.Idx) :
    ∃ pc ∈ ([⟨r0_8, p0⟩] : List (View.Piece (Elt F) S4096x192 .bf16)), y ∈ pc.1.set :=
  View.cover_of_tiled [⟨r0_8, p0⟩] S4096x192.size (by rfl) y

/-- Window 29's staging buffer after the body, from the input windows' blocks: its 1 store as pieces, LAST
    FIRST (Lib/Pipeline/FrameBody.lean `View.canon`; the payloads are the skeleton's and the values stated above). -/
def out0_29 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : Vec F S4096x192 .bf16 :=
  View.canon [⟨r0_8, k0_pay36 (k0_pay41 x0 x1 x2 x3 x4 x5 x6 x7 x8 x9 x10 x11 x12 x13 x14 x15 x16) (k0_pay46 x0 x1 x2 x3 x4 x5 x6 x7 x8 x9 x10 x11 x12 x13 x14 x15 x16) (k0_pay47 x0 x1 x2 x3 x4 x5 x6 x7 x8 x9 x10 x11 x12 x13 x14 x15 x16) (k0_pay61 x0 x1 x2 x3 x4 x5 x6 x7 x8 x9 x10 x11 x12 x13 x14 x15 x16)⟩]

/-- Its stores tile the buffer (checked by evaluation), so they cover it. -/
theorem cover0_29 (p0 : Vec F S4096x192 .bf16) (y : S4096x192.Idx) :
    ∃ pc ∈ ([⟨r0_8, p0⟩] : List (View.Piece (Elt F) S4096x192 .bf16)), y ∈ pc.1.set :=
  View.cover_of_tiled [⟨r0_8, p0⟩] S4096x192.size (by rfl) y

/-- Window 30's staging buffer after the body, from the input windows' blocks: its 1 store as pieces, LAST
    FIRST (Lib/Pipeline/FrameBody.lean `View.canon`; the payloads are the skeleton's and the values stated above). -/
def out0_30 (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) : Vec F S4096x192 .bf16 :=
  View.canon [⟨r0_8, k0_pay37 (k0_pay42 x0 x1 x2 x3 x4 x5 x6 x7 x8 x9 x10 x11 x12 x13 x14 x15 x16) (k0_pay46 x0 x1 x2 x3 x4 x5 x6 x7 x8 x9 x10 x11 x12 x13 x14 x15 x16) (k0_pay47 x0 x1 x2 x3 x4 x5 x6 x7 x8 x9 x10 x11 x12 x13 x14 x15 x16) (k0_pay54 x0 x1 x2 x3 x4 x5 x6 x7 x8 x9 x10 x11 x12 x13 x14 x15 x16)⟩]

/-- Its stores tile the buffer (checked by evaluation), so they cover it. -/
theorem cover0_30 (p0 : Vec F S4096x192 .bf16) (y : S4096x192.Idx) :
    ∃ pc ∈ ([⟨r0_8, p0⟩] : List (View.Piece (Elt F) S4096x192 .bf16)), y ∈ pc.1.set :=
  View.cover_of_tiled [⟨r0_8, p0⟩] S4096x192.size (by rfl) y

/-! ## The body's triple -/

set_option maxHeartbeats 0 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S4096x8192 .bf16) (harg0 : arg0.IsWhole) (arg1 : Memref sig .tc .vmem S4096x8192 .bf16) (harg1 : arg1.IsWhole) (arg2 : Memref sig .tc .vmem S3584x8192 .fp8e4m3) (harg2 : arg2.IsWhole) (arg3 : Memref sig .tc .vmem S28x64 .f32) (harg3 : arg3.IsWhole) (arg4 : Memref sig .tc .vmem S3584x8192 .fp8e4m3) (harg4 : arg4.IsWhole) (arg5 : Memref sig .tc .vmem S28x64 .f32) (harg5 : arg5.IsWhole) (arg6 : Memref sig .tc .vmem S8192x3584 .fp8e4m3) (harg6 : arg6.IsWhole) (arg7 : Memref sig .tc .vmem S64x28 .f32) (harg7 : arg7.IsWhole) (arg8 : Memref sig .tc .vmem S4096x192 .bf16) (harg8 : arg8.IsWhole) (arg9 : Memref sig .tc .vmem S4096x192 .bf16) (harg9 : arg9.IsWhole) (arg10 : Memref sig .tc .vmem S4096x192 .bf16) (harg10 : arg10.IsWhole) (arg11 : Memref sig .tc .vmem S4x48x3584 .bf16) (harg11 : arg11.IsWhole) (arg12 : Memref sig .tc .vmem S4x48x3584 .bf16) (harg12 : arg12.IsWhole) (arg13 : Memref sig .tc .vmem S4x48x3584 .bf16) (harg13 : arg13.IsWhole) (arg14 : Memref sig .tc .vmem S4 .f32) (harg14 : arg14.IsWhole) (arg15 : Memref sig .tc .vmem S4 .i32) (harg15 : arg15.IsWhole) (arg16 : Memref sig .tc .vmem S32 .i32) (harg16 : arg16.IsWhole) (arg17 : Memref sig .tc .vmem S4096x3584 .fp8e4m3) (harg17 : arg17.IsWhole) (arg18 : Memref sig .tc .vmem S4096x28 .f32) (harg18 : arg18.IsWhole) (arg19 : Memref sig .tc .vmem S4096x3584 .fp8e4m3) (harg19 : arg19.IsWhole) (arg20 : Memref sig .tc .vmem S4096x28 .f32) (harg20 : arg20.IsWhole) (arg21 : Memref sig .tc .vmem S4096x3584 .fp8e4m3) (harg21 : arg21.IsWhole) (arg22 : Memref sig .tc .vmem S4096x28 .f32) (harg22 : arg22.IsWhole) (arg23 : Memref sig .tc .vmem S4096x3584 .bf16) (harg23 : arg23.IsWhole) (arg24 : Memref sig .tc .vmem S4096x3584 .bf16) (harg24 : arg24.IsWhole) (arg25 : Memref sig .tc .vmem S4096x3584 .bf16) (harg25 : arg25.IsWhole) (arg26 : Memref sig .tc .vmem S4096x3584 .bf16) (harg26 : arg26.IsWhole) (arg27 : Memref sig .tc .vmem S4096x3584 .bf16) (harg27 : arg27.IsWhole) (arg28 : Memref sig .tc .vmem S4096x192 .bf16) (harg28 : arg28.IsWhole) (arg29 : Memref sig .tc .vmem S4096x192 .bf16) (harg29 : arg29.IsWhole) (arg30 : Memref sig .tc .vmem S4096x192 .bf16) (harg30 : arg30.IsWhole)
    (x0 : Vec F S4096x8192 .bf16) (x1 : Vec F S4096x8192 .bf16) (x2 : Vec F S3584x8192 .fp8e4m3) (x3 : Vec F S28x64 .f32) (x4 : Vec F S3584x8192 .fp8e4m3) (x5 : Vec F S28x64 .f32) (x6 : Vec F S8192x3584 .fp8e4m3) (x7 : Vec F S64x28 .f32) (x8 : Vec F S4096x192 .bf16) (x9 : Vec F S4096x192 .bf16) (x10 : Vec F S4096x192 .bf16) (x11 : Vec F S4x48x3584 .bf16) (x12 : Vec F S4x48x3584 .bf16) (x13 : Vec F S4x48x3584 .bf16) (x14 : Vec F S4 .f32) (x15 : Vec F S4 .i32) (x16 : Vec F S32 .i32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (out0_17 x0 x1 x2 x3 x4 x5 x6 x7 x8 x9 x10 x11 x12 x13 x14 x15 x16) ∗ owns (c : Thread nD τ) arg18 fullShare (out0_18 x0 x1 x2 x3 x4 x5 x6 x7 x8 x9 x10 x11 x12 x13 x14 x15 x16) ∗ owns (c : Thread nD τ) arg19 fullShare (out0_19 x0 x1 x2 x3 x4 x5 x6 x7 x8 x9 x10 x11 x12 x13 x14 x15 x16) ∗ owns (c : Thread nD τ) arg20 fullShare (out0_20 x0 x1 x2 x3 x4 x5 x6 x7 x8 x9 x10 x11 x12 x13 x14 x15 x16) ∗ owns (c : Thread nD τ) arg21 fullShare (out0_21 x0 x1 x2 x3 x4 x5 x6 x7 x8 x9 x10 x11 x12 x13 x14 x15 x16) ∗ owns (c : Thread nD τ) arg22 fullShare (out0_22 x0 x1 x2 x3 x4 x5 x6 x7 x8 x9 x10 x11 x12 x13 x14 x15 x16) ∗ owns (c : Thread nD τ) arg23 fullShare (out0_23 x0 x1 x2 x3 x4 x5 x6 x7 x8 x9 x10 x11 x12 x13 x14 x15 x16) ∗ owns (c : Thread nD τ) arg24 fullShare (out0_24 x0 x1 x2 x3 x4 x5 x6 x7 x8 x9 x10 x11 x12 x13 x14 x15 x16) ∗ owns (c : Thread nD τ) arg25 fullShare (out0_25 x0 x1 x2 x3 x4 x5 x6 x7 x8 x9 x10 x11 x12 x13 x14 x15 x16) ∗ owns (c : Thread nD τ) arg26 fullShare (out0_26 x0 x1 x2 x3 x4 x5 x6 x7 x8 x9 x10 x11 x12 x13 x14 x15 x16) ∗ owns (c : Thread nD τ) arg27 fullShare (out0_27 x0 x1 x2 x3 x4 x5 x6 x7 x8 x9 x10 x11 x12 x13 x14 x15 x16) ∗ owns (c : Thread nD τ) arg28 fullShare (out0_28 x0 x1 x2 x3 x4 x5 x6 x7 x8 x9 x10 x11 x12 x13 x14 x15 x16) ∗ owns (c : Thread nD τ) arg29 fullShare (out0_29 x0 x1 x2 x3 x4 x5 x6 x7 x8 x9 x10 x11 x12 x13 x14 x15 x16) ∗ owns (c : Thread nD τ) arg30 fullShare (out0_30 x0 x1 x2 x3 x4 x5 x6 x7 x8 x9 x10 x11 x12 x13 x14 x15 x16)) -∗ K ⟨⟩))
      ⊢ wp frame (wpE (defs₀ (F := F)) Variants.none c none) E (cc0_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  iexists _; isplitr
  swap; · iexact H30
  ipureintro
  refine (View.read_writes_eq_canon _ _ _ (cover0_30 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 31, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t))

set_option maxHeartbeats 0 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29, H30⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 0 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 0 in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- The frame, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.Proof.MidRRun

end
-- ==== Proof.MidRef3.lean ====
/-
  What the reference of the middle call leaves in each of its fourteen results, read at an index.
-/
module

public import proofs.«01_k».proof.Proof.MidRef2
public import proofs.«01_k».proof.Proof.MidRFrame

@[expose] public section

set_option maxRecDepth 16384

noncomputable section

namespace Cert.Proof.MidRef

open Idealize.ShloMosaic Cert.MidRIdeal Cert.MidRIdeal.Gen Cert.Proof.MidRRun
open scoped BigOperators

variable (a0 : Vec Ideal S4096x8192 .bf16) (a1 : Vec Ideal S4096x8192 .bf16) (a2 : Vec Ideal S3584x8192 .fp8e4m3) (a3 : Vec Ideal S28x64 .f32) (a4 : Vec Ideal S3584x8192 .fp8e4m3)
  (a5 : Vec Ideal S28x64 .f32) (a6 : Vec Ideal S8192x3584 .fp8e4m3) (a7 : Vec Ideal S64x28 .f32) (a8 : Vec Ideal S4096x192 .bf16) (a9 : Vec Ideal S4096x192 .bf16)
  (a10 : Vec Ideal S4096x192 .bf16) (a11 : Vec Ideal S4x48x3584 .bf16) (a12 : Vec Ideal S4x48x3584 .bf16) (a13 : Vec Ideal S4x48x3584 .bf16) (a14 : Vec Ideal S4 .f32)
  (a15 : Vec Ideal S4 .i32) (a16 : Vec Ideal S32 .i32)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem act_row (t : Fin 4096) : (fun f => actV (gateV a0 a2 a3 a8 a11 a14 a16) (upV a0 a4 a5 a9 a12 a14 a16) (ix2 t f)) = Mid.act (inputs a0 a1 a2 a3 a4 a5 a6 a7 a8 a9 a10 a11 a12 a13 a14 a15 a16) t :=
  funext fun f => by rw [actV_at, gateV_apply a0 a1 a2 a3 a4 a5 a6 a7 a8 a9 a10 a11 a12 a13 a14 a15 a16, upV_apply a0 a1 a2 a3 a4 a5 a6 a7 a8 a9 a10 a11 a12 a13 a14 a15 a16]; rfl
theorem dg_row (t : Fin 4096) : (fun f => dgV (gateV a0 a2 a3 a8 a11 a14 a16) (upV a0 a4 a5 a9 a12 a14 a16) (dactV a1 a6 a7 a10 a13) (ix2 t f)) = Mid.dg (inputs a0 a1 a2 a3 a4 a5 a6 a7 a8 a9 a10 a11 a12 a13 a14 a15 a16) t :=
  funext fun f => by rw [dgV_at, gateV_apply a0 a1 a2 a3 a4 a5 a6 a7 a8 a9 a10 a11 a12 a13 a14 a15 a16, upV_apply a0 a1 a2 a3 a4 a5 a6 a7 a8 a9 a10 a11 a12 a13 a14 a15 a16, dactV_apply a0 a1 a2 a3 a4 a5 a6 a7 a8 a9 a10 a11 a12 a13 a14 a15 a16]; rfl
theorem du_row (t : Fin 4096) : (fun f => duV (gateV a0 a2 a3 a8 a11 a14 a16) (dactV a1 a6 a7 a10 a13) (ix2 t f)) = Mid.du (inputs a0 a1 a2 a3 a4 a5 a6 a7 a8 a9 a10 a11 a12 a13 a14 a15 a16) t :=
  funext fun f => by rw [duV_at, gateV_apply a0 a1 a2 a3 a4 a5 a6 a7 a8 a9 a10 a11 a12 a13 a14 a15 a16, dactV_apply a0 a1 a2 a3 a4 a5 a6 a7 a8 a9 a10 a11 a12 a13 a14 a15 a16]; rfl

/-! ## The stored arrays are the composed stages -/

theorem out17_eq : out0_17 a0 a1 a2 a3 a4 a5 a6 a7 a8 a9 a10 a11 a12 a13 a14 a15 a16 = codes (actV (gateV a0 a2 a3 a8 a11 a14 a16) (upV a0 a4 a5 a9 a12 a14 a16)) := by
  unfold out0_17
  rw [View.canon_unit_zero hz2]
  simp only [k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, View.ld_unit_zero (S := S4) hz1, View.ld_unit_zero (S := S32) hz1, View.ld_unit_zero (S := S4x48x3584) hz3, View.ld_unit_zero (S := S3584x8192) hz2, View.ld_unit_zero (S := S28x64) hz2, View.ld_unit_zero (S := S8192x3584) hz2, View.ld_unit_zero (S := S64x28) hz2, View.ld_unit_zero (S := S4096x8192) hz2, View.ld_unit_zero (S := S4096x192) hz2]
  rfl
theorem out18_eq : out0_18 a0 a1 a2 a3 a4 a5 a6 a7 a8 a9 a10 a11 a12 a13 a14 a15 a16 = scales (actV (gateV a0 a2 a3 a8 a11 a14 a16) (upV a0 a4 a5 a9 a12 a14 a16)) := by
  unfold out0_18
  rw [View.canon_unit_zero hz2]
  simp only [k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, View.ld_unit_zero (S := S4) hz1, View.ld_unit_zero (S := S32) hz1, View.ld_unit_zero (S := S4x48x3584) hz3, View.ld_unit_zero (S := S3584x8192) hz2, View.ld_unit_zero (S := S28x64) hz2, View.ld_unit_zero (S := S8192x3584) hz2, View.ld_unit_zero (S := S64x28) hz2, View.ld_unit_zero (S := S4096x8192) hz2, View.ld_unit_zero (S := S4096x192) hz2]
  rfl
theorem out19_eq : out0_19 a0 a1 a2 a3 a4 a5 a6 a7 a8 a9 a10 a11 a12 a13 a14 a15 a16 = codes (dgV (gateV a0 a2 a3 a8 a11 a14 a16) (upV a0 a4 a5 a9 a12 a14 a16) (dactV a1 a6 a7 a10 a13)) := by
  unfold out0_19
  rw [View.canon_unit_zero hz2]
  simp only [k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, View.ld_unit_zero (S := S4) hz1, View.ld_unit_zero (S := S32) hz1, View.ld_unit_zero (S := S4x48x3584) hz3, View.ld_unit_zero (S := S3584x8192) hz2, View.ld_unit_zero (S := S28x64) hz2, View.ld_unit_zero (S := S8192x3584) hz2, View.ld_unit_zero (S := S64x28) hz2, View.ld_unit_zero (S := S4096x8192) hz2, View.ld_unit_zero (S := S4096x192) hz2]
  rfl
theorem out20_eq : out0_20 a0 a1 a2 a3 a4 a5 a6 a7 a8 a9 a10 a11 a12 a13 a14 a15 a16 = scales (dgV (gateV a0 a2 a3 a8 a11 a14 a16) (upV a0 a4 a5 a9 a12 a14 a16) (dactV a1 a6 a7 a10 a13)) := by
  unfold out0_20
  rw [View.canon_unit_zero hz2]
  simp only [k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, View.ld_unit_zero (S := S4) hz1, View.ld_unit_zero (S := S32) hz1, View.ld_unit_zero (S := S4x48x3584) hz3, View.ld_unit_zero (S := S3584x8192) hz2, View.ld_unit_zero (S := S28x64) hz2, View.ld_unit_zero (S := S8192x3584) hz2, View.ld_unit_zero (S := S64x28) hz2, View.ld_unit_zero (S := S4096x8192) hz2, View.ld_unit_zero (S := S4096x192) hz2]
  rfl
theorem out21_eq : out0_21 a0 a1 a2 a3 a4 a5 a6 a7 a8 a9 a10 a11 a12 a13 a14 a15 a16 = codes (duV (gateV a0 a2 a3 a8 a11 a14 a16) (dactV a1 a6 a7 a10 a13)) := by
  unfold out0_21
  rw [View.canon_unit_zero hz2]
  simp only [k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, View.ld_unit_zero (S := S4) hz1, View.ld_unit_zero (S := S32) hz1, View.ld_unit_zero (S := S4x48x3584) hz3, View.ld_unit_zero (S := S3584x8192) hz2, View.ld_unit_zero (S := S28x64) hz2, View.ld_unit_zero (S := S8192x3584) hz2, View.ld_unit_zero (S := S64x28) hz2, View.ld_unit_zero (S := S4096x8192) hz2, View.ld_unit_zero (S := S4096x192) hz2]
  rfl
theorem out22_eq : out0_22 a0 a1 a2 a3 a4 a5 a6 a7 a8 a9 a10 a11 a12 a13 a14 a15 a16 = scales (duV (gateV a0 a2 a3 a8 a11 a14 a16) (dactV a1 a6 a7 a10 a13)) := by
  unfold out0_22
  rw [View.canon_unit_zero hz2]
  simp only [k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, View.ld_unit_zero (S := S4) hz1, View.ld_unit_zero (S := S32) hz1, View.ld_unit_zero (S := S4x48x3584) hz3, View.ld_unit_zero (S := S3584x8192) hz2, View.ld_unit_zero (S := S28x64) hz2, View.ld_unit_zero (S := S8192x3584) hz2, View.ld_unit_zero (S := S64x28) hz2, View.ld_unit_zero (S := S4096x8192) hz2, View.ld_unit_zero (S := S4096x192) hz2]
  rfl
theorem out23_eq : out0_23 a0 a1 a2 a3 a4 a5 a6 a7 a8 a9 a10 a11 a12 a13 a14 a15 a16 = decodes (actV (gateV a0 a2 a3 a8 a11 a14 a16) (upV a0 a4 a5 a9 a12 a14 a16)) := by
  unfold out0_23
  rw [View.canon_unit_zero hz2]
  simp only [k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, View.ld_unit_zero (S := S4) hz1, View.ld_unit_zero (S := S32) hz1, View.ld_unit_zero (S := S4x48x3584) hz3, View.ld_unit_zero (S := S3584x8192) hz2, View.ld_unit_zero (S := S28x64) hz2, View.ld_unit_zero (S := S8192x3584) hz2, View.ld_unit_zero (S := S64x28) hz2, View.ld_unit_zero (S := S4096x8192) hz2, View.ld_unit_zero (S := S4096x192) hz2]
  rfl
theorem out24_eq : out0_24 a0 a1 a2 a3 a4 a5 a6 a7 a8 a9 a10 a11 a12 a13 a14 a15 a16 = decodes (dgV (gateV a0 a2 a3 a8 a11 a14 a16) (upV a0 a4 a5 a9 a12 a14 a16) (dactV a1 a6 a7 a10 a13)) := by
  unfold out0_24
  rw [View.canon_unit_zero hz2]
  simp only [k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, View.ld_unit_zero (S := S4) hz1, View.ld_unit_zero (S := S32) hz1, View.ld_unit_zero (S := S4x48x3584) hz3, View.ld_unit_zero (S := S3584x8192) hz2, View.ld_unit_zero (S := S28x64) hz2, View.ld_unit_zero (S := S8192x3584) hz2, View.ld_unit_zero (S := S64x28) hz2, View.ld_unit_zero (S := S4096x8192) hz2, View.ld_unit_zero (S := S4096x192) hz2]
  rfl
theorem out25_eq : out0_25 a0 a1 a2 a3 a4 a5 a6 a7 a8 a9 a10 a11 a12 a13 a14 a15 a16 = decodes (duV (gateV a0 a2 a3 a8 a11 a14 a16) (dactV a1 a6 a7 a10 a13)) := by
  unfold out0_25
  rw [View.canon_unit_zero hz2]
  simp only [k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, View.ld_unit_zero (S := S4) hz1, View.ld_unit_zero (S := S32) hz1, View.ld_unit_zero (S := S4x48x3584) hz3, View.ld_unit_zero (S := S3584x8192) hz2, View.ld_unit_zero (S := S28x64) hz2, View.ld_unit_zero (S := S8192x3584) hz2, View.ld_unit_zero (S := S64x28) hz2, View.ld_unit_zero (S := S4096x8192) hz2, View.ld_unit_zero (S := S4096x192) hz2]
  rfl
theorem out26_eq : out0_26 a0 a1 a2 a3 a4 a5 a6 a7 a8 a9 a10 a11 a12 a13 a14 a15 a16 = truncf .bf16 (dgV (gateV a0 a2 a3 a8 a11 a14 a16) (upV a0 a4 a5 a9 a12 a14 a16) (dactV a1 a6 a7 a10 a13)) bitsLt_bf16_f32 := by
  unfold out0_26
  rw [View.canon_unit_zero hz2]
  simp only [k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, View.ld_unit_zero (S := S4) hz1, View.ld_unit_zero (S := S32) hz1, View.ld_unit_zero (S := S4x48x3584) hz3, View.ld_unit_zero (S := S3584x8192) hz2, View.ld_unit_zero (S := S28x64) hz2, View.ld_unit_zero (S := S8192x3584) hz2, View.ld_unit_zero (S := S64x28) hz2, View.ld_unit_zero (S := S4096x8192) hz2, View.ld_unit_zero (S := S4096x192) hz2]
  rfl
theorem out27_eq : out0_27 a0 a1 a2 a3 a4 a5 a6 a7 a8 a9 a10 a11 a12 a13 a14 a15 a16 = truncf .bf16 (duV (gateV a0 a2 a3 a8 a11 a14 a16) (dactV a1 a6 a7 a10 a13)) bitsLt_bf16_f32 := by
  unfold out0_27
  rw [View.canon_unit_zero hz2]
  simp only [k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, View.ld_unit_zero (S := S4) hz1, View.ld_unit_zero (S := S32) hz1, View.ld_unit_zero (S := S4x48x3584) hz3, View.ld_unit_zero (S := S3584x8192) hz2, View.ld_unit_zero (S := S28x64) hz2, View.ld_unit_zero (S := S8192x3584) hz2, View.ld_unit_zero (S := S64x28) hz2, View.ld_unit_zero (S := S4096x8192) hz2, View.ld_unit_zero (S := S4096x192) hz2]
  rfl
theorem out28_eq : out0_28 a0 a1 a2 a3 a4 a5 a6 a7 a8 a9 a10 a11 a12 a13 a14 a15 a16 = masked (k0_pay9 a15 (k0_pay8 a16)) (k0_pay4 a13) (decodes (actV (gateV a0 a2 a3 a8 a11 a14 a16) (upV a0 a4 a5 a9 a12 a14 a16))) := by
  unfold out0_28
  rw [View.canon_unit_zero hz2]
  simp only [k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, View.ld_unit_zero (S := S4) hz1, View.ld_unit_zero (S := S32) hz1, View.ld_unit_zero (S := S4x48x3584) hz3, View.ld_unit_zero (S := S3584x8192) hz2, View.ld_unit_zero (S := S28x64) hz2, View.ld_unit_zero (S := S8192x3584) hz2, View.ld_unit_zero (S := S64x28) hz2, View.ld_unit_zero (S := S4096x8192) hz2, View.ld_unit_zero (S := S4096x192) hz2]
  rfl
theorem out29_eq : out0_29 a0 a1 a2 a3 a4 a5 a6 a7 a8 a9 a10 a11 a12 a13 a14 a15 a16 = masked (scaledMask (k0_pay9 a15 (k0_pay8 a16)) (k0_pay10 a16 a14)) (k0_pay2 a11) (truncf .bf16 (dgV (gateV a0 a2 a3 a8 a11 a14 a16) (upV a0 a4 a5 a9 a12 a14 a16) (dactV a1 a6 a7 a10 a13)) bitsLt_bf16_f32) := by
  unfold out0_29
  rw [View.canon_unit_zero hz2]
  simp only [k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, View.ld_unit_zero (S := S4) hz1, View.ld_unit_zero (S := S32) hz1, View.ld_unit_zero (S := S4x48x3584) hz3, View.ld_unit_zero (S := S3584x8192) hz2, View.ld_unit_zero (S := S28x64) hz2, View.ld_unit_zero (S := S8192x3584) hz2, View.ld_unit_zero (S := S64x28) hz2, View.ld_unit_zero (S := S4096x8192) hz2, View.ld_unit_zero (S := S4096x192) hz2]
  rfl
theorem out30_eq : out0_30 a0 a1 a2 a3 a4 a5 a6 a7 a8 a9 a10 a11 a12 a13 a14 a15 a16 = masked (scaledMask (k0_pay9 a15 (k0_pay8 a16)) (k0_pay10 a16 a14)) (k0_pay3 a12) (truncf .bf16 (duV (gateV a0 a2 a3 a8 a11 a14 a16) (dactV a1 a6 a7 a10 a13)) bitsLt_bf16_f32) := by
  unfold out0_30
  rw [View.canon_unit_zero hz2]
  simp only [k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, View.ld_unit_zero (S := S4) hz1, View.ld_unit_zero (S := S32) hz1, View.ld_unit_zero (S := S4x48x3584) hz3, View.ld_unit_zero (S := S3584x8192) hz2, View.ld_unit_zero (S := S28x64) hz2, View.ld_unit_zero (S := S8192x3584) hz2, View.ld_unit_zero (S := S64x28) hz2, View.ld_unit_zero (S := S4096x8192) hz2, View.ld_unit_zero (S := S4096x192) hz2]
  rfl

/-! ## Their entries -/

theorem out17_apply (t : Fin 4096) (f : Fin 3584) : out0_17 a0 a1 a2 a3 a4 a5 a6 a7 a8 a9 a10 a11 a12 a13 a14 a15 a16 (ix2 t f) = Mid.code (Mid.act (inputs a0 a1 a2 a3 a4 a5 a6 a7 a8 a9 a10 a11 a12 a13 a14 a15 a16) t) f := by
  rw [out17_eq, codes_apply, act_row]
theorem out18_apply (t : Fin 4096) (k : Fin 28) : out0_18 a0 a1 a2 a3 a4 a5 a6 a7 a8 a9 a10 a11 a12 a13 a14 a15 a16 (ix2 t k) = Mid.scale (Mid.act (inputs a0 a1 a2 a3 a4 a5 a6 a7 a8 a9 a10 a11 a12 a13 a14 a15 a16) t) k := by
  rw [out18_eq, scales_apply, act_row]
theorem out19_apply (t : Fin 4096) (f : Fin 3584) : out0_19 a0 a1 a2 a3 a4 a5 a6 a7 a8 a9 a10 a11 a12 a13 a14 a15 a16 (ix2 t f) = Mid.code (Mid.dg (inputs a0 a1 a2 a3 a4 a5 a6 a7 a8 a9 a10 a11 a12 a13 a14 a15 a16) t) f := by
  rw [out19_eq, codes_apply, dg_row]
theorem out20_apply (t : Fin 4096) (k : Fin 28) : out0_20 a0 a1 a2 a3 a4 a5 a6 a7 a8 a9 a10 a11 a12 a13 a14 a15 a16 (ix2 t k) = Mid.scale (Mid.dg (inputs a0 a1 a2 a3 a4 a5 a6 a7 a8 a9 a10 a11 a12 a13 a14 a15 a16) t) k := by
  rw [out20_eq, scales_apply, dg_row]
theorem out21_apply (t : Fin 4096) (f : Fin 3584) : out0_21 a0 a1 a2 a3 a4 a5 a6 a7 a8 a9 a10 a11 a12 a13 a14 a15 a16 (ix2 t f) = Mid.code (Mid.du (inputs a0 a1 a2 a3 a4 a5 a6 a7 a8 a9 a10 a11 a12 a13 a14 a15 a16) t) f := by
  rw [out21_eq, codes_apply, du_row]
theorem out22_apply (t : Fin 4096) (k : Fin 28) : out0_22 a0 a1 a2 a3 a4 a5 a6 a7 a8 a9 a10 a11 a12 a13 a14 a15 a16 (ix2 t k) = Mid.scale (Mid.du (inputs a0 a1 a2 a3 a4 a5 a6 a7 a8 a9 a10 a11 a12 a13 a14 a15 a16) t) k := by
  rw [out22_eq, scales_apply, du_row]
theorem out23_apply (t : Fin 4096) (f : Fin 3584) : out0_23 a0 a1 a2 a3 a4 a5 a6 a7 a8 a9 a10 a11 a12 a13 a14 a15 a16 (ix2 t f) = Mid.decoded (Mid.act (inputs a0 a1 a2 a3 a4 a5 a6 a7 a8 a9 a10 a11 a12 a13 a14 a15 a16) t) f := by
  rw [out23_eq, decodes_apply, act_row]
theorem out24_apply (t : Fin 4096) (f : Fin 3584) : out0_24 a0 a1 a2 a3 a4 a5 a6 a7 a8 a9 a10 a11 a12 a13 a14 a15 a16 (ix2 t f) = Mid.decoded (Mid.dg (inputs a0 a1 a2 a3 a4 a5 a6 a7 a8 a9 a10 a11 a12 a13 a14 a15 a16) t) f := by
  rw [out24_eq, decodes_apply, dg_row]
theorem out25_apply (t : Fin 4096) (f : Fin 3584) : out0_25 a0 a1 a2 a3 a4 a5 a6 a7 a8 a9 a10 a11 a12 a13 a14 a15 a16 (ix2 t f) = Mid.decoded (Mid.du (inputs a0 a1 a2 a3 a4 a5 a6 a7 a8 a9 a10 a11 a12 a13 a14 a15 a16) t) f := by
  rw [out25_eq, decodes_apply, du_row]
theorem out26_apply (t : Fin 4096) (f : Fin 3584) : out0_26 a0 a1 a2 a3 a4 a5 a6 a7 a8 a9 a10 a11 a12 a13 a14 a15 a16 (ix2 t f) = Mid.dg (inputs a0 a1 a2 a3 a4 a5 a6 a7 a8 a9 a10 a11 a12 a13 a14 a15 a16) t f := by
  rw [out26_eq]; exact congrFun (dg_row a0 a1 a2 a3 a4 a5 a6 a7 a8 a9 a10 a11 a12 a13 a14 a15 a16 t) f
theorem out27_apply (t : Fin 4096) (f : Fin 3584) : out0_27 a0 a1 a2 a3 a4 a5 a6 a7 a8 a9 a10 a11 a12 a13 a14 a15 a16 (ix2 t f) = Mid.du (inputs a0 a1 a2 a3 a4 a5 a6 a7 a8 a9 a10 a11 a12 a13 a14 a15 a16) t f := by
  rw [out27_eq]; exact congrFun (du_row a0 a1 a2 a3 a4 a5 a6 a7 a8 a9 a10 a11 a12 a13 a14 a15 a16 t) f
theorem out28_apply (t : Fin 4096) (r : Fin 192) : out0_28 a0 a1 a2 a3 a4 a5 a6 a7 a8 a9 a10 a11 a12 a13 a14 a15 a16 (ix2 t r) = Mid.zDown (inputs a0 a1 a2 a3 a4 a5 a6 a7 a8 a9 a10 a11 a12 a13 a14 a15 a16) t r := by
  rw [out28_eq, masked_apply, mask_apply a0 a1 a2 a3 a4 a5 a6 a7 a8 a9 a10 a11 a12 a13 a14 a15 a16]
  unfold Mid.zDown
  congr 1
  exact Finset.sum_congr rfl fun f _ => by rw [decodes_apply, act_row]; exact congrArg _ (stack_apply a13 r f)
theorem out29_apply (t : Fin 4096) (r : Fin 192) : out0_29 a0 a1 a2 a3 a4 a5 a6 a7 a8 a9 a10 a11 a12 a13 a14 a15 a16 (ix2 t r) = Mid.dzGate (inputs a0 a1 a2 a3 a4 a5 a6 a7 a8 a9 a10 a11 a12 a13 a14 a15 a16) t r := by
  rw [out29_eq, masked_apply, scaledMask_apply, mask_apply a0 a1 a2 a3 a4 a5 a6 a7 a8 a9 a10 a11 a12 a13 a14 a15 a16, alpha_apply]
  unfold Mid.dzGate
  congr 1
  exact Finset.sum_congr rfl fun f _ => congrArg₂ (fun x y : EReal => x * y) (congrFun (dg_row a0 a1 a2 a3 a4 a5 a6 a7 a8 a9 a10 a11 a12 a13 a14 a15 a16 t) f) (stack_apply a11 r f)
theorem out30_apply (t : Fin 4096) (r : Fin 192) : out0_30 a0 a1 a2 a3 a4 a5 a6 a7 a8 a9 a10 a11 a12 a13 a14 a15 a16 (ix2 t r) = Mid.dzUp (inputs a0 a1 a2 a3 a4 a5 a6 a7 a8 a9 a10 a11 a12 a13 a14 a15 a16) t r := by
  rw [out30_eq, masked_apply, scaledMask_apply, mask_apply a0 a1 a2 a3 a4 a5 a6 a7 a8 a9 a10 a11 a12 a13 a14 a15 a16, alpha_apply]
  unfold Mid.dzUp
  congr 1
  exact Finset.sum_congr rfl fun f _ => congrArg₂ (fun x y : EReal => x * y) (congrFun (du_row a0 a1 a2 a3 a4 a5 a6 a7 a8 a9 a10 a11 a12 a13 a14 a15 a16 t) f) (stack_apply a12 r f)

end Cert.Proof.MidRef

end
-- ==== Proof.MidRArr.lean ====
/-
  The fourteen arrays of the reference of the middle call after its run: its one point holds every array whole, so they are what
  its body leaves.
-/
module

public import proofs.«01_k».proof.Proof.MidRef3
public import proofs.«01_k».proof.Proof.MidArrays
public import Idealize.ShloMosaic.Lib.Pipeline.ValueKit

@[expose] public section

set_option maxRecDepth 16384

noncomputable section

namespace Cert.Proof.MidRef

open Idealize.ShloMosaic Idealize.ShloMosaic.TcCoe Idealize.SL.Sem Cert.MidRIdeal Cert.MidRIdeal.Gen Cert.Proof.MidRRun

variable (m : (ℓ : Loc nD τ sig) → Buf (Elt Ideal) ℓ) (ρ : Dev nD → PrngReg) (c : Dev nD)

/-- The arguments of a launch, as the inputs of the specification. -/
abbrev given : Mid.In := inputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-! ## A window's block is its whole array -/

theorem zero0 : ∀ t : Fin cfg0.N, win0_0.index t (0 : Fin 2) = 0 ∧ win0_0.index t (1 : Fin 2) = 0 :=
  (by decide +kernel : ∀ t : Fin grid0.N, _)
theorem emb0 (t : Fin cfg0.N) (j : S4096x8192.Idx) : ((cfg0.win 0).blk t).view.emb j = j := by
  obtain ⟨e0, e1⟩ := zero0 t
  funext a; apply Fin.ext
  match a with
  | ⟨0, _⟩ => show win0_0.index t (0 : Fin 2) * 4096 + 1 * (j 0).val = (j 0).val; omega
  | ⟨1, _⟩ => show win0_0.index t (1 : Fin 2) * 8192 + 1 * (j 1).val = (j 1).val; omega
theorem blk0 (t : Fin cfg0.N) : iblk m c 0 t = m ((c : Thread nD τ).loc main_arg0) := by
  funext j; show V m c main_arg0 (((cfg0.win 0).blk t).view.emb j) = V m c main_arg0 j; rw [emb0]

theorem zero1 : ∀ t : Fin cfg0.N, win0_1.index t (0 : Fin 2) = 0 ∧ win0_1.index t (1 : Fin 2) = 0 :=
  (by decide +kernel : ∀ t : Fin grid0.N, _)
theorem emb1 (t : Fin cfg0.N) (j : S4096x8192.Idx) : ((cfg0.win 1).blk t).view.emb j = j := by
  obtain ⟨e0, e1⟩ := zero1 t
  funext a; apply Fin.ext
  match a with
  | ⟨0, _⟩ => show win0_1.index t (0 : Fin 2) * 4096 + 1 * (j 0).val = (j 0).val; omega
  | ⟨1, _⟩ => show win0_1.index t (1 : Fin 2) * 8192 + 1 * (j 1).val = (j 1).val; omega
theorem blk1 (t : Fin cfg0.N) : iblk m c 1 t = m ((c : Thread nD τ).loc main_arg1) := by
  funext j; show V m c main_arg1 (((cfg0.win 1).blk t).view.emb j) = V m c main_arg1 j; rw [emb1]

theorem zero2 : ∀ t : Fin cfg0.N, win0_2.index t (0 : Fin 2) = 0 ∧ win0_2.index t (1 : Fin 2) = 0 :=
  (by decide +kernel : ∀ t : Fin grid0.N, _)
theorem emb2 (t : Fin cfg0.N) (j : S3584x8192.Idx) : ((cfg0.win 2).blk t).view.emb j = j := by
  obtain ⟨e0, e1⟩ := zero2 t
  funext a; apply Fin.ext
  match a with
  | ⟨0, _⟩ => show win0_2.index t (0 : Fin 2) * 3584 + 1 * (j 0).val = (j 0).val; omega
  | ⟨1, _⟩ => show win0_2.index t (1 : Fin 2) * 8192 + 1 * (j 1).val = (j 1).val; omega
theorem blk2 (t : Fin cfg0.N) : iblk m c 2 t = m ((c : Thread nD τ).loc main_arg2) := by
  funext j; show V m c main_arg2 (((cfg0.win 2).blk t).view.emb j) = V m c main_arg2 j; rw [emb2]

theorem zero3 : ∀ t : Fin cfg0.N, win0_3.index t (0 : Fin 2) = 0 ∧ win0_3.index t (1 : Fin 2) = 0 :=
  (by decide +kernel : ∀ t : Fin grid0.N, _)
theorem emb3 (t : Fin cfg0.N) (j : S28x64.Idx) : ((cfg0.win 3).blk t).view.emb j = j := by
  obtain ⟨e0, e1⟩ := zero3 t
  funext a; apply Fin.ext
  match a with
  | ⟨0, _⟩ => show win0_3.index t (0 : Fin 2) * 28 + 1 * (j 0).val = (j 0).val; omega
  | ⟨1, _⟩ => show win0_3.index t (1 : Fin 2) * 64 + 1 * (j 1).val = (j 1).val; omega
theorem blk3 (t : Fin cfg0.N) : iblk m c 3 t = m ((c : Thread nD τ).loc main_arg3) := by
  funext j; show V m c main_arg3 (((cfg0.win 3).blk t).view.emb j) = V m c main_arg3 j; rw [emb3]

theorem zero4 : ∀ t : Fin cfg0.N, win0_4.index t (0 : Fin 2) = 0 ∧ win0_4.index t (1 : Fin 2) = 0 :=
  (by decide +kernel : ∀ t : Fin grid0.N, _)
theorem emb4 (t : Fin cfg0.N) (j : S3584x8192.Idx) : ((cfg0.win 4).blk t).view.emb j = j := by
  obtain ⟨e0, e1⟩ := zero4 t
  funext a; apply Fin.ext
  match a with
  | ⟨0, _⟩ => show win0_4.index t (0 : Fin 2) * 3584 + 1 * (j 0).val = (j 0).val; omega
  | ⟨1, _⟩ => show win0_4.index t (1 : Fin 2) * 8192 + 1 * (j 1).val = (j 1).val; omega
theorem blk4 (t : Fin cfg0.N) : iblk m c 4 t = m ((c : Thread nD τ).loc main_arg4) := by
  funext j; show V m c main_arg4 (((cfg0.win 4).blk t).view.emb j) = V m c main_arg4 j; rw [emb4]

theorem zero5 : ∀ t : Fin cfg0.N, win0_5.index t (0 : Fin 2) = 0 ∧ win0_5.index t (1 : Fin 2) = 0 :=
  (by decide +kernel : ∀ t : Fin grid0.N, _)
theorem emb5 (t : Fin cfg0.N) (j : S28x64.Idx) : ((cfg0.win 5).blk t).view.emb j = j := by
  obtain ⟨e0, e1⟩ := zero5 t
  funext a; apply Fin.ext
  match a with
  | ⟨0, _⟩ => show win0_5.index t (0 : Fin 2) * 28 + 1 * (j 0).val = (j 0).val; omega
  | ⟨1, _⟩ => show win0_5.index t (1 : Fin 2) * 64 + 1 * (j 1).val = (j 1).val; omega
theorem blk5 (t : Fin cfg0.N) : iblk m c 5 t = m ((c : Thread nD τ).loc main_arg5) := by
  funext j; show V m c main_arg5 (((cfg0.win 5).blk t).view.emb j) = V m c main_arg5 j; rw [emb5]

theorem zero6 : ∀ t : Fin cfg0.N, win0_6.index t (0 : Fin 2) = 0 ∧ win0_6.index t (1 : Fin 2) = 0 :=
  (by decide +kernel : ∀ t : Fin grid0.N, _)
theorem emb6 (t : Fin cfg0.N) (j : S8192x3584.Idx) : ((cfg0.win 6).blk t).view.emb j = j := by
  obtain ⟨e0, e1⟩ := zero6 t
  funext a; apply Fin.ext
  match a with
  | ⟨0, _⟩ => show win0_6.index t (0 : Fin 2) * 8192 + 1 * (j 0).val = (j 0).val; omega
  | ⟨1, _⟩ => show win0_6.index t (1 : Fin 2) * 3584 + 1 * (j 1).val = (j 1).val; omega
theorem blk6 (t : Fin cfg0.N) : iblk m c 6 t = m ((c : Thread nD τ).loc main_arg6) := by
  funext j; show V m c main_arg6 (((cfg0.win 6).blk t).view.emb j) = V m c main_arg6 j; rw [emb6]

theorem zero7 : ∀ t : Fin cfg0.N, win0_7.index t (0 : Fin 2) = 0 ∧ win0_7.index t (1 : Fin 2) = 0 :=
  (by decide +kernel : ∀ t : Fin grid0.N, _)
theorem emb7 (t : Fin cfg0.N) (j : S64x28.Idx) : ((cfg0.win 7).blk t).view.emb j = j := by
  obtain ⟨e0, e1⟩ := zero7 t
  funext a; apply Fin.ext
  match a with
  | ⟨0, _⟩ => show win0_7.index t (0 : Fin 2) * 64 + 1 * (j 0).val = (j 0).val; omega
  | ⟨1, _⟩ => show win0_7.index t (1 : Fin 2) * 28 + 1 * (j 1).val = (j 1).val; omega
theorem blk7 (t : Fin cfg0.N) : iblk m c 7 t = m ((c : Thread nD τ).loc main_arg7) := by
  funext j; show V m c main_arg7 (((cfg0.win 7).blk t).view.emb j) = V m c main_arg7 j; rw [emb7]

theorem zero8 : ∀ t : Fin cfg0.N, win0_8.index t (0 : Fin 2) = 0 ∧ win0_8.index t (1 : Fin 2) = 0 :=
  (by decide +kernel : ∀ t : Fin grid0.N, _)
theorem emb8 (t : Fin cfg0.N) (j : S4096x192.Idx) : ((cfg0.win 8).blk t).view.emb j = j := by
  obtain ⟨e0, e1⟩ := zero8 t
  funext a; apply Fin.ext
  match a with
  | ⟨0, _⟩ => show win0_8.index t (0 : Fin 2) * 4096 + 1 * (j 0).val = (j 0).val; omega
  | ⟨1, _⟩ => show win0_8.index t (1 : Fin 2) * 192 + 1 * (j 1).val = (j 1).val; omega
theorem blk8 (t : Fin cfg0.N) : iblk m c 8 t = m ((c : Thread nD τ).loc main_arg8) := by
  funext j; show V m c main_arg8 (((cfg0.win 8).blk t).view.emb j) = V m c main_arg8 j; rw [emb8]

theorem zero9 : ∀ t : Fin cfg0.N, win0_9.index t (0 : Fin 2) = 0 ∧ win0_9.index t (1 : Fin 2) = 0 :=
  (by decide +kernel : ∀ t : Fin grid0.N, _)
theorem emb9 (t : Fin cfg0.N) (j : S4096x192.Idx) : ((cfg0.win 9).blk t).view.emb j = j := by
  obtain ⟨e0, e1⟩ := zero9 t
  funext a; apply Fin.ext
  match a with
  | ⟨0, _⟩ => show win0_9.index t (0 : Fin 2) * 4096 + 1 * (j 0).val = (j 0).val; omega
  | ⟨1, _⟩ => show win0_9.index t (1 : Fin 2) * 192 + 1 * (j 1).val = (j 1).val; omega
theorem blk9 (t : Fin cfg0.N) : iblk m c 9 t = m ((c : Thread nD τ).loc main_arg9) := by
  funext j; show V m c main_arg9 (((cfg0.win 9).blk t).view.emb j) = V m c main_arg9 j; rw [emb9]

theorem zero10 : ∀ t : Fin cfg0.N, win0_10.index t (0 : Fin 2) = 0 ∧ win0_10.index t (1 : Fin 2) = 0 :=
  (by decide +kernel : ∀ t : Fin grid0.N, _)
theorem emb10 (t : Fin cfg0.N) (j : S4096x192.Idx) : ((cfg0.win 10).blk t).view.emb j = j := by
  obtain ⟨e0, e1⟩ := zero10 t
  funext a; apply Fin.ext
  match a with
  | ⟨0, _⟩ => show win0_10.index t (0 : Fin 2) * 4096 + 1 * (j 0).val = (j 0).val; omega
  | ⟨1, _⟩ => show win0_10.index t (1 : Fin 2) * 192 + 1 * (j 1).val = (j 1).val; omega
theorem blk10 (t : Fin cfg0.N) : iblk m c 10 t = m ((c : Thread nD τ).loc main_arg10) := by
  funext j; show V m c main_arg10 (((cfg0.win 10).blk t).view.emb j) = V m c main_arg10 j; rw [emb10]

theorem zero11 : ∀ t : Fin cfg0.N, win0_11.index t (0 : Fin 3) = 0 ∧ win0_11.index t (1 : Fin 3) = 0 ∧ win0_11.index t (2 : Fin 3) = 0 :=
  (by decide +kernel : ∀ t : Fin grid0.N, _)
theorem emb11 (t : Fin cfg0.N) (j : S4x48x3584.Idx) : ((cfg0.win 11).blk t).view.emb j = j := by
  obtain ⟨e0, e1, e2⟩ := zero11 t
  funext a; apply Fin.ext
  match a with
  | ⟨0, _⟩ => show win0_11.index t (0 : Fin 3) * 4 + 1 * (j 0).val = (j 0).val; omega
  | ⟨1, _⟩ => show win0_11.index t (1 : Fin 3) * 48 + 1 * (j 1).val = (j 1).val; omega
  | ⟨2, _⟩ => show win0_11.index t (2 : Fin 3) * 3584 + 1 * (j 2).val = (j 2).val; omega
theorem blk11 (t : Fin cfg0.N) : iblk m c 11 t = m ((c : Thread nD τ).loc main_arg11) := by
  funext j; show V m c main_arg11 (((cfg0.win 11).blk t).view.emb j) = V m c main_arg11 j; rw [emb11]

theorem zero12 : ∀ t : Fin cfg0.N, win0_12.index t (0 : Fin 3) = 0 ∧ win0_12.index t (1 : Fin 3) = 0 ∧ win0_12.index t (2 : Fin 3) = 0 :=
  (by decide +kernel : ∀ t : Fin grid0.N, _)
theorem emb12 (t : Fin cfg0.N) (j : S4x48x3584.Idx) : ((cfg0.win 12).blk t).view.emb j = j := by
  obtain ⟨e0, e1, e2⟩ := zero12 t
  funext a; apply Fin.ext
  match a with
  | ⟨0, _⟩ => show win0_12.index t (0 : Fin 3) * 4 + 1 * (j 0).val = (j 0).val; omega
  | ⟨1, _⟩ => show win0_12.index t (1 : Fin 3) * 48 + 1 * (j 1).val = (j 1).val; omega
  | ⟨2, _⟩ => show win0_12.index t (2 : Fin 3) * 3584 + 1 * (j 2).val = (j 2).val; omega
theorem blk12 (t : Fin cfg0.N) : iblk m c 12 t = m ((c : Thread nD τ).loc main_arg12) := by
  funext j; show V m c main_arg12 (((cfg0.win 12).blk t).view.emb j) = V m c main_arg12 j; rw [emb12]

theorem zero13 : ∀ t : Fin cfg0.N, win0_13.index t (0 : Fin 3) = 0 ∧ win0_13.index t (1 : Fin 3) = 0 ∧ win0_13.index t (2 : Fin 3) = 0 :=
  (by decide +kernel : ∀ t : Fin grid0.N, _)
theorem emb13 (t : Fin cfg0.N) (j : S4x48x3584.Idx) : ((cfg0.win 13).blk t).view.emb j = j := by
  obtain ⟨e0, e1, e2⟩ := zero13 t
  funext a; apply Fin.ext
  match a with
  | ⟨0, _⟩ => show win0_13.index t (0 : Fin 3) * 4 + 1 * (j 0).val = (j 0).val; omega
  | ⟨1, _⟩ => show win0_13.index t (1 : Fin 3) * 48 + 1 * (j 1).val = (j 1).val; omega
  | ⟨2, _⟩ => show win0_13.index t (2 : Fin 3) * 3584 + 1 * (j 2).val = (j 2).val; omega
theorem blk13 (t : Fin cfg0.N) : iblk m c 13 t = m ((c : Thread nD τ).loc main_arg13) := by
  funext j; show V m c main_arg13 (((cfg0.win 13).blk t).view.emb j) = V m c main_arg13 j; rw [emb13]

theorem zero14 : ∀ t : Fin cfg0.N, win0_14.index t (0 : Fin 1) = 0 :=
  (by decide +kernel : ∀ t : Fin grid0.N, _)
theorem emb14 (t : Fin cfg0.N) (j : S4.Idx) : ((cfg0.win 14).blk t).view.emb j = j := by
  have e0 := zero14 t
  funext a; apply Fin.ext
  match a with
  | ⟨0, _⟩ => show win0_14.index t (0 : Fin 1) * 4 + 1 * (j 0).val = (j 0).val; omega
theorem blk14 (t : Fin cfg0.N) : iblk m c 14 t = m ((c : Thread nD τ).loc main_arg14) := by
  funext j; show V m c main_arg14 (((cfg0.win 14).blk t).view.emb j) = V m c main_arg14 j; rw [emb14]

theorem zero15 : ∀ t : Fin cfg0.N, win0_15.index t (0 : Fin 1) = 0 :=
  (by decide +kernel : ∀ t : Fin grid0.N, _)
theorem emb15 (t : Fin cfg0.N) (j : S4.Idx) : ((cfg0.win 15).blk t).view.emb j = j := by
  have e0 := zero15 t
  funext a; apply Fin.ext
  match a with
  | ⟨0, _⟩ => show win0_15.index t (0 : Fin 1) * 4 + 1 * (j 0).val = (j 0).val; omega
theorem blk15 (t : Fin cfg0.N) : iblk m c 15 t = m ((c : Thread nD τ).loc main_arg15) := by
  funext j; show V m c main_arg15 (((cfg0.win 15).blk t).view.emb j) = V m c main_arg15 j; rw [emb15]

theorem zero16 : ∀ t : Fin cfg0.N, win0_16.index t (0 : Fin 1) = 0 :=
  (by decide +kernel : ∀ t : Fin grid0.N, _)
theorem emb16 (t : Fin cfg0.N) (j : S32.Idx) : ((cfg0.win 16).blk t).view.emb j = j := by
  have e0 := zero16 t
  funext a; apply Fin.ext
  match a with
  | ⟨0, _⟩ => show win0_16.index t (0 : Fin 1) * 32 + 1 * (j 0).val = (j 0).val; omega
theorem blk16 (t : Fin cfg0.N) : iblk m c 16 t = m ((c : Thread nD τ).loc main_arg16) := by
  funext j; show V m c main_arg16 (((cfg0.win 16).blk t).view.emb j) = V m c main_arg16 j; rw [emb16]

theorem zero17 : ∀ t : Fin cfg0.N, win0_17.index t (0 : Fin 2) = 0 ∧ win0_17.index t (1 : Fin 2) = 0 :=
  (by decide +kernel : ∀ t : Fin grid0.N, _)
theorem emb17 (t : Fin cfg0.N) (j : S4096x3584.Idx) : ((cfg0.win 17).blk t).view.emb j = j := by
  obtain ⟨e0, e1⟩ := zero17 t
  funext a; apply Fin.ext
  match a with
  | ⟨0, _⟩ => show win0_17.index t (0 : Fin 2) * 4096 + 1 * (j 0).val = (j 0).val; omega
  | ⟨1, _⟩ => show win0_17.index t (1 : Fin 2) * 3584 + 1 * (j 1).val = (j 1).val; omega

theorem zero18 : ∀ t : Fin cfg0.N, win0_18.index t (0 : Fin 2) = 0 ∧ win0_18.index t (1 : Fin 2) = 0 :=
  (by decide +kernel : ∀ t : Fin grid0.N, _)
theorem emb18 (t : Fin cfg0.N) (j : S4096x28.Idx) : ((cfg0.win 18).blk t).view.emb j = j := by
  obtain ⟨e0, e1⟩ := zero18 t
  funext a; apply Fin.ext
  match a with
  | ⟨0, _⟩ => show win0_18.index t (0 : Fin 2) * 4096 + 1 * (j 0).val = (j 0).val; omega
  | ⟨1, _⟩ => show win0_18.index t (1 : Fin 2) * 28 + 1 * (j 1).val = (j 1).val; omega

theorem zero19 : ∀ t : Fin cfg0.N, win0_19.index t (0 : Fin 2) = 0 ∧ win0_19.index t (1 : Fin 2) = 0 :=
  (by decide +kernel : ∀ t : Fin grid0.N, _)
theorem emb19 (t : Fin cfg0.N) (j : S4096x3584.Idx) : ((cfg0.win 19).blk t).view.emb j = j := by
  obtain ⟨e0, e1⟩ := zero19 t
  funext a; apply Fin.ext
  match a with
  | ⟨0, _⟩ => show win0_19.index t (0 : Fin 2) * 4096 + 1 * (j 0).val = (j 0).val; omega
  | ⟨1, _⟩ => show win0_19.index t (1 : Fin 2) * 3584 + 1 * (j 1).val = (j 1).val; omega

theorem zero20 : ∀ t : Fin cfg0.N, win0_20.index t (0 : Fin 2) = 0 ∧ win0_20.index t (1 : Fin 2) = 0 :=
  (by decide +kernel : ∀ t : Fin grid0.N, _)
theorem emb20 (t : Fin cfg0.N) (j : S4096x28.Idx) : ((cfg0.win 20).blk t).view.emb j = j := by
  obtain ⟨e0, e1⟩ := zero20 t
  funext a; apply Fin.ext
  match a with
  | ⟨0, _⟩ => show win0_20.index t (0 : Fin 2) * 4096 + 1 * (j 0).val = (j 0).val; omega
  | ⟨1, _⟩ => show win0_20.index t (1 : Fin 2) * 28 + 1 * (j 1).val = (j 1).val; omega

theorem zero21 : ∀ t : Fin cfg0.N, win0_21.index t (0 : Fin 2) = 0 ∧ win0_21.index t (1 : Fin 2) = 0 :=
  (by decide +kernel : ∀ t : Fin grid0.N, _)
theorem emb21 (t : Fin cfg0.N) (j : S4096x3584.Idx) : ((cfg0.win 21).blk t).view.emb j = j := by
  obtain ⟨e0, e1⟩ := zero21 t
  funext a; apply Fin.ext
  match a with
  | ⟨0, _⟩ => show win0_21.index t (0 : Fin 2) * 4096 + 1 * (j 0).val = (j 0).val; omega
  | ⟨1, _⟩ => show win0_21.index t (1 : Fin 2) * 3584 + 1 * (j 1).val = (j 1).val; omega

theorem zero22 : ∀ t : Fin cfg0.N, win0_22.index t (0 : Fin 2) = 0 ∧ win0_22.index t (1 : Fin 2) = 0 :=
  (by decide +kernel : ∀ t : Fin grid0.N, _)
theorem emb22 (t : Fin cfg0.N) (j : S4096x28.Idx) : ((cfg0.win 22).blk t).view.emb j = j := by
  obtain ⟨e0, e1⟩ := zero22 t
  funext a; apply Fin.ext
  match a with
  | ⟨0, _⟩ => show win0_22.index t (0 : Fin 2) * 4096 + 1 * (j 0).val = (j 0).val; omega
  | ⟨1, _⟩ => show win0_22.index t (1 : Fin 2) * 28 + 1 * (j 1).val = (j 1).val; omega

theorem zero23 : ∀ t : Fin cfg0.N, win0_23.index t (0 : Fin 2) = 0 ∧ win0_23.index t (1 : Fin 2) = 0 :=
  (by decide +kernel : ∀ t : Fin grid0.N, _)
theorem emb23 (t : Fin cfg0.N) (j : S4096x3584.Idx) : ((cfg0.win 23).blk t).view.emb j = j := by
  obtain ⟨e0, e1⟩ := zero23 t
  funext a; apply Fin.ext
  match a with
  | ⟨0, _⟩ => show win0_23.index t (0 : Fin 2) * 4096 + 1 * (j 0).val = (j 0).val; omega
  | ⟨1, _⟩ => show win0_23.index t (1 : Fin 2) * 3584 + 1 * (j 1).val = (j 1).val; omega

theorem zero24 : ∀ t : Fin cfg0.N, win0_24.index t (0 : Fin 2) = 0 ∧ win0_24.index t (1 : Fin 2) = 0 :=
  (by decide +kernel : ∀ t : Fin grid0.N, _)
theorem emb24 (t : Fin cfg0.N) (j : S4096x3584.Idx) : ((cfg0.win 24).blk t).view.emb j = j := by
  obtain ⟨e0, e1⟩ := zero24 t
  funext a; apply Fin.ext
  match a with
  | ⟨0, _⟩ => show win0_24.index t (0 : Fin 2) * 4096 + 1 * (j 0).val = (j 0).val; omega
  | ⟨1, _⟩ => show win0_24.index t (1 : Fin 2) * 3584 + 1 * (j 1).val = (j 1).val; omega

theorem zero25 : ∀ t : Fin cfg0.N, win0_25.index t (0 : Fin 2) = 0 ∧ win0_25.index t (1 : Fin 2) = 0 :=
  (by decide +kernel : ∀ t : Fin grid0.N, _)
theorem emb25 (t : Fin cfg0.N) (j : S4096x3584.Idx) : ((cfg0.win 25).blk t).view.emb j = j := by
  obtain ⟨e0, e1⟩ := zero25 t
  funext a; apply Fin.ext
  match a with
  | ⟨0, _⟩ => show win0_25.index t (0 : Fin 2) * 4096 + 1 * (j 0).val = (j 0).val; omega
  | ⟨1, _⟩ => show win0_25.index t (1 : Fin 2) * 3584 + 1 * (j 1).val = (j 1).val; omega

theorem zero26 : ∀ t : Fin cfg0.N, win0_26.index t (0 : Fin 2) = 0 ∧ win0_26.index t (1 : Fin 2) = 0 :=
  (by decide +kernel : ∀ t : Fin grid0.N, _)
theorem emb26 (t : Fin cfg0.N) (j : S4096x3584.Idx) : ((cfg0.win 26).blk t).view.emb j = j := by
  obtain ⟨e0, e1⟩ := zero26 t
  funext a; apply Fin.ext
  match a with
  | ⟨0, _⟩ => show win0_26.index t (0 : Fin 2) * 4096 + 1 * (j 0).val = (j 0).val; omega
  | ⟨1, _⟩ => show win0_26.index t (1 : Fin 2) * 3584 + 1 * (j 1).val = (j 1).val; omega

theorem zero27 : ∀ t : Fin cfg0.N, win0_27.index t (0 : Fin 2) = 0 ∧ win0_27.index t (1 : Fin 2) = 0 :=
  (by decide +kernel : ∀ t : Fin grid0.N, _)
theorem emb27 (t : Fin cfg0.N) (j : S4096x3584.Idx) : ((cfg0.win 27).blk t).view.emb j = j := by
  obtain ⟨e0, e1⟩ := zero27 t
  funext a; apply Fin.ext
  match a with
  | ⟨0, _⟩ => show win0_27.index t (0 : Fin 2) * 4096 + 1 * (j 0).val = (j 0).val; omega
  | ⟨1, _⟩ => show win0_27.index t (1 : Fin 2) * 3584 + 1 * (j 1).val = (j 1).val; omega

theorem zero28 : ∀ t : Fin cfg0.N, win0_28.index t (0 : Fin 2) = 0 ∧ win0_28.index t (1 : Fin 2) = 0 :=
  (by decide +kernel : ∀ t : Fin grid0.N, _)
theorem emb28 (t : Fin cfg0.N) (j : S4096x192.Idx) : ((cfg0.win 28).blk t).view.emb j = j := by
  obtain ⟨e0, e1⟩ := zero28 t
  funext a; apply Fin.ext
  match a with
  | ⟨0, _⟩ => show win0_28.index t (0 : Fin 2) * 4096 + 1 * (j 0).val = (j 0).val; omega
  | ⟨1, _⟩ => show win0_28.index t (1 : Fin 2) * 192 + 1 * (j 1).val = (j 1).val; omega

theorem zero29 : ∀ t : Fin cfg0.N, win0_29.index t (0 : Fin 2) = 0 ∧ win0_29.index t (1 : Fin 2) = 0 :=
  (by decide +kernel : ∀ t : Fin grid0.N, _)
theorem emb29 (t : Fin cfg0.N) (j : S4096x192.Idx) : ((cfg0.win 29).blk t).view.emb j = j := by
  obtain ⟨e0, e1⟩ := zero29 t
  funext a; apply Fin.ext
  match a with
  | ⟨0, _⟩ => show win0_29.index t (0 : Fin 2) * 4096 + 1 * (j 0).val = (j 0).val; omega
  | ⟨1, _⟩ => show win0_29.index t (1 : Fin 2) * 192 + 1 * (j 1).val = (j 1).val; omega

theorem zero30 : ∀ t : Fin cfg0.N, win0_30.index t (0 : Fin 2) = 0 ∧ win0_30.index t (1 : Fin 2) = 0 :=
  (by decide +kernel : ∀ t : Fin grid0.N, _)
theorem emb30 (t : Fin cfg0.N) (j : S4096x192.Idx) : ((cfg0.win 30).blk t).view.emb j = j := by
  obtain ⟨e0, e1⟩ := zero30 t
  funext a; apply Fin.ext
  match a with
  | ⟨0, _⟩ => show win0_30.index t (0 : Fin 2) * 4096 + 1 * (j 0).val = (j 0).val; omega
  | ⟨1, _⟩ => show win0_30.index t (1 : Fin 2) * 192 + 1 * (j 1).val = (j 1).val; omega

/-! ## The arrays after the run -/

theorem final17 : (dats m 0 c).arrAt 17 cfg0.N = Mid.codes (Mid.act (given m c)) := by
  refine (dats m 0 c).arrAt_eq_of_covers 17 _ (by decide +kernel) fun t hf y => ?_
  have he : (((cfg0.win 17).blk t).view.emb y : S4096x3584.Idx) = y := emb17 t y
  show _ = Mid.codes (Mid.act (given m c)) (((cfg0.win 17).blk t).view.emb y)
  rw [he]
  show (dats m 0 c).after 17 t y = _
  rw [after0_17, blk0, blk1, blk2, blk3, blk4, blk5, blk6, blk7, blk8, blk9, blk10, blk11, blk12, blk13, blk14, blk15, blk16]
  exact (congrArg _ (eq_ix2 (n0 := 4096) (n1 := 3584) y)).trans (out17_apply _ _ _ _ _ _ _ _ _ _ _ _ _ _ _ _ _ (y 0) (y 1))

theorem final18 : (dats m 0 c).arrAt 18 cfg0.N = Mid.scales (Mid.act (given m c)) := by
  refine (dats m 0 c).arrAt_eq_of_covers 18 _ (by decide +kernel) fun t hf y => ?_
  have he : (((cfg0.win 18).blk t).view.emb y : S4096x28.Idx) = y := emb18 t y
  show _ = Mid.scales (Mid.act (given m c)) (((cfg0.win 18).blk t).view.emb y)
  rw [he]
  show (dats m 0 c).after 18 t y = _
  rw [after0_18, blk0, blk1, blk2, blk3, blk4, blk5, blk6, blk7, blk8, blk9, blk10, blk11, blk12, blk13, blk14, blk15, blk16]
  exact (congrArg _ (eq_ix2 (n0 := 4096) (n1 := 28) y)).trans (out18_apply _ _ _ _ _ _ _ _ _ _ _ _ _ _ _ _ _ (y 0) (y 1))

theorem final19 : (dats m 0 c).arrAt 19 cfg0.N = Mid.codes (Mid.dg (given m c)) := by
  refine (dats m 0 c).arrAt_eq_of_covers 19 _ (by decide +kernel) fun t hf y => ?_
  have he : (((cfg0.win 19).blk t).view.emb y : S4096x3584.Idx) = y := emb19 t y
  show _ = Mid.codes (Mid.dg (given m c)) (((cfg0.win 19).blk t).view.emb y)
  rw [he]
  show (dats m 0 c).after 19 t y = _
  rw [after0_19, blk0, blk1, blk2, blk3, blk4, blk5, blk6, blk7, blk8, blk9, blk10, blk11, blk12, blk13, blk14, blk15, blk16]
  exact (congrArg _ (eq_ix2 (n0 := 4096) (n1 := 3584) y)).trans (out19_apply _ _ _ _ _ _ _ _ _ _ _ _ _ _ _ _ _ (y 0) (y 1))

theorem final20 : (dats m 0 c).arrAt 20 cfg0.N = Mid.scales (Mid.dg (given m c)) := by
  refine (dats m 0 c).arrAt_eq_of_covers 20 _ (by decide +kernel) fun t hf y => ?_
  have he : (((cfg0.win 20).blk t).view.emb y : S4096x28.Idx) = y := emb20 t y
  show _ = Mid.scales (Mid.dg (given m c)) (((cfg0.win 20).blk t).view.emb y)
  rw [he]
  show (dats m 0 c).after 20 t y = _
  rw [after0_20, blk0, blk1, blk2, blk3, blk4, blk5, blk6, blk7, blk8, blk9, blk10, blk11, blk12, blk13, blk14, blk15, blk16]
  exact (congrArg _ (eq_ix2 (n0 := 4096) (n1 := 28) y)).trans (out20_apply _ _ _ _ _ _ _ _ _ _ _ _ _ _ _ _ _ (y 0) (y 1))

theorem final21 : (dats m 0 c).arrAt 21 cfg0.N = Mid.codes (Mid.du (given m c)) := by
  refine (dats m 0 c).arrAt_eq_of_covers 21 _ (by decide +kernel) fun t hf y => ?_
  have he : (((cfg0.win 21).blk t).view.emb y : S4096x3584.Idx) = y := emb21 t y
  show _ = Mid.codes (Mid.du (given m c)) (((cfg0.win 21).blk t).view.emb y)
  rw [he]
  show (dats m 0 c).after 21 t y = _
  rw [after0_21, blk0, blk1, blk2, blk3, blk4, blk5, blk6, blk7, blk8, blk9, blk10, blk11, blk12, blk13, blk14, blk15, blk16]
  exact (congrArg _ (eq_ix2 (n0 := 4096) (n1 := 3584) y)).trans (out21_apply _ _ _ _ _ _ _ _ _ _ _ _ _ _ _ _ _ (y 0) (y 1))

theorem final22 : (dats m 0 c).arrAt 22 cfg0.N = Mid.scales (Mid.du (given m c)) := by
  refine (dats m 0 c).arrAt_eq_of_covers 22 _ (by decide +kernel) fun t hf y => ?_
  have he : (((cfg0.win 22).blk t).view.emb y : S4096x28.Idx) = y := emb22 t y
  show _ = Mid.scales (Mid.du (given m c)) (((cfg0.win 22).blk t).view.emb y)
  rw [he]
  show (dats m 0 c).after 22 t y = _
  rw [after0_22, blk0, blk1, blk2, blk3, blk4, blk5, blk6, blk7, blk8, blk9, blk10, blk11, blk12, blk13, blk14, blk15, blk16]
  exact (congrArg _ (eq_ix2 (n0 := 4096) (n1 := 28) y)).trans (out22_apply _ _ _ _ _ _ _ _ _ _ _ _ _ _ _ _ _ (y 0) (y 1))

theorem final23 : (dats m 0 c).arrAt 23 cfg0.N = Mid.decodeds (Mid.act (given m c)) := by
  refine (dats m 0 c).arrAt_eq_of_covers 23 _ (by decide +kernel) fun t hf y => ?_
  have he : (((cfg0.win 23).blk t).view.emb y : S4096x3584.Idx) = y := emb23 t y
  show _ = Mid.decodeds (Mid.act (given m c)) (((cfg0.win 23).blk t).view.emb y)
  rw [he]
  show (dats m 0 c).after 23 t y = _
  rw [after0_23, blk0, blk1, blk2, blk3, blk4, blk5, blk6, blk7, blk8, blk9, blk10, blk11, blk12, blk13, blk14, blk15, blk16]
  exact (congrArg _ (eq_ix2 (n0 := 4096) (n1 := 3584) y)).trans (out23_apply _ _ _ _ _ _ _ _ _ _ _ _ _ _ _ _ _ (y 0) (y 1))

theorem final24 : (dats m 0 c).arrAt 24 cfg0.N = Mid.decodeds (Mid.dg (given m c)) := by
  refine (dats m 0 c).arrAt_eq_of_covers 24 _ (by decide +kernel) fun t hf y => ?_
  have he : (((cfg0.win 24).blk t).view.emb y : S4096x3584.Idx) = y := emb24 t y
  show _ = Mid.decodeds (Mid.dg (given m c)) (((cfg0.win 24).blk t).view.emb y)
  rw [he]
  show (dats m 0 c).after 24 t y = _
  rw [after0_24, blk0, blk1, blk2, blk3, blk4, blk5, blk6, blk7, blk8, blk9, blk10, blk11, blk12, blk13, blk14, blk15, blk16]
  exact (congrArg _ (eq_ix2 (n0 := 4096) (n1 := 3584) y)).trans (out24_apply _ _ _ _ _ _ _ _ _ _ _ _ _ _ _ _ _ (y 0) (y 1))

theorem final25 : (dats m 0 c).arrAt 25 cfg0.N = Mid.decodeds (Mid.du (given m c)) := by
  refine (dats m 0 c).arrAt_eq_of_covers 25 _ (by decide +kernel) fun t hf y => ?_
  have he : (((cfg0.win 25).blk t).view.emb y : S4096x3584.Idx) = y := emb25 t y
  show _ = Mid.decodeds (Mid.du (given m c)) (((cfg0.win 25).blk t).view.emb y)
  rw [he]
  show (dats m 0 c).after 25 t y = _
  rw [after0_25, blk0, blk1, blk2, blk3, blk4, blk5, blk6, blk7, blk8, blk9, blk10, blk11, blk12, blk13, blk14, blk15, blk16]
  exact (congrArg _ (eq_ix2 (n0 := 4096) (n1 := 3584) y)).trans (out25_apply _ _ _ _ _ _ _ _ _ _ _ _ _ _ _ _ _ (y 0) (y 1))

theorem final26 : (dats m 0 c).arrAt 26 cfg0.N = Mid.whole (Mid.dg (given m c)) := by
  refine (dats m 0 c).arrAt_eq_of_covers 26 _ (by decide +kernel) fun t hf y => ?_
  have he : (((cfg0.win 26).blk t).view.emb y : S4096x3584.Idx) = y := emb26 t y
  show _ = Mid.whole (Mid.dg (given m c)) (((cfg0.win 26).blk t).view.emb y)
  rw [he]
  show (dats m 0 c).after 26 t y = _
  rw [after0_26, blk0, blk1, blk2, blk3, blk4, blk5, blk6, blk7, blk8, blk9, blk10, blk11, blk12, blk13, blk14, blk15, blk16]
  exact (congrArg _ (eq_ix2 (n0 := 4096) (n1 := 3584) y)).trans (out26_apply _ _ _ _ _ _ _ _ _ _ _ _ _ _ _ _ _ (y 0) (y 1))

theorem final27 : (dats m 0 c).arrAt 27 cfg0.N = Mid.whole (Mid.du (given m c)) := by
  refine (dats m 0 c).arrAt_eq_of_covers 27 _ (by decide +kernel) fun t hf y => ?_
  have he : (((cfg0.win 27).blk t).view.emb y : S4096x3584.Idx) = y := emb27 t y
  show _ = Mid.whole (Mid.du (given m c)) (((cfg0.win 27).blk t).view.emb y)
  rw [he]
  show (dats m 0 c).after 27 t y = _
  rw [after0_27, blk0, blk1, blk2, blk3, blk4, blk5, blk6, blk7, blk8, blk9, blk10, blk11, blk12, blk13, blk14, blk15, blk16]
  exact (congrArg _ (eq_ix2 (n0 := 4096) (n1 := 3584) y)).trans (out27_apply _ _ _ _ _ _ _ _ _ _ _ _ _ _ _ _ _ (y 0) (y 1))

theorem final28 : (dats m 0 c).arrAt 28 cfg0.N = Mid.thin (Mid.zDown (given m c)) := by
  refine (dats m 0 c).arrAt_eq_of_covers 28 _ (by decide +kernel) fun t hf y => ?_
  have he : (((cfg0.win 28).blk t).view.emb y : S4096x192.Idx) = y := emb28 t y
  show _ = Mid.thin (Mid.zDown (given m c)) (((cfg0.win 28).blk t).view.emb y)
  rw [he]
  show (dats m 0 c).after 28 t y = _
  rw [after0_28, blk0, blk1, blk2, blk3, blk4, blk5, blk6, blk7, blk8, blk9, blk10, blk11, blk12, blk13, blk14, blk15, blk16]
  exact (congrArg _ (eq_ix2 (n0 := 4096) (n1 := 192) y)).trans (out28_apply _ _ _ _ _ _ _ _ _ _ _ _ _ _ _ _ _ (y 0) (y 1))

theorem final29 : (dats m 0 c).arrAt 29 cfg0.N = Mid.thin (Mid.dzGate (given m c)) := by
  refine (dats m 0 c).arrAt_eq_of_covers 29 _ (by decide +kernel) fun t hf y => ?_
  have he : (((cfg0.win 29).blk t).view.emb y : S4096x192.Idx) = y := emb29 t y
  show _ = Mid.thin (Mid.dzGate (given m c)) (((cfg0.win 29).blk t).view.emb y)
  rw [he]
  show (dats m 0 c).after 29 t y = _
  rw [after0_29, blk0, blk1, blk2, blk3, blk4, blk5, blk6, blk7, blk8, blk9, blk10, blk11, blk12, blk13, blk14, blk15, blk16]
  exact (congrArg _ (eq_ix2 (n0 := 4096) (n1 := 192) y)).trans (out29_apply _ _ _ _ _ _ _ _ _ _ _ _ _ _ _ _ _ (y 0) (y 1))

theorem final30 : (dats m 0 c).arrAt 30 cfg0.N = Mid.thin (Mid.dzUp (given m c)) := by
  refine (dats m 0 c).arrAt_eq_of_covers 30 _ (by decide +kernel) fun t hf y => ?_
  have he : (((cfg0.win 30).blk t).view.emb y : S4096x192.Idx) = y := emb30 t y
  show _ = Mid.thin (Mid.dzUp (given m c)) (((cfg0.win 30).blk t).view.emb y)
  rw [he]
  show (dats m 0 c).after 30 t y = _
  rw [after0_30, blk0, blk1, blk2, blk3, blk4, blk5, blk6, blk7, blk8, blk9, blk10, blk11, blk12, blk13, blk14, blk15, blk16]
  exact (congrArg _ (eq_ix2 (n0 := 4096) (n1 := 192) y)).trans (out30_apply _ _ _ _ _ _ _ _ _ _ _ _ _ _ _ _ _ (y 0) (y 1))

/-- The run of the reference: its fourteen arrays are those of the inputs, and the arguments stay. -/
theorem run_arrays : θ_run defs (onTc (τ := τ) (main (F := Ideal))) ⟨m, fun _ => 0, ρ⟩ (fun r => ∀ c : Dev nD,
      r.2.mem ((c.tc : Thread nD τ).loc main_v0_0) = Mid.codes (Mid.act (given m c))
      ∧ r.2.mem ((c.tc : Thread nD τ).loc main_v0_1) = Mid.scales (Mid.act (given m c))
      ∧ r.2.mem ((c.tc : Thread nD τ).loc main_v0_2) = Mid.codes (Mid.dg (given m c))
      ∧ r.2.mem ((c.tc : Thread nD τ).loc main_v0_3) = Mid.scales (Mid.dg (given m c))
      ∧ r.2.mem ((c.tc : Thread nD τ).loc main_v0_4) = Mid.codes (Mid.du (given m c))
      ∧ r.2.mem ((c.tc : Thread nD τ).loc main_v0_5) = Mid.scales (Mid.du (given m c))
      ∧ r.2.mem ((c.tc : Thread nD τ).loc main_v0_6) = Mid.decodeds (Mid.act (given m c))
      ∧ r.2.mem ((c.tc : Thread nD τ).loc main_v0_7) = Mid.decodeds (Mid.dg (given m c))
      ∧ r.2.mem ((c.tc : Thread nD τ).loc main_v0_8) = Mid.decodeds (Mid.du (given m c))
      ∧ r.2.mem ((c.tc : Thread nD τ).loc main_v0_9) = Mid.whole (Mid.dg (given m c))
      ∧ r.2.mem ((c.tc : Thread nD τ).loc main_v0_10) = Mid.whole (Mid.du (given m c))
      ∧ r.2.mem ((c.tc : Thread nD τ).loc main_v0_11) = Mid.thin (Mid.zDown (given m c))
      ∧ r.2.mem ((c.tc : Thread nD τ).loc main_v0_12) = Mid.thin (Mid.dzGate (given m c))
      ∧ r.2.mem ((c.tc : Thread nD τ).loc main_v0_13) = Mid.thin (Mid.dzUp (given m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h.1 c).1 17).trans (final17 m c), ((h.1 c).1 18).trans (final18 m c), ((h.1 c).1 19).trans (final19 m c), ((h.1 c).1 20).trans (final20 m c), ((h.1 c).1 21).trans (final21 m c), ((h.1 c).1 22).trans (final22 m c), ((h.1 c).1 23).trans (final23 m c), ((h.1 c).1 24).trans (final24 m c), ((h.1 c).1 25).trans (final25 m c), ((h.1 c).1 26).trans (final26 m c), ((h.1 c).1 27).trans (final27 m c), ((h.1 c).1 28).trans (final28 m c), ((h.1 c).1 29).trans (final29 m c), ((h.1 c).1 30).trans (final30 m c), h.2 c⟩)
    (θ_run_and (run_main m ρ) (unchanged m ρ))

end Cert.Proof.MidRef

end
-- ==== Proof.MidClaims.lean ====
/-
  The middle call's claims: its frames, the idealized text against the exact one, and the kernel against the reference over the
  extended reals.
-/
module

public import proofs.«01_k».proof.Defs
public import proofs.«01_k».proof.Proof.MidArr
public import proofs.«01_k».proof.Proof.MidRArr
public import proofs.«01_k».proof.Proof.Gen.MidK.Launch

@[expose] public section

set_option maxRecDepth 65536

noncomputable section

namespace Cert.Proof.MidClaims

open Idealize.ShloMosaic Idealize.ShloMosaic.TcCoe Idealize.SL.Sem

/-- The frame claim written of the idealized program's text, read at words. The two programs are the same text, so it is the
    frame claim of the exact program (`same_text`). -/
def idealText [hMidKIdeal : Cert.MidKIdeal.Facts] : Prop :=
  ∀ (m : (ℓ : Loc Cert.MidKIdeal.nD Cert.MidKIdeal.τ Cert.MidKIdeal.sig) → Buf (Elt Bits) ℓ) (g : Dev Cert.MidKIdeal.nD → PrngReg), True →
    θ_run (Cert.MidKIdeal.defs (F := Bits)) (onTc (τ := Cert.MidKIdeal.τ) (Cert.MidKIdeal.main (F := Bits))) ⟨m, fun _ => 0, g⟩ (fun r => (∀ c : Dev Cert.MidKIdeal.nD,
      r.2.mem ((c.tc : Thread Cert.MidKIdeal.nD Cert.MidKIdeal.τ).loc Cert.MidKIdeal.main_arg0) = m ((c.tc : Thread Cert.MidKIdeal.nD Cert.MidKIdeal.τ).loc Cert.MidKIdeal.main_arg0)
      ∧ r.2.mem ((c.tc : Thread Cert.MidKIdeal.nD Cert.MidKIdeal.τ).loc Cert.MidKIdeal.main_arg1) = m ((c.tc : Thread Cert.MidKIdeal.nD Cert.MidKIdeal.τ).loc Cert.MidKIdeal.main_arg1)
      ∧ r.2.mem ((c.tc : Thread Cert.MidKIdeal.nD Cert.MidKIdeal.τ).loc Cert.MidKIdeal.main_arg2) = m ((c.tc : Thread Cert.MidKIdeal.nD Cert.MidKIdeal.τ).loc Cert.MidKIdeal.main_arg2)
      ∧ r.2.mem ((c.tc : Thread Cert.MidKIdeal.nD Cert.MidKIdeal.τ).loc Cert.MidKIdeal.main_arg3) = m ((c.tc : Thread Cert.MidKIdeal.nD Cert.MidKIdeal.τ).loc Cert.MidKIdeal.main_arg3)
      ∧ r.2.mem ((c.tc : Thread Cert.MidKIdeal.nD Cert.MidKIdeal.τ).loc Cert.MidKIdeal.main_arg4) = m ((c.tc : Thread Cert.MidKIdeal.nD Cert.MidKIdeal.τ).loc Cert.MidKIdeal.main_arg4)
      ∧ r.2.mem ((c.tc : Thread Cert.MidKIdeal.nD Cert.MidKIdeal.τ).loc Cert.MidKIdeal.main_arg5) = m ((c.tc : Thread Cert.MidKIdeal.nD Cert.MidKIdeal.τ).loc Cert.MidKIdeal.main_arg5)
      ∧ r.2.mem ((c.tc : Thread Cert.MidKIdeal.nD Cert.MidKIdeal.τ).loc Cert.MidKIdeal.main_arg6) = m ((c.tc : Thread Cert.MidKIdeal.nD Cert.MidKIdeal.τ).loc Cert.MidKIdeal.main_arg6)
      ∧ r.2.mem ((c.tc : Thread Cert.MidKIdeal.nD Cert.MidKIdeal.τ).loc Cert.MidKIdeal.main_arg7) = m ((c.tc : Thread Cert.MidKIdeal.nD Cert.MidKIdeal.τ).loc Cert.MidKIdeal.main_arg7)
      ∧ r.2.mem ((c.tc : Thread Cert.MidKIdeal.nD Cert.MidKIdeal.τ).loc Cert.MidKIdeal.main_arg8) = m ((c.tc : Thread Cert.MidKIdeal.nD Cert.MidKIdeal.τ).loc Cert.MidKIdeal.main_arg8)
      ∧ r.2.mem ((c.tc : Thread Cert.MidKIdeal.nD Cert.MidKIdeal.τ).loc Cert.MidKIdeal.main_arg9) = m ((c.tc : Thread Cert.MidKIdeal.nD Cert.MidKIdeal.τ).loc Cert.MidKIdeal.main_arg9)
      ∧ r.2.mem ((c.tc : Thread Cert.MidKIdeal.nD Cert.MidKIdeal.τ).loc Cert.MidKIdeal.main_arg10) = m ((c.tc : Thread Cert.MidKIdeal.nD Cert.MidKIdeal.τ).loc Cert.MidKIdeal.main_arg10)
      ∧ r.2.mem ((c.tc : Thread Cert.MidKIdeal.nD Cert.MidKIdeal.τ).loc Cert.MidKIdeal.main_arg11) = m ((c.tc : Thread Cert.MidKIdeal.nD Cert.MidKIdeal.τ).loc Cert.MidKIdeal.main_arg11)
      ∧ r.2.mem ((c.tc : Thread Cert.MidKIdeal.nD Cert.MidKIdeal.τ).loc Cert.MidKIdeal.main_arg12) = m ((c.tc : Thread Cert.MidKIdeal.nD Cert.MidKIdeal.τ).loc Cert.MidKIdeal.main_arg12)
      ∧ r.2.mem ((c.tc : Thread Cert.MidKIdeal.nD Cert.MidKIdeal.τ).loc Cert.MidKIdeal.main_arg13) = m ((c.tc : Thread Cert.MidKIdeal.nD Cert.MidKIdeal.τ).loc Cert.MidKIdeal.main_arg13)
      ∧ r.2.mem ((c.tc : Thread Cert.MidKIdeal.nD Cert.MidKIdeal.τ).loc Cert.MidKIdeal.main_arg14) = m ((c.tc : Thread Cert.MidKIdeal.nD Cert.MidKIdeal.τ).loc Cert.MidKIdeal.main_arg14)
      ∧ r.2.mem ((c.tc : Thread Cert.MidKIdeal.nD Cert.MidKIdeal.τ).loc Cert.MidKIdeal.main_arg15) = m ((c.tc : Thread Cert.MidKIdeal.nD Cert.MidKIdeal.τ).loc Cert.MidKIdeal.main_arg15)
      ∧ r.2.mem ((c.tc : Thread Cert.MidKIdeal.nD Cert.MidKIdeal.τ).loc Cert.MidKIdeal.main_arg16) = m ((c.tc : Thread Cert.MidKIdeal.nD Cert.MidKIdeal.τ).loc Cert.MidKIdeal.main_arg16))
      ∧ r.2.sem = fun _ => 0)

theorem same_text : Cert.quiescent_MidK = idealText := by sl_kernel_rfl

theorem frame_k : Cert.quiescent_MidK := same_text.symm ▸ (fun m ρ _ => Cert.Proof.MidRun.frame m ρ : idealText)
theorem frame_ki : Cert.quiescent_MidKIdeal := fun m ρ _ => Cert.Proof.MidRun.frame m ρ
theorem frame_ri : Cert.quiescent_MidRIdeal := fun m ρ _ => Cert.Proof.MidRRun.frame m ρ
theorem preserves : Cert.preserves_MidK_MidKIdeal := trivial

/-- Launched on the same arguments, the reference has the kernel's inputs. -/
theorem given_eq (m : (ℓ : Loc Cert.MidKIdeal.nD Cert.MidKIdeal.τ Cert.MidKIdeal.sig) → Buf (Elt Ideal) ℓ)
    (m' : (ℓ : Loc Cert.MidRIdeal.nD Cert.MidRIdeal.τ Cert.MidRIdeal.sig) → Buf (Elt Ideal) ℓ) (c : Dev Cert.MidKIdeal.nD)
    (h0 : m' ((c.tc : Thread Cert.MidRIdeal.nD Cert.MidRIdeal.τ).loc Cert.MidRIdeal.main_arg0) = m ((c.tc : Thread Cert.MidKIdeal.nD Cert.MidKIdeal.τ).loc Cert.MidKIdeal.main_arg0))
    (h1 : m' ((c.tc : Thread Cert.MidRIdeal.nD Cert.MidRIdeal.τ).loc Cert.MidRIdeal.main_arg1) = m ((c.tc : Thread Cert.MidKIdeal.nD Cert.MidKIdeal.τ).loc Cert.MidKIdeal.main_arg1))
    (h2 : m' ((c.tc : Thread Cert.MidRIdeal.nD Cert.MidRIdeal.τ).loc Cert.MidRIdeal.main_arg2) = m ((c.tc : Thread Cert.MidKIdeal.nD Cert.MidKIdeal.τ).loc Cert.MidKIdeal.main_arg2))
    (h3 : m' ((c.tc : Thread Cert.MidRIdeal.nD Cert.MidRIdeal.τ).loc Cert.MidRIdeal.main_arg3) = m ((c.tc : Thread Cert.MidKIdeal.nD Cert.MidKIdeal.τ).loc Cert.MidKIdeal.main_arg3))
    (h4 : m' ((c.tc : Thread Cert.MidRIdeal.nD Cert.MidRIdeal.τ).loc Cert.MidRIdeal.main_arg4) = m ((c.tc : Thread Cert.MidKIdeal.nD Cert.MidKIdeal.τ).loc Cert.MidKIdeal.main_arg4))
    (h5 : m' ((c.tc : Thread Cert.MidRIdeal.nD Cert.MidRIdeal.τ).loc Cert.MidRIdeal.main_arg5) = m ((c.tc : Thread Cert.MidKIdeal.nD Cert.MidKIdeal.τ).loc Cert.MidKIdeal.main_arg5))
    (h6 : m' ((c.tc : Thread Cert.MidRIdeal.nD Cert.MidRIdeal.τ).loc Cert.MidRIdeal.main_arg6) = m ((c.tc : Thread Cert.MidKIdeal.nD Cert.MidKIdeal.τ).loc Cert.MidKIdeal.main_arg6))
    (h7 : m' ((c.tc : Thread Cert.MidRIdeal.nD Cert.MidRIdeal.τ).loc Cert.MidRIdeal.main_arg7) = m ((c.tc : Thread Cert.MidKIdeal.nD Cert.MidKIdeal.τ).loc Cert.MidKIdeal.main_arg7))
    (h8 : m' ((c.tc : Thread Cert.MidRIdeal.nD Cert.MidRIdeal.τ).loc Cert.MidRIdeal.main_arg8) = m ((c.tc : Thread Cert.MidKIdeal.nD Cert.MidKIdeal.τ).loc Cert.MidKIdeal.main_arg8))
    (h9 : m' ((c.tc : Thread Cert.MidRIdeal.nD Cert.MidRIdeal.τ).loc Cert.MidRIdeal.main_arg9) = m ((c.tc : Thread Cert.MidKIdeal.nD Cert.MidKIdeal.τ).loc Cert.MidKIdeal.main_arg9))
    (h10 : m' ((c.tc : Thread Cert.MidRIdeal.nD Cert.MidRIdeal.τ).loc Cert.MidRIdeal.main_arg10) = m ((c.tc : Thread Cert.MidKIdeal.nD Cert.MidKIdeal.τ).loc Cert.MidKIdeal.main_arg10))
    (h11 : m' ((c.tc : Thread Cert.MidRIdeal.nD Cert.MidRIdeal.τ).loc Cert.MidRIdeal.main_arg11) = m ((c.tc : Thread Cert.MidKIdeal.nD Cert.MidKIdeal.τ).loc Cert.MidKIdeal.main_arg11))
    (h12 : m' ((c.tc : Thread Cert.MidRIdeal.nD Cert.MidRIdeal.τ).loc Cert.MidRIdeal.main_arg12) = m ((c.tc : Thread Cert.MidKIdeal.nD Cert.MidKIdeal.τ).loc Cert.MidKIdeal.main_arg12))
    (h13 : m' ((c.tc : Thread Cert.MidRIdeal.nD Cert.MidRIdeal.τ).loc Cert.MidRIdeal.main_arg13) = m ((c.tc : Thread Cert.MidKIdeal.nD Cert.MidKIdeal.τ).loc Cert.MidKIdeal.main_arg13))
    (h14 : m' ((c.tc : Thread Cert.MidRIdeal.nD Cert.MidRIdeal.τ).loc Cert.MidRIdeal.main_arg14) = m ((c.tc : Thread Cert.MidKIdeal.nD Cert.MidKIdeal.τ).loc Cert.MidKIdeal.main_arg14))
    (h15 : m' ((c.tc : Thread Cert.MidRIdeal.nD Cert.MidRIdeal.τ).loc Cert.MidRIdeal.main_arg15) = m ((c.tc : Thread Cert.MidKIdeal.nD Cert.MidKIdeal.τ).loc Cert.MidKIdeal.main_arg15))
    (h16 : m' ((c.tc : Thread Cert.MidRIdeal.nD Cert.MidRIdeal.τ).loc Cert.MidRIdeal.main_arg16) = m ((c.tc : Thread Cert.MidKIdeal.nD Cert.MidKIdeal.τ).loc Cert.MidKIdeal.main_arg16)) :
    MidRef.given m' c = MidHost.inputs m c := by
  show MidRef.inputs _ _ _ _ _ _ _ _ _ _ _ _ _ _ _ _ _ = _
  rw [h0, h1, h2, h3, h4, h5, h6, h7, h8, h9, h10, h11, h12, h13, h14, h15, h16]
  rfl

/-- Both programs end with the fourteen arrays of the specification. -/
theorem algebraic : Cert.algebraic_MidKIdeal_MidRIdeal := by
  intro m g m' g' _ hagree
  refine ⟨fun c => Mid.codes (Mid.act (MidHost.inputs m c)), fun c => Mid.scales (Mid.act (MidHost.inputs m c)), fun c => Mid.codes (Mid.dg (MidHost.inputs m c)), fun c => Mid.scales (Mid.dg (MidHost.inputs m c)), fun c => Mid.codes (Mid.du (MidHost.inputs m c)), fun c => Mid.scales (Mid.du (MidHost.inputs m c)), fun c => Mid.decodeds (Mid.act (MidHost.inputs m c)), fun c => Mid.decodeds (Mid.dg (MidHost.inputs m c)), fun c => Mid.decodeds (Mid.du (MidHost.inputs m c)), fun c => Mid.whole (Mid.dg (MidHost.inputs m c)), fun c => Mid.whole (Mid.du (MidHost.inputs m c)), fun c => Mid.thin (Mid.zDown (MidHost.inputs m c)), fun c => Mid.thin (Mid.dzGate (MidHost.inputs m c)), fun c => Mid.thin (Mid.dzUp (MidHost.inputs m c)),
    MidVal.run_arrays m g, ?_⟩
  refine (θ_run Cert.MidRIdeal.defs _ _).mono (fun _ h c => ?_) (MidRef.run_arrays m' g')
  obtain ⟨h0, h1, h2, h3, h4, h5, h6, h7, h8, h9, h10, h11, h12, h13, h14, h15, h16⟩ := hagree c
  have e := given_eq m m' c h0 h1 h2 h3 h4 h5 h6 h7 h8 h9 h10 h11 h12 h13 h14 h15 h16
  have hc := h c
  rw [e] at hc
  exact hc

end Cert.Proof.MidClaims

end
-- ==== Proof.lean ====
/- Everything the certificate claims, put together from the modules of `Proof/`. -/
module

public import proofs.«01_k».proof.Defs
public import proofs.«01_k».proof.Proof.OutClaims
public import proofs.«01_k».proof.Proof.AdaFClaims
public import proofs.«01_k».proof.Proof.AdaDClaims
public import proofs.«01_k».proof.Proof.MidClaims

@[expose] public section

noncomputable section

namespace Cert.Proof

open Idealize.ShloMosaic Idealize.SL.Sem

theorem claim : Cert.Claim :=
  ⟨Cert.OutK.Gen.facts, Cert.OutKIdeal.Gen.facts, Cert.OutRIdeal.Gen.facts,
    Cert.AdaFK.Gen.facts, Cert.AdaFKIdeal.Gen.facts, Cert.AdaFRIdeal.Gen.facts,
    Cert.AdaDK.Gen.facts, Cert.AdaDKIdeal.Gen.facts, Cert.AdaDRIdeal.Gen.facts,
    Cert.MidK.Gen.facts, Cert.MidKIdeal.Gen.facts, Cert.MidRIdeal.Gen.facts,
    OutClaims.frame_k, OutClaims.frame_ki, OutClaims.frame_ri,
    AdaFClaims.frame_k, AdaFClaims.frame_ki, AdaFClaims.frame_ri,
    AdaDClaims.frame_k, AdaDClaims.frame_ki, AdaDClaims.frame_ri,
    MidClaims.frame_k, MidClaims.frame_ki, MidClaims.frame_ri,
    OutClaims.preserves, OutClaims.algebraic,
    AdaFClaims.preserves, AdaFClaims.algebraic,
    AdaDClaims.preserves, AdaDClaims.algebraic,
    MidClaims.preserves, MidClaims.algebraic⟩

end Cert.Proof

end
